-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v46_0)) (v1 : (c : Dev Cert.Kernel3Ideal.nD) → Buf (Elt Ideal) ((c.tc : Thread Cert.Kernel3Ideal.nD Cert.Kernel3Ideal.τ).loc Cert.Kernel3Ideal.main_v47)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_0) = v0 c
          ∧ r.2.mem ((c.tc : Thread Cert.Kernel3Ideal.nD Cert.Kernel3Ideal.τ).loc Cert.Kernel3Ideal.main_v47) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v46)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v18)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v5) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4x2048x8x96 : Shape := ⟨4, ![4, 2048, 8, 96]⟩
abbrev S4x2048x8x64 : Shape := ⟨4, ![4, 2048, 8, 64]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_

variable [Facts]

def fn_part1 {F : FTy → Type} [FloatOps F] (main_v13 : IVec S_ 1) (main_v16 : IVec S4x2048x8x64 1) : IVec S_ 1 :=
  let main_c_5 : IVec S_ 1 := constantI S_ 1 1#1
  let main_v17 : IVec S_ 1 := (fun x v => Host.reduce IntOp.andi x v reducesTo_S4x2048x8x64_S_d0_1_2_3 h_S_) main_v16 main_c_5
  let main_v18 : IVec S_ 1 := andi main_v13 main_v17
  main_v18

def fn {F : FTy → Type} [FloatOps F] (main_arg0 : FVec F S4x2048x8x96 .f32) (main_arg1 : FVec F S4x2048x8x96 .f32) (main_arg2 : FVec F S4x2048x8x64 .f32) (main_arg3 : FVec F S4x2048x8x64 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S4x2048x8x64 .f32 := Host.absf main_arg3
  let main_cst_4 : FVec F S_ .f32 := constant S_ .f32 0x7F800000#32
  let main_v15 : FVec F S4x2048x8x64 .f32 := broadcastInDim S4x2048x8x64 ![] bcast_S_S4x2048x8x64 main_cst_4
  let main_v16 : IVec S4x2048x8x64 1 := cmpf .olt main_v14 main_v15
  fn_part1 (F := F) main_v13 main_v16
-- ==== Kernel.lean ====
abbrev S4x2048x8x96 : Shape := ⟨4, ![4, 2048, 8, 96]⟩
abbrev S4x2048x8x64 : Shape := ⟨4, ![4, 2048, 8, 64]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x2048x64 : Shape := ⟨4, ![4, 8, 2048, 64]⟩
abbrev S4x2048x8x128 : Shape := ⟨4, ![4, 2048, 8, 128]⟩
abbrev S8192x1024 : Shape := ⟨2, ![8192, 1024]⟩
abbrev S4x8x8x256 : Shape := ⟨4, ![4, 8, 8, 256]⟩
abbrev S4x1x8x8x256 : Shape := ⟨5, ![4, 1, 8, 8, 256]⟩
abbrev S2048x1024 : Shape := ⟨2, ![2048, 1024]⟩
abbrev S256x1024 : Shape := ⟨2, ![256, 1024]⟩
abbrev S1x1x8x8x256 : Shape := ⟨5, ![1, 1, 8, 8, 256]⟩
abbrev S8x8x128x256 : Shape := ⟨4, ![8, 8, 128, 256]⟩
abbrev S256x128 : Shape := ⟨2, ![256, 128]⟩
abbrev S128x256 : Shape := ⟨2, ![128, 256]⟩
abbrev S256x256 : Shape := ⟨2, ![256, 256]⟩
abbrev S1x1x1x1x256 : Shape := ⟨5, ![1, 1, 1, 1, 256]⟩
abbrev S1x256 : Shape := ⟨2, ![1, 256]⟩
abbrev S1x1x128x256 : Shape := ⟨4, ![1, 1, 128, 256]⟩

abbrev nBuf : Space → Nat
  | .hbm => 79
  | .vmem => 21
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x8x64, .f32⟩
  | .hbm, ⟨4, _⟩ => ⟨S_, .f32⟩
  | .hbm, ⟨5, _⟩ => ⟨S4x2048x8x96, .f32⟩
  | .hbm, ⟨6, _⟩ => ⟨S4x2048x8x96, .f32⟩
  | .hbm, ⟨7, _⟩ => ⟨S4x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S4x8x2048x2048, .i1⟩
  | .hbm, ⟨17, _⟩ => ⟨S4x8x2048x2048, .f32⟩
  | .hbm, ⟨18, _⟩ => ⟨S4x8x2048x2048, .f32⟩
  | .hbm, ⟨19, _⟩ => ⟨S_, .f32⟩
  | .hbm, ⟨20, _⟩ => ⟨S4x8x2048, .f32⟩
  | .hbm, ⟨21, _⟩ => ⟨S4x8x2048x1, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048, .f32⟩
  | .hbm, ⟨28, _⟩ => ⟨S4x8x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x8x2048, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x2048x64, .f32⟩
  | .hbm, ⟨38, _⟩ => ⟨S4x8x2048x64, .f32⟩
  | .hbm, ⟨39, _⟩ => ⟨S4x8x2048x64, .f32⟩
  | .hbm, ⟨40, _⟩ => ⟨S_, .f32⟩
  | .hbm, ⟨41, _⟩ => ⟨S4x8x2048, .f32⟩
  | .hbm, ⟨42, _⟩ => ⟨S_, .f32⟩
  | .hbm, ⟨43, _⟩ => ⟨S4x2048x8x96, .f32⟩
  | .hbm, ⟨44, _⟩ => ⟨S4x2048x8x96, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x2048x8x96, .f32⟩
  | .hbm, ⟨49, _⟩ => ⟨S4x2048x8x96, .f32⟩
  | .hbm, ⟨50, _⟩ => ⟨S_, .i32⟩
  | .hbm, ⟨51, _⟩ => ⟨S_, .f32⟩
  | .hbm, ⟨52, _⟩ => ⟨S4x2048x8x128, .f32⟩
  | .hbm, ⟨53, _⟩ => ⟨S8192x1024, .f32⟩
  | .hbm, ⟨54, _⟩ => ⟨S8192x1024, .bf16⟩
  | .hbm, ⟨55, _⟩ => ⟨S_, .i32⟩
  | .hbm, ⟨56, _⟩ => ⟨S_, .f32⟩
  | .hbm, ⟨57, _⟩ => ⟨S4x2048x8x128, .f32⟩
  | .hbm, ⟨58, _⟩ => ⟨S8192x1024, .f32⟩
  | .hbm, ⟨59, _⟩ => ⟨S8192x1024, .bf16⟩
  | .hbm, ⟨60, _⟩ => ⟨S_, .i32⟩
  | .hbm, ⟨61, _⟩ => ⟨S_, .f32⟩
  | .hbm, ⟨62, _⟩ => ⟨S4x2048x8x128, .f32⟩
  | .hbm, ⟨63, _⟩ => ⟨S8192x1024, .f32⟩
  | .hbm, ⟨64, _⟩ => ⟨S8192x1024, .bf16⟩
  | .hbm, ⟨65, _⟩ => ⟨S_, .i32⟩
  | .hbm, ⟨66, _⟩ => ⟨S_, .f32⟩
  | .hbm, ⟨67, _⟩ => ⟨S4x2048x8x128, .f32⟩
  | .hbm, ⟨68, _⟩ => ⟨S8192x1024, .f32⟩
  | .hbm, ⟨69, _⟩ => ⟨S8192x1024, .bf16⟩
  | .hbm, ⟨70, _⟩ => ⟨S4x8x8x256, .f32⟩
  | .hbm, ⟨71, _⟩ => ⟨S4x8x8x256, .f32⟩
  | .hbm, ⟨72, _⟩ => ⟨S4x1x8x8x256, .f32⟩
  | .hbm, ⟨73, _⟩ => ⟨S4x8x8x256, .f32⟩
  | .hbm, ⟨74, _⟩ => ⟨S4x8x8x256, .f32⟩
  | .hbm, ⟨75, _⟩ => ⟨S4x1x8x8x256, .f32⟩
  | .hbm, ⟨76, _⟩ => ⟨S8192x1024, .bf16⟩
  | .hbm, ⟨77, _⟩ => ⟨S8192x1024, .bf16⟩
  | .hbm, ⟨78, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1x8x8x256, .f32⟩
  | .local _ .vmem, ⟨9, _⟩ => ⟨S1x1x8x8x256, .f32⟩
  | .local _ .vmem, ⟨10, _⟩ => ⟨S1x1x8x8x256, .f32⟩
  | .local _ .vmem, ⟨11, _⟩ => ⟨S1x1x8x8x256, .f32⟩
  | .local _ .vmem, ⟨12, _⟩ => ⟨S2048x1024, .bf16⟩
  | .local _ .vmem, ⟨13, _⟩ => ⟨S2048x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S8x8x128x256, .f32⟩
  | .local _ .vmem, ⟨19, _⟩ => ⟨S256x1024, .f32⟩
  | .local _ .vmem, ⟨20, _⟩ => ⟨S256x1024, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_call1_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_call3_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_call4_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 8], ![false, false, false]⟩

def k0_mult1 (i : grid0.Coords) : BitVec 32 :=
  let arg2 : BitVec 32 := BitVec.ofNat 32 (i 2).val
  let c256_i32 : BitVec 32 := 256#32
  let v35 : BitVec 32 := Scalar.muli arg2 c256_i32
  v35
def k0_off1 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v37 : Index := Scalar.indexCast v36
  let c0_14 : Index := 0#32
  ![v37.toNat, 0]
def k0_off2 (i : grid0.Coords) : Fin 5 → Nat :=
  let c0_20 : Index := 0#32
  let c0_21 : Index := 0#32
  let arg2 : BitVec 32 := BitVec.ofNat 32 (i 2).val
  let v51 : Index := Scalar.indexCast arg2
  let c0_22 : Index := 0#32
  let c0_23 : Index := 0#32
  ![0, 0, v51.toNat, 0, 0]
def k0_off3 (i : grid0.Coords) : Fin 4 → Nat :=
  let c0_41 : Index := 0#32
  let arg2 : BitVec 32 := BitVec.ofNat 32 (i 2).val
  let v80 : Index := Scalar.indexCast arg2
  let c0_42 : Index := 0#32
  let c0_43 : Index := 0#32
  ![0, v80.toNat, 0, 0]
def k0_off4 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v89 : Index := Scalar.indexCast v36
  let c128_48 : Index := 128#32
  ![v89.toNat, 128]
def k0_off5 (i : grid0.Coords) : Fin 5 → Nat :=
  let c0_54 : Index := 0#32
  let c0_55 : Index := 0#32
  let arg2 : BitVec 32 := BitVec.ofNat 32 (i 2).val
  let v103 : Index := Scalar.indexCast arg2
  let c1 : Index := 1#32
  let c0_56 : Index := 0#32
  ![0, 0, v103.toNat, 1, 0]
def k0_off6 (i : grid0.Coords) : Fin 4 → Nat :=
  let c1_74 : Index := 1#32
  let arg2 : BitVec 32 := BitVec.ofNat 32 (i 2).val
  let v132 : Index := Scalar.indexCast arg2
  let c0_75 : Index := 0#32
  let c0_76 : Index := 0#32
  ![1, v132.toNat, 0, 0]
def k0_off7 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v141 : Index := Scalar.indexCast v36
  let c256_81 : Index := 256#32
  ![v141.toNat, 256]
def k0_off8 (i : grid0.Coords) : Fin 5 → Nat :=
  let c0_87 : Index := 0#32
  let c0_88 : Index := 0#32
  let arg2 : BitVec 32 := BitVec.ofNat 32 (i 2).val
  let v155 : Index := Scalar.indexCast arg2
  let c2 : Index := 2#32
  let c0_89 : Index := 0#32
  ![0, 0, v155.toNat, 2, 0]
def k0_off9 (i : grid0.Coords) : Fin 4 → Nat :=
  let c2_107 : Index := 2#32
  let arg2 : BitVec 32 := BitVec.ofNat 32 (i 2).val
  let v184 : Index := Scalar.indexCast arg2
  let c0_108 : Index := 0#32
  let c0_109 : Index := 0#32
  ![2, v184.toNat, 0, 0]
def k0_off10 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v193 : Index := Scalar.indexCast v36
  let c384_114 : Index := 384#32
  ![v193.toNat, 384]
def k0_off11 (i : grid0.Coords) : Fin 5 → Nat :=
  let c0_120 : Index := 0#32
  let c0_121 : Index := 0#32
  let arg2 : BitVec 32 := BitVec.ofNat 32 (i 2).val
  let v207 : Index := Scalar.indexCast arg2
  let c3 : Index := 3#32
  let c0_122 : Index := 0#32
  ![0, 0, v207.toNat, 3, 0]
def k0_off12 (i : grid0.Coords) : Fin 4 → Nat :=
  let c3_140 : Index := 3#32
  let arg2 : BitVec 32 := BitVec.ofNat 32 (i 2).val
  let v236 : Index := Scalar.indexCast arg2
  let c0_141 : Index := 0#32
  let c0_142 : Index := 0#32
  ![3, v236.toNat, 0, 0]
def k0_off13 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v245 : Index := Scalar.indexCast v36
  let c512_147 : Index := 512#32
  ![v245.toNat, 512]
def k0_off14 (i : grid0.Coords) : Fin 5 → Nat :=
  let c0_153 : Index := 0#32
  let c0_154 : Index := 0#32
  let arg2 : BitVec 32 := BitVec.ofNat 32 (i 2).val
  let v259 : Index := Scalar.indexCast arg2
  let c4 : Index := 4#32
  let c0_155 : Index := 0#32
  ![0, 0, v259.toNat, 4, 0]
def k0_off15 (i : grid0.Coords) : Fin 4 → Nat :=
  let c4_173 : Index := 4#32
  let arg2 : BitVec 32 := BitVec.ofNat 32 (i 2).val
  let v288 : Index := Scalar.indexCast arg2
  let c0_174 : Index := 0#32
  let c0_175 : Index := 0#32
  ![4, v288.toNat, 0, 0]
def k0_off16 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v297 : Index := Scalar.indexCast v36
  let c640_180 : Index := 640#32
  ![v297.toNat, 640]
def k0_off17 (i : grid0.Coords) : Fin 5 → Nat :=
  let c0_186 : Index := 0#32
  let c0_187 : Index := 0#32
  let arg2 : BitVec 32 := BitVec.ofNat 32 (i 2).val
  let v311 : Index := Scalar.indexCast arg2
  let c5 : Index := 5#32
  let c0_188 : Index := 0#32
  ![0, 0, v311.toNat, 5, 0]
def k0_off18 (i : grid0.Coords) : Fin 4 → Nat :=
  let c5_206 : Index := 5#32
  let arg2 : BitVec 32 := BitVec.ofNat 32 (i 2).val
  let v340 : Index := Scalar.indexCast arg2
  let c0_207 : Index := 0#32
  let c0_208 : Index := 0#32
  ![5, v340.toNat, 0, 0]
def k0_off19 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v349 : Index := Scalar.indexCast v36
  let c768_213 : Index := 768#32
  ![v349.toNat, 768]
def k0_off20 (i : grid0.Coords) : Fin 5 → Nat :=
  let c0_219 : Index := 0#32
  let c0_220 : Index := 0#32
  let arg2 : BitVec 32 := BitVec.ofNat 32 (i 2).val
  let v363 : Index := Scalar.indexCast arg2
  let c6 : Index := 6#32
  let c0_221 : Index := 0#32
  ![0, 0, v363.toNat, 6, 0]
def k0_off21 (i : grid0.Coords) : Fin 4 → Nat :=
  let c6_239 : Index := 6#32
  let arg2 : BitVec 32 := BitVec.ofNat 32 (i 2).val
  let v392 : Index := Scalar.indexCast arg2
  let c0_240 : Index := 0#32
  let c0_241 : Index := 0#32
  ![6, v392.toNat, 0, 0]
def k0_off22 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v401 : Index := Scalar.indexCast v36
  let c896_246 : Index := 896#32
  ![v401.toNat, 896]
def k0_off23 (i : grid0.Coords) : Fin 5 → Nat :=
  let c0_252 : Index := 0#32
  let c0_253 : Index := 0#32
  let arg2 : BitVec 32 := BitVec.ofNat 32 (i 2).val
  let v415 : Index := Scalar.indexCast arg2
  let c7 : Index := 7#32
  let c0_254 : Index := 0#32
  ![0, 0, v415.toNat, 7, 0]
def k0_off24 (i : grid0.Coords) : Fin 4 → Nat :=
  let c7_272 : Index := 7#32
  let arg2 : BitVec 32 := BitVec.ofNat 32 (i 2).val
  let v444 : Index := Scalar.indexCast arg2
  let c0_273 : Index := 0#32
  let c0_274 : Index := 0#32
  ![7, v444.toNat, 0, 0]
@[reducible] def k0_t1_loop (i : grid0.Coords) : Scf.Loop 32 :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_281 : BitVec 32 := 1#32
  ⟨v453, v458, c1_i32_281⟩
def k0_mult2 (i : grid0.Coords) (k0_t1 : Fin (k0_t1_loop i).trips) : BitVec 32 :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  v470
def k0_off25 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v472 : Index := Scalar.indexCast v471
  let c0_294 : Index := 0#32
  ![v472.toNat, 0]
def k0_off26 (i : grid0.Coords) (k0_t1 : Fin (k0_t1_loop i).trips) : Fin 5 → Nat :=
  let c0_299 : Index := 0#32
  let c0_300 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v481 : Index := Scalar.indexCast arg15
  let c0_301 : Index := 0#32
  let c0_302 : Index := 0#32
  ![0, 0, v481.toNat, 0, 0]
def k0_off27 (i : grid0.Coords) (k0_t1 : Fin (k0_t1_loop i).trips) : Fin 4 → Nat :=
  let c0_320 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v510 : Index := Scalar.indexCast arg15
  let c0_321 : Index := 0#32
  let c0_322 : Index := 0#32
  ![0, v510.toNat, 0, 0]
def k0_off28 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v519 : Index := Scalar.indexCast v471
  let c128_327 : Index := 128#32
  ![v519.toNat, 128]
def k0_off29 (i : grid0.Coords) (k0_t1 : Fin (k0_t1_loop i).trips) : Fin 5 → Nat :=
  let c0_332 : Index := 0#32
  let c0_333 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v528 : Index := Scalar.indexCast arg15
  let c1_334 : Index := 1#32
  let c0_335 : Index := 0#32
  ![0, 0, v528.toNat, 1, 0]
def k0_off30 (i : grid0.Coords) (k0_t1 : Fin (k0_t1_loop i).trips) : Fin 4 → Nat :=
  let c1_353 : Index := 1#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v557 : Index := Scalar.indexCast arg15
  let c0_354 : Index := 0#32
  let c0_355 : Index := 0#32
  ![1, v557.toNat, 0, 0]
def k0_off31 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v566 : Index := Scalar.indexCast v471
  let c256_360 : Index := 256#32
  ![v566.toNat, 256]
def k0_off32 (i : grid0.Coords) (k0_t1 : Fin (k0_t1_loop i).trips) : Fin 5 → Nat :=
  let c0_365 : Index := 0#32
  let c0_366 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v575 : Index := Scalar.indexCast arg15
  let c2_367 : Index := 2#32
  let c0_368 : Index := 0#32
  ![0, 0, v575.toNat, 2, 0]
def k0_off33 (i : grid0.Coords) (k0_t1 : Fin (k0_t1_loop i).trips) : Fin 4 → Nat :=
  let c2_386 : Index := 2#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v604 : Index := Scalar.indexCast arg15
  let c0_387 : Index := 0#32
  let c0_388 : Index := 0#32
  ![2, v604.toNat, 0, 0]
def k0_off34 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v613 : Index := Scalar.indexCast v471
  let c384_393 : Index := 384#32
  ![v613.toNat, 384]
def k0_off35 (i : grid0.Coords) (k0_t1 : Fin (k0_t1_loop i).trips) : Fin 5 → Nat :=
  let c0_398 : Index := 0#32
  let c0_399 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v622 : Index := Scalar.indexCast arg15
  let c3_400 : Index := 3#32
  let c0_401 : Index := 0#32
  ![0, 0, v622.toNat, 3, 0]
def k0_off36 (i : grid0.Coords) (k0_t1 : Fin (k0_t1_loop i).trips) : Fin 4 → Nat :=
  let c3_419 : Index := 3#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v651 : Index := Scalar.indexCast arg15
  let c0_420 : Index := 0#32
  let c0_421 : Index := 0#32
  ![3, v651.toNat, 0, 0]
def k0_off37 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v660 : Index := Scalar.indexCast v471
  let c512_426 : Index := 512#32
  ![v660.toNat, 512]
def k0_off38 (i : grid0.Coords) (k0_t1 : Fin (k0_t1_loop i).trips) : Fin 5 → Nat :=
  let c0_431 : Index := 0#32
  let c0_432 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v669 : Index := Scalar.indexCast arg15
  let c4_433 : Index := 4#32
  let c0_434 : Index := 0#32
  ![0, 0, v669.toNat, 4, 0]
def k0_off39 (i : grid0.Coords) (k0_t1 : Fin (k0_t1_loop i).trips) : Fin 4 → Nat :=
  let c4_452 : Index := 4#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v698 : Index := Scalar.indexCast arg15
  let c0_453 : Index := 0#32
  let c0_454 : Index := 0#32
  ![4, v698.toNat, 0, 0]
def k0_off40 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v707 : Index := Scalar.indexCast v471
  let c640_459 : Index := 640#32
  ![v707.toNat, 640]
def k0_off41 (i : grid0.Coords) (k0_t1 : Fin (k0_t1_loop i).trips) : Fin 5 → Nat :=
  let c0_464 : Index := 0#32
  let c0_465 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v716 : Index := Scalar.indexCast arg15
  let c5_466 : Index := 5#32
  let c0_467 : Index := 0#32
  ![0, 0, v716.toNat, 5, 0]
def k0_off42 (i : grid0.Coords) (k0_t1 : Fin (k0_t1_loop i).trips) : Fin 4 → Nat :=
  let c5_485 : Index := 5#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v745 : Index := Scalar.indexCast arg15
  let c0_486 : Index := 0#32
  let c0_487 : Index := 0#32
  ![5, v745.toNat, 0, 0]
def k0_off43 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v754 : Index := Scalar.indexCast v471
  let c768_492 : Index := 768#32
  ![v754.toNat, 768]
def k0_off44 (i : grid0.Coords) (k0_t1 : Fin (k0_t1_loop i).trips) : Fin 5 → Nat :=
  let c0_497 : Index := 0#32
  let c0_498 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v763 : Index := Scalar.indexCast arg15
  let c6_499 : Index := 6#32
  let c0_500 : Index := 0#32
  ![0, 0, v763.toNat, 6, 0]
def k0_off45 (i : grid0.Coords) (k0_t1 : Fin (k0_t1_loop i).trips) : Fin 4 → Nat :=
  let c6_518 : Index := 6#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v792 : Index := Scalar.indexCast arg15
  let c0_519 : Index := 0#32
  let c0_520 : Index := 0#32
  ![6, v792.toNat, 0, 0]
def k0_off46 (i : grid0.Coords) (k0_t1 : Fin (k0_t1_loop i).trips) : Fin 2 → Nat :=
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let c256_i32_293 : BitVec 32 := 256#32
  let v470 : BitVec 32 := Scalar.muli arg15 c256_i32_293
  let v471 : BitVec 32 := v470
  let v801 : Index := Scalar.indexCast v471
  let c896_525 : Index := 896#32
  ![v801.toNat, 896]
def k0_off47 (i : grid0.Coords) (k0_t1 : Fin (k0_t1_loop i).trips) : Fin 5 → Nat :=
  let c0_530 : Index := 0#32
  let c0_531 : Index := 0#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v810 : Index := Scalar.indexCast arg15
  let c7_532 : Index := 7#32
  let c0_533 : Index := 0#32
  ![0, 0, v810.toNat, 7, 0]
def k0_off48 (i : grid0.Coords) (k0_t1 : Fin (k0_t1_loop i).trips) : Fin 4 → Nat :=
  let c7_551 : Index := 7#32
  let arg2 : BitVec 32 := BitVec.ofNat 32 (i 2).val
  let c1_i32 : BitVec 32 := 1#32
  let v453 : BitVec 32 := Scalar.addi arg2 c1_i32
  let c1_i32_281 : BitVec 32 := 1#32
  let arg15 : BitVec 32 := Scf.iv v453 c1_i32_281 k0_t1
  let v839 : Index := Scalar.indexCast arg15
  let c0_552 : Index := 0#32
  let c0_553 : Index := 0#32
  ![7, v839.toNat, 0, 0]
@[reducible] def k0_t2_loop (i : grid0.Coords) : Scf.Loop 32 :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let v455 : BitVec 32 := Scalar.addi v453 v454
  let c1_i32_282 : BitVec 32 := 1#32
  ⟨v458, v455, c1_i32_282⟩
def k0_mult3 (i : grid0.Coords) (k0_t2 : Fin (k0_t2_loop i).trips) : BitVec 32 :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  v470
def k0_off49 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v472 : Index := Scalar.indexCast v471
  let c0_294 : Index := 0#32
  ![v472.toNat, 0]
def k0_off50 (i : grid0.Coords) (k0_t2 : Fin (k0_t2_loop i).trips) : Fin 5 → Nat :=
  let c0_299 : Index := 0#32
  let c0_300 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v481 : Index := Scalar.indexCast arg15
  let c0_301 : Index := 0#32
  let c0_302 : Index := 0#32
  ![0, 0, v481.toNat, 0, 0]
def k0_off51 (i : grid0.Coords) (k0_t2 : Fin (k0_t2_loop i).trips) : Fin 4 → Nat :=
  let c0_320 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v510 : Index := Scalar.indexCast arg15
  let c0_321 : Index := 0#32
  let c0_322 : Index := 0#32
  ![0, v510.toNat, 0, 0]
def k0_off52 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v519 : Index := Scalar.indexCast v471
  let c128_327 : Index := 128#32
  ![v519.toNat, 128]
def k0_off53 (i : grid0.Coords) (k0_t2 : Fin (k0_t2_loop i).trips) : Fin 5 → Nat :=
  let c0_332 : Index := 0#32
  let c0_333 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v528 : Index := Scalar.indexCast arg15
  let c1_334 : Index := 1#32
  let c0_335 : Index := 0#32
  ![0, 0, v528.toNat, 1, 0]
def k0_off54 (i : grid0.Coords) (k0_t2 : Fin (k0_t2_loop i).trips) : Fin 4 → Nat :=
  let c1_353 : Index := 1#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v557 : Index := Scalar.indexCast arg15
  let c0_354 : Index := 0#32
  let c0_355 : Index := 0#32
  ![1, v557.toNat, 0, 0]
def k0_off55 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v566 : Index := Scalar.indexCast v471
  let c256_360 : Index := 256#32
  ![v566.toNat, 256]
def k0_off56 (i : grid0.Coords) (k0_t2 : Fin (k0_t2_loop i).trips) : Fin 5 → Nat :=
  let c0_365 : Index := 0#32
  let c0_366 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v575 : Index := Scalar.indexCast arg15
  let c2_367 : Index := 2#32
  let c0_368 : Index := 0#32
  ![0, 0, v575.toNat, 2, 0]
def k0_off57 (i : grid0.Coords) (k0_t2 : Fin (k0_t2_loop i).trips) : Fin 4 → Nat :=
  let c2_386 : Index := 2#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v604 : Index := Scalar.indexCast arg15
  let c0_387 : Index := 0#32
  let c0_388 : Index := 0#32
  ![2, v604.toNat, 0, 0]
def k0_off58 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v613 : Index := Scalar.indexCast v471
  let c384_393 : Index := 384#32
  ![v613.toNat, 384]
def k0_off59 (i : grid0.Coords) (k0_t2 : Fin (k0_t2_loop i).trips) : Fin 5 → Nat :=
  let c0_398 : Index := 0#32
  let c0_399 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v622 : Index := Scalar.indexCast arg15
  let c3_400 : Index := 3#32
  let c0_401 : Index := 0#32
  ![0, 0, v622.toNat, 3, 0]
def k0_off60 (i : grid0.Coords) (k0_t2 : Fin (k0_t2_loop i).trips) : Fin 4 → Nat :=
  let c3_419 : Index := 3#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v651 : Index := Scalar.indexCast arg15
  let c0_420 : Index := 0#32
  let c0_421 : Index := 0#32
  ![3, v651.toNat, 0, 0]
def k0_off61 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v660 : Index := Scalar.indexCast v471
  let c512_426 : Index := 512#32
  ![v660.toNat, 512]
def k0_off62 (i : grid0.Coords) (k0_t2 : Fin (k0_t2_loop i).trips) : Fin 5 → Nat :=
  let c0_431 : Index := 0#32
  let c0_432 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v669 : Index := Scalar.indexCast arg15
  let c4_433 : Index := 4#32
  let c0_434 : Index := 0#32
  ![0, 0, v669.toNat, 4, 0]
def k0_off63 (i : grid0.Coords) (k0_t2 : Fin (k0_t2_loop i).trips) : Fin 4 → Nat :=
  let c4_452 : Index := 4#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v698 : Index := Scalar.indexCast arg15
  let c0_453 : Index := 0#32
  let c0_454 : Index := 0#32
  ![4, v698.toNat, 0, 0]
def k0_off64 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v707 : Index := Scalar.indexCast v471
  let c640_459 : Index := 640#32
  ![v707.toNat, 640]
def k0_off65 (i : grid0.Coords) (k0_t2 : Fin (k0_t2_loop i).trips) : Fin 5 → Nat :=
  let c0_464 : Index := 0#32
  let c0_465 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v716 : Index := Scalar.indexCast arg15
  let c5_466 : Index := 5#32
  let c0_467 : Index := 0#32
  ![0, 0, v716.toNat, 5, 0]
def k0_off66 (i : grid0.Coords) (k0_t2 : Fin (k0_t2_loop i).trips) : Fin 4 → Nat :=
  let c5_485 : Index := 5#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v745 : Index := Scalar.indexCast arg15
  let c0_486 : Index := 0#32
  let c0_487 : Index := 0#32
  ![5, v745.toNat, 0, 0]
def k0_off67 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v754 : Index := Scalar.indexCast v471
  let c768_492 : Index := 768#32
  ![v754.toNat, 768]
def k0_off68 (i : grid0.Coords) (k0_t2 : Fin (k0_t2_loop i).trips) : Fin 5 → Nat :=
  let c0_497 : Index := 0#32
  let c0_498 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v763 : Index := Scalar.indexCast arg15
  let c6_499 : Index := 6#32
  let c0_500 : Index := 0#32
  ![0, 0, v763.toNat, 6, 0]
def k0_off69 (i : grid0.Coords) (k0_t2 : Fin (k0_t2_loop i).trips) : Fin 4 → Nat :=
  let c6_518 : Index := 6#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v792 : Index := Scalar.indexCast arg15
  let c0_519 : Index := 0#32
  let c0_520 : Index := 0#32
  ![6, v792.toNat, 0, 0]
def k0_off70 (i : grid0.Coords) (k0_t2 : Fin (k0_t2_loop i).trips) : Fin 2 → Nat :=
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let c256_i32_293 : BitVec 32 := 256#32
  let v470 : BitVec 32 := Scalar.muli arg15 c256_i32_293
  let v471 : BitVec 32 := v470
  let v801 : Index := Scalar.indexCast v471
  let c896_525 : Index := 896#32
  ![v801.toNat, 896]
def k0_off71 (i : grid0.Coords) (k0_t2 : Fin (k0_t2_loop i).trips) : Fin 5 → Nat :=
  let c0_530 : Index := 0#32
  let c0_531 : Index := 0#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v810 : Index := Scalar.indexCast arg15
  let c7_532 : Index := 7#32
  let c0_533 : Index := 0#32
  ![0, 0, v810.toNat, 7, 0]
def k0_off72 (i : grid0.Coords) (k0_t2 : Fin (k0_t2_loop i).trips) : Fin 4 → Nat :=
  let c7_551 : Index := 7#32
  let arg2 : BitVec 32 := BitVec.ofNat 32 (i 2).val
  let c1_i32 : BitVec 32 := 1#32
  let v453 : BitVec 32 := Scalar.addi arg2 c1_i32
  let c8_i32 : BitVec 32 := 8#32
  let v454 : BitVec 32 := Scalar.subi c8_i32 v453
  let c1_i32_280 : BitVec 32 := 1#32
  let v456 : BitVec 32 := Scalar.divsi v454 c1_i32_280
  let v457 : BitVec 32 := Scalar.muli v456 c1_i32_280
  let v458 : BitVec 32 := Scalar.addi v453 v457
  let c1_i32_282 : BitVec 32 := 1#32
  let arg15 : BitVec 32 := Scf.iv v458 c1_i32_282 k0_t2
  let v839 : Index := Scalar.indexCast arg15
  let c0_552 : Index := 0#32
  let c0_553 : Index := 0#32
  ![7, v839.toNat, 0, 0]
def k0_cond2 (i : grid0.Coords) : BitVec 1 :=
  let arg2 : BitVec 32 := BitVec.ofNat 32 (i 2).val
  let c7_i32 : BitVec 32 := 7#32
  let v467 : BitVec 1 := Scalar.cmpi .eq arg2 c7_i32
  let v468 : BitVec 32 := Scalar.extui v467
  let c0_i32_292 : BitVec 32 := 0#32
  let v469 : BitVec 1 := Scalar.cmpi .ne v468 c0_i32_292
  v469

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4x2048x8x96 : Shape := ⟨4, ![4, 2048, 8, 96]⟩
abbrev S4x2048x8x64 : Shape := ⟨4, ![4, 2048, 8, 64]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x96 : Shape := ⟨4, ![4, 8, 2048, 96]⟩
abbrev S4x2048x8x32 : Shape := ⟨4, ![4, 2048, 8, 32]⟩
abbrev S4x2048x8x128 : Shape := ⟨4, ![4, 2048, 8, 128]⟩
abbrev S8192x1024 : Shape := ⟨2, ![8192, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x8x64, .f32⟩
  | .hbm, ⟨4, _⟩ => ⟨S_, .f32⟩
  | .hbm, ⟨5, _⟩ => ⟨S4x2048x8x96, .f32⟩
  | .hbm, ⟨6, _⟩ => ⟨S4x2048x8x96, .f32⟩
  | .hbm, ⟨7, _⟩ => ⟨S4x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S4x8x2048x2048, .i1⟩
  | .hbm, ⟨17, _⟩ => ⟨S4x8x2048x2048, .f32⟩
  | .hbm, ⟨18, _⟩ => ⟨S4x8x2048x2048, .f32⟩
  | .hbm, ⟨19, _⟩ => ⟨S_, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .i1⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S_, .f32⟩
  | .hbm, ⟨30, _⟩ => ⟨S4x8x2048, .f32⟩
  | .hbm, ⟨31, _⟩ => ⟨S4x8x2048, .f32⟩
  | .hbm, ⟨32, _⟩ => ⟨S_, .f32⟩
  | .hbm, ⟨33, _⟩ => ⟨S4x8x2048, .f32⟩
  | .hbm, ⟨34, _⟩ => ⟨S4x8x2048, .i1⟩
  | .hbm, ⟨35, _⟩ => ⟨S_, .f32⟩
  | .hbm, ⟨36, _⟩ => ⟨S4x8x2048, .f32⟩
  | .hbm, ⟨37, _⟩ => ⟨S4x8x2048, .i1⟩
  | .hbm, ⟨38, _⟩ => ⟨S_, .f32⟩
  | .hbm, ⟨39, _⟩ => ⟨S4x8x2048, .f32⟩
  | .hbm, ⟨40, _⟩ => ⟨S_, .f32⟩
  | .hbm, ⟨41, _⟩ => ⟨S4x8x2048, .f32⟩
  | .hbm, ⟨42, _⟩ => ⟨S_, .f32⟩
  | .hbm, ⟨43, _⟩ => ⟨S4x8x2048, .f32⟩
  | .hbm, ⟨44, _⟩ => ⟨S4x8x2048, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S_, .f32⟩
  | .hbm, ⟨51, _⟩ => ⟨S4x8x2048, .f32⟩
  | .hbm, ⟨52, _⟩ => ⟨S4x8x2048x1, .f32⟩
  | .hbm, ⟨53, _⟩ => ⟨S4x8x2048x2048, .f32⟩
  | .hbm, ⟨54, _⟩ => ⟨S4x8x2048x2048, .f32⟩
  | .hbm, ⟨55, _⟩ => ⟨S4x8x2048x1, .f32⟩
  | .hbm, ⟨56, _⟩ => ⟨S_, .f32⟩
  | .hbm, ⟨57, _⟩ => ⟨S4x8x2048x1, .f32⟩
  | .hbm, ⟨58, _⟩ => ⟨S4x8x2048x1, .f32⟩
  | .hbm, ⟨59, _⟩ => ⟨S4x8x64x2048, .f32⟩
  | .hbm, ⟨60, _⟩ => ⟨S4x2048x8x64, .f32⟩
  | .hbm, ⟨61, _⟩ => ⟨S4x8x64x2048, .f32⟩
  | .hbm, ⟨62, _⟩ => ⟨S4x8x2048x2048, .f32⟩
  | .hbm, ⟨63, _⟩ => ⟨S4x8x64x2048, .f32⟩
  | .hbm, ⟨64, _⟩ => ⟨S4x2048x8x64, .f32⟩
  | .hbm, ⟨65, _⟩ => ⟨S4x8x2048x2048, .f32⟩
  | .hbm, ⟨66, _⟩ => ⟨S4x8x2048x2048, .f32⟩
  | .hbm, ⟨67, _⟩ => ⟨S4x8x2048x2048, .f32⟩
  | .hbm, ⟨68, _⟩ => ⟨S_, .f32⟩
  | .hbm, ⟨69, _⟩ => ⟨S4x8x2048, .f32⟩
  | .hbm, ⟨70, _⟩ => ⟨S4x8x2048x1, .f32⟩
  | .hbm, ⟨71, _⟩ => ⟨S4x8x2048x1, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x2048, .f32⟩
  | .hbm, ⟨77, _⟩ => ⟨S4x8x2048x2048, .f32⟩
  | .hbm, ⟨78, _⟩ => ⟨S4x8x2048x2048, .f32⟩
  | .hbm, ⟨79, _⟩ => ⟨S_, .f32⟩
  | .hbm, ⟨80, _⟩ => ⟨S4x8x2048x2048, .f32⟩
  | .hbm, ⟨81, _⟩ => ⟨S4x8x2048x2048, .f32⟩
  | .hbm, ⟨82, _⟩ => ⟨S4x8x2048x96, .f32⟩
  | .hbm, ⟨83, _⟩ => ⟨S4x2048x8x96, .f32⟩
  | .hbm, ⟨84, _⟩ => ⟨S4x8x2048x96, .f32⟩
  | .hbm, ⟨85, _⟩ => ⟨S4x2048x8x96, .f32⟩
  | .hbm, ⟨86, _⟩ => ⟨S_, .f32⟩
  | .hbm, ⟨87, _⟩ => ⟨S4x2048x8x32, .f32⟩
  | .hbm, ⟨88, _⟩ => ⟨S4x2048x8x128, .f32⟩
  | .hbm, ⟨89, _⟩ => ⟨S8192x1024, .f32⟩
  | .hbm, ⟨90, _⟩ => ⟨S8192x1024, .bf16⟩
  | .hbm, ⟨91, _⟩ => ⟨S_, .f32⟩
  | .hbm, ⟨92, _⟩ => ⟨S4x2048x8x32, .f32⟩
  | .hbm, ⟨93, _⟩ => ⟨S4x2048x8x128, .f32⟩
  | .hbm, ⟨94, _⟩ => ⟨S8192x1024, .f32⟩
  | .hbm, ⟨95, _⟩ => ⟨S8192x1024, .bf16⟩
  | .hbm, ⟨96, _⟩ => ⟨S_, .f32⟩
  | .hbm, ⟨97, _⟩ => ⟨S4x2048x8x64, .f32⟩
  | .hbm, ⟨98, _⟩ => ⟨S4x2048x8x128, .f32⟩
  | .hbm, ⟨99, _⟩ => ⟨S8192x1024, .f32⟩
  | .hbm, ⟨100, _⟩ => ⟨S8192x1024, .bf16⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Kernel2.lean ====
abbrev S8192x1024 : Shape := ⟨2, ![8192, 1024]⟩
abbrev S8192x4256 : Shape := ⟨2, ![8192, 4256]⟩
abbrev S8192x512 : Shape := ⟨2, ![8192, 512]⟩
abbrev S8192x128 : Shape := ⟨2, ![8192, 128]⟩
abbrev S8192x256 : Shape := ⟨2, ![8192, 256]⟩
abbrev S8192x32 : Shape := ⟨2, ![8192, 32]⟩
abbrev S_ : Shape := ⟨0, ![]⟩
abbrev S8192x8x64 : Shape := ⟨3, ![8192, 8, 64]⟩
abbrev S8192x8x128 : Shape := ⟨3, ![8192, 8, 128]⟩
abbrev S8192x2x64 : Shape := ⟨3, ![8192, 2, 64]⟩
abbrev S8192x2x128 : Shape := ⟨3, ![8192, 2, 128]⟩
abbrev S8192x5120 : Shape := ⟨2, ![8192, 5120]⟩
abbrev S1024x5120 : Shape := ⟨2, ![1024, 5120]⟩
abbrev S1024x1024 : Shape := ⟨2, ![1024, 1024]⟩
abbrev S1024x2560 : Shape := ⟨2, ![1024, 2560]⟩
abbrev S1024x128 : Shape := ⟨2, ![1024, 128]⟩
abbrev S1024x32 : Shape := ⟨2, ![1024, 32]⟩
abbrev S1024x8x128 : Shape := ⟨3, ![1024, 8, 128]⟩
abbrev S1024x8x64 : Shape := ⟨3, ![1024, 8, 64]⟩
abbrev S1024x512 : Shape := ⟨2, ![1024, 512]⟩
abbrev S1024x256 : Shape := ⟨2, ![1024, 256]⟩
abbrev S1024x2x128 : Shape := ⟨3, ![1024, 2, 128]⟩
abbrev S1024x2x64 : Shape := ⟨3, ![1024, 2, 64]⟩
abbrev S1024x4256 : Shape := ⟨2, ![1024, 4256]⟩

abbrev nBuf : Space → Nat
  | .hbm => 55
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4256, .f32⟩
  | .hbm, ⟨2, _⟩ => ⟨S8192x1024, .bf16⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S8192x256, .f32⟩
  | .hbm, ⟨8, _⟩ => ⟨S8192x128, .f32⟩
  | .hbm, ⟨9, _⟩ => ⟨S8192x32, .f32⟩
  | .hbm, ⟨10, _⟩ => ⟨S8192x512, .f32⟩
  | .hbm, ⟨11, _⟩ => ⟨S8192x1024, .f32⟩
  | .hbm, ⟨12, _⟩ => ⟨S8192x1024, .f32⟩
  | .hbm, ⟨13, _⟩ => ⟨S_, .i32⟩
  | .hbm, ⟨14, _⟩ => ⟨S_, .f32⟩
  | .hbm, ⟨15, _⟩ => ⟨S8192x128, .f32⟩
  | .hbm, ⟨16, _⟩ => ⟨S8192x8x64, .f32⟩
  | .hbm, ⟨17, _⟩ => ⟨S_, .i32⟩
  | .hbm, ⟨18, _⟩ => ⟨S_, .f32⟩
  | .hbm, ⟨19, _⟩ => ⟨S8192x8x128, .f32⟩
  | .hbm, ⟨20, _⟩ => ⟨S8192x1024, .f32⟩
  | .hbm, ⟨21, _⟩ => ⟨S8192x2x64, .f32⟩
  | .hbm, ⟨22, _⟩ => ⟨S_, .i32⟩
  | .hbm, ⟨23, _⟩ => ⟨S_, .f32⟩
  | .hbm, ⟨24, _⟩ => ⟨S8192x2x128, .f32⟩
  | .hbm, ⟨25, _⟩ => ⟨S8192x256, .f32⟩
  | .hbm, ⟨26, _⟩ => ⟨S8192x2x64, .f32⟩
  | .hbm, ⟨27, _⟩ => ⟨S_, .i32⟩
  | .hbm, ⟨28, _⟩ => ⟨S_, .f32⟩
  | .hbm, ⟨29, _⟩ => ⟨S8192x2x128, .f32⟩
  | .hbm, ⟨30, _⟩ => ⟨S8192x256, .f32⟩
  | .hbm, ⟨31, _⟩ => ⟨S8192x5120, .f32⟩
  | .hbm, ⟨32, _⟩ => ⟨S8192x5120, .bf16⟩
  | .hbm, ⟨33, _⟩ => ⟨S1024x5120, .f32⟩
  | .hbm, ⟨34, _⟩ => ⟨S1024x128, .f32⟩
  | .hbm, ⟨35, _⟩ => ⟨S1024x32, .f32⟩
  | .hbm, ⟨36, _⟩ => ⟨S1024x1024, .f32⟩
  | .hbm, ⟨37, _⟩ => ⟨S1024x8x128, .f32⟩
  | .hbm, ⟨38, _⟩ => ⟨S1024x8x64, .f32⟩
  | .hbm, ⟨39, _⟩ => ⟨S1024x512, .f32⟩
  | .hbm, ⟨40, _⟩ => ⟨S1024x256, .f32⟩
  | .hbm, ⟨41, _⟩ => ⟨S1024x2x128, .f32⟩
  | .hbm, ⟨42, _⟩ => ⟨S1024x2x64, .f32⟩
  | .hbm, ⟨43, _⟩ => ⟨S1024x128, .f32⟩
  | .hbm, ⟨44, _⟩ => ⟨S1024x256, .f32⟩
  | .hbm, ⟨45, _⟩ => ⟨S1024x2x128, .f32⟩
  | .hbm, ⟨46, _⟩ => ⟨S1024x2x64, .f32⟩
  | .hbm, ⟨47, _⟩ => ⟨S1024x128, .f32⟩
  | .hbm, ⟨48, _⟩ => ⟨S1024x512, .f32⟩
  | .hbm, ⟨49, _⟩ => ⟨S1024x256, .f32⟩
  | .hbm, ⟨50, _⟩ => ⟨S1024x128, .f32⟩
  | .hbm, ⟨51, _⟩ => ⟨S1024x512, .f32⟩
  | .hbm, ⟨52, _⟩ => ⟨S1024x1024, .f32⟩
  | .hbm, ⟨53, _⟩ => ⟨S1024x1024, .f32⟩
  | .hbm, ⟨54, _⟩ => ⟨S1024x4256, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_call2_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call3_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x4256 : Shape := ⟨2, ![8192, 4256]⟩
abbrev S_ : Shape := ⟨0, ![]⟩
abbrev S1024x4256 : Shape := ⟨2, ![1024, 4256]⟩
abbrev S4256x1024 : Shape := ⟨2, ![4256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4256, .f32⟩
  | .hbm, ⟨2, _⟩ => ⟨S_, .f32⟩
  | .hbm, ⟨3, _⟩ => ⟨S1024x4256, .f32⟩
  | .hbm, ⟨4, _⟩ => ⟨S8192x4256, .f32⟩
  | .hbm, ⟨5, _⟩ => ⟨S4256x1024, .f32⟩
  | .hbm, ⟨6, _⟩ => ⟨S1024x4256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S8192x512 : Shape := ⟨2, ![8192, 512]⟩
abbrev S8192x128 : Shape := ⟨2, ![8192, 128]⟩
abbrev S8192x256 : Shape := ⟨2, ![8192, 256]⟩
abbrev S8192x32 : Shape := ⟨2, ![8192, 32]⟩
abbrev S_ : Shape := ⟨0, ![]⟩
abbrev S8192x8x64 : Shape := ⟨3, ![8192, 8, 64]⟩
abbrev S8192x8x128 : Shape := ⟨3, ![8192, 8, 128]⟩
abbrev S8192x2x64 : Shape := ⟨3, ![8192, 2, 64]⟩
abbrev S8192x2x128 : Shape := ⟨3, ![8192, 2, 128]⟩
abbrev S8192x5120 : Shape := ⟨2, ![8192, 5120]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x1024 : Shape := ⟨2, ![1024, 1024]⟩
abbrev S1024x8x64 : Shape := ⟨3, ![1024, 8, 64]⟩
abbrev S1024x8x128 : Shape := ⟨3, ![1024, 8, 128]⟩
abbrev S1024x2x64 : Shape := ⟨3, ![1024, 2, 64]⟩
abbrev S1024x2x128 : Shape := ⟨3, ![1024, 2, 128]⟩
abbrev S1024x5120 : Shape := ⟨2, ![1024, 5120]⟩
abbrev S5120x1024 : Shape := ⟨2, ![5120, 1024]⟩
abbrev S1x1024 : Shape := ⟨2, ![1, 1024]⟩
abbrev S512x5120 : Shape := ⟨2, ![512, 5120]⟩
abbrev S512x1024 : Shape := ⟨2, ![512, 1024]⟩
abbrev S5120x512 : Shape := ⟨2, ![5120, 512]⟩
abbrev S512x512 : Shape := ⟨2, ![512, 512]⟩
abbrev S512 : Shape := ⟨1, ![512]⟩
abbrev S512x1 : Shape := ⟨2, ![512, 1]⟩

abbrev nBuf : Space → Nat
  | .hbm => 70
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x4256, .f32⟩
  | .hbm, ⟨4, _⟩ => ⟨S8192x1024, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x512, .f32⟩
  | .hbm, ⟨9, _⟩ => ⟨S8192x256, .f32⟩
  | .hbm, ⟨10, _⟩ => ⟨S8192x128, .f32⟩
  | .hbm, ⟨11, _⟩ => ⟨S8192x32, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S8192x8x64, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x2x64, .f32⟩
  | .hbm, ⟨24, _⟩ => ⟨S_, .i32⟩
  | .hbm, ⟨25, _⟩ => ⟨S_, .f32⟩
  | .hbm, ⟨26, _⟩ => ⟨S8192x2x128, .f32⟩
  | .hbm, ⟨27, _⟩ => ⟨S8192x256, .f32⟩
  | .hbm, ⟨28, _⟩ => ⟨S8192x2x64, .f32⟩
  | .hbm, ⟨29, _⟩ => ⟨S_, .i32⟩
  | .hbm, ⟨30, _⟩ => ⟨S_, .f32⟩
  | .hbm, ⟨31, _⟩ => ⟨S8192x2x128, .f32⟩
  | .hbm, ⟨32, _⟩ => ⟨S8192x256, .f32⟩
  | .hbm, ⟨33, _⟩ => ⟨S8192x5120, .f32⟩
  | .hbm, ⟨34, _⟩ => ⟨S8192x5120, .bf16⟩
  | .hbm, ⟨35, _⟩ => ⟨S1024x4256, .bf16⟩
  | .hbm, ⟨36, _⟩ => ⟨S1024x512, .bf16⟩
  | .hbm, ⟨37, _⟩ => ⟨S1024x128, .bf16⟩
  | .hbm, ⟨38, _⟩ => ⟨S1024x128, .bf16⟩
  | .hbm, ⟨39, _⟩ => ⟨S1024x512, .bf16⟩
  | .hbm, ⟨40, _⟩ => ⟨S1024x256, .bf16⟩
  | .hbm, ⟨41, _⟩ => ⟨S1024x128, .bf16⟩
  | .hbm, ⟨42, _⟩ => ⟨S1024x32, .bf16⟩
  | .hbm, ⟨43, _⟩ => ⟨S1024x512, .bf16⟩
  | .hbm, ⟨44, _⟩ => ⟨S1024x1024, .bf16⟩
  | .hbm, ⟨45, _⟩ => ⟨S1024x1024, .bf16⟩
  | .hbm, ⟨46, _⟩ => ⟨S_, .i32⟩
  | .hbm, ⟨47, _⟩ => ⟨S_, .bf16⟩
  | .hbm, ⟨48, _⟩ => ⟨S1024x128, .bf16⟩
  | .hbm, ⟨49, _⟩ => ⟨S1024x8x64, .bf16⟩
  | .hbm, ⟨50, _⟩ => ⟨S_, .i32⟩
  | .hbm, ⟨51, _⟩ => ⟨S_, .bf16⟩
  | .hbm, ⟨52, _⟩ => ⟨S1024x8x128, .bf16⟩
  | .hbm, ⟨53, _⟩ => ⟨S1024x1024, .bf16⟩
  | .hbm, ⟨54, _⟩ => ⟨S1024x2x64, .bf16⟩
  | .hbm, ⟨55, _⟩ => ⟨S_, .i32⟩
  | .hbm, ⟨56, _⟩ => ⟨S_, .bf16⟩
  | .hbm, ⟨57, _⟩ => ⟨S1024x2x128, .bf16⟩
  | .hbm, ⟨58, _⟩ => ⟨S1024x256, .bf16⟩
  | .hbm, ⟨59, _⟩ => ⟨S1024x2x64, .bf16⟩
  | .hbm, ⟨60, _⟩ => ⟨S_, .i32⟩
  | .hbm, ⟨61, _⟩ => ⟨S_, .bf16⟩
  | .hbm, ⟨62, _⟩ => ⟨S1024x2x128, .bf16⟩
  | .hbm, ⟨63, _⟩ => ⟨S1024x256, .bf16⟩
  | .hbm, ⟨64, _⟩ => ⟨S1024x5120, .bf16⟩
  | .hbm, ⟨65, _⟩ => ⟨S5120x1024, .bf16⟩
  | .hbm, ⟨66, _⟩ => ⟨S1x1024, .f32⟩
  | .hbm, ⟨67, _⟩ => ⟨S8192x1024, .f32⟩
  | .hbm, ⟨68, _⟩ => ⟨S1x1024, .f32⟩
  | .hbm, ⟨69, _⟩ => ⟨S1024, .f32⟩
  | .local _ .vmem, ⟨0, _⟩ => ⟨S512x5120, .bf16⟩
  | .local _ .vmem, ⟨1, _⟩ => ⟨S512x5120, .bf16⟩
  | .local _ .vmem, ⟨2, _⟩ => ⟨S5120x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call3_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_call4_v0 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_call5_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call6_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_call7_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x4256, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4256, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel4.lean ====
abbrev S8192x1024 : Shape := ⟨2, ![8192, 1024]⟩
abbrev S1024x4256 : Shape := ⟨2, ![1024, 4256]⟩
abbrev S256 : Shape := ⟨1, ![256]⟩
abbrev S128 : Shape := ⟨1, ![128]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x1024 : Shape := ⟨2, ![1024, 1024]⟩
abbrev S_ : Shape := ⟨0, ![]⟩
abbrev S1024x8x64 : Shape := ⟨3, ![1024, 8, 64]⟩
abbrev S1024x8x128 : Shape := ⟨3, ![1024, 8, 128]⟩
abbrev S1024x2x64 : Shape := ⟨3, ![1024, 2, 64]⟩
abbrev S1024x2x128 : Shape := ⟨3, ![1024, 2, 128]⟩
abbrev S1024x5120 : Shape := ⟨2, ![1024, 5120]⟩
abbrev S1x256 : Shape := ⟨2, ![1, 256]⟩
abbrev S1x128 : Shape := ⟨2, ![1, 128]⟩
abbrev S8192x5120 : Shape := ⟨2, ![8192, 5120]⟩
abbrev S8192x512 : Shape := ⟨2, ![8192, 512]⟩
abbrev S8192x256 : Shape := ⟨2, ![8192, 256]⟩
abbrev S8192x128 : Shape := ⟨2, ![8192, 128]⟩
abbrev S512x1024 : Shape := ⟨2, ![512, 1024]⟩
abbrev S512x5120 : Shape := ⟨2, ![512, 5120]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S8192x32 : Shape := ⟨2, ![8192, 32]⟩
abbrev S8192x8x128 : Shape := ⟨3, ![8192, 8, 128]⟩
abbrev S8192x8x64 : Shape := ⟨3, ![8192, 8, 64]⟩
abbrev S8192x2x128 : Shape := ⟨3, ![8192, 2, 128]⟩
abbrev S8192x2x64 : Shape := ⟨3, ![8192, 2, 64]⟩
abbrev S8192x4256 : Shape := ⟨2, ![8192, 4256]⟩

abbrev nBuf : Space → Nat
  | .hbm => 62
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S256, .f32⟩
  | .hbm, ⟨3, _⟩ => ⟨S128, .f32⟩
  | .hbm, ⟨4, _⟩ => ⟨S8192x1024, .bf16⟩
  | .hbm, ⟨5, _⟩ => ⟨S1024x4256, .bf16⟩
  | .hbm, ⟨6, _⟩ => ⟨S1024x512, .bf16⟩
  | .hbm, ⟨7, _⟩ => ⟨S1024x128, .bf16⟩
  | .hbm, ⟨8, _⟩ => ⟨S1024x128, .bf16⟩
  | .hbm, ⟨9, _⟩ => ⟨S1024x512, .bf16⟩
  | .hbm, ⟨10, _⟩ => ⟨S1024x256, .bf16⟩
  | .hbm, ⟨11, _⟩ => ⟨S1024x128, .bf16⟩
  | .hbm, ⟨12, _⟩ => ⟨S1024x32, .bf16⟩
  | .hbm, ⟨13, _⟩ => ⟨S1024x512, .bf16⟩
  | .hbm, ⟨14, _⟩ => ⟨S1024x1024, .bf16⟩
  | .hbm, ⟨15, _⟩ => ⟨S1024x1024, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S1024x8x64, .bf16⟩
  | .hbm, ⟨20, _⟩ => ⟨S_, .i32⟩
  | .hbm, ⟨21, _⟩ => ⟨S_, .bf16⟩
  | .hbm, ⟨22, _⟩ => ⟨S1024x8x128, .bf16⟩
  | .hbm, ⟨23, _⟩ => ⟨S1024x1024, .bf16⟩
  | .hbm, ⟨24, _⟩ => ⟨S1024x2x64, .bf16⟩
  | .hbm, ⟨25, _⟩ => ⟨S_, .i32⟩
  | .hbm, ⟨26, _⟩ => ⟨S_, .bf16⟩
  | .hbm, ⟨27, _⟩ => ⟨S1024x2x128, .bf16⟩
  | .hbm, ⟨28, _⟩ => ⟨S1024x256, .bf16⟩
  | .hbm, ⟨29, _⟩ => ⟨S1024x2x64, .bf16⟩
  | .hbm, ⟨30, _⟩ => ⟨S_, .i32⟩
  | .hbm, ⟨31, _⟩ => ⟨S_, .bf16⟩
  | .hbm, ⟨32, _⟩ => ⟨S1024x2x128, .bf16⟩
  | .hbm, ⟨33, _⟩ => ⟨S1024x256, .bf16⟩
  | .hbm, ⟨34, _⟩ => ⟨S1024x5120, .bf16⟩
  | .hbm, ⟨35, _⟩ => ⟨S1x256, .f32⟩
  | .hbm, ⟨36, _⟩ => ⟨S1x128, .f32⟩
  | .hbm, ⟨37, _⟩ => ⟨S8192x5120, .bf16⟩
  | .hbm, ⟨38, _⟩ => ⟨S8192x512, .f32⟩
  | .hbm, ⟨39, _⟩ => ⟨S8192x256, .bf16⟩
  | .hbm, ⟨40, _⟩ => ⟨S8192x128, .bf16⟩
  | .hbm, ⟨41, _⟩ => ⟨S8192x128, .bf16⟩
  | .hbm, ⟨42, _⟩ => ⟨S8192x32, .bf16⟩
  | .hbm, ⟨43, _⟩ => ⟨S8192x1024, .bf16⟩
  | .hbm, ⟨44, _⟩ => ⟨S8192x8x128, .bf16⟩
  | .hbm, ⟨45, _⟩ => ⟨S8192x8x64, .bf16⟩
  | .hbm, ⟨46, _⟩ => ⟨S8192x512, .bf16⟩
  | .hbm, ⟨47, _⟩ => ⟨S8192x256, .bf16⟩
  | .hbm, ⟨48, _⟩ => ⟨S8192x2x128, .bf16⟩
  | .hbm, ⟨49, _⟩ => ⟨S8192x2x64, .bf16⟩
  | .hbm, ⟨50, _⟩ => ⟨S8192x128, .bf16⟩
  | .hbm, ⟨51, _⟩ => ⟨S8192x256, .bf16⟩
  | .hbm, ⟨52, _⟩ => ⟨S8192x2x128, .bf16⟩
  | .hbm, ⟨53, _⟩ => ⟨S8192x2x64, .bf16⟩
  | .hbm, ⟨54, _⟩ => ⟨S8192x128, .bf16⟩
  | .hbm, ⟨55, _⟩ => ⟨S8192x512, .bf16⟩
  | .hbm, ⟨56, _⟩ => ⟨S8192x256, .bf16⟩
  | .hbm, ⟨57, _⟩ => ⟨S8192x128, .bf16⟩
  | .hbm, ⟨58, _⟩ => ⟨S8192x512, .bf16⟩
  | .hbm, ⟨59, _⟩ => ⟨S8192x1024, .bf16⟩
  | .hbm, ⟨60, _⟩ => ⟨S8192x1024, .bf16⟩
  | .hbm, ⟨61, _⟩ => ⟨S8192x4256, .bf16⟩
  | .local _ .vmem, ⟨0, _⟩ => ⟨S512x1024, .bf16⟩
  | .local _ .vmem, ⟨1, _⟩ => ⟨S512x1024, .bf16⟩
  | .local _ .vmem, ⟨2, _⟩ => ⟨S1024x5120, .bf16⟩
  | .local _ .vmem, ⟨3, _⟩ => ⟨S1x256, .f32⟩
  | .local _ .vmem, ⟨4, _⟩ => ⟨S1x128, .f32⟩
  | .local _ .vmem, ⟨5, _⟩ => ⟨S512x5120, .bf16⟩
  | .local _ .vmem, ⟨6, _⟩ => ⟨S512x5120, .bf16⟩
  | .local _ .vmem, ⟨7, _⟩ => ⟨S512x512, .f32⟩
  | .local _ .vmem, ⟨8, _⟩ => ⟨S512x512, .f32⟩
  | .local _ .vmem, ⟨9, _⟩ => ⟨S512x256, .bf16⟩
  | .local _ .vmem, ⟨10, _⟩ => ⟨S512x256, .bf16⟩
  | .local _ .vmem, ⟨11, _⟩ => ⟨S512x128, .bf16⟩
  | .local _ .vmem, ⟨12, _⟩ => ⟨S512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call3_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S1024x4256 : Shape := ⟨2, ![1024, 4256]⟩
abbrev S256 : Shape := ⟨1, ![256]⟩
abbrev S128 : Shape := ⟨1, ![128]⟩
abbrev S8192x4256 : Shape := ⟨2, ![8192, 4256]⟩
abbrev S8192x512 : Shape := ⟨2, ![8192, 512]⟩
abbrev S8192x128 : Shape := ⟨2, ![8192, 128]⟩
abbrev S8192x256 : Shape := ⟨2, ![8192, 256]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4256, .f32⟩
  | .hbm, ⟨2, _⟩ => ⟨S256, .f32⟩
  | .hbm, ⟨3, _⟩ => ⟨S128, .f32⟩
  | .hbm, ⟨4, _⟩ => ⟨S8192x4256, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x512, .f32⟩
  | .hbm, ⟨9, _⟩ => ⟨S8192x256, .f32⟩
  | .hbm, ⟨10, _⟩ => ⟨S8192x128, .f32⟩
  | .hbm, ⟨11, _⟩ => ⟨S8192x32, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S8192x4256, .bf16⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S1x256, .f32⟩
  | .hbm, ⟨30, _⟩ => ⟨S8192x256, .f32⟩
  | .hbm, ⟨31, _⟩ => ⟨S8192x256, .f32⟩
  | .hbm, ⟨32, _⟩ => ⟨S8192x256, .bf16⟩
  | .hbm, ⟨33, _⟩ => ⟨S8192x128, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S8192x8x64 : Shape := ⟨3, ![8192, 8, 64]⟩
abbrev S_ : Shape := ⟨0, ![]⟩
abbrev S8192x8x128 : Shape := ⟨3, ![8192, 8, 128]⟩
abbrev S1024x1024 : Shape := ⟨2, ![1024, 1024]⟩
abbrev S2048x1024 : Shape := ⟨2, ![2048, 1024]⟩
abbrev S1024x8x128 : Shape := ⟨3, ![1024, 8, 128]⟩
abbrev S1024x8x64 : Shape := ⟨3, ![1024, 8, 64]⟩
abbrev S1024x512 : Shape := ⟨2, ![1024, 512]⟩
abbrev S512x1024 : Shape := ⟨2, ![512, 1024]⟩

abbrev nBuf : Space → Nat
  | .hbm => 15
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x8x64, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S1024x1024, .f32⟩
  | .hbm, ⟨10, _⟩ => ⟨S1024x1024, .f32⟩
  | .hbm, ⟨11, _⟩ => ⟨S1024x8x128, .f32⟩
  | .hbm, ⟨12, _⟩ => ⟨S1024x8x64, .f32⟩
  | .hbm, ⟨13, _⟩ => ⟨S1024x512, .f32⟩
  | .hbm, ⟨14, _⟩ => ⟨S512x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S8192x8x64 : Shape := ⟨3, ![8192, 8, 64]⟩
abbrev S_ : Shape := ⟨0, ![]⟩
abbrev S8192x8x128 : Shape := ⟨3, ![8192, 8, 128]⟩
abbrev S1024x1024 : Shape := ⟨2, ![1024, 1024]⟩
abbrev S2048x1024 : Shape := ⟨2, ![2048, 1024]⟩
abbrev S1024x8x128 : Shape := ⟨3, ![1024, 8, 128]⟩
abbrev S1024x8x64 : Shape := ⟨3, ![1024, 8, 64]⟩
abbrev S1024x512 : Shape := ⟨2, ![1024, 512]⟩
abbrev S512x1024 : Shape := ⟨2, ![512, 1024]⟩

abbrev nBuf : Space → Nat
  | .hbm => 15
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x8x64, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S1024x1024, .f32⟩
  | .hbm, ⟨10, _⟩ => ⟨S1024x1024, .f32⟩
  | .hbm, ⟨11, _⟩ => ⟨S1024x8x128, .f32⟩
  | .hbm, ⟨12, _⟩ => ⟨S1024x8x64, .f32⟩
  | .hbm, ⟨13, _⟩ => ⟨S1024x512, .f32⟩
  | .hbm, ⟨14, _⟩ => ⟨S512x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x256 : Shape := ⟨2, ![8192, 256]⟩
abbrev S8192x768 : Shape := ⟨2, ![8192, 768]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩
abbrev S256x8x128 : Shape := ⟨3, ![256, 8, 128]⟩
abbrev S256x8x96 : Shape := ⟨3, ![256, 8, 96]⟩
abbrev S256x768 : Shape := ⟨2, ![256, 768]⟩

abbrev nBuf : Space → Nat
  | .hbm => 13
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S8192x256, .bf16⟩
  | .hbm, ⟨3, _⟩ => ⟨S8192x8x96, .f32⟩
  | .hbm, ⟨4, _⟩ => ⟨S_, .i32⟩
  | .hbm, ⟨5, _⟩ => ⟨S_, .f32⟩
  | .hbm, ⟨6, _⟩ => ⟨S8192x8x128, .f32⟩
  | .hbm, ⟨7, _⟩ => ⟨S8192x1024, .f32⟩
  | .hbm, ⟨8, _⟩ => ⟨S8192x1024, .bf16⟩
  | .hbm, ⟨9, _⟩ => ⟨S256x1024, .f32⟩
  | .hbm, ⟨10, _⟩ => ⟨S256x8x128, .f32⟩
  | .hbm, ⟨11, _⟩ => ⟨S256x8x96, .f32⟩
  | .hbm, ⟨12, _⟩ => ⟨S256x768, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S8192x256 : Shape := ⟨2, ![8192, 256]⟩
abbrev S8192x768 : Shape := ⟨2, ![8192, 768]⟩
abbrev S_ : Shape := ⟨0, ![]⟩
abbrev S256x768 : Shape := ⟨2, ![256, 768]⟩
abbrev S768x256 : Shape := ⟨2, ![768, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S_, .f32⟩
  | .hbm, ⟨3, _⟩ => ⟨S256x768, .f32⟩
  | .hbm, ⟨4, _⟩ => ⟨S8192x768, .f32⟩
  | .hbm, ⟨5, _⟩ => ⟨S768x256, .f32⟩
  | .hbm, ⟨6, _⟩ => ⟨S256x768, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x128 : Shape := ⟨2, ![8192, 128]⟩
abbrev S8192x1024 : Shape := ⟨2, ![8192, 1024]⟩
abbrev S8192x8x128 : Shape := ⟨3, ![8192, 8, 128]⟩
abbrev S8192x8x64 : Shape := ⟨3, ![8192, 8, 64]⟩
abbrev S_ : Shape := ⟨0, ![]⟩
abbrev S8192x2048 : Shape := ⟨2, ![8192, 2048]⟩
abbrev S128x2048 : Shape := ⟨2, ![128, 2048]⟩
abbrev S2048x128 : Shape := ⟨2, ![2048, 128]⟩
abbrev S2048x2048 : Shape := ⟨2, ![2048, 2048]⟩
abbrev S128x2x8x128 : Shape := ⟨4, ![128, 2, 8, 128]⟩
abbrev S128x2x8x64 : Shape := ⟨4, ![128, 2, 8, 64]⟩
abbrev S128x1x8x64 : Shape := ⟨4, ![128, 1, 8, 64]⟩
abbrev S128x8x64 : Shape := ⟨3, ![128, 8, 64]⟩
abbrev S128x8x128 : Shape := ⟨3, ![128, 8, 128]⟩
abbrev S128x1024 : Shape := ⟨2, ![128, 1024]⟩

abbrev nBuf : Space → Nat
  | .hbm => 25
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x8x128, .f32⟩
  | .hbm, ⟨3, _⟩ => ⟨S8192x8x64, .f32⟩
  | .hbm, ⟨4, _⟩ => ⟨S_, .i32⟩
  | .hbm, ⟨5, _⟩ => ⟨S_, .f32⟩
  | .hbm, ⟨6, _⟩ => ⟨S8192x8x128, .f32⟩
  | .hbm, ⟨7, _⟩ => ⟨S8192x1024, .f32⟩
  | .hbm, ⟨8, _⟩ => ⟨S8192x8x64, .f32⟩
  | .hbm, ⟨9, _⟩ => ⟨S_, .i32⟩
  | .hbm, ⟨10, _⟩ => ⟨S_, .f32⟩
  | .hbm, ⟨11, _⟩ => ⟨S8192x8x128, .f32⟩
  | .hbm, ⟨12, _⟩ => ⟨S8192x1024, .f32⟩
  | .hbm, ⟨13, _⟩ => ⟨S8192x2048, .f32⟩
  | .hbm, ⟨14, _⟩ => ⟨S8192x128, .bf16⟩
  | .hbm, ⟨15, _⟩ => ⟨S8192x2048, .bf16⟩
  | .hbm, ⟨16, _⟩ => ⟨S128x2048, .f32⟩
  | .hbm, ⟨17, _⟩ => ⟨S128x2x8x128, .f32⟩
  | .hbm, ⟨18, _⟩ => ⟨S128x2x8x64, .f32⟩
  | .hbm, ⟨19, _⟩ => ⟨S128x1x8x64, .f32⟩
  | .hbm, ⟨20, _⟩ => ⟨S128x8x64, .f32⟩
  | .hbm, ⟨21, _⟩ => ⟨S128x1x8x64, .f32⟩
  | .hbm, ⟨22, _⟩ => ⟨S128x8x64, .f32⟩
  | .hbm, ⟨23, _⟩ => ⟨S128x8x128, .f32⟩
  | .hbm, ⟨24, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x2048, .bf16⟩
  | .local _ .vmem, ⟨3, _⟩ => ⟨S2048x2048, .bf16⟩
  | .local _ .vmem, ⟨4, _⟩ => ⟨S128x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Hand.KernelBody.lean ====
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref owned by core `c` at contents `f`. -/
abbrev pts (c : Dev nD) {s : Shape} {e : EltTy} (a : Memref sig .tc .vmem s e) (f : BufTy.Contents (Elt F) a.view.ty) : sProp 𝕄 :=
  iprop(a.view.loc (c : Thread nD τ) ↦[a.view.set]{fullShare} f)

/-- The same at contents not named. -/
abbrev held (c : Dev nD) {s : Shape} {e : EltTy} (a : Memref sig .tc .vmem s e) : sProp 𝕄 :=
  iprop(∃ f : BufTy.Contents (Elt F) a.view.ty, (a.view.loc (c : Thread nD τ) ↦[a.view.set]{fullShare} f))

theorem body_runs (c : Dev nD) (E : Set ℕ) (i : grid0.Coords)
    (arg3 : Memref sig .tc .vmem S2048x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S2048x1024 .bf16) (harg6 : arg6.IsWhole)
    (arg7 : Memref sig .tc .vmem S1x1x8x8x256 .f32) (harg7 : arg7.IsWhole) (arg8 : Memref sig .tc .vmem S1x1x8x8x256 .f32) (harg8 : arg8.IsWhole)
    (arg9 : Memref sig .tc .vmem S2048x1024 .bf16) (harg9 : arg9.IsWhole) (arg10 : Memref sig .tc .vmem S256x1024 .bf16) (harg10 : arg10.IsWhole)
    (arg11 : Memref sig .tc .vmem S256x1024 .bf16) (harg11 : arg11.IsWhole) (arg12 : Memref sig .tc .vmem S8x8x128x256 .f32) (harg12 : arg12.IsWhole)
    (arg13 : Memref sig .tc .vmem S256x1024 .f32) (harg13 : arg13.IsWhole) (arg14 : Memref sig .tc .vmem S256x1024 .f32) (harg14 : arg14.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty) :
    iprop(pts c arg3 X3 ∗ pts c arg4 X4 ∗ pts c arg5 X5 ∗ pts c arg6 X6 ∗ pts c arg7 X7 ∗ pts c arg8 X8
      ∗ held c arg9 ∗ held c arg10 ∗ held c arg11 ∗ held c arg12 ∗ held c arg13 ∗ held c arg14)
    ⊢ wp frame (wpE (defs₀ (F := F)) Variants.none (c : Thread nD τ) none) E
        (cc0_mla_bwd (F := F) i arg3 harg3 arg4 harg4 arg5 harg5 arg6 harg6 arg7 harg7 arg8 harg8 arg9 harg9 arg10 harg10 arg11 harg11
          arg12 harg12 arg13 harg13 arg14 harg14)
        (fun _ => iprop(pts c arg3 X3 ∗ pts c arg4 X4 ∗ pts c arg5 X5 ∗ pts c arg6 X6 ∗ pts c arg7 X7 ∗ pts c arg8 X8
      ∗ held c arg9 ∗ held c arg10 ∗ held c arg11 ∗ held c arg12 ∗ held c arg13 ∗ held c arg14)) := by
  rw [cc0_mla_bwd_eq_skeleton]; unfold cc0_mla_bwd_skel
  iintro ⟨H3, H4, H5, H6, H7, H8, ⟨%f9, H9⟩, ⟨%f10, H10⟩, ⟨%f11, H11⟩, ⟨%f12, H12⟩, ⟨%f13, H13⟩, ⟨%f14, H14⟩⟩
  by_cases h1 : Scalar.cmpi .ne (Scalar.extui (Scalar.cmpi .eq (BitVec.ofNat 32 (i 2).val) 0#32)) 0#32 = 1#1 <;> by_cases h2 : k0_cond2 i = 1#1
  all_goals
    sl_exec (disch := first | sl_exact h1 | sl_exact h2)
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Kernel.Hand

end
-- ==== Proof.Hand.KernelRun.lean ====
module

public import proofs.«01_k».proof.Proof.Hand.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, the operands' blocks left in place, the three results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ _ := Pipeline.ΦA spec0 c
  q _ := fullShare
  owed _ := 0

/-- The windows whose final contents the frame does not speak of: the three results. -/
def forgets : Fin 9 → Bool
  | 0 => false | 1 => false | 2 => false | 3 => false | 4 => false | 5 => false | 6 => true | 7 => true | 8 => true

theorem defs₀_row (t : Fin cfg0.N) : defs₀ (F := F) .tc cfg0.body (cfg0.bodyArgs t (cfg0.slots t)) = bodyAt0 t := by
  unfold defs₀; rw [Defs.onTc_tc]

/-- The arrays are the region's entry contents. -/
theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

set_option maxHeartbeats 2000000

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ X, owns (c : Thread nD τ) (st0_6 t) fullShare X)
      ∗ (∃ X, owns (c : Thread nD τ) (st0_7 t) fullShare X)
      ∗ (∃ X, owns (c : Thread nD τ) (st0_8 t) fullShare X))
    ⊢ wp frame (wpE (defs₀ (F := F)) Variants.none (c : Thread nD τ) none) Set.univ (bodyAt0 t) fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ (∃ X, owns (c : Thread nD τ) (st0_6 t) fullShare X)
      ∗ (∃ X, owns (c : Thread nD τ) (st0_7 t) fullShare X)
      ∗ (∃ X, owns (c : Thread nD τ) (st0_8 t) fullShare X)) := by
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  simp only [after_0, after_1, after_2, after_3, after_4, after_5, before_0, before_1, before_2, before_3, before_4, before_5]
  unfold Pipeline.ΦA
  rw [scopedRest0_eq]
  unfold owns
  iintro ⟨⟨⟨⟨%g0, S0⟩, ⟨%g1, S1⟩, ⟨%g2, S2⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (wp_wand_r frame (wpE (defs₀ (F := F)) Variants.none (c : Thread nD τ) none) Set.univ)
  isplitl [H0 H1 H2 H3 H4 H5 H6 H7 H8 S0 S1 S2]
  · iapply (body_runs c Set.univ (grid0.coords t) _ _ _ _ _ _ _ _ _ _ _ _ _ _ _ _ _ _ _ _ _ _ _ _ f0 f1 f2 f3 f4 f5)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [H7]; · iexists f7; iexact H7
    isplitl [H8]; · iexists f8; iexact H8
    isplitl [S0]; · iexists g0; simp only [Memref.view_whole, View.set_whole]; iexact S0
    isplitl [S1]; · iexists g1; simp only [Memref.view_whole, View.set_whole]; iexact S1
    iexists g2; simp only [Memref.view_whole, View.set_whole]; iexact S2
  · iintro %u ⟨H0, H1, H2, H3, H4, H5, ⟨%f6', H6⟩, ⟨%f7', H7⟩, ⟨%f8', H8⟩, ⟨%g0', S0⟩, ⟨%g1', S1⟩, ⟨%g2', S2⟩⟩
    isplitl [S0 S1 S2 Hr]
    · isplitl [S0 S1 S2]
      · simp only [Memref.view_whole, View.set_whole]
        isplitl [S0]; · iexists g0'; iexact S0
        isplitl [S1]; · iexists g1'; iexact S1
        iexists g2'; iexact S2
      · iexact Hr
    isplitl [Ho]; · iexact Ho
    isplitl [H0]
    · iexists f0; isplitr
      · ipureintro; exact e0
      · iexact H0
    isplitl [H1]
    · iexists f1; isplitr
      · ipureintro; exact e1
      · iexact H1
    isplitl [H2]
    · iexists f2; isplitr
      · ipureintro; exact e2
      · iexact H2
    isplitl [H3]
    · iexists f3; isplitr
      · ipureintro; exact e3
      · iexact H3
    isplitl [H4]
    · iexists f4; isplitr
      · ipureintro; exact e4
      · iexact H4
    isplitl [H5]
    · iexists f5; isplitr
      · ipureintro; exact e5
      · iexact H5
    isplitl [H6]
    · iexists _; iexists f6'; isplitr
      · ipureintro; rfl
      · iexact H6
    isplitl [H7]
    · iexists _; iexists f7'; isplitr
      · ipureintro; rfl
      · iexact H7
    iexists _; iexists f8'; isplitr
    · ipureintro; rfl
    · iexact H8

theorem body_obligation (c : Dev nD) :
    BodyObligation (dats m 0 c) (defs₀ (F := F)) Variants.none () Set.univ forgets := fun t => by
  rw [bigSep_W0, bigSep_W0, defs₀_row]
  exact triple_restated (sound m c t) rfl .rfl fun _ => .rfl

/-- Every window's array is held whole. -/
theorem share_eq (c : Dev nD) (w : Fin cfg0.W) : (dats m 0 c).share w = fullShare := by
  apply Dat.share_full
  intro w; dsimp only [dats]

/-- The run: the program ends, the operand arrays and every buffer the kernel does not write hold what they held when the
    region was entered, and every semaphore counter is zero. -/
theorem run_main : θ_run defs (onTc (τ := τ) (main (F := F))) (s₀ m ρ) (fun r =>
    Pipeline.RDat.FramePost cfg0 (fun c => (dats m 0 c).toRForget forgets) (V m) r ∧ r.2.sem = fun _ => 0) :=
  Pipeline.θ_run_frame_forget cfgs (dats m) 0 launch0 defs₀ Variants.none (fgt := forgets) m ρ main
    (hbody := fun c => (body_obligation m c).loose) (hshare := share_eq m)
    (howed := fun _ _ => rfl) (V := V m) (hmain := hmain m Variants.none) (hA := dats_A m) (hΦ := fun _ _ => rfl)
    (Q' := fun r => Pipeline.RDat.FramePost cfg0 (fun c => (dats m 0 c).toRForget forgets) (V m) r ∧ r.2.sem = fun _ => 0)
    (hQ' := fun _ h => h)

/-- The frame: the program ends with the argument arrays as launched and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    have kept (b : Ref sig .tc) (hb : b ∈ Pipeline.restRefs sig cfg0.spec) := (h.1 c).2 b hb
    ⟨(kept main_arg0 (Pipeline.mem_restRefs_of main_arg0 (by decide) (by decide))).trans (V_main_arg0 m c),
      (kept main_arg1 (Pipeline.mem_restRefs_of main_arg1 (by decide) (by decide))).trans (V_main_arg1 m c),
      (kept main_arg2 (Pipeline.mem_restRefs_of main_arg2 (by decide) (by decide))).trans (V_main_arg2 m c),
      (kept main_arg3 (Pipeline.mem_restRefs_of main_arg3 (by decide) (by decide))).trans (V_main_arg3 m c)⟩, h.2⟩)
    (run_main m ρ)

end Cert.Kernel.Hand

end
-- ==== Proof.Hand.Tile.lean ====
module

public import proofs.«01_k».proof.Proof.Gen.KernelIdeal.Skeleton
public import Idealize.ShloMosaic.Lib.Pointwise

@[expose] public section

set_option maxRecDepth 16384

/-!
One tile of the kernel, over the extended reals. A grid point has a block of 256 keys; a tile adds to it 256 queries. Arrays
are read at natural numbers (`at2`, `at4`, `at5`: 0 outside), so that rows and columns may be added.
-/

noncomputable section

namespace Cert.KernelIdeal.Hand

open Cert.KernelIdeal Cert.KernelIdeal.Gen
open Idealize.ShloMosaic Idealize.ShloMosaic.TcCoe Idealize.ShloMosaic.Tactic

/-- A matrix read at row `r` and column `c`, 0 outside. -/
def at2 {A B : ℕ} (X : (⟨2, ![A, B]⟩ : Shape).Idx → EReal) (r c : ℕ) : EReal :=
  if h : r < A ∧ c < B then X (ix2 ⟨r, h.1⟩ ⟨c, h.2⟩) else 0

/-- An array of rank 4 read at natural numbers, 0 outside. -/
def at4 {A B C D : ℕ} (X : (⟨4, ![A, B, C, D]⟩ : Shape).Idx → EReal) (a b c d : ℕ) : EReal :=
  if h : (a < A ∧ b < B) ∧ c < C ∧ d < D then X (ix4 ⟨a, h.1.1⟩ ⟨b, h.1.2⟩ ⟨c, h.2.1⟩ ⟨d, h.2.2⟩) else 0

/-- A block of row statistics read at tile `i`, head `h` and lane `x`, 0 outside. -/
def at5 {A B C : ℕ} (X : (⟨5, ![1, 1, A, B, C]⟩ : Shape).Idx → EReal) (i h x : ℕ) : EReal :=
  if H : i < A ∧ h < B ∧ x < C then X (ix5 0 0 ⟨i, H.1⟩ ⟨h, H.2.1⟩ ⟨x, H.2.2⟩) else 0

/-- `at2` inside the array. -/
theorem at2_fin {A B : ℕ} (X : (⟨2, ![A, B]⟩ : Shape).Idx → EReal) (r : Fin A) (c : Fin B) : at2 X r c = X (ix2 r c) :=
  dif_pos ⟨r.isLt, c.isLt⟩

/-- A load of a rectangle of a matrix, at an index. -/
theorem ld_at2 {A B a b : ℕ} (X : (⟨2, ![A, B]⟩ : Shape).Idx → EReal) (off : Fin 2 → ℕ)
    (inb : ∀ d, off d + (![a, b] : Fin 2 → ℕ) d ≤ (⟨2, ![A, B]⟩ : Shape).size d) (y : Fin a) (x : Fin b) :
    X ((Rect.unit (s := ⟨2, ![A, B]⟩) off ![a, b] inb).idx (ix2 y x)) = at2 X (off 0 + y) (off 1 + x) := by
  have h0 : off 0 + a ≤ A := inb 0
  have h1 : off 1 + b ≤ B := inb 1
  rw [at2, dif_pos ⟨by omega, by omega⟩]
  congr 1
  funext d
  match d with
  | 0 => exact Fin.ext (by show off 0 + 1 * (y : ℕ) = off 0 + y; omega)
  | 1 => exact Fin.ext (by show off 1 + 1 * (x : ℕ) = off 1 + x; omega)

/-- A load of a rectangle of an array of rank 4, at an index. -/
theorem ld_at4 {A B C D a b c d : ℕ} (X : (⟨4, ![A, B, C, D]⟩ : Shape).Idx → EReal) (off : Fin 4 → ℕ)
    (inb : ∀ e, off e + (![a, b, c, d] : Fin 4 → ℕ) e ≤ (⟨4, ![A, B, C, D]⟩ : Shape).size e) (w : Fin a) (z : Fin b) (y : Fin c) (x : Fin d) :
    X ((Rect.unit (s := ⟨4, ![A, B, C, D]⟩) off ![a, b, c, d] inb).idx (ix4 w z y x))
      = at4 X (off 0 + w) (off 1 + z) (off 2 + y) (off 3 + x) := by
  have h0 : off 0 + a ≤ A := inb 0
  have h1 : off 1 + b ≤ B := inb 1
  have h2 : off 2 + c ≤ C := inb 2
  have h3 : off 3 + d ≤ D := inb 3
  rw [at4, dif_pos ⟨⟨by omega, by omega⟩, by omega, by omega⟩]
  congr 1
  funext e
  match e with
  | 0 => exact Fin.ext (by show off 0 + 1 * (w : ℕ) = off 0 + w; omega)
  | 1 => exact Fin.ext (by show off 1 + 1 * (z : ℕ) = off 1 + z; omega)
  | 2 => exact Fin.ext (by show off 2 + 1 * (y : ℕ) = off 2 + y; omega)
  | 3 => exact Fin.ext (by show off 3 + 1 * (x : ℕ) = off 3 + x; omega)

/-- A load of one row of statistics, at a lane. -/
theorem ld_at5 {A B C : ℕ} (X : (⟨5, ![1, 1, A, B, C]⟩ : Shape).Idx → EReal) (off : Fin 5 → ℕ) (i h : ℕ) (ho : off = ![0, 0, i, h, 0])
    (inb : ∀ d, off d + (![1, 1, 1, 1, C] : Fin 5 → ℕ) d ≤ (⟨5, ![1, 1, A, B, C]⟩ : Shape).size d) (x : Fin C) :
    X ((Rect.unit (s := ⟨5, ![1, 1, A, B, C]⟩) off ![1, 1, 1, 1, C] inb).idx (ix5 0 0 0 0 x)) = at5 X i h x := by
  subst ho
  have h2 : i + 1 ≤ A := inb 2
  have h3 : h + 1 ≤ B := inb 3
  rw [at5, dif_pos ⟨by omega, by omega, x.isLt⟩]
  congr 1
  funext d
  match d with
  | 0 => rfl
  | 1 => rfl
  | 2 => exact Fin.ext (by show i + 1 * 0 = i; omega)
  | 3 => exact Fin.ext (by show h + 1 * 0 = h; omega)
  | 4 => exact Fin.ext (by show 0 + 1 * (x : ℕ) = x; omega)

/-- What a grid point reads: the rows of the queries (`Q`) and of the output's gradient (`O`), the 256 keys (`K`) and values (`V`) of
    its block, and for tile, head and lane the two row statistics (`L`, `D`). -/
structure Tile where
  /-- queries, by row and column -/
  Q : ℕ → ℕ → EReal
  /-- keys of the block -/
  K : ℕ → ℕ → EReal
  /-- values of the block -/
  V : ℕ → ℕ → EReal
  /-- gradient of the output -/
  O : ℕ → ℕ → EReal
  /-- base-two logarithm of the sum of a query's row -/
  L : ℕ → ℕ → ℕ → EReal
  /-- product of a query's output with its gradient -/
  D : ℕ → ℕ → ℕ → EReal

namespace Tile

variable (T : Tile) (m : Bool)

/-- The score of key `y` and query `256 i + x` in head `h`; masked, ⊥ where the key comes after the query. -/
def score (i h y x : ℕ) : EReal :=
  if m = true → y ≤ x then ∑ d : Fin 128, T.K y (128 * h + d) * T.Q (256 * i + x) (128 * h + d) else ⊥

/-- The probability that query gives that key. -/
def prob (i h y x : ℕ) : EReal := Ideal.exp2 (T.score m i h y x - T.L i h x)

/-- The gradient of the score. -/
def dsc (i h y x : ℕ) : EReal :=
  T.prob m i h y x * (∑ d : Fin 128, T.V y (128 * h + d) * T.O (256 * i + x) (128 * h + d) - T.D i h x)

/-- What tile `i` adds to the gradient of the values. -/
def addV (i y c : ℕ) : EReal := ∑ x : Fin 256, T.prob m i (c / 128) y x * T.O (256 * i + x) c

/-- What tile `i` adds to the gradient of the keys. -/
def addK (i y c : ℕ) : EReal := ∑ x : Fin 256, T.dsc m i (c / 128) y x * T.Q (256 * i + x) c

/-- What the block adds to the gradient of tile `i`'s queries. -/
def addQ (i h d x : ℕ) : EReal := ∑ y : Fin 256, T.K y (128 * h + d) * T.dsc m i h y x

end Tile

/-! ### The body's values at an index -/

/-- Comparing two small numbers as words. -/
theorem sle_of_nat (y x : ℕ) (hy : y < 2 ^ 31) (hx : x < 2 ^ 31) :
    IntOp.cmpi CmpIPredicate.sle (BitVec.ofNat 32 y) (BitVec.ofNat 32 x) = if y ≤ x then 1#1 else 0#1 := by
  have hy' : (BitVec.ofNat 32 y).toInt = y := by
    rw [BitVec.toInt_eq_toNat_cond, BitVec.toNat_ofNat]; omega
  have hx' : (BitVec.ofNat 32 x).toInt = x := by
    rw [BitVec.toInt_eq_toNat_cond, BitVec.toNat_ofNat]; omega
  show BitVec.ofBool ((BitVec.ofNat 32 y).sle (BitVec.ofNat 32 x)) = _
  rw [BitVec.sle_eq_decide, hy', hx']
  by_cases h : y ≤ x
  · rw [if_pos h, decide_eq_true (by exact_mod_cast h)]; rfl
  · rw [if_neg h, decide_eq_false (by exact_mod_cast h)]; rfl

/-- The unmasked probabilities. -/
theorem pay7_at (q k : Vec Ideal S256x128 .bf16) (l : Vec Ideal S1x1x1x1x256 .f32) (y x : Fin 256) :
    k0_pay7 (F := Ideal) q k l (ix2 y x) = Ideal.exp2 (∑ d : Fin 128, k (ix2 y d) * q (ix2 x d) - l (ix5 0 0 0 0 x)) := by
  pointwise [k0_pay7, k0_pay5]
  rfl

/-- The masked probabilities. -/
theorem pay208_at (q k : Vec Ideal S256x128 .bf16) (l : Vec Ideal S1x1x1x1x256 .f32) (y x : Fin 256) :
    k0_pay208 (F := Ideal) q k l (ix2 y x)
      = Ideal.exp2 ((if (y : ℕ) ≤ x then ∑ d : Fin 128, k (ix2 y d) * q (ix2 x d) else ⊥) - l (ix5 0 0 0 0 x)) := by
  pointwise [k0_pay208, k0_pay206, k0_pay204]
  rw [sle_of_nat y x (by omega) (by omega)]
  by_cases hyx : (y : ℕ) ≤ x
  · rw [if_pos hyx, if_pos hyx]; rfl
  · rw [if_neg hyx, if_neg hyx]; rfl

/-- The gradient of the unmasked scores. -/
theorem pay8_at (q o k v : Vec Ideal S256x128 .bf16) (l d : Vec Ideal S1x1x1x1x256 .f32) (y x : Fin 256) :
    k0_pay8 (F := Ideal) q o k l v d (ix2 y x)
      = k0_pay7 (F := Ideal) q k l (ix2 y x) * (∑ e : Fin 128, v (ix2 y e) * o (ix2 x e) - d (ix5 0 0 0 0 x)) := by
  pointwise [k0_pay8, k0_pay6]

/-- The gradient of the masked scores. -/
theorem pay207_at (q o k v : Vec Ideal S256x128 .bf16) (l d : Vec Ideal S1x1x1x1x256 .f32) (y x : Fin 256) :
    k0_pay207 (F := Ideal) q o k l v d (ix2 y x)
      = k0_pay208 (F := Ideal) q k l (ix2 y x) * (∑ e : Fin 128, v (ix2 y e) * o (ix2 x e) - d (ix5 0 0 0 0 x)) := by
  pointwise [k0_pay207, k0_pay208, k0_pay205]

/-- A product of the probabilities with the output's gradient, added to what there was. -/
theorem pay9_at (q o k : Vec Ideal S256x128 .bf16) (l : Vec Ideal S1x1x1x1x256 .f32) (a : Vec Ideal S256x128 .f32) (y : Fin 256) (c : Fin 128) :
    k0_pay9 (F := Ideal) q o k l a (ix2 y c)
      = a (ix2 y c) + ∑ x : Fin 256, k0_pay7 (F := Ideal) q k l (ix2 y x) * o (ix2 x c) := by
  pointwise [k0_pay9, k0_pay6]

/-- The same for a given left factor. -/
theorem pay10_at (q : FVec Ideal S256x128 .bf16) (w : FVec Ideal S256x256 .bf16) (a : Vec Ideal S256x128 .f32) (y : Fin 256) (c : Fin 128) :
    k0_pay10 (F := Ideal) q w a (ix2 y c) = a (ix2 y c) + ∑ x : Fin 256, w (ix2 y x) * q (ix2 x c) := by
  pointwise [k0_pay10]

/-- The product of the transposed keys with the gradient of the scores, added to what there was. -/
theorem pay11_at (kt : FVec Ideal S128x256 .bf16) (w : FVec Ideal S256x256 .bf16) (a : Vec Ideal S1x1x128x256 .f32) (d : Fin 128) (x : Fin 256) :
    k0_pay11 (F := Ideal) kt w a (ix4 0 0 d x) = a (ix4 0 0 d x) + ∑ y : Fin 256, kt (ix2 d y) * w (ix2 y x) := by
  pointwise [k0_pay11]

/-! ### A tile's payloads as what the tile adds -/

/-- What a grid point reads, from the contents of its six input blocks. -/
def tileOf (X3 : S2048x1024.Idx → EReal) (X4 X5 : S256x1024.Idx → EReal) (X6 : S2048x1024.Idx → EReal)
    (X7 X8 : S1x1x8x8x256.Idx → EReal) : Tile :=
  ⟨at2 X3, at2 X4, at2 X5, at2 X6, at5 X7, at5 X8⟩

/-- An index of a matrix by its two coordinates. -/
theorem idx2_cases {A B : ℕ} {P : (⟨2, ![A, B]⟩ : Shape).Idx → Prop} (h : ∀ (a : Fin A) (b : Fin B), P (ix2 a b)) : ∀ j, P j := fun j => by
  rw [eq_ix2 j]; exact h _ _

section Pieces

variable (X3 : S2048x1024.Idx → EReal) (X4 X5 : S256x1024.Idx → EReal) (X6 : S2048x1024.Idx → EReal)
  (X7 X8 : S1x1x8x8x256.Idx → EReal) {i h : ℕ} {o3 : Fin 2 → ℕ} {ok : Fin 2 → ℕ} {ol : Fin 5 → ℕ} {o12 : Fin 4 → ℕ}
  (h3 : o3 = ![256 * i, 128 * h]) (hk : ok = ![0, 128 * h]) (hl : ol = ![0, 0, i, h, 0]) (h12 : o12 = ![h, i, 0, 0])
  (i3 : ∀ d, o3 d + S256x128.size d ≤ S2048x1024.size d) (ik : ∀ d, ok d + S256x128.size d ≤ S256x1024.size d)
  (il : ∀ d, ol d + S1x1x1x1x256.size d ≤ S1x1x8x8x256.size d) (i12 : ∀ d, o12 d + S1x1x128x256.size d ≤ S8x8x128x256.size d)

/-- The rows of tile `i`, head `h`, of a matrix. -/
abbrev rowsOf (X : S2048x1024.Idx → EReal) (o3 : Fin 2 → ℕ) (i3 : ∀ d, o3 d + S256x128.size d ≤ S2048x1024.size d) : S256x128.Idx → EReal :=
  fun j => X ((Rect.unit (s := S2048x1024) o3 S256x128.size i3).idx j)

/-- The columns of head `h` of a block. -/
abbrev colsOf (X : S256x1024.Idx → EReal) (ok : Fin 2 → ℕ) (ik : ∀ d, ok d + S256x128.size d ≤ S256x1024.size d) : S256x128.Idx → EReal :=
  fun j => X ((Rect.unit (s := S256x1024) ok S256x128.size ik).idx j)

/-- The statistics of tile `i`, head `h`. -/
abbrev statOf (X : S1x1x8x8x256.Idx → EReal) (ol : Fin 5 → ℕ) (il : ∀ d, ol d + S1x1x1x1x256.size d ≤ S1x1x8x8x256.size d) :
    S1x1x1x1x256.Idx → EReal :=
  fun j => X ((Rect.unit (s := S1x1x8x8x256) ol S1x1x1x1x256.size il).idx j)

/-- Tile `i` of head `h` of the queries' gradient. -/
abbrev dqOf (X : S8x8x128x256.Idx → EReal) (o12 : Fin 4 → ℕ) (i12 : ∀ d, o12 d + S1x1x128x256.size d ≤ S8x8x128x256.size d) :
    S1x1x128x256.Idx → EReal :=
  fun j => X ((Rect.unit (s := S8x8x128x256) o12 S1x1x128x256.size i12).idx j)

include h3 in
theorem rowsOf_at (X : S2048x1024.Idx → EReal) (y : Fin 256) (c : Fin 128) : rowsOf X o3 i3 (ix2 y c) = at2 X (256 * i + y) (128 * h + c) := by
  subst h3; exact ld_at2 X _ i3 y c

include hk in
theorem colsOf_at (X : S256x1024.Idx → EReal) (y : Fin 256) (c : Fin 128) : colsOf X ok ik (ix2 y c) = at2 X y (128 * h + c) := by
  subst hk; exact (ld_at2 X _ ik y c).trans (by show at2 X (0 + _) _ = _; rw [Nat.zero_add]; rfl)

include h3 hk hl in
/-- The unmasked probabilities of a tile. -/
theorem pay7_tile (y x : Fin 256) :
    k0_pay7 (F := Ideal) (rowsOf X3 o3 i3) (colsOf X4 ok ik) (statOf X7 ol il) (ix2 y x)
      = (tileOf X3 X4 X5 X6 X7 X8).prob false i h y x := by
  rw [pay7_at, Tile.prob, Tile.score, if_pos (fun h => absurd h (by decide))]
  congr 2
  · exact Finset.sum_congr rfl fun d _ => congrArg₂ _ (colsOf_at hk ik X4 y d) (rowsOf_at h3 i3 X3 x d)
  · exact ld_at5 X7 ol i h hl il x

include h3 hk hl in
/-- The masked probabilities of a tile. -/
theorem pay208_tile (y x : Fin 256) :
    k0_pay208 (F := Ideal) (rowsOf X3 o3 i3) (colsOf X4 ok ik) (statOf X7 ol il) (ix2 y x)
      = (tileOf X3 X4 X5 X6 X7 X8).prob true i h y x := by
  rw [pay208_at, Tile.prob, Tile.score]
  congr 2
  · simp only [forall_const]
    congr 1
    exact Finset.sum_congr rfl fun d _ => congrArg₂ _ (colsOf_at hk ik X4 y d) (rowsOf_at h3 i3 X3 x d)
  · exact ld_at5 X7 ol i h hl il x

include h3 hk hl in
/-- The gradient of the unmasked scores of a tile. -/
theorem pay8_tile (y x : Fin 256) :
    k0_pay8 (F := Ideal) (rowsOf X3 o3 i3) (rowsOf X6 o3 i3) (colsOf X4 ok ik) (statOf X7 ol il) (colsOf X5 ok ik) (statOf X8 ol il) (ix2 y x)
      = (tileOf X3 X4 X5 X6 X7 X8).dsc false i h y x := by
  rw [pay8_at, pay7_tile X3 X4 X5 X6 X7 X8 h3 hk hl i3 ik il, Tile.dsc]
  congr 2
  · exact Finset.sum_congr rfl fun d _ => congrArg₂ _ (colsOf_at hk ik X5 y d) (rowsOf_at h3 i3 X6 x d)
  · exact ld_at5 X8 ol i h hl il x

include h3 hk hl in
/-- The gradient of the masked scores of a tile. -/
theorem pay207_tile (y x : Fin 256) :
    k0_pay207 (F := Ideal) (rowsOf X3 o3 i3) (rowsOf X6 o3 i3) (colsOf X4 ok ik) (statOf X7 ol il) (colsOf X5 ok ik) (statOf X8 ol il) (ix2 y x)
      = (tileOf X3 X4 X5 X6 X7 X8).dsc true i h y x := by
  rw [pay207_at, pay208_tile X3 X4 X5 X6 X7 X8 h3 hk hl i3 ik il, Tile.dsc]
  congr 2
  · exact Finset.sum_congr rfl fun d _ => congrArg₂ _ (colsOf_at hk ik X5 y d) (rowsOf_at h3 i3 X6 x d)
  · exact ld_at5 X8 ol i h hl il x

/-- The gradient of the values after a tile. -/
def newV (T : Tile) (m : Bool) (i : ℕ) (A : S256x1024.Idx → EReal) : S256x1024.Idx → EReal := fun j => A j + T.addV m i (j 0 : Fin 256) (j 1 : Fin 1024)

/-- The gradient of the keys after a tile. -/
def newK (T : Tile) (m : Bool) (i : ℕ) (A : S256x1024.Idx → EReal) : S256x1024.Idx → EReal := fun j => A j + T.addK m i (j 0 : Fin 256) (j 1 : Fin 1024)

/-- The gradient of the queries after a tile. -/
def newQ (T : Tile) (m : Bool) (i : ℕ) (A : S8x8x128x256.Idx → EReal) : S8x8x128x256.Idx → EReal := fun j =>
  if (j 1 : Fin 8).val = i then A j + T.addQ m i (j 0 : Fin 8) (j 2 : Fin 128) (j 3 : Fin 256) else A j

/-- A column of a head. -/
theorem col_div {h c : ℕ} (hc : c < 128) : (128 * h + c) / 128 = h := by omega

include h3 hk in
/-- A product of weights with the rows of tile `i`, added to what there was in the columns of a head. -/
theorem piece_add (B : S2048x1024.Idx → EReal) (w : FVec Ideal S256x256 .bf16) (A : S256x1024.Idx → EReal) (x : S256x128.Idx) :
    k0_pay10 (F := Ideal) (k0_pay6 (F := Ideal) (rowsOf B o3 i3)) w (colsOf A ok ik) x
      = A ((Rect.unit (s := S256x1024) ok S256x128.size ik).emb x)
        + ∑ z : Fin 256, w (ix2 (x 0 : Fin 256) z) * at2 B (256 * i + z) ((Rect.unit (s := S256x1024) ok S256x128.size ik).emb x 1 : Fin 1024) := by
  revert x; refine idx2_cases fun y c => ?_
  have e1 : ((Rect.unit (s := S256x1024) ok S256x128.size ik).emb (ix2 y c) 1 : ℕ) = 128 * h + c := by
    subst hk; show 128 * h + 1 * (c : ℕ) = _; omega
  rw [pay10_at, e1]
  congr 1
  refine Finset.sum_congr rfl fun z _ => congrArg₂ _ rfl ?_
  refine Eq.trans ?_ (rowsOf_at h3 i3 B z c)
  pointwise [k0_pay6]

include hk in
/-- Where a rectangle of a head's columns places an index. -/
theorem emb_cols (x : S256x128.Idx) :
    ((Rect.unit (s := S256x1024) ok S256x128.size ik).emb x 0 : ℕ) = (x 0 : Fin 256)
      ∧ ((Rect.unit (s := S256x1024) ok S256x128.size ik).emb x 1 : ℕ) / 128 = h := by
  have h1 : (x 1 : Fin 128).val < 128 := (x 1 : Fin 128).isLt
  subst hk
  refine ⟨?_, ?_⟩
  · show 0 + 1 * ((x 0 : Fin 256) : ℕ) = _; omega
  · show (128 * h + 1 * ((x 1 : Fin 128) : ℕ)) / 128 = h; omega

include h3 hk in
/-- A head's part of the gradient of the values: the weights are the probabilities. -/
theorem pieceV {m : Bool} {T : Tile} {w : FVec Ideal S256x256 .bf16} (hT : T.O = at2 X6) (hw : ∀ y x : Fin 256, w (ix2 y x) = T.prob m i h y x)
    (A : S256x1024.Idx → EReal) (x : S256x128.Idx) :
    k0_pay10 (F := Ideal) (k0_pay6 (F := Ideal) (rowsOf X6 o3 i3)) w (colsOf A ok ik) x
      = newV T m i A ((Rect.unit (s := S256x1024) ok S256x128.size ik).emb x) := by
  obtain ⟨e0, e1⟩ := emb_cols hk ik x
  refine (piece_add h3 hk i3 ik X6 w A x).trans ?_
  show _ = A _ + Tile.addV _ _ _ _ _
  rw [Tile.addV, e0, e1, hT]
  congr 1
  exact Finset.sum_congr rfl fun z _ => congrArg₂ _ (hw _ z) rfl

include h3 hk in
/-- A head's part of the gradient of the keys: the weights are the scores' gradients. -/
theorem pieceK {m : Bool} {T : Tile} {w : FVec Ideal S256x256 .bf16} (hT : T.Q = at2 X3) (hw : ∀ y x : Fin 256, w (ix2 y x) = T.dsc m i h y x)
    (A : S256x1024.Idx → EReal) (x : S256x128.Idx) :
    k0_pay10 (F := Ideal) (k0_pay6 (F := Ideal) (rowsOf X3 o3 i3)) w (colsOf A ok ik) x
      = newK T m i A ((Rect.unit (s := S256x1024) ok S256x128.size ik).emb x) := by
  obtain ⟨e0, e1⟩ := emb_cols hk ik x
  refine (piece_add h3 hk i3 ik X3 w A x).trans ?_
  show _ = A _ + Tile.addK _ _ _ _ _
  rw [Tile.addK, e0, e1, hT]
  congr 1
  exact Finset.sum_congr rfl fun z _ => congrArg₂ _ (hw _ z) rfl

/-- The transposed keys at an index. -/
theorem pay203_at (k : Vec Ideal S256x128 .bf16) (d : Fin 128) (y : Fin 256) : k0_pay203 (F := Ideal) k (ix2 d y) = k (ix2 y d) := by
  pointwise [k0_pay203]

/-- An index of a tile of the queries' gradient by its two long coordinates. -/
theorem idx4_cases {P : S1x1x128x256.Idx → Prop} (h : ∀ (d : Fin 128) (x : Fin 256), P (ix4 0 0 d x)) : ∀ j, P j := fun j => by
  have e0 : j 0 = (0 : Fin 1) := Subsingleton.elim (α := Fin 1) _ _
  have e1 : j 1 = (0 : Fin 1) := Subsingleton.elim (α := Fin 1) _ _
  rw [eq_ix4 j, e0, e1]; exact h _ _

include hk h12 in
/-- A head's part of the gradient of the queries of tile `i`. -/
theorem pieceQ {m : Bool} {T : Tile} {w : FVec Ideal S256x256 .bf16} (hT : T.K = at2 X4) (hw : ∀ y x : Fin 256, w (ix2 y x) = T.dsc m i h y x)
    (A : S8x8x128x256.Idx → EReal) (x : S1x1x128x256.Idx) :
    k0_pay11 (F := Ideal) (k0_pay203 (F := Ideal) (colsOf X4 ok ik)) w (dqOf A o12 i12) x
      = newQ T m i A ((Rect.unit (s := S8x8x128x256) o12 S1x1x128x256.size i12).emb x) := by
  revert x; refine idx4_cases fun d x => ?_
  have hh : h < 8 := by have := i12 0; rw [h12] at this; exact this
  have hi : i < 8 := by have := i12 1; rw [h12] at this; exact this
  have e : (Rect.unit (s := S8x8x128x256) o12 S1x1x128x256.size i12).emb (ix4 0 0 d x)
      = ix4 (⟨h, hh⟩ : Fin 8) (⟨i, hi⟩ : Fin 8) d x := by
    subst h12
    funext a
    match a with
    | 0 => exact Fin.ext (by show h + 1 * 0 = h; omega)
    | 1 => exact Fin.ext (by show i + 1 * 0 = i; omega)
    | 2 => exact Fin.ext (by show 0 + 1 * (d : ℕ) = d; omega)
    | 3 => exact Fin.ext (by show 0 + 1 * (x : ℕ) = x; omega)
  rw [pay11_at, e]
  refine Eq.trans ?_ (if_pos (c := i = i) rfl).symm
  refine congrArg₂ _ (congrArg A e) ?_
  refine Finset.sum_congr rfl fun y _ => ?_
  rw [hw, pay203_at, colsOf_at hk ik X4 y d, hT]; rfl

/-- Eight pieces, one per head, fill a block: what is left is the function all pieces agree with. -/
theorem read_cols {sig' : RefSig} {κ : Kind} {sp : Space} (v : View sig' κ sp S256x1024 .f32) (f : v.ty.Contents (Elt Ideal))
    (G : S256x1024.Idx → EReal) {o : Fin 8 → Fin 2 → ℕ} (ho : ∀ h, o h = ![0, 128 * (h : ℕ)])
    (io : ∀ h, ∀ d, o h d + S256x128.size d ≤ S256x1024.size d) (w : ∀ h : Fin 8, S256x128.Idx → EReal)
    (hw : ∀ h x, w h x = G ((Rect.unit (s := S256x1024) (o h) S256x128.size (io h)).emb x)) :
    v.read (Elt Ideal) (v.writes (Elt Ideal) f
      [⟨Rect.unit (s := S256x1024) (o 7) S256x128.size (io 7), w 7⟩, ⟨Rect.unit (s := S256x1024) (o 6) S256x128.size (io 6), w 6⟩,
        ⟨Rect.unit (s := S256x1024) (o 5) S256x128.size (io 5), w 5⟩, ⟨Rect.unit (s := S256x1024) (o 4) S256x128.size (io 4), w 4⟩,
        ⟨Rect.unit (s := S256x1024) (o 3) S256x128.size (io 3), w 3⟩, ⟨Rect.unit (s := S256x1024) (o 2) S256x128.size (io 2), w 2⟩,
        ⟨Rect.unit (s := S256x1024) (o 1) S256x128.size (io 1), w 1⟩, ⟨Rect.unit (s := S256x1024) (o 0) S256x128.size (io 0), w 0⟩]) = G := by
  funext y
  refine View.read_writes_apply_of_pieces v f G _ ?_ y ?_
  · simp only [List.forall_mem_cons, List.not_mem_nil, false_implies, implies_true, and_true]
    exact ⟨hw 7, hw 6, hw 5, hw 4, hw 3, hw 2, hw 1, hw 0⟩
  · have hb : (y 1 : Fin 1024).val < 1024 := (y 1).isLt
    have hmem : ∀ h : Fin 8, (y 1 : Fin 1024).val / 128 = h → y ∈ (Rect.unit (s := S256x1024) (o h) S256x128.size (io h)).set := fun h e => by
      refine (LoadRect.mem_set _).mpr fun d => ?_
      match d with
      | 0 => exact ⟨(y 0 : Fin 256).val, (y 0 : Fin 256).isLt, by show (y 0 : Fin 256).val = o h 0 + 1 * _; rw [ho]; show _ = 0 + _; omega⟩
      | 1 => exact ⟨(y 1 : Fin 1024).val - 128 * h, by show _ < 128; omega, by show (y 1 : Fin 1024).val = o h 1 + 1 * _; rw [ho]; show _ = 128 * (h : ℕ) + _; omega⟩
    obtain ⟨h, e⟩ : ∃ h : Fin 8, (y 1 : Fin 1024).val / 128 = h := ⟨⟨(y 1 : Fin 1024).val / 128, by omega⟩, rfl⟩
    match h, hmem h e with
    | 7, hm => exact ⟨_, .head _, hm⟩
    | 6, hm => exact ⟨_, .tail _ (.head _), hm⟩
    | 5, hm => exact ⟨_, .tail _ (.tail _ (.head _)), hm⟩
    | 4, hm => exact ⟨_, .tail _ (.tail _ (.tail _ (.head _))), hm⟩
    | 3, hm => exact ⟨_, .tail _ (.tail _ (.tail _ (.tail _ (.head _)))), hm⟩
    | 2, hm => exact ⟨_, .tail _ (.tail _ (.tail _ (.tail _ (.tail _ (.head _))))), hm⟩
    | 1, hm => exact ⟨_, .tail _ (.tail _ (.tail _ (.tail _ (.tail _ (.tail _ (.head _)))))), hm⟩
    | 0, hm => exact ⟨_, .tail _ (.tail _ (.tail _ (.tail _ (.tail _ (.tail _ (.tail _ (.head _))))))), hm⟩

/-- Eight pieces, one per head, of tile `i`: what is left agrees with the pieces in that tile, and elsewhere with what there was. -/
theorem read_heads {sig' : RefSig} {κ : Kind} {sp : Space} (v : View sig' κ sp S8x8x128x256 .f32) (f : v.ty.Contents (Elt Ideal)) {i : ℕ}
    (G : S8x8x128x256.Idx → EReal) {o : Fin 8 → Fin 4 → ℕ} (ho : ∀ h, o h = ![(h : ℕ), i, 0, 0])
    (hG : ∀ j : S8x8x128x256.Idx, (j 1 : Fin 8).val ≠ i → G j = v.read (Elt Ideal) f j)
    (io : ∀ h, ∀ d, o h d + S1x1x128x256.size d ≤ S8x8x128x256.size d) (w : ∀ h : Fin 8, S1x1x128x256.Idx → EReal)
    (hw : ∀ h x, w h x = G ((Rect.unit (s := S8x8x128x256) (o h) S1x1x128x256.size (io h)).emb x)) :
    v.read (Elt Ideal) (v.writes (Elt Ideal) f
      [⟨Rect.unit (s := S8x8x128x256) (o 7) S1x1x128x256.size (io 7), w 7⟩, ⟨Rect.unit (s := S8x8x128x256) (o 6) S1x1x128x256.size (io 6), w 6⟩,
        ⟨Rect.unit (s := S8x8x128x256) (o 5) S1x1x128x256.size (io 5), w 5⟩, ⟨Rect.unit (s := S8x8x128x256) (o 4) S1x1x128x256.size (io 4), w 4⟩,
        ⟨Rect.unit (s := S8x8x128x256) (o 3) S1x1x128x256.size (io 3), w 3⟩, ⟨Rect.unit (s := S8x8x128x256) (o 2) S1x1x128x256.size (io 2), w 2⟩,
        ⟨Rect.unit (s := S8x8x128x256) (o 1) S1x1x128x256.size (io 1), w 1⟩, ⟨Rect.unit (s := S8x8x128x256) (o 0) S1x1x128x256.size (io 0), w 0⟩])
      = G := by
  funext y
  by_cases hy : (y 1 : Fin 8).val = i
  · refine View.read_writes_apply_of_pieces v f G _ ?_ y ?_
    · simp only [List.forall_mem_cons, List.not_mem_nil, false_implies, implies_true, and_true]
      exact ⟨hw 7, hw 6, hw 5, hw 4, hw 3, hw 2, hw 1, hw 0⟩
    · have hmem : ∀ h : Fin 8, (y 0 : Fin 8) = h → y ∈ (Rect.unit (s := S8x8x128x256) (o h) S1x1x128x256.size (io h)).set := fun h e => by
        refine (LoadRect.mem_set _).mpr fun d => ?_
        match d with
        | 0 => exact ⟨0, Nat.one_pos, by show (y 0 : Fin 8).val = o h 0 + 1 * 0; rw [ho, e]; rfl⟩
        | 1 => exact ⟨0, Nat.one_pos, by show (y 1 : Fin 8).val = o h 1 + 1 * 0; rw [ho, hy]; rfl⟩
        | 2 => exact ⟨(y 2 : Fin 128).val, (y 2 : Fin 128).isLt, by show (y 2 : Fin 128).val = o h 2 + 1 * _; rw [ho]; show _ = 0 + _; omega⟩
        | 3 => exact ⟨(y 3 : Fin 256).val, (y 3 : Fin 256).isLt, by show (y 3 : Fin 256).val = o h 3 + 1 * _; rw [ho]; show _ = 0 + _; omega⟩
      obtain ⟨h, e⟩ : ∃ h : Fin 8, (y 0 : Fin 8) = h := ⟨_, rfl⟩
      match h, hmem h e with
      | 7, hm => exact ⟨_, .head _, hm⟩
      | 6, hm => exact ⟨_, .tail _ (.head _), hm⟩
      | 5, hm => exact ⟨_, .tail _ (.tail _ (.head _)), hm⟩
      | 4, hm => exact ⟨_, .tail _ (.tail _ (.tail _ (.head _))), hm⟩
      | 3, hm => exact ⟨_, .tail _ (.tail _ (.tail _ (.tail _ (.head _)))), hm⟩
      | 2, hm => exact ⟨_, .tail _ (.tail _ (.tail _ (.tail _ (.tail _ (.head _))))), hm⟩
      | 1, hm => exact ⟨_, .tail _ (.tail _ (.tail _ (.tail _ (.tail _ (.tail _ (.head _)))))), hm⟩
      | 0, hm => exact ⟨_, .tail _ (.tail _ (.tail _ (.tail _ (.tail _ (.tail _ (.tail _ (.head _))))))), hm⟩
  · have hmiss : ∀ h : Fin 8, y ∉ (Rect.unit (s := S8x8x128x256) (o h) S1x1x128x256.size (io h)).set := fun h =>
      Rect.not_mem_set_of_axis _ y 1 i 1 (by show o h 1 = i; rw [ho]; rfl) rfl rfl (by show (y 1 : Fin 8).val < i ∨ i + 1 ≤ (y 1 : Fin 8).val; omega)
    refine (View.read_writes_cons_miss v f ⟨Rect.unit (s := S8x8x128x256) (o 7) S1x1x128x256.size (io 7), w 7⟩ _ y (hmiss 7)).trans <|
      (View.read_writes_cons_miss v f ⟨Rect.unit (s := S8x8x128x256) (o 6) S1x1x128x256.size (io 6), w 6⟩ _ y (hmiss 6)).trans <|
      (View.read_writes_cons_miss v f ⟨Rect.unit (s := S8x8x128x256) (o 5) S1x1x128x256.size (io 5), w 5⟩ _ y (hmiss 5)).trans <|
      (View.read_writes_cons_miss v f ⟨Rect.unit (s := S8x8x128x256) (o 4) S1x1x128x256.size (io 4), w 4⟩ _ y (hmiss 4)).trans <|
      (View.read_writes_cons_miss v f ⟨Rect.unit (s := S8x8x128x256) (o 3) S1x1x128x256.size (io 3), w 3⟩ _ y (hmiss 3)).trans <|
      (View.read_writes_cons_miss v f ⟨Rect.unit (s := S8x8x128x256) (o 2) S1x1x128x256.size (io 2), w 2⟩ _ y (hmiss 2)).trans <|
      (View.read_writes_cons_miss v f ⟨Rect.unit (s := S8x8x128x256) (o 1) S1x1x128x256.size (io 1), w 1⟩ _ y (hmiss 1)).trans <|
      (View.read_writes_cons_miss v f ⟨Rect.unit (s := S8x8x128x256) (o 0) S1x1x128x256.size (io 0), w 0⟩ _ y (hmiss 0)).trans <|
      (hG y hy).symm

/-- `read_cols`, the pieces one by one. -/
theorem read_cols8 {sig' : RefSig} {κ : Kind} {sp : Space} (v : View sig' κ sp S256x1024 .f32) (f : v.ty.Contents (Elt Ideal))
    (G : S256x1024.Idx → EReal)
    {o0 o1 o2 o3 o4 o5 o6 o7 : Fin 2 → ℕ}
    (h0 : o0 = ![0, 0]) {i0 : ∀ d, o0 d + S256x128.size d ≤ S256x1024.size d} {w0 : S256x128.Idx → EReal}
    (e0 : ∀ x, w0 x = G ((Rect.unit (s := S256x1024) o0 S256x128.size i0).emb x))
    (h1 : o1 = ![0, 128]) {i1 : ∀ d, o1 d + S256x128.size d ≤ S256x1024.size d} {w1 : S256x128.Idx → EReal}
    (e1 : ∀ x, w1 x = G ((Rect.unit (s := S256x1024) o1 S256x128.size i1).emb x))
    (h2 : o2 = ![0, 256]) {i2 : ∀ d, o2 d + S256x128.size d ≤ S256x1024.size d} {w2 : S256x128.Idx → EReal}
    (e2 : ∀ x, w2 x = G ((Rect.unit (s := S256x1024) o2 S256x128.size i2).emb x))
    (h3 : o3 = ![0, 384]) {i3 : ∀ d, o3 d + S256x128.size d ≤ S256x1024.size d} {w3 : S256x128.Idx → EReal}
    (e3 : ∀ x, w3 x = G ((Rect.unit (s := S256x1024) o3 S256x128.size i3).emb x))
    (h4 : o4 = ![0, 512]) {i4 : ∀ d, o4 d + S256x128.size d ≤ S256x1024.size d} {w4 : S256x128.Idx → EReal}
    (e4 : ∀ x, w4 x = G ((Rect.unit (s := S256x1024) o4 S256x128.size i4).emb x))
    (h5 : o5 = ![0, 640]) {i5 : ∀ d, o5 d + S256x128.size d ≤ S256x1024.size d} {w5 : S256x128.Idx → EReal}
    (e5 : ∀ x, w5 x = G ((Rect.unit (s := S256x1024) o5 S256x128.size i5).emb x))
    (h6 : o6 = ![0, 768]) {i6 : ∀ d, o6 d + S256x128.size d ≤ S256x1024.size d} {w6 : S256x128.Idx → EReal}
    (e6 : ∀ x, w6 x = G ((Rect.unit (s := S256x1024) o6 S256x128.size i6).emb x))
    (h7 : o7 = ![0, 896]) {i7 : ∀ d, o7 d + S256x128.size d ≤ S256x1024.size d} {w7 : S256x128.Idx → EReal}
    (e7 : ∀ x, w7 x = G ((Rect.unit (s := S256x1024) o7 S256x128.size i7).emb x)) :
    v.read (Elt Ideal) (v.writes (Elt Ideal) f
      [⟨Rect.unit (s := S256x1024) o7 S256x128.size i7, w7⟩,
        ⟨Rect.unit (s := S256x1024) o6 S256x128.size i6, w6⟩,
        ⟨Rect.unit (s := S256x1024) o5 S256x128.size i5, w5⟩,
        ⟨Rect.unit (s := S256x1024) o4 S256x128.size i4, w4⟩,
        ⟨Rect.unit (s := S256x1024) o3 S256x128.size i3, w3⟩,
        ⟨Rect.unit (s := S256x1024) o2 S256x128.size i2, w2⟩,
        ⟨Rect.unit (s := S256x1024) o1 S256x128.size i1, w1⟩,
        ⟨Rect.unit (s := S256x1024) o0 S256x128.size i0, w0⟩]) = G :=
  read_cols v f G (o := fun h => match h with | 0 => o0 | 1 => o1 | 2 => o2 | 3 => o3 | 4 => o4 | 5 => o5 | 6 => o6 | 7 => o7)
    (fun h => match h with | 0 => h0 | 1 => h1 | 2 => h2 | 3 => h3 | 4 => h4 | 5 => h5 | 6 => h6 | 7 => h7)
    (fun h => match h with | 0 => i0 | 1 => i1 | 2 => i2 | 3 => i3 | 4 => i4 | 5 => i5 | 6 => i6 | 7 => i7)
    (fun h => match h with | 0 => w0 | 1 => w1 | 2 => w2 | 3 => w3 | 4 => w4 | 5 => w5 | 6 => w6 | 7 => w7)
    (fun h => match h with | 0 => e0 | 1 => e1 | 2 => e2 | 3 => e3 | 4 => e4 | 5 => e5 | 6 => e6 | 7 => e7)

/-- `read_heads`, the pieces one by one. -/
theorem read_heads8 {sig' : RefSig} {κ : Kind} {sp : Space} (v : View sig' κ sp S8x8x128x256 .f32) (f : v.ty.Contents (Elt Ideal)) {i : ℕ}
    (G : S8x8x128x256.Idx → EReal)
    (hG : ∀ j : S8x8x128x256.Idx, (j 1 : Fin 8).val ≠ i → G j = v.read (Elt Ideal) f j)
    {o0 o1 o2 o3 o4 o5 o6 o7 : Fin 4 → ℕ}
    (h0 : o0 = ![0, i, 0, 0]) {i0 : ∀ d, o0 d + S1x1x128x256.size d ≤ S8x8x128x256.size d} {w0 : S1x1x128x256.Idx → EReal}
    (e0 : ∀ x, w0 x = G ((Rect.unit (s := S8x8x128x256) o0 S1x1x128x256.size i0).emb x))
    (h1 : o1 = ![1, i, 0, 0]) {i1 : ∀ d, o1 d + S1x1x128x256.size d ≤ S8x8x128x256.size d} {w1 : S1x1x128x256.Idx → EReal}
    (e1 : ∀ x, w1 x = G ((Rect.unit (s := S8x8x128x256) o1 S1x1x128x256.size i1).emb x))
    (h2 : o2 = ![2, i, 0, 0]) {i2 : ∀ d, o2 d + S1x1x128x256.size d ≤ S8x8x128x256.size d} {w2 : S1x1x128x256.Idx → EReal}
    (e2 : ∀ x, w2 x = G ((Rect.unit (s := S8x8x128x256) o2 S1x1x128x256.size i2).emb x))
    (h3 : o3 = ![3, i, 0, 0]) {i3 : ∀ d, o3 d + S1x1x128x256.size d ≤ S8x8x128x256.size d} {w3 : S1x1x128x256.Idx → EReal}
    (e3 : ∀ x, w3 x = G ((Rect.unit (s := S8x8x128x256) o3 S1x1x128x256.size i3).emb x))
    (h4 : o4 = ![4, i, 0, 0]) {i4 : ∀ d, o4 d + S1x1x128x256.size d ≤ S8x8x128x256.size d} {w4 : S1x1x128x256.Idx → EReal}
    (e4 : ∀ x, w4 x = G ((Rect.unit (s := S8x8x128x256) o4 S1x1x128x256.size i4).emb x))
    (h5 : o5 = ![5, i, 0, 0]) {i5 : ∀ d, o5 d + S1x1x128x256.size d ≤ S8x8x128x256.size d} {w5 : S1x1x128x256.Idx → EReal}
    (e5 : ∀ x, w5 x = G ((Rect.unit (s := S8x8x128x256) o5 S1x1x128x256.size i5).emb x))
    (h6 : o6 = ![6, i, 0, 0]) {i6 : ∀ d, o6 d + S1x1x128x256.size d ≤ S8x8x128x256.size d} {w6 : S1x1x128x256.Idx → EReal}
    (e6 : ∀ x, w6 x = G ((Rect.unit (s := S8x8x128x256) o6 S1x1x128x256.size i6).emb x))
    (h7 : o7 = ![7, i, 0, 0]) {i7 : ∀ d, o7 d + S1x1x128x256.size d ≤ S8x8x128x256.size d} {w7 : S1x1x128x256.Idx → EReal}
    (e7 : ∀ x, w7 x = G ((Rect.unit (s := S8x8x128x256) o7 S1x1x128x256.size i7).emb x)) :
    v.read (Elt Ideal) (v.writes (Elt Ideal) f
      [⟨Rect.unit (s := S8x8x128x256) o7 S1x1x128x256.size i7, w7⟩,
        ⟨Rect.unit (s := S8x8x128x256) o6 S1x1x128x256.size i6, w6⟩,
        ⟨Rect.unit (s := S8x8x128x256) o5 S1x1x128x256.size i5, w5⟩,
        ⟨Rect.unit (s := S8x8x128x256) o4 S1x1x128x256.size i4, w4⟩,
        ⟨Rect.unit (s := S8x8x128x256) o3 S1x1x128x256.size i3, w3⟩,
        ⟨Rect.unit (s := S8x8x128x256) o2 S1x1x128x256.size i2, w2⟩,
        ⟨Rect.unit (s := S8x8x128x256) o1 S1x1x128x256.size i1, w1⟩,
        ⟨Rect.unit (s := S8x8x128x256) o0 S1x1x128x256.size i0, w0⟩]) = G :=
  read_heads v f G (o := fun h => match h with | 0 => o0 | 1 => o1 | 2 => o2 | 3 => o3 | 4 => o4 | 5 => o5 | 6 => o6 | 7 => o7)
    (fun h => match h with | 0 => h0 | 1 => h1 | 2 => h2 | 3 => h3 | 4 => h4 | 5 => h5 | 6 => h6 | 7 => h7) hG
    (fun h => match h with | 0 => i0 | 1 => i1 | 2 => i2 | 3 => i3 | 4 => i4 | 5 => i5 | 6 => i6 | 7 => i7)
    (fun h => match h with | 0 => w0 | 1 => w1 | 2 => w2 | 3 => w3 | 4 => w4 | 5 => w5 | 6 => w6 | 7 => w7)
    (fun h => match h with | 0 => e0 | 1 => e1 | 2 => e2 | 3 => e3 | 4 => e4 | 5 => e5 | 6 => e6 | 7 => e7)

include h3 hk hl in
/-- The values' gradient, one head, unmasked. -/
theorem pieceVU (A : S256x1024.Idx → EReal) x :
    k0_pay10 (F := Ideal) (k0_pay6 (F := Ideal) (rowsOf X6 o3 i3)) (k0_pay7 (F := Ideal) (rowsOf X3 o3 i3) (colsOf X4 ok ik) (statOf X7 ol il)) (colsOf A ok ik) x
      = newV (tileOf X3 X4 X5 X6 X7 X8) false i A ((Rect.unit (s := S256x1024) ok S256x128.size ik).emb x) :=
  pieceV X6 h3 hk i3 ik rfl (pay7_tile X3 X4 X5 X6 X7 X8 h3 hk hl i3 ik il) A x

include h3 hk hl in
/-- The keys' gradient, one head, unmasked. -/
theorem pieceKU (A : S256x1024.Idx → EReal) x :
    k0_pay10 (F := Ideal) (k0_pay6 (F := Ideal) (rowsOf X3 o3 i3)) (k0_pay8 (F := Ideal) (rowsOf X3 o3 i3) (rowsOf X6 o3 i3) (colsOf X4 ok ik) (statOf X7 ol il) (colsOf X5 ok ik) (statOf X8 ol il)) (colsOf A ok ik) x
      = newK (tileOf X3 X4 X5 X6 X7 X8) false i A ((Rect.unit (s := S256x1024) ok S256x128.size ik).emb x) :=
  pieceK X3 h3 hk i3 ik rfl (pay8_tile X3 X4 X5 X6 X7 X8 h3 hk hl i3 ik il) A x

include h3 hk hl h12 in
/-- The queries' gradient, one head, unmasked. -/
theorem pieceQU (A : S8x8x128x256.Idx → EReal) x :
    k0_pay11 (F := Ideal) (k0_pay203 (F := Ideal) (colsOf X4 ok ik)) (k0_pay8 (F := Ideal) (rowsOf X3 o3 i3) (rowsOf X6 o3 i3) (colsOf X4 ok ik) (statOf X7 ol il) (colsOf X5 ok ik) (statOf X8 ol il)) (dqOf A o12 i12) x
      = newQ (tileOf X3 X4 X5 X6 X7 X8) false i A ((Rect.unit (s := S8x8x128x256) o12 S1x1x128x256.size i12).emb x) :=
  pieceQ X4 hk h12 ik i12 rfl (pay8_tile X3 X4 X5 X6 X7 X8 h3 hk hl i3 ik il) A x

include h3 hk hl in
/-- The values' gradient, one head, masked. -/
theorem pieceVM (A : S256x1024.Idx → EReal) x :
    k0_pay10 (F := Ideal) (k0_pay6 (F := Ideal) (rowsOf X6 o3 i3)) (k0_pay208 (F := Ideal) (rowsOf X3 o3 i3) (colsOf X4 ok ik) (statOf X7 ol il)) (colsOf A ok ik) x
      = newV (tileOf X3 X4 X5 X6 X7 X8) true i A ((Rect.unit (s := S256x1024) ok S256x128.size ik).emb x) :=
  pieceV X6 h3 hk i3 ik rfl (pay208_tile X3 X4 X5 X6 X7 X8 h3 hk hl i3 ik il) A x

include h3 hk hl in
/-- The keys' gradient, one head, masked. -/
theorem pieceKM (A : S256x1024.Idx → EReal) x :
    k0_pay10 (F := Ideal) (k0_pay6 (F := Ideal) (rowsOf X3 o3 i3)) (k0_pay207 (F := Ideal) (rowsOf X3 o3 i3) (rowsOf X6 o3 i3) (colsOf X4 ok ik) (statOf X7 ol il) (colsOf X5 ok ik) (statOf X8 ol il)) (colsOf A ok ik) x
      = newK (tileOf X3 X4 X5 X6 X7 X8) true i A ((Rect.unit (s := S256x1024) ok S256x128.size ik).emb x) :=
  pieceK X3 h3 hk i3 ik rfl (pay207_tile X3 X4 X5 X6 X7 X8 h3 hk hl i3 ik il) A x

include h3 hk hl h12 in
/-- The queries' gradient, one head, masked. -/
theorem pieceQM (A : S8x8x128x256.Idx → EReal) x :
    k0_pay11 (F := Ideal) (k0_pay203 (F := Ideal) (colsOf X4 ok ik)) (k0_pay207 (F := Ideal) (rowsOf X3 o3 i3) (rowsOf X6 o3 i3) (colsOf X4 ok ik) (statOf X7 ol il) (colsOf X5 ok ik) (statOf X8 ol il)) (dqOf A o12 i12) x
      = newQ (tileOf X3 X4 X5 X6 X7 X8) true i A ((Rect.unit (s := S8x8x128x256) o12 S1x1x128x256.size i12).emb x) :=
  pieceQ X4 hk h12 ik i12 rfl (pay207_tile X3 X4 X5 X6 X7 X8 h3 hk hl i3 ik il) A x

end Pieces

end Cert.KernelIdeal.Hand

end
-- ==== Proof.Hand.Words.lean ====
module

public import proofs.«01_k».proof.Proof.Gen.KernelIdeal.Skeleton

@[expose] public section

set_option maxRecDepth 16384

/-!
The kernel's index words as numbers: how many times its two loops run, and where its loads and stores begin.
-/

noncomputable section

namespace Cert.KernelIdeal.Hand

open Cert.KernelIdeal Cert.KernelIdeal.Gen
open Idealize.ShloMosaic Idealize.ShloMosaic.TcCoe Idealize.ShloMosaic.Tactic

/-- The first loop runs over the tiles after the block's own. -/
theorem trips1 : ∀ i : grid0.Coords, (k0_t1_loop i).trips = 7 - (i 2).val := by decide +kernel

/-- The second loop runs no times. -/
theorem trips2 : ∀ i : grid0.Coords, (k0_t2_loop i).trips = 0 := by decide +kernel

/-- The tile of trip `k` of the first loop. -/
def tileAt (i : grid0.Coords) (k : ℕ) : ℕ := (i 2).val + 1 + k

/-- The tile's number, from the loop's word. -/
theorem word_tile : ∀ (j : Fin 8) (k : Fin 8),
    (Scalar.indexCast (Scf.iv (Scalar.addi (BitVec.ofNat 32 j.val) 1#32) 1#32 k.val) : Index).toNat = j.val + 1 + k.val := by decide +kernel

/-- The tile's first row, from the loop's word. -/
theorem word_row : ∀ (j : Fin 8) (k : Fin 8),
    (Scalar.indexCast (Scalar.muli (Scf.iv (Scalar.addi (BitVec.ofNat 32 j.val) 1#32) 1#32 k.val) 256#32) : Index).toNat
      = 256 * (j.val + 1 + k.val) := by decide +kernel

/-- The block's own tile, from its word. -/
theorem word_own : ∀ (j : Fin 8), (Scalar.indexCast (BitVec.ofNat 32 j.val) : Index).toNat = j.val := by decide +kernel

/-- The block's own tile's first row, from its word. -/
theorem word_own_row : ∀ (j : Fin 8), (Scalar.indexCast (Scalar.muli (BitVec.ofNat 32 j.val) 256#32) : Index).toNat = 256 * j.val := by
  decide +kernel

variable (i : grid0.Coords) (k : Fin (k0_t1_loop i).trips)

/-- There are at most seven trips. -/
theorem trip_lt : k.val < 8 := by have := k.isLt; have := trips1 i; omega

/-- Where a load of the queries begins in trip `k`: row and column. -/
theorem row_eq (c : ℕ) :
    ![(Scalar.indexCast (Scalar.muli (Scf.iv (Scalar.addi (BitVec.ofNat 32 (i 2).val) 1#32) 1#32 k.val) 256#32) : Index).toNat, c]
      = ![256 * tileAt i k, c] := congrArg (fun n => ![n, c]) (word_row (i 2) ⟨k.val, trip_lt i k⟩)

/-- Where a load of statistics begins in trip `k`. -/
theorem stat_eq (h : ℕ) :
    ![0, 0, (Scalar.indexCast (Scf.iv (Scalar.addi (BitVec.ofNat 32 (i 2).val) 1#32) 1#32 k.val) : Index).toNat, h, 0]
      = ![0, 0, tileAt i k, h, 0] := congrArg (fun n => ![0, 0, n, h, 0]) (word_tile (i 2) ⟨k.val, trip_lt i k⟩)

/-- Where a tile of the queries' gradient begins in trip `k`. -/
theorem head_eq (h : ℕ) :
    ![h, (Scalar.indexCast (Scf.iv (Scalar.addi (BitVec.ofNat 32 (i 2).val) 1#32) 1#32 k.val) : Index).toNat, 0, 0]
      = ![h, tileAt i k, 0, 0] := congrArg (fun n => ![h, n, 0, 0]) (word_tile (i 2) ⟨k.val, trip_lt i k⟩)

/-- Where a load of the queries begins in the block's own tile. -/
theorem own_row_eq (c : ℕ) :
    ![(Scalar.indexCast (Scalar.muli (BitVec.ofNat 32 (i 2).val) 256#32) : Index).toNat, c] = ![256 * (i 2).val, c] :=
  congrArg (fun n => ![n, c]) (word_own_row (i 2))

/-- Where a load of statistics begins in the block's own tile. -/
theorem own_stat_eq (h : ℕ) :
    ![0, 0, (Scalar.indexCast (BitVec.ofNat 32 (i 2).val) : Index).toNat, h, 0] = ![0, 0, (i 2).val, h, 0] :=
  congrArg (fun n => ![0, 0, n, h, 0]) (word_own (i 2))

/-- Where a tile of the queries' gradient begins in the block's own tile. -/
theorem own_head_eq (h : ℕ) :
    ![h, (Scalar.indexCast (BitVec.ofNat 32 (i 2).val) : Index).toNat, 0, 0] = ![h, (i 2).val, 0, 0] :=
  congrArg (fun n => ![h, n, 0, 0]) (word_own (i 2))

end Cert.KernelIdeal.Hand

end
-- ==== Proof.Hand.Trip.lean ====
module

public import proofs.«01_k».proof.Proof.Gen.KernelIdeal.Frame
public import proofs.«01_k».proof.Proof.Hand.Tile
public import proofs.«01_k».proof.Proof.Hand.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-!
One trip of the loop over the tiles after the block's own, run exactly.
-/

/-- A memref owned by core `c` at contents `f`. -/
abbrev pts (c : Dev nD) {s : Shape} {e : EltTy} (a : Memref sig .tc .vmem s e) (f : BufTy.Contents (Elt Ideal) a.view.ty) : sProp 𝕄 :=
  iprop(a.view.loc (c : Thread nD τ) ↦[a.view.set]{fullShare} f)

/-- One trip adds one tile, unmasked, to the three accumulators. -/
theorem trip1 (c : Dev nD) (E : Set ℕ) (i : grid0.Coords)
    (arg3 : Memref sig .tc .vmem S2048x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S2048x1024 .bf16) (harg6 : arg6.IsWhole)
    (arg7 : Memref sig .tc .vmem S1x1x8x8x256 .f32) (harg7 : arg7.IsWhole) (arg8 : Memref sig .tc .vmem S1x1x8x8x256 .f32) (harg8 : arg8.IsWhole)
    (arg9 : Memref sig .tc .vmem S2048x1024 .bf16) (harg9 : arg9.IsWhole) (arg10 : Memref sig .tc .vmem S256x1024 .bf16) (harg10 : arg10.IsWhole)
    (arg11 : Memref sig .tc .vmem S256x1024 .bf16) (harg11 : arg11.IsWhole) (arg12 : Memref sig .tc .vmem S8x8x128x256 .f32) (harg12 : arg12.IsWhole)
    (arg13 : Memref sig .tc .vmem S256x1024 .f32) (harg13 : arg13.IsWhole) (arg14 : Memref sig .tc .vmem S256x1024 .f32) (harg14 : arg14.IsWhole)
    (v13 v16 v19 v22 v25 v28 v31 v34 : FVec Ideal S128x256 .bf16) (v453 : BitVec 32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty)
    (f12 : BufTy.Contents (Elt Ideal) arg12.view.ty) (f13 : BufTy.Contents (Elt Ideal) arg13.view.ty) (f14 : BufTy.Contents (Elt Ideal) arg14.view.ty)
    (k : Fin (k0_t1_loop i).trips)
    (hv13 : v13 = k0_pay203 (F := Ideal) (colsOf (arg4.view.read (Elt Ideal) X4) ![0, 0] inb_S256x1024_S256x128_0_0))
    (hv16 : v16 = k0_pay203 (F := Ideal) (colsOf (arg4.view.read (Elt Ideal) X4) ![0, 128] inb_S256x1024_S256x128_0_128))
    (hv19 : v19 = k0_pay203 (F := Ideal) (colsOf (arg4.view.read (Elt Ideal) X4) ![0, 256] inb_S256x1024_S256x128_0_256))
    (hv22 : v22 = k0_pay203 (F := Ideal) (colsOf (arg4.view.read (Elt Ideal) X4) ![0, 384] inb_S256x1024_S256x128_0_384))
    (hv25 : v25 = k0_pay203 (F := Ideal) (colsOf (arg4.view.read (Elt Ideal) X4) ![0, 512] inb_S256x1024_S256x128_0_512))
    (hv28 : v28 = k0_pay203 (F := Ideal) (colsOf (arg4.view.read (Elt Ideal) X4) ![0, 640] inb_S256x1024_S256x128_0_640))
    (hv31 : v31 = k0_pay203 (F := Ideal) (colsOf (arg4.view.read (Elt Ideal) X4) ![0, 768] inb_S256x1024_S256x128_0_768))
    (hv34 : v34 = k0_pay203 (F := Ideal) (colsOf (arg4.view.read (Elt Ideal) X4) ![0, 896] inb_S256x1024_S256x128_0_896)) :
    iprop(pts c arg3 X3 ∗ pts c arg4 X4 ∗ pts c arg5 X5 ∗ pts c arg6 X6 ∗ pts c arg7 X7 ∗ pts c arg8 X8
      ∗ pts c arg12 f12 ∗ pts c arg13 f13 ∗ pts c arg14 f14)
    ⊢ wp frame (wpE (defs₀ (F := Ideal)) Variants.none (c : Thread nD τ) none) E
        (k0_t1_body (F := Ideal) i arg3 harg3 arg4 harg4 arg5 harg5 arg6 harg6 arg7 harg7 arg8 harg8 arg9 harg9 arg10 harg10 arg11 harg11
          arg12 harg12 arg13 harg13 arg14 harg14 v13 v16 v19 v22 v25 v28 v31 v34 v453 k PUnit.unit)
        (fun _ => iprop(pts c arg3 X3 ∗ pts c arg4 X4 ∗ pts c arg5 X5 ∗ pts c arg6 X6 ∗ pts c arg7 X7 ∗ pts c arg8 X8
      ∗ (∃ g12, ∃ g13, ∃ g14, ⌜arg12.view.read (Elt Ideal) g12 = newQ (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) false (tileAt i k) (arg12.view.read (Elt Ideal) f12)
        ∧ arg13.view.read (Elt Ideal) g13 = newK (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) false (tileAt i k) (arg13.view.read (Elt Ideal) f13)
        ∧ arg14.view.read (Elt Ideal) g14 = newV (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) false (tileAt i k) (arg14.view.read (Elt Ideal) f14)⌝ ∗ pts c arg12 g12 ∗ pts c arg13 g13 ∗ pts c arg14 g14))) := by
  unfold k0_t1_body
  iintro ⟨H3, H4, H5, H6, H7, H8, H12, H13, H14⟩
  sl_exec
  sl_step
  isplitl [H3]; · iexact H3
  isplitl [H4]; · iexact H4
  isplitl [H5]; · iexact H5
  isplitl [H6]; · iexact H6
  isplitl [H7]; · iexact H7
  isplitl [H8]; · iexact H8
  iexists _, _, _
  isplitr
  rotate_left
  · isplitl [H12]; · iexact H12
    isplitl [H13]; · iexact H13
    iexact H14
  ipureintro
  refine ⟨?_, ?_, ?_⟩
  · subst hv13 hv16 hv19 hv22 hv25 hv28 hv31 hv34
    exact read_heads8 arg12.view f12 _ (fun j hj => if_neg hj)
      (head_eq i k 0) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 0) (o3 := k0_off25 i k) (ok := ![0, 0]) (ol := k0_off26 i k) (o12 := k0_off27 i k) (row_eq i k 0) rfl (stat_eq i k 0) (head_eq i k 0) (k0_off25_inb i k) inb_S256x1024_S256x128_0_0 (k0_off26_inb i k) (k0_off27_inb i k) (arg12.view.read (Elt Ideal) f12))
      (head_eq i k 1) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 1) (o3 := k0_off28 i k) (ok := ![0, 128]) (ol := k0_off29 i k) (o12 := k0_off30 i k) (row_eq i k 128) rfl (stat_eq i k 1) (head_eq i k 1) (k0_off28_inb i k) inb_S256x1024_S256x128_0_128 (k0_off29_inb i k) (k0_off30_inb i k) (arg12.view.read (Elt Ideal) f12))
      (head_eq i k 2) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 2) (o3 := k0_off31 i k) (ok := ![0, 256]) (ol := k0_off32 i k) (o12 := k0_off33 i k) (row_eq i k 256) rfl (stat_eq i k 2) (head_eq i k 2) (k0_off31_inb i k) inb_S256x1024_S256x128_0_256 (k0_off32_inb i k) (k0_off33_inb i k) (arg12.view.read (Elt Ideal) f12))
      (head_eq i k 3) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 3) (o3 := k0_off34 i k) (ok := ![0, 384]) (ol := k0_off35 i k) (o12 := k0_off36 i k) (row_eq i k 384) rfl (stat_eq i k 3) (head_eq i k 3) (k0_off34_inb i k) inb_S256x1024_S256x128_0_384 (k0_off35_inb i k) (k0_off36_inb i k) (arg12.view.read (Elt Ideal) f12))
      (head_eq i k 4) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 4) (o3 := k0_off37 i k) (ok := ![0, 512]) (ol := k0_off38 i k) (o12 := k0_off39 i k) (row_eq i k 512) rfl (stat_eq i k 4) (head_eq i k 4) (k0_off37_inb i k) inb_S256x1024_S256x128_0_512 (k0_off38_inb i k) (k0_off39_inb i k) (arg12.view.read (Elt Ideal) f12))
      (head_eq i k 5) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 5) (o3 := k0_off40 i k) (ok := ![0, 640]) (ol := k0_off41 i k) (o12 := k0_off42 i k) (row_eq i k 640) rfl (stat_eq i k 5) (head_eq i k 5) (k0_off40_inb i k) inb_S256x1024_S256x128_0_640 (k0_off41_inb i k) (k0_off42_inb i k) (arg12.view.read (Elt Ideal) f12))
      (head_eq i k 6) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 6) (o3 := k0_off43 i k) (ok := ![0, 768]) (ol := k0_off44 i k) (o12 := k0_off45 i k) (row_eq i k 768) rfl (stat_eq i k 6) (head_eq i k 6) (k0_off43_inb i k) inb_S256x1024_S256x128_0_768 (k0_off44_inb i k) (k0_off45_inb i k) (arg12.view.read (Elt Ideal) f12))
      (head_eq i k 7) (pieceQU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 7) (o3 := k0_off46 i k) (ok := ![0, 896]) (ol := k0_off47 i k) (o12 := k0_off48 i k) (row_eq i k 896) rfl (stat_eq i k 7) (head_eq i k 7) (k0_off46_inb i k) inb_S256x1024_S256x128_0_896 (k0_off47_inb i k) (k0_off48_inb i k) (arg12.view.read (Elt Ideal) f12))
  · exact read_cols8 arg13.view f13 _
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 0) (o3 := k0_off25 i k) (ok := ![0, 0]) (ol := k0_off26 i k) (row_eq i k 0) rfl (stat_eq i k 0) (k0_off25_inb i k) inb_S256x1024_S256x128_0_0 (k0_off26_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 1) (o3 := k0_off28 i k) (ok := ![0, 128]) (ol := k0_off29 i k) (row_eq i k 128) rfl (stat_eq i k 1) (k0_off28_inb i k) inb_S256x1024_S256x128_0_128 (k0_off29_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 2) (o3 := k0_off31 i k) (ok := ![0, 256]) (ol := k0_off32 i k) (row_eq i k 256) rfl (stat_eq i k 2) (k0_off31_inb i k) inb_S256x1024_S256x128_0_256 (k0_off32_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 3) (o3 := k0_off34 i k) (ok := ![0, 384]) (ol := k0_off35 i k) (row_eq i k 384) rfl (stat_eq i k 3) (k0_off34_inb i k) inb_S256x1024_S256x128_0_384 (k0_off35_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 4) (o3 := k0_off37 i k) (ok := ![0, 512]) (ol := k0_off38 i k) (row_eq i k 512) rfl (stat_eq i k 4) (k0_off37_inb i k) inb_S256x1024_S256x128_0_512 (k0_off38_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 5) (o3 := k0_off40 i k) (ok := ![0, 640]) (ol := k0_off41 i k) (row_eq i k 640) rfl (stat_eq i k 5) (k0_off40_inb i k) inb_S256x1024_S256x128_0_640 (k0_off41_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 6) (o3 := k0_off43 i k) (ok := ![0, 768]) (ol := k0_off44 i k) (row_eq i k 768) rfl (stat_eq i k 6) (k0_off43_inb i k) inb_S256x1024_S256x128_0_768 (k0_off44_inb i k) (arg13.view.read (Elt Ideal) f13))
      rfl (pieceKU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 7) (o3 := k0_off46 i k) (ok := ![0, 896]) (ol := k0_off47 i k) (row_eq i k 896) rfl (stat_eq i k 7) (k0_off46_inb i k) inb_S256x1024_S256x128_0_896 (k0_off47_inb i k) (arg13.view.read (Elt Ideal) f13))
  · exact read_cols8 arg14.view f14 _
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 0) (o3 := k0_off25 i k) (ok := ![0, 0]) (ol := k0_off26 i k) (row_eq i k 0) rfl (stat_eq i k 0) (k0_off25_inb i k) inb_S256x1024_S256x128_0_0 (k0_off26_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 1) (o3 := k0_off28 i k) (ok := ![0, 128]) (ol := k0_off29 i k) (row_eq i k 128) rfl (stat_eq i k 1) (k0_off28_inb i k) inb_S256x1024_S256x128_0_128 (k0_off29_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 2) (o3 := k0_off31 i k) (ok := ![0, 256]) (ol := k0_off32 i k) (row_eq i k 256) rfl (stat_eq i k 2) (k0_off31_inb i k) inb_S256x1024_S256x128_0_256 (k0_off32_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 3) (o3 := k0_off34 i k) (ok := ![0, 384]) (ol := k0_off35 i k) (row_eq i k 384) rfl (stat_eq i k 3) (k0_off34_inb i k) inb_S256x1024_S256x128_0_384 (k0_off35_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 4) (o3 := k0_off37 i k) (ok := ![0, 512]) (ol := k0_off38 i k) (row_eq i k 512) rfl (stat_eq i k 4) (k0_off37_inb i k) inb_S256x1024_S256x128_0_512 (k0_off38_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 5) (o3 := k0_off40 i k) (ok := ![0, 640]) (ol := k0_off41 i k) (row_eq i k 640) rfl (stat_eq i k 5) (k0_off40_inb i k) inb_S256x1024_S256x128_0_640 (k0_off41_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 6) (o3 := k0_off43 i k) (ok := ![0, 768]) (ol := k0_off44 i k) (row_eq i k 768) rfl (stat_eq i k 6) (k0_off43_inb i k) inb_S256x1024_S256x128_0_768 (k0_off44_inb i k) (arg14.view.read (Elt Ideal) f14))
      rfl (pieceVU (arg3.view.read (Elt Ideal) X3) (arg4.view.read (Elt Ideal) X4) (arg5.view.read (Elt Ideal) X5) (arg6.view.read (Elt Ideal) X6) (arg7.view.read (Elt Ideal) X7) (arg8.view.read (Elt Ideal) X8) (i := tileAt i k) (h := 7) (o3 := k0_off46 i k) (ok := ![0, 896]) (ol := k0_off47 i k) (row_eq i k 896) rfl (stat_eq i k 7) (k0_off46_inb i k) inb_S256x1024_S256x128_0_896 (k0_off47_inb i k) (arg14.view.read (Elt Ideal) f14))

end Cert.KernelIdeal.Hand

end
-- ==== Proof.Hand.Flush.lean ====
module

public import proofs.«01_k».proof.Proof.Gen.KernelIdeal.Skeleton
public import proofs.«01_k».proof.Proof.Hand.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
How the sixty-four transposed tiles of the queries' gradient fill a block of the first result.
-/

/-- The block of queries' gradients, from the accumulator laid out by head, tile, lane and row. -/
def outQ (A : S8x8x128x256.Idx → EReal) : S2048x1024.Idx → EReal := fun j =>
  at4 A ((j 1 : Fin 1024).val / 128) ((j 0 : Fin 2048).val / 256) ((j 1 : Fin 1024).val % 128) ((j 0 : Fin 2048).val % 256)

/-- A transposed tile at an index. -/
theorem pay129_at (a : Vec Ideal S1x1x128x256 .f32) (x : Fin 256) (d : Fin 128) : k0_pay129 (F := Ideal) a (ix2 x d) = a (ix4 0 0 d x) := by
  pointwise [k0_pay129]

/-- Where tile `n` is stored. -/
abbrev offOut (n : Fin 64) : Fin 2 → ℕ := ![256 * (n.val % 8), 128 * (n.val / 8)]

/-- Where tile `n` is loaded from. -/
abbrev offIn (n : Fin 64) : Fin 4 → ℕ := ![n.val / 8, n.val % 8, 0, 0]

theorem inbOut (n : Fin 64) : ∀ d, offOut n d + S256x128.size d ≤ S2048x1024.size d := fun d => by
  have := n.isLt
  match d with
  | 0 => show 256 * (n.val % 8) + 256 ≤ 2048; omega
  | 1 => show 128 * (n.val / 8) + 128 ≤ 1024; omega

theorem inbIn (n : Fin 64) : ∀ d, offIn n d + S1x1x128x256.size d ≤ S8x8x128x256.size d := fun d => by
  have := n.isLt
  match d with
  | 0 => show n.val / 8 + 1 ≤ 8; omega
  | 1 => show n.val % 8 + 1 ≤ 8; omega
  | 2 => show 0 + 128 ≤ 128; omega
  | 3 => show 0 + 256 ≤ 256; omega

/-- The piece that tile `n` stores. -/
abbrev pieceOut (A : S8x8x128x256.Idx → EReal) (n : Fin 64) : View.Piece (Elt Ideal) S2048x1024 .bf16 :=
  ⟨Rect.unit (s := S2048x1024) (offOut n) S256x128.size (inbOut n), k0_pay129 (F := Ideal) (dqOf A (offIn n) (inbIn n))⟩

/-- What tile `n` stores is what the block holds there. -/
theorem pieceOut_eq (A : S8x8x128x256.Idx → EReal) (n : Fin 64) : ∀ x : S256x128.Idx,
    k0_pay129 (F := Ideal) (dqOf A (offIn n) (inbIn n)) x = outQ A ((Rect.unit (s := S2048x1024) (offOut n) S256x128.size (inbOut n)).emb x) := by
  refine idx2_cases fun x d => ?_
  rw [pay129_at]
  refine (ld_at4 A (offIn n) (inbIn n) 0 0 d x).trans ?_
  have hn := n.isLt
  have hx := x.isLt
  have hd := d.isLt
  show at4 A _ _ _ _ = at4 A ((128 * (n.val / 8) + 1 * d.val) / 128) ((256 * (n.val % 8) + 1 * x.val) / 256)
    ((128 * (n.val / 8) + 1 * d.val) % 128) ((256 * (n.val % 8) + 1 * x.val) % 256)
  have a0 : (128 * (n.val / 8) + 1 * d.val) / 128 = n.val / 8 + 0 := by omega
  have a1 : (256 * (n.val % 8) + 1 * x.val) / 256 = n.val % 8 + 0 := by omega
  have a2 : (128 * (n.val / 8) + 1 * d.val) % 128 = 0 + d.val := by omega
  have a3 : (256 * (n.val % 8) + 1 * x.val) % 256 = 0 + x.val := by omega
  rw [a0, a1, a2, a3]; rfl

/-- After the sixty-four stores the block is the transposed accumulator. -/
theorem read_tiles {sig' : RefSig} {κ : Kind} {sp : Space} (v : View sig' κ sp S2048x1024 .bf16) (f : v.ty.Contents (Elt Ideal))
    (A : S8x8x128x256.Idx → EReal) :
    v.read (Elt Ideal) (v.writes (Elt Ideal) f (List.ofFn (pieceOut A)).reverse) = outQ A := by
  funext y
  refine View.read_writes_apply_of_pieces v f (outQ A) _ ?_ y ?_
  · intro p hp
    obtain ⟨n, rfl⟩ := List.mem_ofFn.mp (List.mem_reverse.mp hp)
    exact pieceOut_eq A n
  · have h0 : (y 0 : Fin 2048).val < 2048 := (y 0 : Fin 2048).isLt
    have h1 : (y 1 : Fin 1024).val < 1024 := (y 1 : Fin 1024).isLt
    have hn : 8 * ((y 1 : Fin 1024).val / 128) + (y 0 : Fin 2048).val / 256 < 64 := by omega
    refine ⟨pieceOut A ⟨_, hn⟩, List.mem_reverse.mpr (List.mem_ofFn.mpr ⟨_, rfl⟩), (LoadRect.mem_set _).mpr fun d => ?_⟩
    match d with
    | 0 => exact ⟨(y 0 : Fin 2048).val % 256, Nat.mod_lt _ (by decide), by
        show (y 0 : Fin 2048).val = 256 * ((8 * ((y 1 : Fin 1024).val / 128) + (y 0 : Fin 2048).val / 256) % 8) + 1 * ((y 0 : Fin 2048).val % 256); omega⟩
    | 1 => exact ⟨(y 1 : Fin 1024).val % 128, Nat.mod_lt _ (by decide), by
        show (y 1 : Fin 1024).val = 128 * ((8 * ((y 1 : Fin 1024).val / 128) + (y 0 : Fin 2048).val / 256) / 8) + 1 * ((y 1 : Fin 1024).val % 128); omega⟩

end Cert.KernelIdeal.Hand

end
-- ==== Proof.Hand.Body.lean ====
module

public import proofs.«01_k».proof.Proof.Hand.Trip
public import proofs.«01_k».proof.Proof.Hand.Flush
public import Idealize.ShloMosaic.Lib.LoopRemainder
public import proofs.«01_k».proof.Proof.Hand.Tile
public import proofs.«01_k».proof.Proof.Hand.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-!
One grid point of the kernel, run exactly: its own tile masked, then the tiles after it.
-/

/-- The accumulated gradient of the queries after the block's own tile and `n` more. -/
def seqQ (T : Tile) (j : ℕ) (A : S8x8x128x256.Idx → EReal) : ℕ → S8x8x128x256.Idx → EReal
  | 0 => newQ T true j A
  | n + 1 => newQ T false (j + 1 + n) (seqQ T j A n)

/-- The gradient of the keys after the block's own tile and `n` more. -/
def seqK (T : Tile) (j : ℕ) (A : S256x1024.Idx → EReal) : ℕ → S256x1024.Idx → EReal
  | 0 => newK T true j A
  | n + 1 => newK T false (j + 1 + n) (seqK T j A n)

/-- The gradient of the values after the block's own tile and `n` more. -/
def seqV (T : Tile) (j : ℕ) (A : S256x1024.Idx → EReal) : ℕ → S256x1024.Idx → EReal
  | 0 => newV T true j A
  | n + 1 => newV T false (j + 1 + n) (seqV T j A n)

/-- The accumulator a grid point starts from: zero at the first block of keys. -/
def start (j : ℕ) (A : S8x8x128x256.Idx → EReal) : S8x8x128x256.Idx → EReal := if j = 0 then fun _ => 0 else A

/-- The first condition holds at the first block of keys only. -/
theorem cond1_iff : ∀ j : Fin 8, Scalar.cmpi .ne (Scalar.extui (Scalar.cmpi .eq (BitVec.ofNat 32 j.val) 0#32)) 0#32 = 1#1 ↔ j.val = 0 := by decide +kernel

/-- The second condition holds at the last block of keys only. -/
theorem cond2_iff : ∀ i : grid0.Coords, k0_cond2 i = 1#1 ↔ (i 2).val = 7 := by decide +kernel

/-- A store over a whole block leaves what it stored. -/
theorem read_whole {sig' : RefSig} {κ : Kind} {sp : Space} {s : Shape} {e : EltTy} (v : View sig' κ sp s e) (f : v.ty.Contents (Elt Ideal))
    {o : Fin s.rank → ℕ} (ho : ∀ d, o d = 0) (io : ∀ d, o d + s.size d ≤ s.size d) (w : s.Idx → Elt Ideal e) :
    v.read (Elt Ideal) (v.writes (Elt Ideal) f [⟨Rect.unit (s := s) o s.size io, w⟩]) = w := by
  have hid : ∀ y : s.Idx, (Rect.unit (s := s) o s.size io).emb y = y := fun y => funext fun d => Fin.ext (by
    show o d + 1 * (y d).val = (y d).val; rw [ho d]; omega)
  funext y
  refine View.read_writes_apply_of_pieces v f w _ ?_ y ?_
  · intro p hp
    obtain rfl := List.mem_singleton.mp hp
    intro x; exact congrArg w (hid x).symm
  · exact ⟨_, .head _, (LoadRect.mem_set _).mpr fun d => ⟨(y d).val, (y d).isLt, by show (y d).val = o d + 1 * (y d).val; rw [ho d]; omega⟩⟩

/-- A load over a whole block reads the block. -/
theorem load_whole {s : Shape} {α : Type} (A : s.Idx → α) {o : Fin s.rank → ℕ} (ho : ∀ d, o d = 0) (io : ∀ d, o d + s.size d ≤ s.size d) :
    (fun j => A ((Rect.unit (s := s) o s.size io).idx j)) = A := by
  funext y; refine congrArg A (funext fun d => Fin.ext ?_); show o d + 1 * (y d).val = (y d).val; rw [ho d]; omega

theorem zeros2 : ∀ d, (![0, 0] : Fin 2 → ℕ) d = 0 := by decide
theorem zeros4 : ∀ d, (![0, 0, 0, 0] : Fin 4 → ℕ) d = 0 := by decide

/-- The zeros stored at a grid point's start. -/
theorem pay193_eq : k0_pay193 (F := Ideal) = fun _ => 0 := funext fun j => by
  pointwise [k0_pay193]; try exact Ideal.ofBits_zero
theorem pay194_eq : k0_pay194 (F := Ideal) = fun _ => 0 := funext fun j => by
  pointwise [k0_pay194]; try exact Ideal.ofBits_zero
theorem pay195_eq : k0_pay195 (F := Ideal) = fun _ => 0 := funext fun j => by
  pointwise [k0_pay195]; try exact Ideal.ofBits_zero

/-- What holds before trip `k` of the loop over the tiles after the block's own. -/
abbrev runInv (c : Dev nD) (i : grid0.Coords)
    (arg3 : Memref sig .tc .vmem S2048x1024 .bf16) (arg4 arg5 : Memref sig .tc .vmem S256x1024 .bf16) (arg6 : Memref sig .tc .vmem S2048x1024 .bf16)
    (arg7 arg8 : Memref sig .tc .vmem S1x1x8x8x256 .f32) (arg12 : Memref sig .tc .vmem S8x8x128x256 .f32) (arg13 arg14 : Memref sig .tc .vmem S256x1024 .f32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty)
    (B12 : S8x8x128x256.Idx → EReal) (k : ℕ) : sProp 𝕄 :=
  iprop(pts c arg3 X3 ∗ pts c arg4 X4 ∗ pts c arg5 X5 ∗ pts c arg6 X6 ∗ pts c arg7 X7 ∗ pts c arg8 X8 ∗ (∃ g12, ∃ g13, ∃ g14, ⌜arg12.view.read (Elt Ideal) g12 = seqQ (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val B12 k
        ∧ arg13.view.read (Elt Ideal) g13 = seqK (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (fun _ => 0) k
        ∧ arg14.view.read (Elt Ideal) g14 = seqV (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (fun _ => 0) k⌝ ∗ pts c arg12 g12 ∗ pts c arg13 g13 ∗ pts c arg14 g14))

/-- A trip of the loop keeps the invariant. -/
theorem trip_inv (c : Dev nD) (E : Set ℕ) (i : grid0.Coords)
    (arg3 : Memref sig .tc .vmem S2048x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S2048x1024 .bf16) (harg6 : arg6.IsWhole)
    (arg7 : Memref sig .tc .vmem S1x1x8x8x256 .f32) (harg7 : arg7.IsWhole) (arg8 : Memref sig .tc .vmem S1x1x8x8x256 .f32) (harg8 : arg8.IsWhole)
    (arg9 : Memref sig .tc .vmem S2048x1024 .bf16) (harg9 : arg9.IsWhole) (arg10 : Memref sig .tc .vmem S256x1024 .bf16) (harg10 : arg10.IsWhole)
    (arg11 : Memref sig .tc .vmem S256x1024 .bf16) (harg11 : arg11.IsWhole) (arg12 : Memref sig .tc .vmem S8x8x128x256 .f32) (harg12 : arg12.IsWhole)
    (arg13 : Memref sig .tc .vmem S256x1024 .f32) (harg13 : arg13.IsWhole) (arg14 : Memref sig .tc .vmem S256x1024 .f32) (harg14 : arg14.IsWhole)
    (v13 v16 v19 v22 v25 v28 v31 v34 : FVec Ideal S128x256 .bf16) (v453 : BitVec 32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty)
    (B12 : S8x8x128x256.Idx → EReal) (k : Fin (k0_t1_loop i).trips)
    (hv13 : v13 = k0_pay203 (F := Ideal) (colsOf (arg4.view.read (Elt Ideal) X4) ![0, 0] inb_S256x1024_S256x128_0_0))
    (hv16 : v16 = k0_pay203 (F := Ideal) (colsOf (arg4.view.read (Elt Ideal) X4) ![0, 128] inb_S256x1024_S256x128_0_128))
    (hv19 : v19 = k0_pay203 (F := Ideal) (colsOf (arg4.view.read (Elt Ideal) X4) ![0, 256] inb_S256x1024_S256x128_0_256))
    (hv22 : v22 = k0_pay203 (F := Ideal) (colsOf (arg4.view.read (Elt Ideal) X4) ![0, 384] inb_S256x1024_S256x128_0_384))
    (hv25 : v25 = k0_pay203 (F := Ideal) (colsOf (arg4.view.read (Elt Ideal) X4) ![0, 512] inb_S256x1024_S256x128_0_512))
    (hv28 : v28 = k0_pay203 (F := Ideal) (colsOf (arg4.view.read (Elt Ideal) X4) ![0, 640] inb_S256x1024_S256x128_0_640))
    (hv31 : v31 = k0_pay203 (F := Ideal) (colsOf (arg4.view.read (Elt Ideal) X4) ![0, 768] inb_S256x1024_S256x128_0_768))
    (hv34 : v34 = k0_pay203 (F := Ideal) (colsOf (arg4.view.read (Elt Ideal) X4) ![0, 896] inb_S256x1024_S256x128_0_896)) :
    runInv c i arg3 arg4 arg5 arg6 arg7 arg8 arg12 arg13 arg14 X3 X4 X5 X6 X7 X8 B12 k.val
    ⊢ wp frame (wpE (defs₀ (F := Ideal)) Variants.none (c : Thread nD τ) none) E
        (k0_t1_body (F := Ideal) i arg3 harg3 arg4 harg4 arg5 harg5 arg6 harg6 arg7 harg7 arg8 harg8 arg9 harg9 arg10 harg10 arg11 harg11 arg12 harg12 arg13 harg13 arg14 harg14 v13 v16 v19 v22 v25 v28 v31 v34 v453 k PUnit.unit)
        (fun _ => runInv c i arg3 arg4 arg5 arg6 arg7 arg8 arg12 arg13 arg14 X3 X4 X5 X6 X7 X8 B12 (k.val + 1)) := by
  iintro ⟨H3, H4, H5, H6, H7, H8, ⟨%a12, %a13, %a14, %ha, H12, H13, H14⟩⟩
  iapply (wp_wand_r frame (wpE (defs₀ (F := Ideal)) Variants.none (c : Thread nD τ) none) E)
  isplitl [H3 H4 H5 H6 H7 H8 H12 H13 H14]
  · iapply (trip1 c E i arg3 harg3 arg4 harg4 arg5 harg5 arg6 harg6 arg7 harg7 arg8 harg8 arg9 harg9 arg10 harg10 arg11 harg11 arg12 harg12 arg13 harg13 arg14 harg14 v13 v16 v19 v22 v25 v28 v31 v34 v453 X3 X4 X5 X6 X7 X8 a12 a13 a14 k hv13 hv16 hv19 hv22 hv25 hv28 hv31 hv34)
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  · iintro %u ⟨H3, H4, H5, H6, H7, H8, ⟨%g12, %g13, %g14, %hg, H12, H13, H14⟩⟩
    isplitl [H3]; · iexact H3
    isplitl [H4]; · iexact H4
    isplitl [H5]; · iexact H5
    isplitl [H6]; · iexact H6
    isplitl [H7]; · iexact H7
    isplitl [H8]; · iexact H8
    iexists g12, g13, g14
    isplitr
    · ipureintro
      refine ⟨hg.1.trans ?_, hg.2.1.trans ?_, hg.2.2.trans ?_⟩
      · rw [ha.1]; rfl
      · rw [ha.2.1]; rfl
      · rw [ha.2.2]; rfl
    isplitl [H12]; · iexact H12
    isplitl [H13]; · iexact H13
    iexact H14

set_option maxHeartbeats 800000 in
/-- One grid point. -/
theorem body_at (c : Dev nD) (E : Set ℕ) (i : grid0.Coords)
    (arg3 : Memref sig .tc .vmem S2048x1024 .bf16) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S2048x1024 .bf16) (harg6 : arg6.IsWhole)
    (arg7 : Memref sig .tc .vmem S1x1x8x8x256 .f32) (harg7 : arg7.IsWhole) (arg8 : Memref sig .tc .vmem S1x1x8x8x256 .f32) (harg8 : arg8.IsWhole)
    (arg9 : Memref sig .tc .vmem S2048x1024 .bf16) (harg9 : arg9.IsWhole) (arg10 : Memref sig .tc .vmem S256x1024 .bf16) (harg10 : arg10.IsWhole)
    (arg11 : Memref sig .tc .vmem S256x1024 .bf16) (harg11 : arg11.IsWhole) (arg12 : Memref sig .tc .vmem S8x8x128x256 .f32) (harg12 : arg12.IsWhole)
    (arg13 : Memref sig .tc .vmem S256x1024 .f32) (harg13 : arg13.IsWhole) (arg14 : Memref sig .tc .vmem S256x1024 .f32) (harg14 : arg14.IsWhole)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty)
    (f12 : BufTy.Contents (Elt Ideal) arg12.view.ty) (f13 : BufTy.Contents (Elt Ideal) arg13.view.ty) (f14 : BufTy.Contents (Elt Ideal) arg14.view.ty)
    (f9 : BufTy.Contents (Elt Ideal) arg9.view.ty) (f10 : BufTy.Contents (Elt Ideal) arg10.view.ty) (f11 : BufTy.Contents (Elt Ideal) arg11.view.ty)
    :
    iprop(pts c arg3 X3 ∗ pts c arg4 X4 ∗ pts c arg5 X5 ∗ pts c arg6 X6 ∗ pts c arg7 X7 ∗ pts c arg8 X8
      ∗ pts c arg9 f9 ∗ pts c arg10 f10 ∗ pts c arg11 f11 ∗ pts c arg12 f12 ∗ pts c arg13 f13 ∗ pts c arg14 f14)
    ⊢ wp frame (wpE (defs₀ (F := Ideal)) Variants.none (c : Thread nD τ) none) E
        (cc0_mla_bwd (F := Ideal) i arg3 harg3 arg4 harg4 arg5 harg5 arg6 harg6 arg7 harg7 arg8 harg8 arg9 harg9 arg10 harg10 arg11 harg11
          arg12 harg12 arg13 harg13 arg14 harg14)
        (fun _ => iprop(pts c arg3 X3 ∗ pts c arg4 X4 ∗ pts c arg5 X5 ∗ pts c arg6 X6 ∗ pts c arg7 X7 ∗ pts c arg8 X8
      ∗ (∃ g9, ∃ g10, ∃ g11, ∃ g12, ∃ g13, ∃ g14, ⌜((i 2).val = 7 → arg9.view.read (Elt Ideal) g9 = outQ (seqQ (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (start (i 2).val (arg12.view.read (Elt Ideal) f12)) (7 - (i 2).val)))
        ∧ ((i 2).val ≠ 7 → g9 = f9)
        ∧ arg10.view.read (Elt Ideal) g10 = k0_pay3 (F := Ideal) (seqK (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (fun _ => 0) (7 - (i 2).val))
        ∧ arg11.view.read (Elt Ideal) g11 = seqV (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (fun _ => 0) (7 - (i 2).val)
        ∧ arg12.view.read (Elt Ideal) g12 = seqQ (tileOf (arg3.view.read (Elt Ideal) X3) (arg4.view.read (Elt Ideal) X4) (arg5.view.read (Elt Ideal) X5) (arg6.view.read (Elt Ideal) X6)
        (arg7.view.read (Elt Ideal) X7) (arg8.view.read (Elt Ideal) X8)) (i 2).val (start (i 2).val (arg12.view.read (Elt Ideal) f12)) (7 - (i 2).val)⌝
      ∗ pts c arg9 g9 ∗ pts c arg10 g10 ∗ pts c arg11 g11 ∗ pts c arg12 g12 ∗ pts c arg13 g13 ∗ pts c arg14 g14))) := by
  rw [cc0_mla_bwd_eq_skeleton]; unfold cc0_mla_bwd_skel
  iintro ⟨H3, H4, H5, H6, H7, H8, H9, H10, H11, H12, H13, H14⟩
  have c1 := cond1_iff (i 2)
  have c2 := cond2_iff i
  by_cases h1 : Scalar.cmpi .ne (Scalar.extui (Scalar.cmpi .eq (BitVec.ofNat 32 (i 2).val) 0#32)) 0#32 = 1#1 <;> by_cases h2 : k0_cond2 i = 1#1
  · (set_option sl_exec.maxSteps 8 in
      sl_exec (disch := first | sl_exact h1 | sl_exact h2))
    generalize e12 : View.writes arg12.view (Elt Ideal) f12 _ = F12
    generalize e13 : View.writes arg13.view (Elt Ideal) f13 _ = F13
    generalize e14 : View.writes arg14.view (Elt Ideal) f14 _ = F14
    have r12 : arg12.view.read (Elt Ideal) F12 = (start (i 2).val (arg12.view.read (Elt Ideal) f12)) := by
      rw [← e12, start, if_pos (c1.mp h1)]; exact (read_whole arg12.view f12 zeros4 _ _).trans pay193_eq
    have r13 : arg13.view.read (Elt Ideal) F13 = fun _ => 0 := by
      rw [← e13]; exact (read_whole arg13.view f13 zeros2 _ _).trans pay194_eq
    have r14 : arg14.view.read (Elt Ideal) F14 = fun _ => 0 := by
      rw [← e14]; exact (read_whole arg14.view f14 zeros2 _ _).trans pay195_eq
    sl_exec (disch := first | sl_exact h1 | sl_exact h2)
    sl_for (fun k _ => runInv c i arg3 arg4 arg5 arg6 arg7 arg8 arg12 arg13 arg14 X3 X4 X5 X6 X7 X8 (start (i 2).val (arg12.view.read (Elt Ideal) f12)) k) $$ [H3 H4 H5 H6 H7 H8 H12 H13 H14]
    case region =>
      intro k acc
      exact trip_inv c E i arg3 harg3 arg4 harg4 arg5 harg5 arg6 harg6 arg7 harg7 arg8 harg8 arg9 harg9 arg10 harg10 arg11 harg11 arg12 harg12 arg13 harg13 arg14 harg14 _ _ _ _ _ _ _ _ _ X3 X4 X5 X6 X7 X8 (start (i 2).val (arg12.view.read (Elt Ideal) f12)) k rfl rfl rfl rfl rfl rfl rfl rfl
    · isplitl [H3]; · iexact H3
      isplitl [H4]; · iexact H4
      isplitl [H5]; · iexact H5
      isplitl [H6]; · iexact H6
      isplitl [H7]; · iexact H7
      isplitl [H8]; · iexact H8
      iexists _, _, _
      isplitr
      rotate_left
      · isplitl [H12]; · iexact H12
        isplitl [H13]; · iexact H13
        iexact H14
      ipureintro
      rw [← r12, ← r13]
      refine ⟨?_, ?_, ?_⟩
      · exact read_heads8 arg12.view F12 _ (fun j hj => if_neg hj)
          (own_head_eq i 0) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (o12 := k0_off3 i) (own_row_eq i 0) rfl (own_stat_eq i 0) (own_head_eq i 0) (k0_off1_inb i) inb_S256x1024_S256x128_0_0 (k0_off2_inb i) (k0_off3_inb i) (arg12.view.read (Elt Ideal) F12))
          (own_head_eq i 1) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (o12 := k0_off6 i) (own_row_eq i 128) rfl (own_stat_eq i 1) (own_head_eq i 1) (k0_off4_inb i) inb_S256x1024_S256x128_0_128 (k0_off5_inb i) (k0_off6_inb i) (arg12.view.read (Elt Ideal) F12))
          (own_head_eq i 2) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (o12 := k0_off9 i) (own_row_eq i 256) rfl (own_stat_eq i 2) (own_head_eq i 2) (k0_off7_inb i) inb_S256x1024_S256x128_0_256 (k0_off8_inb i) (k0_off9_inb i) (arg12.view.read (Elt Ideal) F12))
          (own_head_eq i 3) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (o12 := k0_off12 i) (own_row_eq i 384) rfl (own_stat_eq i 3) (own_head_eq i 3) (k0_off10_inb i) inb_S256x1024_S256x128_0_384 (k0_off11_inb i) (k0_off12_inb i) (arg12.view.read (Elt Ideal) F12))
          (own_head_eq i 4) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (o12 := k0_off15 i) (own_row_eq i 512) rfl (own_stat_eq i 4) (own_head_eq i 4) (k0_off13_inb i) inb_S256x1024_S256x128_0_512 (k0_off14_inb i) (k0_off15_inb i) (arg12.view.read (Elt Ideal) F12))
          (own_head_eq i 5) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (o12 := k0_off18 i) (own_row_eq i 640) rfl (own_stat_eq i 5) (own_head_eq i 5) (k0_off16_inb i) inb_S256x1024_S256x128_0_640 (k0_off17_inb i) (k0_off18_inb i) (arg12.view.read (Elt Ideal) F12))
          (own_head_eq i 6) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (o12 := k0_off21 i) (own_row_eq i 768) rfl (own_stat_eq i 6) (own_head_eq i 6) (k0_off19_inb i) inb_S256x1024_S256x128_0_768 (k0_off20_inb i) (k0_off21_inb i) (arg12.view.read (Elt Ideal) F12))
          (own_head_eq i 7) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (o12 := k0_off24 i) (own_row_eq i 896) rfl (own_stat_eq i 7) (own_head_eq i 7) (k0_off22_inb i) inb_S256x1024_S256x128_0_896 (k0_off23_inb i) (k0_off24_inb i) (arg12.view.read (Elt Ideal) F12))
      · exact read_cols8 arg13.view _ _
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg13.view.read (Elt Ideal) F13))
      · rw [r13, ← r14]; exact read_cols8 arg14.view _ _
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg14.view.read (Elt Ideal) F14))
    iintro %acc ⟨H3, H4, H5, H6, H7, H8, ⟨%g12, %g13, %g14, %hg, H12, H13, H14⟩⟩
    have htr : Scf.trips (k0_t1_loop i).lb (k0_t1_loop i).ub (k0_t1_loop i).st = 7 - (i 2).val := trips1 i
    rw [htr] at hg
    obtain ⟨q12, q13, q14⟩ := hg
    sl_exec (disch := first | sl_exact h1 | sl_exact h2)
    sl_step
    isplitl [H3]; · iexact H3
    isplitl [H4]; · iexact H4
    isplitl [H5]; · iexact H5
    isplitl [H6]; · iexact H6
    isplitl [H7]; · iexact H7
    isplitl [H8]; · iexact H8
    iexists _, _, _, _, _, _
    isplitr
    rotate_left
    · isplitl [H9]; · iexact H9
      isplitl [H10]; · iexact H10
      isplitl [H11]; · iexact H11
      isplitl [H12]; · iexact H12
      isplitl [H13]; · iexact H13
      iexact H14
    ipureintro
    refine ⟨fun hj => ?_, fun hj => ?_, ?_, ?_, ?_⟩
    · rw [← q12]; exact read_tiles arg9.view _ (arg12.view.read (Elt Ideal) g12)
    · exact absurd (c2.mp h2) hj
    · refine (read_whole arg10.view _ zeros2 _ _).trans ?_
      exact congrArg (k0_pay3 (F := Ideal)) ((load_whole (arg13.view.read (Elt Ideal) g13) zeros2 _).trans q13)
    · refine (read_whole arg11.view _ zeros2 _ _).trans ?_
      exact (load_whole (arg14.view.read (Elt Ideal) g14) zeros2 _).trans q14
    · exact q12
  · (set_option sl_exec.maxSteps 8 in
      sl_exec (disch := first | sl_exact h1 | sl_exact h2))
    generalize e12 : View.writes arg12.view (Elt Ideal) f12 _ = F12
    generalize e13 : View.writes arg13.view (Elt Ideal) f13 _ = F13
    generalize e14 : View.writes arg14.view (Elt Ideal) f14 _ = F14
    have r12 : arg12.view.read (Elt Ideal) F12 = (start (i 2).val (arg12.view.read (Elt Ideal) f12)) := by
      rw [← e12, start, if_pos (c1.mp h1)]; exact (read_whole arg12.view f12 zeros4 _ _).trans pay193_eq
    have r13 : arg13.view.read (Elt Ideal) F13 = fun _ => 0 := by
      rw [← e13]; exact (read_whole arg13.view f13 zeros2 _ _).trans pay194_eq
    have r14 : arg14.view.read (Elt Ideal) F14 = fun _ => 0 := by
      rw [← e14]; exact (read_whole arg14.view f14 zeros2 _ _).trans pay195_eq
    sl_exec (disch := first | sl_exact h1 | sl_exact h2)
    sl_for (fun k _ => runInv c i arg3 arg4 arg5 arg6 arg7 arg8 arg12 arg13 arg14 X3 X4 X5 X6 X7 X8 (start (i 2).val (arg12.view.read (Elt Ideal) f12)) k) $$ [H3 H4 H5 H6 H7 H8 H12 H13 H14]
    case region =>
      intro k acc
      exact trip_inv c E i arg3 harg3 arg4 harg4 arg5 harg5 arg6 harg6 arg7 harg7 arg8 harg8 arg9 harg9 arg10 harg10 arg11 harg11 arg12 harg12 arg13 harg13 arg14 harg14 _ _ _ _ _ _ _ _ _ X3 X4 X5 X6 X7 X8 (start (i 2).val (arg12.view.read (Elt Ideal) f12)) k rfl rfl rfl rfl rfl rfl rfl rfl
    · isplitl [H3]; · iexact H3
      isplitl [H4]; · iexact H4
      isplitl [H5]; · iexact H5
      isplitl [H6]; · iexact H6
      isplitl [H7]; · iexact H7
      isplitl [H8]; · iexact H8
      iexists _, _, _
      isplitr
      rotate_left
      · isplitl [H12]; · iexact H12
        isplitl [H13]; · iexact H13
        iexact H14
      ipureintro
      rw [← r12, ← r13]
      refine ⟨?_, ?_, ?_⟩
      · exact read_heads8 arg12.view F12 _ (fun j hj => if_neg hj)
          (own_head_eq i 0) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (o12 := k0_off3 i) (own_row_eq i 0) rfl (own_stat_eq i 0) (own_head_eq i 0) (k0_off1_inb i) inb_S256x1024_S256x128_0_0 (k0_off2_inb i) (k0_off3_inb i) (arg12.view.read (Elt Ideal) F12))
          (own_head_eq i 1) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (o12 := k0_off6 i) (own_row_eq i 128) rfl (own_stat_eq i 1) (own_head_eq i 1) (k0_off4_inb i) inb_S256x1024_S256x128_0_128 (k0_off5_inb i) (k0_off6_inb i) (arg12.view.read (Elt Ideal) F12))
          (own_head_eq i 2) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (o12 := k0_off9 i) (own_row_eq i 256) rfl (own_stat_eq i 2) (own_head_eq i 2) (k0_off7_inb i) inb_S256x1024_S256x128_0_256 (k0_off8_inb i) (k0_off9_inb i) (arg12.view.read (Elt Ideal) F12))
          (own_head_eq i 3) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (o12 := k0_off12 i) (own_row_eq i 384) rfl (own_stat_eq i 3) (own_head_eq i 3) (k0_off10_inb i) inb_S256x1024_S256x128_0_384 (k0_off11_inb i) (k0_off12_inb i) (arg12.view.read (Elt Ideal) F12))
          (own_head_eq i 4) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (o12 := k0_off15 i) (own_row_eq i 512) rfl (own_stat_eq i 4) (own_head_eq i 4) (k0_off13_inb i) inb_S256x1024_S256x128_0_512 (k0_off14_inb i) (k0_off15_inb i) (arg12.view.read (Elt Ideal) F12))
          (own_head_eq i 5) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (o12 := k0_off18 i) (own_row_eq i 640) rfl (own_stat_eq i 5) (own_head_eq i 5) (k0_off16_inb i) inb_S256x1024_S256x128_0_640 (k0_off17_inb i) (k0_off18_inb i) (arg12.view.read (Elt Ideal) F12))
          (own_head_eq i 6) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (o12 := k0_off21 i) (own_row_eq i 768) rfl (own_stat_eq i 6) (own_head_eq i 6) (k0_off19_inb i) inb_S256x1024_S256x128_0_768 (k0_off20_inb i) (k0_off21_inb i) (arg12.view.read (Elt Ideal) F12))
          (own_head_eq i 7) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (o12 := k0_off24 i) (own_row_eq i 896) rfl (own_stat_eq i 7) (own_head_eq i 7) (k0_off22_inb i) inb_S256x1024_S256x128_0_896 (k0_off23_inb i) (k0_off24_inb i) (arg12.view.read (Elt Ideal) F12))
      · exact read_cols8 arg13.view _ _
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg13.view.read (Elt Ideal) F13))
      · rw [r13, ← r14]; exact read_cols8 arg14.view _ _
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg14.view.read (Elt Ideal) F14))
    iintro %acc ⟨H3, H4, H5, H6, H7, H8, ⟨%g12, %g13, %g14, %hg, H12, H13, H14⟩⟩
    have htr : Scf.trips (k0_t1_loop i).lb (k0_t1_loop i).ub (k0_t1_loop i).st = 7 - (i 2).val := trips1 i
    rw [htr] at hg
    obtain ⟨q12, q13, q14⟩ := hg
    sl_exec (disch := first | sl_exact h1 | sl_exact h2)
    sl_step
    isplitl [H3]; · iexact H3
    isplitl [H4]; · iexact H4
    isplitl [H5]; · iexact H5
    isplitl [H6]; · iexact H6
    isplitl [H7]; · iexact H7
    isplitl [H8]; · iexact H8
    iexists _, _, _, _, _, _
    isplitr
    rotate_left
    · isplitl [H9]; · iexact H9
      isplitl [H10]; · iexact H10
      isplitl [H11]; · iexact H11
      isplitl [H12]; · iexact H12
      isplitl [H13]; · iexact H13
      iexact H14
    ipureintro
    refine ⟨fun hj => ?_, fun hj => ?_, ?_, ?_, ?_⟩
    · exact absurd (c2.mpr hj) h2
    · rfl
    · refine (read_whole arg10.view _ zeros2 _ _).trans ?_
      exact congrArg (k0_pay3 (F := Ideal)) ((load_whole (arg13.view.read (Elt Ideal) g13) zeros2 _).trans q13)
    · refine (read_whole arg11.view _ zeros2 _ _).trans ?_
      exact (load_whole (arg14.view.read (Elt Ideal) g14) zeros2 _).trans q14
    · exact q12
  · (set_option sl_exec.maxSteps 7 in
      sl_exec (disch := first | sl_exact h1 | sl_exact h2))
    generalize e12 : f12 = F12
    generalize e13 : View.writes arg13.view (Elt Ideal) f13 _ = F13
    generalize e14 : View.writes arg14.view (Elt Ideal) f14 _ = F14
    have r12 : arg12.view.read (Elt Ideal) F12 = (start (i 2).val (arg12.view.read (Elt Ideal) F12)) := by
      rw [start, if_neg fun h => h1 (c1.mpr h)]
    have r13 : arg13.view.read (Elt Ideal) F13 = fun _ => 0 := by
      rw [← e13]; exact (read_whole arg13.view f13 zeros2 _ _).trans pay194_eq
    have r14 : arg14.view.read (Elt Ideal) F14 = fun _ => 0 := by
      rw [← e14]; exact (read_whole arg14.view f14 zeros2 _ _).trans pay195_eq
    sl_exec (disch := first | sl_exact h1 | sl_exact h2)
    sl_for (fun k _ => runInv c i arg3 arg4 arg5 arg6 arg7 arg8 arg12 arg13 arg14 X3 X4 X5 X6 X7 X8 (start (i 2).val (arg12.view.read (Elt Ideal) F12)) k) $$ [H3 H4 H5 H6 H7 H8 H12 H13 H14]
    case region =>
      intro k acc
      exact trip_inv c E i arg3 harg3 arg4 harg4 arg5 harg5 arg6 harg6 arg7 harg7 arg8 harg8 arg9 harg9 arg10 harg10 arg11 harg11 arg12 harg12 arg13 harg13 arg14 harg14 _ _ _ _ _ _ _ _ _ X3 X4 X5 X6 X7 X8 (start (i 2).val (arg12.view.read (Elt Ideal) F12)) k rfl rfl rfl rfl rfl rfl rfl rfl
    · isplitl [H3]; · iexact H3
      isplitl [H4]; · iexact H4
      isplitl [H5]; · iexact H5
      isplitl [H6]; · iexact H6
      isplitl [H7]; · iexact H7
      isplitl [H8]; · iexact H8
      iexists _, _, _
      isplitr
      rotate_left
      · isplitl [H12]; · iexact H12
        isplitl [H13]; · iexact H13
        iexact H14
      ipureintro
      rw [← r12, ← r13]
      refine ⟨?_, ?_, ?_⟩
      · exact read_heads8 arg12.view F12 _ (fun j hj => if_neg hj)
          (own_head_eq i 0) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (o12 := k0_off3 i) (own_row_eq i 0) rfl (own_stat_eq i 0) (own_head_eq i 0) (k0_off1_inb i) inb_S256x1024_S256x128_0_0 (k0_off2_inb i) (k0_off3_inb i) (arg12.view.read (Elt Ideal) F12))
          (own_head_eq i 1) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (o12 := k0_off6 i) (own_row_eq i 128) rfl (own_stat_eq i 1) (own_head_eq i 1) (k0_off4_inb i) inb_S256x1024_S256x128_0_128 (k0_off5_inb i) (k0_off6_inb i) (arg12.view.read (Elt Ideal) F12))
          (own_head_eq i 2) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (o12 := k0_off9 i) (own_row_eq i 256) rfl (own_stat_eq i 2) (own_head_eq i 2) (k0_off7_inb i) inb_S256x1024_S256x128_0_256 (k0_off8_inb i) (k0_off9_inb i) (arg12.view.read (Elt Ideal) F12))
          (own_head_eq i 3) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (o12 := k0_off12 i) (own_row_eq i 384) rfl (own_stat_eq i 3) (own_head_eq i 3) (k0_off10_inb i) inb_S256x1024_S256x128_0_384 (k0_off11_inb i) (k0_off12_inb i) (arg12.view.read (Elt Ideal) F12))
          (own_head_eq i 4) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (o12 := k0_off15 i) (own_row_eq i 512) rfl (own_stat_eq i 4) (own_head_eq i 4) (k0_off13_inb i) inb_S256x1024_S256x128_0_512 (k0_off14_inb i) (k0_off15_inb i) (arg12.view.read (Elt Ideal) F12))
          (own_head_eq i 5) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (o12 := k0_off18 i) (own_row_eq i 640) rfl (own_stat_eq i 5) (own_head_eq i 5) (k0_off16_inb i) inb_S256x1024_S256x128_0_640 (k0_off17_inb i) (k0_off18_inb i) (arg12.view.read (Elt Ideal) F12))
          (own_head_eq i 6) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (o12 := k0_off21 i) (own_row_eq i 768) rfl (own_stat_eq i 6) (own_head_eq i 6) (k0_off19_inb i) inb_S256x1024_S256x128_0_768 (k0_off20_inb i) (k0_off21_inb i) (arg12.view.read (Elt Ideal) F12))
          (own_head_eq i 7) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (o12 := k0_off24 i) (own_row_eq i 896) rfl (own_stat_eq i 7) (own_head_eq i 7) (k0_off22_inb i) inb_S256x1024_S256x128_0_896 (k0_off23_inb i) (k0_off24_inb i) (arg12.view.read (Elt Ideal) F12))
      · exact read_cols8 arg13.view _ _
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg13.view.read (Elt Ideal) F13))
      · rw [r13, ← r14]; exact read_cols8 arg14.view _ _
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg14.view.read (Elt Ideal) F14))
    iintro %acc ⟨H3, H4, H5, H6, H7, H8, ⟨%g12, %g13, %g14, %hg, H12, H13, H14⟩⟩
    have htr : Scf.trips (k0_t1_loop i).lb (k0_t1_loop i).ub (k0_t1_loop i).st = 7 - (i 2).val := trips1 i
    rw [htr] at hg
    obtain ⟨q12, q13, q14⟩ := hg
    sl_exec (disch := first | sl_exact h1 | sl_exact h2)
    sl_step
    isplitl [H3]; · iexact H3
    isplitl [H4]; · iexact H4
    isplitl [H5]; · iexact H5
    isplitl [H6]; · iexact H6
    isplitl [H7]; · iexact H7
    isplitl [H8]; · iexact H8
    iexists _, _, _, _, _, _
    isplitr
    rotate_left
    · isplitl [H9]; · iexact H9
      isplitl [H10]; · iexact H10
      isplitl [H11]; · iexact H11
      isplitl [H12]; · iexact H12
      isplitl [H13]; · iexact H13
      iexact H14
    ipureintro
    refine ⟨fun hj => ?_, fun hj => ?_, ?_, ?_, ?_⟩
    · rw [← q12]; exact read_tiles arg9.view _ (arg12.view.read (Elt Ideal) g12)
    · exact absurd (c2.mp h2) hj
    · refine (read_whole arg10.view _ zeros2 _ _).trans ?_
      exact congrArg (k0_pay3 (F := Ideal)) ((load_whole (arg13.view.read (Elt Ideal) g13) zeros2 _).trans q13)
    · refine (read_whole arg11.view _ zeros2 _ _).trans ?_
      exact (load_whole (arg14.view.read (Elt Ideal) g14) zeros2 _).trans q14
    · exact q12
  · (set_option sl_exec.maxSteps 7 in
      sl_exec (disch := first | sl_exact h1 | sl_exact h2))
    generalize e12 : f12 = F12
    generalize e13 : View.writes arg13.view (Elt Ideal) f13 _ = F13
    generalize e14 : View.writes arg14.view (Elt Ideal) f14 _ = F14
    have r12 : arg12.view.read (Elt Ideal) F12 = (start (i 2).val (arg12.view.read (Elt Ideal) F12)) := by
      rw [start, if_neg fun h => h1 (c1.mpr h)]
    have r13 : arg13.view.read (Elt Ideal) F13 = fun _ => 0 := by
      rw [← e13]; exact (read_whole arg13.view f13 zeros2 _ _).trans pay194_eq
    have r14 : arg14.view.read (Elt Ideal) F14 = fun _ => 0 := by
      rw [← e14]; exact (read_whole arg14.view f14 zeros2 _ _).trans pay195_eq
    sl_exec (disch := first | sl_exact h1 | sl_exact h2)
    sl_for (fun k _ => runInv c i arg3 arg4 arg5 arg6 arg7 arg8 arg12 arg13 arg14 X3 X4 X5 X6 X7 X8 (start (i 2).val (arg12.view.read (Elt Ideal) F12)) k) $$ [H3 H4 H5 H6 H7 H8 H12 H13 H14]
    case region =>
      intro k acc
      exact trip_inv c E i arg3 harg3 arg4 harg4 arg5 harg5 arg6 harg6 arg7 harg7 arg8 harg8 arg9 harg9 arg10 harg10 arg11 harg11 arg12 harg12 arg13 harg13 arg14 harg14 _ _ _ _ _ _ _ _ _ X3 X4 X5 X6 X7 X8 (start (i 2).val (arg12.view.read (Elt Ideal) F12)) k rfl rfl rfl rfl rfl rfl rfl rfl
    · isplitl [H3]; · iexact H3
      isplitl [H4]; · iexact H4
      isplitl [H5]; · iexact H5
      isplitl [H6]; · iexact H6
      isplitl [H7]; · iexact H7
      isplitl [H8]; · iexact H8
      iexists _, _, _
      isplitr
      rotate_left
      · isplitl [H12]; · iexact H12
        isplitl [H13]; · iexact H13
        iexact H14
      ipureintro
      rw [← r12, ← r13]
      refine ⟨?_, ?_, ?_⟩
      · exact read_heads8 arg12.view F12 _ (fun j hj => if_neg hj)
          (own_head_eq i 0) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (o12 := k0_off3 i) (own_row_eq i 0) rfl (own_stat_eq i 0) (own_head_eq i 0) (k0_off1_inb i) inb_S256x1024_S256x128_0_0 (k0_off2_inb i) (k0_off3_inb i) (arg12.view.read (Elt Ideal) F12))
          (own_head_eq i 1) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (o12 := k0_off6 i) (own_row_eq i 128) rfl (own_stat_eq i 1) (own_head_eq i 1) (k0_off4_inb i) inb_S256x1024_S256x128_0_128 (k0_off5_inb i) (k0_off6_inb i) (arg12.view.read (Elt Ideal) F12))
          (own_head_eq i 2) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (o12 := k0_off9 i) (own_row_eq i 256) rfl (own_stat_eq i 2) (own_head_eq i 2) (k0_off7_inb i) inb_S256x1024_S256x128_0_256 (k0_off8_inb i) (k0_off9_inb i) (arg12.view.read (Elt Ideal) F12))
          (own_head_eq i 3) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (o12 := k0_off12 i) (own_row_eq i 384) rfl (own_stat_eq i 3) (own_head_eq i 3) (k0_off10_inb i) inb_S256x1024_S256x128_0_384 (k0_off11_inb i) (k0_off12_inb i) (arg12.view.read (Elt Ideal) F12))
          (own_head_eq i 4) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (o12 := k0_off15 i) (own_row_eq i 512) rfl (own_stat_eq i 4) (own_head_eq i 4) (k0_off13_inb i) inb_S256x1024_S256x128_0_512 (k0_off14_inb i) (k0_off15_inb i) (arg12.view.read (Elt Ideal) F12))
          (own_head_eq i 5) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (o12 := k0_off18 i) (own_row_eq i 640) rfl (own_stat_eq i 5) (own_head_eq i 5) (k0_off16_inb i) inb_S256x1024_S256x128_0_640 (k0_off17_inb i) (k0_off18_inb i) (arg12.view.read (Elt Ideal) F12))
          (own_head_eq i 6) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (o12 := k0_off21 i) (own_row_eq i 768) rfl (own_stat_eq i 6) (own_head_eq i 6) (k0_off19_inb i) inb_S256x1024_S256x128_0_768 (k0_off20_inb i) (k0_off21_inb i) (arg12.view.read (Elt Ideal) F12))
          (own_head_eq i 7) (pieceQM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (o12 := k0_off24 i) (own_row_eq i 896) rfl (own_stat_eq i 7) (own_head_eq i 7) (k0_off22_inb i) inb_S256x1024_S256x128_0_896 (k0_off23_inb i) (k0_off24_inb i) (arg12.view.read (Elt Ideal) F12))
      · exact read_cols8 arg13.view _ _
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg13.view.read (Elt Ideal) F13))
          rfl (pieceKM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg13.view.read (Elt Ideal) F13))
      · rw [r13, ← r14]; exact read_cols8 arg14.view _ _
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 0) (o3 := k0_off1 i) (ok := ![0, 0]) (ol := k0_off2 i) (own_row_eq i 0) rfl (own_stat_eq i 0) (k0_off1_inb i) inb_S256x1024_S256x128_0_0 (k0_off2_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 1) (o3 := k0_off4 i) (ok := ![0, 128]) (ol := k0_off5 i) (own_row_eq i 128) rfl (own_stat_eq i 1) (k0_off4_inb i) inb_S256x1024_S256x128_0_128 (k0_off5_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 2) (o3 := k0_off7 i) (ok := ![0, 256]) (ol := k0_off8 i) (own_row_eq i 256) rfl (own_stat_eq i 2) (k0_off7_inb i) inb_S256x1024_S256x128_0_256 (k0_off8_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 3) (o3 := k0_off10 i) (ok := ![0, 384]) (ol := k0_off11 i) (own_row_eq i 384) rfl (own_stat_eq i 3) (k0_off10_inb i) inb_S256x1024_S256x128_0_384 (k0_off11_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 4) (o3 := k0_off13 i) (ok := ![0, 512]) (ol := k0_off14 i) (own_row_eq i 512) rfl (own_stat_eq i 4) (k0_off13_inb i) inb_S256x1024_S256x128_0_512 (k0_off14_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 5) (o3 := k0_off16 i) (ok := ![0, 640]) (ol := k0_off17 i) (own_row_eq i 640) rfl (own_stat_eq i 5) (k0_off16_inb i) inb_S256x1024_S256x128_0_640 (k0_off17_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 6) (o3 := k0_off19 i) (ok := ![0, 768]) (ol := k0_off20 i) (own_row_eq i 768) rfl (own_stat_eq i 6) (k0_off19_inb i) inb_S256x1024_S256x128_0_768 (k0_off20_inb i) (arg14.view.read (Elt Ideal) F14))
          rfl (pieceVM (arg3.view.read (Elt Ideal) X3) (arg4.view.read (Elt Ideal) X4) (arg5.view.read (Elt Ideal) X5) (arg6.view.read (Elt Ideal) X6) (arg7.view.read (Elt Ideal) X7) (arg8.view.read (Elt Ideal) X8) (i := (i 2).val) (h := 7) (o3 := k0_off22 i) (ok := ![0, 896]) (ol := k0_off23 i) (own_row_eq i 896) rfl (own_stat_eq i 7) (k0_off22_inb i) inb_S256x1024_S256x128_0_896 (k0_off23_inb i) (arg14.view.read (Elt Ideal) F14))
    iintro %acc ⟨H3, H4, H5, H6, H7, H8, ⟨%g12, %g13, %g14, %hg, H12, H13, H14⟩⟩
    have htr : Scf.trips (k0_t1_loop i).lb (k0_t1_loop i).ub (k0_t1_loop i).st = 7 - (i 2).val := trips1 i
    rw [htr] at hg
    obtain ⟨q12, q13, q14⟩ := hg
    sl_exec (disch := first | sl_exact h1 | sl_exact h2)
    sl_step
    isplitl [H3]; · iexact H3
    isplitl [H4]; · iexact H4
    isplitl [H5]; · iexact H5
    isplitl [H6]; · iexact H6
    isplitl [H7]; · iexact H7
    isplitl [H8]; · iexact H8
    iexists _, _, _, _, _, _
    isplitr
    rotate_left
    · isplitl [H9]; · iexact H9
      isplitl [H10]; · iexact H10
      isplitl [H11]; · iexact H11
      isplitl [H12]; · iexact H12
      isplitl [H13]; · iexact H13
      iexact H14
    ipureintro
    refine ⟨fun hj => ?_, fun hj => ?_, ?_, ?_, ?_⟩
    · exact absurd (c2.mpr hj) h2
    · rfl
    · refine (read_whole arg10.view _ zeros2 _ _).trans ?_
      exact congrArg (k0_pay3 (F := Ideal)) ((load_whole (arg13.view.read (Elt Ideal) g13) zeros2 _).trans q13)
    · refine (read_whole arg11.view _ zeros2 _ _).trans ?_
      exact (load_whole (arg14.view.read (Elt Ideal) g14) zeros2 _).trans q14
    · exact q12

end Cert.KernelIdeal.Hand

end
-- ==== Proof.Hand.IdealRun.lean ====
module

public import proofs.«01_k».proof.Proof.Hand.Body
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-!
The idealized kernel launched over its 32 grid points: point `8 b + j` works on batch `b` and key tile `j`. The key and value
gradients are written back at every point, the query gradient, added up in scratch over the eight points of a batch, at the last.
-/

/-- The third coordinate of grid point `t` is `t` modulo 8. -/
theorem coord2 : ∀ t : Fin cfg0.N, ((grid0.coords t) 2).val = t.val % 8 := by decide +kernel

/-- The six operand blocks of grid point `t`, as one tile. -/
def tile (c : Dev nD) (t : Fin cfg0.N) : Tile :=
  tileOf (iblk m c 0 t) (iblk m c 1 t) (iblk m c 2 t) (iblk m c 3 t) (iblk m c 4 t) (iblk m c 5 t)

/-- What the scratch holding the query gradient holds before grid point `n` (unread at the first point of a batch). -/
def accQ (c : Dev nD) : ℕ → S8x8x128x256.Idx → EReal
  | 0 => fun _ => 0
  | n + 1 => if h : n < cfg0.N then seqQ (tile m c ⟨n, h⟩) (n % 8) (start (n % 8) (accQ c n)) (7 - n % 8) else accQ c n

/-- One step of `accQ`, at a grid point. -/
theorem accQ_succ (c : Dev nD) (t : Fin cfg0.N) :
    accQ m c (t.val + 1) = seqQ (tile m c t) (t.val % 8) (start (t.val % 8) (accQ m c t.val)) (7 - t.val % 8) := by
  rw [accQ, dif_pos t.isLt]

/-- Before a point that is not the first of its batch, scratch 0 holds `accQ`; the rest is anything. -/
def inv (c : Dev nD) (n : ℕ) : sProp 𝕄 :=
  iprop(((∃ f : Buf (Elt Ideal) ((c : Thread nD τ).loc cc0_scratch0), ⌜n % 8 ≠ 0 → (Memref.whole cc0_scratch0).view.read (Elt Ideal) f = accQ m c n⌝ ∗ ((c : Thread nD τ).loc cc0_scratch0) ↦{fullShare} f)
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f))
    ∗ ∃ r : PrngReg, prngReg c r)

/-- The block of key gradients grid point `t` writes. -/
def dkBlk (c : Dev nD) (t : Fin cfg0.N) : S256x1024.Idx → EReal :=
  k0_pay3 (F := Ideal) (seqK (tile m c t) (t.val % 8) (fun _ => 0) (7 - t.val % 8))

/-- The block of value gradients grid point `t` writes. -/
def dvBlk (c : Dev nD) (t : Fin cfg0.N) : S256x1024.Idx → EReal :=
  seqV (tile m c t) (t.val % 8) (fun _ => 0) (7 - t.val % 8)

/-- The proof data: the operands' blocks left in place, the results' as computed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (accQ m c (t.val + 1))
    | ⟨7, _⟩ => dkBlk m c t
    | ⟨8, _⟩ => dvBlk m c t
  Φ t := inv m c t.val
  q _ := fullShare
  owed _ := 0

theorem defs₀_row (t : Fin cfg0.N) : defs₀ (F := Ideal) .tc cfg0.body (cfg0.bodyArgs t (cfg0.slots t)) = bodyAt0 t := by
  unfold defs₀; rw [Defs.onTc_tc]

/-- The arrays are the region's entry contents. -/
theorem dats_A (c : Dev nD) (w : Fin cfg0.W) : (dats m 0 c).A w = V m c (Pipeline.arrRef spec0 w) := by dsimp only [dats]

/-- Operand 0's block is left in place. -/
theorem after_0 (c : Dev nD) (t : Fin cfg0.N) : (dats m 0 c).after 0 t = iblk m c 0 t := by dsimp only [dats]
/-- Operand 1's block is left in place. -/
theorem after_1 (c : Dev nD) (t : Fin cfg0.N) : (dats m 0 c).after 1 t = iblk m c 1 t := by dsimp only [dats]
/-- Operand 2's block is left in place. -/
theorem after_2 (c : Dev nD) (t : Fin cfg0.N) : (dats m 0 c).after 2 t = iblk m c 2 t := by dsimp only [dats]
/-- Operand 3's block is left in place. -/
theorem after_3 (c : Dev nD) (t : Fin cfg0.N) : (dats m 0 c).after 3 t = iblk m c 3 t := by dsimp only [dats]
/-- Operand 4's block is left in place. -/
theorem after_4 (c : Dev nD) (t : Fin cfg0.N) : (dats m 0 c).after 4 t = iblk m c 4 t := by dsimp only [dats]
/-- Operand 5's block is left in place. -/
theorem after_5 (c : Dev nD) (t : Fin cfg0.N) : (dats m 0 c).after 5 t = iblk m c 5 t := by dsimp only [dats]
/-- The query gradient's block after point `t`. -/
theorem after_6 (c : Dev nD) (t : Fin cfg0.N) : (dats m 0 c).after 6 t = outQ (accQ m c (t.val + 1)) := by dsimp only [dats]
/-- The key gradient's block after point `t`. -/
theorem after_7 (c : Dev nD) (t : Fin cfg0.N) : (dats m 0 c).after 7 t = dkBlk m c t := by dsimp only [dats]
/-- The value gradient's block after point `t`. -/
theorem after_8 (c : Dev nD) (t : Fin cfg0.N) : (dats m 0 c).after 8 t = dvBlk m c t := by dsimp only [dats]
/-- The invariant before point `t`. -/
theorem Φ_cast (c : Dev nD) (t : Fin cfg0.N) : (dats m 0 c).Φ t.castSucc = inv m c t.val := by dsimp only [dats, Fin.val_castSucc]
/-- The invariant after point `t`. -/
theorem Φ_succ (c : Dev nD) (t : Fin cfg0.N) : (dats m 0 c).Φ t.succ = inv m c (t.val + 1) := by dsimp only [dats, Fin.val_succ]

set_option maxHeartbeats 2000000

/-- Operand 0's block is in its buffer at every point. -/
theorem before_0 (c : Dev nD) (t : Fin cfg0.N) (d) : (dats m 0 c).before 0 t d = iblk m c 0 t :=
  before0_0_of m (dats m 0 c) (dats_A m c 0) (after_0 m c) t d
/-- Operand 1's block is in its buffer at every point. -/
theorem before_1 (c : Dev nD) (t : Fin cfg0.N) (d) : (dats m 0 c).before 1 t d = iblk m c 1 t :=
  before0_1_of m (dats m 0 c) (dats_A m c 1) (after_1 m c) t d
/-- Operand 2's block is in its buffer at every point. -/
theorem before_2 (c : Dev nD) (t : Fin cfg0.N) (d) : (dats m 0 c).before 2 t d = iblk m c 2 t :=
  before0_2_of m (dats m 0 c) (dats_A m c 2) (after_2 m c) t d
/-- Operand 3's block is in its buffer at every point. -/
theorem before_3 (c : Dev nD) (t : Fin cfg0.N) (d) : (dats m 0 c).before 3 t d = iblk m c 3 t :=
  before0_3_of m (dats m 0 c) (dats_A m c 3) (after_3 m c) t d
/-- Operand 4's block is in its buffer at every point. -/
theorem before_4 (c : Dev nD) (t : Fin cfg0.N) (d) : (dats m 0 c).before 4 t d = iblk m c 4 t :=
  before0_4_of m (dats m 0 c) (dats_A m c 4) (after_4 m c) t d
/-- Operand 5's block is in its buffer at every point. -/
theorem before_5 (c : Dev nD) (t : Fin cfg0.N) (d) : (dats m 0 c).before 5 t d = iblk m c 5 t :=
  before0_5_of m (dats m 0 c) (dats_A m c 5) (after_5 m c) t d

/-- The query gradient's buffer is idle except at a batch's last point. -/
theorem idle_6 (t : Fin cfg0.N) : cfg0.idle 6 (cfg0.grid.coords t) = !decide (t.val % 8 = 7) := by
  have h := cond2_iff (grid0.coords t)
  rw [coord2 t] at h
  show (!(k0_cond2 (grid0.coords t) == 1#1)) = _
  by_cases h7 : t.val % 8 = 7
  · rw [h.mpr h7]; simp [h7]
  · have : ¬ k0_cond2 (grid0.coords t) = 1#1 := fun e => h7 (h.mp e)
    simp [h7, this]

/-- How grid point `t` leaves the query gradient's buffer: written at a batch's last point, untouched otherwise. -/
def left6 (c : Dev nD) (t : Fin cfg0.N) : sProp 𝕄 :=
  if t.val % 8 = 7 then owns (c : Thread nD τ) (st0_6 t) fullShare ((dats m 0 c).after 6 t)
  else iprop(∃ d, owns (c : Thread nD τ) (st0_6 t) fullShare ((dats m 0 c).before 6 t d))

/-- One grid point, on the buffers as the launch hands them over. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := Ideal)) Variants.none (c : Thread nD τ) none) Set.univ (bodyAt0 t) fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ left6 m c t
      ∗ owns (c : Thread nD τ) (st0_7 t) fullShare ((dats m 0 c).after 7 t)
      ∗ owns (c : Thread nD τ) (st0_8 t) fullShare ((dats m 0 c).after 8 t)) := by
  rw [Φ_cast, Φ_succ, show (dats m 0 c).owesAt () t.succ = (dats m 0 c).owesAt () t.castSucc from rfl]
  unfold left6
  simp only [after_0, after_1, after_2, after_3, after_4, after_5, after_6, after_7, after_8, before_0, before_1, before_2, before_3, before_4, before_5]
  unfold inv owns
  iintro ⟨⟨⟨⟨%g0, %a0, S0⟩, ⟨%g1, S1⟩, ⟨%g2, S2⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  have hb := body_at c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) f0 f1 f2 f3 f4 f5 g0 g1 g2 f6 f7 f8
  rw [coord2 t] at hb
  simp only [pts] at hb
  iapply (wp_wand_r frame (wpE (defs₀ (F := Ideal)) Variants.none (c : Thread nD τ) none) Set.univ)
  isplitl [H0 H1 H2 H3 H4 H5 H6 H7 H8 S0 S1 S2]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · simp only [pts, Memref.view_whole, View.set_whole]; iexact S0
    isplitl [S1]; · simp only [pts, Memref.view_whole, View.set_whole]; iexact S1
    simp only [pts, Memref.view_whole, View.set_whole]; iexact S2
  · iintro %u ⟨H0, H1, H2, H3, H4, H5, ⟨%f6', %f7', %f8', %g0', %g1', %g2', %hp, H6, H7, H8, S0, S1, S2⟩⟩
    obtain ⟨p6, p6', p7, p8, pS⟩ := hp
    have hstart : start (t.val % 8) ((Memref.whole cc0_scratch0).view.read (Elt Ideal) g0) = start (t.val % 8) (accQ m c t.val) := by
      unfold start; split
      · rfl
      · next hne => exact a0 hne
    rw [hstart] at p6 pS
    have hT : tileOf ((st0_0 t).view.read (Elt Ideal) f0) ((st0_1 t).view.read (Elt Ideal) f1) ((st0_2 t).view.read (Elt Ideal) f2)
        ((st0_3 t).view.read (Elt Ideal) f3) ((st0_4 t).view.read (Elt Ideal) f4) ((st0_5 t).view.read (Elt Ideal) f5) = tile m c t := by
      unfold tile; rw [← e0, ← e1, ← e2, ← e3, ← e4, ← e5]
    rw [hT] at p6 p7 p8 pS
    rw [← accQ_succ] at p6 pS
    isplitl [S0 S1 S2 Hr]
    · isplitl [S0 S1 S2]
      · simp only [pts, Memref.view_whole, View.set_whole]
        isplitl [S0]
        · iexists g0'; isplitr
          · ipureintro; exact fun _ => pS
          · iexact S0
        isplitl [S1]; · iexists g1'; iexact S1
        iexists g2'; iexact S2
      · iexact Hr
    isplitl [Ho]; · iexact Ho
    isplitl [H0]
    · iexists f0; isplitr
      · ipureintro; exact e0
      · iexact H0
    isplitl [H1]
    · iexists f1; isplitr
      · ipureintro; exact e1
      · iexact H1
    isplitl [H2]
    · iexists f2; isplitr
      · ipureintro; exact e2
      · iexact H2
    isplitl [H3]
    · iexists f3; isplitr
      · ipureintro; exact e3
      · iexact H3
    isplitl [H4]
    · iexists f4; isplitr
      · ipureintro; exact e4
      · iexact H4
    isplitl [H5]
    · iexists f5; isplitr
      · ipureintro; exact e5
      · iexact H5
    isplitl [H6]
    · by_cases h7 : t.val % 8 = 7
      · rw [if_pos h7]
        iexists f6'; isplitr
        · ipureintro; exact p6 h7
        · iexact H6
      · rw [if_neg h7]
        have e := p6' h7
        subst e
        iexists d6; iexists f6'; isplitr
        · ipureintro; exact e6
        · iexact H6
    isplitl [H7]
    · iexists f7'; isplitr
      · ipureintro; exact p7
      · iexact H7
    iexists f8'; isplitr
    · ipureintro; exact p8
    · iexact H8

/-- The query gradient's buffer as the launch asks for it after point `t`. -/
theorem left6_eq (c : Dev nD) (t : Fin cfg0.N) :
    left6 m c t = (match cfg0.idle 6 (cfg0.grid.coords t) with
      | true => match (cfg0.win 6).flush t with
        | false => iprop(∃ d, owns (c : Thread nD τ) ((cfg0.win 6).stage (cfg0.slots t 6)) fullShare ((dats m 0 c).before 6 t d))
        | true => owns (c : Thread nD τ) ((cfg0.win 6).stage (cfg0.slots t 6)) fullShare ((dats m 0 c).after 6 t)
      | false => owns (c : Thread nD τ) ((cfg0.win 6).stage (cfg0.slots t 6)) fullShare ((dats m 0 c).after 6 t)) := by
  unfold left6
  by_cases h : t.val % 8 = 7
  · have hi : cfg0.idle 6 (cfg0.grid.coords t) = false := by rw [idle_6]; simp [h]
    rw [if_pos h, hi]
  · have hi : cfg0.idle 6 (cfg0.grid.coords t) = true := by rw [idle_6]; simp [h]
    have hf : (cfg0.win 6).flush t = false := by
      rw [← Bool.not_eq_true]; exact fun e => h ((flush0_6 t).mp e)
    rw [if_neg h, hi, hf]

/-- Every grid point meets what the launch asks of the body. -/
theorem body_obligation (c : Dev nD) :
    BodyObligation (dats m 0 c) (defs₀ (F := Ideal)) Variants.none () Set.univ := fun t => by
  rw [bigSep_W0, bigSep_W0, defs₀_row]
  refine triple_restated (sound m c t) rfl .rfl fun _ => ?_
  rw [left6_eq]
  exact .rfl

/-- Every window's array is held whole. -/
theorem share_eq (c : Dev nD) (w : Fin cfg0.W) : (dats m 0 c).share w = fullShare := by
  apply Dat.share_full
  intro w; dsimp only [dats]

/-- Whatever the scratch holds at the start, the invariant holds before the first point. -/
theorem inv_in (c : Dev nD) : Pipeline.ΦA spec0 c ⊢ (dats m 0 c).Φ 0 := by
  rw [show (dats m 0 c).Φ 0 = inv m c 0 from by dsimp only [dats, Fin.val_zero]]
  unfold Pipeline.ΦA
  rw [scopedRest0_eq]
  unfold inv
  iintro ⟨⟨⟨%g0, S0⟩, S1, S2⟩, Hr⟩
  isplitl [S0 S1 S2]
  · isplitl [S0]
    · iexists g0; isplitr
      · ipureintro; exact fun h => absurd rfl h
      · iexact S0
    isplitl [S1]; · iexact S1
    iexact S2
  · iexact Hr

/-- After the last point the scratch is handed back, its contents forgotten. -/
theorem inv_out (c : Dev nD) : (dats m 0 c).Φ (Fin.last cfg0.N) ⊢ Pipeline.ΦA spec0 c := by
  rw [show (dats m 0 c).Φ (Fin.last cfg0.N) = inv m c (Fin.last cfg0.N).val from by dsimp only [dats]]
  unfold Pipeline.ΦA
  rw [scopedRest0_eq]
  unfold inv
  iintro ⟨⟨⟨%g0, %e, S0⟩, S1, S2⟩, Hr⟩
  isplitl [S0 S1 S2]
  · isplitl [S0]; · iexists g0; iexact S0
    isplitl [S1]; · iexact S1
    iexact S2
  · iexact Hr

/-- The run: the program ends, every window's array holds what the points left in it, every buffer the kernel does not write
    holds what it held when the region was entered, and every semaphore counter is zero. -/
theorem run_main : θ_run defs (onTc (τ := τ) (main (F := Ideal))) (s₀ m ρ) (fun r =>
    Pipeline.FramePost cfgs (dats m) 0 (V m) r ∧ r.2.sem = fun _ => 0) :=
  Pipeline.θ_run_frame_track cfgs (dats m) 0 launch0 defs₀ Variants.none m ρ main
    (hbody := fun c => (body_obligation m c).loose) (hshare := share_eq m)
    (howed := fun _ _ => rfl) (V := V m) (hmain := hmain m Variants.none) (hA := dats_A m)
    (hin := inv_in m) (hout := inv_out m)
    (Q' := fun r => Pipeline.FramePost cfgs (dats m) 0 (V m) r ∧ r.2.sem = fun _ => 0)
    (hQ' := fun _ h => h)

/-- The frame: the program ends with the argument arrays as launched and every semaphore counter at zero. -/
theorem frame : θ_run defs (onTc (τ := τ) (main (F := Ideal))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    have kept (b : Ref sig .tc) (hb : b ∈ Pipeline.restRefs sig cfg0.spec) := (h.1 c).2 b hb
    ⟨(kept main_arg0 (Pipeline.mem_restRefs_of main_arg0 (by decide) (by decide))).trans (V_main_arg0 m c),
      (kept main_arg1 (Pipeline.mem_restRefs_of main_arg1 (by decide) (by decide))).trans (V_main_arg1 m c),
      (kept main_arg2 (Pipeline.mem_restRefs_of main_arg2 (by decide) (by decide))).trans (V_main_arg2 m c),
      (kept main_arg3 (Pipeline.mem_restRefs_of main_arg3 (by decide) (by decide))).trans (V_main_arg3 m c)⟩, h.2⟩)
    (run_main m ρ)

end Cert.KernelIdeal.Hand

end
-- ==== Proof.Hand.Finite.lean ====
module

public import proofs.«01_k».proof.Proof.Gen.Pre_finite
public import Idealize.ShloMosaic.Lib.ReduceAll
public import Idealize.ShloMosaic.PureOps.Ideal.Laws

@[expose] public section

/-!
What the precondition says: every entry of the four arguments is a real number.
-/

noncomputable section

namespace Cert.Pre_finite.Hand

open Cert.Pre_finite Idealize.ShloMosaic

/-- The word of the infinity. -/
theorem top_word : Ideal.ofBits .f32 0x7F800000#32 = ⊤ := by simp [Ideal.ofBits, Ideal.ieee]

/-- A number whose absolute value is below the infinity is real. -/
theorem real_of_lt (a : EReal) (h : Ideal.cmp .olt (max a (-a)) ⊤ = 1#1) : a = ((a.toReal : ℝ) : EReal) := by
  have h' : max a (-a) < ⊤ := by
    by_contra hn
    rw [Ideal.cmp] at h
    simp [hn] at h
  refine (EReal.coe_toReal ?_ ?_).symm
  · rintro rfl; simp at h'
  · rintro rfl; simp at h'

/-- Both halves of a conjunction of bits. -/
theorem and_one {a b : BitVec 1} (h : IntOp.andi a b = 1#1) : a = 1#1 ∧ b = 1#1 := by
  revert a b; decide

/-- The precondition's arguments are real. -/
theorem real_of_pre [Facts] (x0 x1 : FVec Ideal S4x2048x8x96 .f32) (x2 x3 : FVec Ideal S4x2048x8x64 .f32)
    (h : fn (F := Ideal) x0 x1 x2 x3 = fun _ => 1#1) :
    ((∀ i, x0 i = (((x0 i : EReal).toReal : ℝ) : EReal)) ∧ ∀ i, x1 i = (((x1 i : EReal).toReal : ℝ) : EReal))
      ∧ (∀ i, x2 i = (((x2 i : EReal).toReal : ℝ) : EReal)) ∧ ∀ i, x3 i = (((x3 i : EReal).toReal : ℝ) : EReal) := by
  have e := congrFun h (fun a => a.elim0)
  dsimp only [fn, fn_part1] at e
  have e3 := and_one e
  have e2 := and_one e3.1
  have e1 := and_one e2.1
  haveI : Subsingleton S_.Idx := ⟨fun a b => funext fun d => d.elim0⟩
  refine ⟨⟨fun i => ?_, fun i => ?_⟩, fun i => ?_, fun i => ?_⟩
  · refine real_of_lt _ ?_
    have := Host.reduce_andi_all _ _ _ _ _ e1.1 i
    rw [← top_word]; exact this
  · refine real_of_lt _ ?_
    have := Host.reduce_andi_all _ _ _ _ _ e1.2 i
    rw [← top_word]; exact this
  · refine real_of_lt _ ?_
    have := Host.reduce_andi_all _ _ _ _ _ e2.2 i
    rw [← top_word]; exact this
  · refine real_of_lt _ ?_
    have := Host.reduce_andi_all _ _ _ _ _ e3.2 i
    rw [← top_word]; exact this

end Cert.Pre_finite.Hand

end

end
-- ==== Proof.Hand.Attn.lean ====
module

public import Idealize.ShloMosaic.Lib.Pointwise
public import Idealize.ShloMosaic.PureOps.Ideal.Laws

@[expose] public section

/-!
Causal attention and its gradients for one head of one sequence, over the reals. The queries are scaled already; rows are
positions (2048 of them), columns the lanes of a head (128, unused ones 0). `M` is the number a query's scores are shifted by.
-/

noncomputable section

namespace Cert.Attn

open Finset

/-- The arrays of one head. -/
structure Head where
  /-- scaled queries -/
  Q : ℕ → ℕ → ℝ
  /-- keys -/
  K : ℕ → ℕ → ℝ
  /-- values -/
  V : ℕ → ℕ → ℝ
  /-- gradient of the output -/
  O : ℕ → ℕ → ℝ
  /-- shift of a query's scores -/
  M : ℕ → ℝ

namespace Head

variable (A : Head)

/-- The score of query `x` and key `y`. -/
def sc (x y : ℕ) : ℝ := ∑ d ∈ range 128, A.Q x d * A.K y d

/-- The shifted score's exponential; 0 where the key comes after the query. -/
def e (x y : ℕ) : ℝ := if y ≤ x then Real.exp (A.sc x y - A.M x) else 0

/-- The sum of a query's row. -/
def Z (x : ℕ) : ℝ := ∑ y ∈ range 2048, A.e x y

/-- The probability. -/
def p (x y : ℕ) : ℝ := A.e x y / A.Z x

/-- The gradient of the probability. -/
def dP (x y : ℕ) : ℝ := ∑ d ∈ range 128, A.O x d * A.V y d

/-- The product of the query's output with its gradient. -/
def δ (x : ℕ) : ℝ := ∑ y ∈ range 2048, A.p x y * A.dP x y

/-- The gradient of the score. -/
def ds (x y : ℕ) : ℝ := A.p x y * (A.dP x y - A.δ x)

/-- The gradient of the scaled queries. -/
def dq (x d : ℕ) : ℝ := ∑ y ∈ range 2048, A.ds x y * A.K y d

/-- The gradient of the keys. -/
def dk (y d : ℕ) : ℝ := ∑ x ∈ range 2048, A.ds x y * A.Q x d

/-- The gradient of the values. -/
def dv (y d : ℕ) : ℝ := ∑ x ∈ range 2048, A.p x y * A.O x d

/-- No term of a row is negative. -/
theorem e_nonneg (x y : ℕ) : 0 ≤ A.e x y := by
  unfold e; split
  · exact (Real.exp_pos _).le
  · exact le_rfl

/-- A row's sum is positive: the query sees the first key. -/
theorem Z_pos (x : ℕ) : 0 < A.Z x := by
  have h : A.e x 0 ≤ A.Z x := single_le_sum (f := A.e x) (fun y _ => A.e_nonneg x y) (mem_range.2 (by norm_num))
  have h0 : A.e x 0 = Real.exp (A.sc x 0 - A.M x) := if_pos (Nat.zero_le x)
  rw [h0] at h
  exact (Real.exp_pos _).trans_le h

/-- A row's sum is not 0. -/
theorem Z_ne (x : ℕ) : A.Z x ≠ 0 := (A.Z_pos x).ne'

/-- The probability of a later key is 0. -/
theorem p_of_lt {x y : ℕ} (h : x < y) : A.p x y = 0 := by
  rw [p, e, if_neg (by omega), zero_div]

/-- The score of a later key has gradient 0. -/
theorem ds_of_lt {x y : ℕ} (h : x < y) : A.ds x y = 0 := by rw [ds, A.p_of_lt h, zero_mul]

/-- The product of the output, first summed over the keys, with its gradient is `δ`. -/
theorem δ_eq (x : ℕ) : ∑ d ∈ range 128, A.O x d * ∑ y ∈ range 2048, A.p x y * A.V y d = A.δ x := by
  unfold δ dP
  simp only [mul_sum]
  rw [sum_comm]
  exact sum_congr rfl fun y _ => sum_congr rfl fun d _ => by ring

/-- The gradient of the score as differentiating a quotient gives it. -/
theorem ds_quot (x y : ℕ) :
    (A.dP x y / A.Z x + -(∑ k ∈ range 2048, A.dP x k * (1 / (A.Z x * A.Z x)) * A.e x k)) * A.e x y = A.ds x y := by
  have hz := A.Z_ne x
  have h : ∑ k ∈ range 2048, A.dP x k * (1 / (A.Z x * A.Z x)) * A.e x k = A.δ x / A.Z x := by
    rw [δ, sum_div]
    exact sum_congr rfl fun k _ => by rw [p]; field_simp
  rw [h, ds, p]
  field_simp
  ring

/-- The power of two the kernel takes is the probability: scores and `M + log Z` are divided by `log 2`. -/
theorem prob_eq {x y : ℕ} (h : y ≤ x) :
    Real.rpow 2 (A.sc x y / Real.log 2 - (A.M x + Real.log (A.Z x)) / Real.log 2) = A.p x y := by
  have h2 : (0 : ℝ) < Real.log 2 := Real.log_pos (by norm_num)
  show (2 : ℝ) ^ (_ : ℝ) = _
  rw [Real.rpow_def_of_pos (by norm_num), p, e, if_pos h]
  have : Real.log 2 * (A.sc x y / Real.log 2 - (A.M x + Real.log (A.Z x)) / Real.log 2)
      = (A.sc x y - A.M x) - Real.log (A.Z x) := by field_simp; ring
  rw [this, Real.exp_sub, Real.exp_log (A.Z_pos x)]

end Head

/-- A sum over 256 n numbers, 256 at a time. -/
theorem sum_tiles (f : ℕ → ℝ) (n : ℕ) : ∑ x ∈ range (256 * n), f x = ∑ i ∈ range n, ∑ x ∈ range 256, f (256 * i + x) := by
  induction n with
  | zero => simp
  | succ n ih => rw [Nat.mul_succ, sum_range_add, ih, sum_range_succ _ n]

/-- A sum whose terms vanish from `n` on stops there. -/
theorem sum_lanes (f : ℕ → ℝ) (n : ℕ) (hn : n ≤ 128) (h : ∀ d, n ≤ d → f d = 0) : ∑ d ∈ range 128, f d = ∑ d ∈ range n, f d := by
  refine (sum_subset (range_mono hn) fun d _ hd => h d ?_).symm
  simpa using hd

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of extended reals that are all real. -/
theorem sum_coe {n : ℕ} (F : Fin n → EReal) (f : ℕ → ℝ) (h : ∀ i, F i = (f i : EReal)) :
    ∑ i, F i = ((∑ i ∈ range n, f i : ℝ) : EReal) := by
  rw [coe_sum, ← Fin.sum_univ_eq_sum_range (fun i => ((f i : ℝ) : EReal)) n]
  exact sum_congr rfl fun i _ => h i

end Cert.Attn

end

end
-- ==== Proof.Hand.RefValue.lean ====
module

public import proofs.«01_k».proof.Proof.Gen.ReferenceIdeal.Read
public import proofs.«01_k».proof.Proof.Hand.Attn
public import proofs.«01_k».proof.Proof.Hand.Tile

@[expose] public section

set_option maxRecDepth 16384

/-!
What the reference computes, read at an index: the gradients of the attention heads its arguments describe. The arguments are
real at every index (`AllReal`).
-/

noncomputable section

namespace Cert.ReferenceIdeal.Hand

open Cert.ReferenceIdeal Cert.ReferenceIdeal.Gen Cert.ReferenceIdeal.Read Cert.Attn
open Idealize.ShloMosaic Idealize.ShloMosaic.TcCoe Idealize.ShloMosaic.Tactic
open Finset (range)

/-- Every entry is a real number. -/
def AllReal {s : Shape} (x : s.Idx → EReal) : Prop := ∀ i, x i = (((x i).toReal : ℝ) : EReal)

/-- An array of rank 4 read at natural numbers as reals, 0 outside. -/
def rd {A B C D : ℕ} (X : (⟨4, ![A, B, C, D]⟩ : Shape).Idx → EReal) (a b c d : ℕ) : ℝ :=
  if h : (a < A ∧ b < B) ∧ c < C ∧ d < D then (X (ix4 ⟨a, h.1.1⟩ ⟨b, h.1.2⟩ ⟨c, h.2.1⟩ ⟨d, h.2.2⟩)).toReal else 0

/-- Inside the array, `rd` is the entry. -/
theorem rd_eq {A B C D : ℕ} {X : (⟨4, ![A, B, C, D]⟩ : Shape).Idx → EReal} (hX : AllReal X) (i : (⟨4, ![A, B, C, D]⟩ : Shape).Idx)
    {a b c d : ℕ} (ha : (i 0).val = a) (hb : (i 1).val = b) (hc : (i 2).val = c) (hd : (i 3).val = d) :
    X i = ((rd X a b c d : ℝ) : EReal) := by
  subst ha hb hc hd
  rw [rd, dif_pos ⟨⟨(i 0).isLt, (i 1).isLt⟩, (i 2).isLt, (i 3).isLt⟩]
  have : i = ix4 ⟨(i 0).val, (i 0).isLt⟩ ⟨(i 1).val, (i 1).isLt⟩ ⟨(i 2).val, (i 2).isLt⟩ ⟨(i 3).val, (i 3).isLt⟩ := by
    funext e
    match e with
    | 0 => rfl
    | 1 => rfl
    | 2 => rfl
    | 3 => rfl
  exact (hX i).trans (congrArg (fun z => (((X z).toReal : ℝ) : EReal)) this)

/-- Beyond the last column `rd` is 0. -/
theorem rd_lane {A B C D : ℕ} (X : (⟨4, ![A, B, C, D]⟩ : Shape).Idx → EReal) {a b c d : ℕ} (hd : D ≤ d) : rd X a b c d = 0 :=
  dif_neg (by omega)

/-- The factor the queries are scaled by. -/
def scale : ℝ := (Ideal.ofBits .f32 0x3DD105EC#32).toReal

/-- The scale's word is a real number. -/
theorem scale_word : Ideal.ofBits .f32 0x3DD105EC#32 = ((scale : ℝ) : EReal) := by
  unfold scale
  simp [Ideal.ofBits, Ideal.ieee]
  rfl

/-- The word of minus infinity. -/
theorem bot_word : Ideal.ofBits .f32 0xFF800000#32 = ⊥ := by simp [Ideal.ofBits, Ideal.ieee]

/-- The word of 1. -/
theorem one_word : Ideal.ofBits .f32 0x3F800000#32 = ((1 : ℝ) : EReal) := by
  simp [Ideal.ofBits, Ideal.ieee]
  rw [← EReal.coe_mul]
  norm_num

variable (x0 x1 : S4x2048x8x96.Idx → EReal) (x2 x3 : S4x2048x8x64.Idx → EReal)

/-- The row maxima of the masked scores, as reals. -/
def top (b h x : ℕ) : ℝ :=
  if H : b < 4 ∧ h < 8 ∧ x < 2048 then (val_main_v10 (F := Ideal) x0 x1 (ix3 ⟨b, H.1⟩ ⟨h, H.2.1⟩ ⟨x, H.2.2⟩)).toReal else 0

/-- Head `h` of sequence `b`. -/
def head (b h : ℕ) : Head :=
  ⟨fun x d => rd x0 b x h d * scale, fun y d => rd x1 b y h d, fun y d => rd x2 b y h d, fun x d => rd x3 b x h d, top x0 x1 b h⟩

/-- The four arguments are real. -/
structure Args : Prop where
  /-- queries -/
  h0 : AllReal x0
  /-- keys -/
  h1 : AllReal x1
  /-- values -/
  h2 : AllReal x2
  /-- gradient of the output -/
  h3 : AllReal x3

variable {x0 x1 x2 x3}

/-- The scaled queries. -/
theorem v1_at (h0 : AllReal x0) (i : S4x2048x8x96.Idx) {b x h d : ℕ}
    (hb : (i 0).val = b) (hx : (i 1).val = x) (hh : (i 2).val = h) (hd : (i 3).val = d) :
    val_main_v1 (F := Ideal) x0 i = ((rd x0 b x h d * scale : ℝ) : EReal) := by
  rw [val_main_v1_apply, val_main_v0_apply, val_main_cst_apply]
  show x0 i * Ideal.ofBits .f32 0x3DD105EC#32 = _
  rw [rd_eq h0 i hb hx hh hd, scale_word, ← EReal.coe_mul]

namespace Args

variable (R : Args x0 x1 x2 x3)
include R

/-- The scores. -/
theorem v2 (i : S4x8x2048x2048.Idx) :
    val_main_v2 (F := Ideal) x0 x1 i = (((head x0 x1 x2 x3 (i 0) (i 1)).sc (i 2) (i 3) : ℝ) : EReal) := by
  rw [val_main_v2_apply, sum_coe _ (fun d => rd x0 (i 0) (i 2) (i 1) d * scale * rd x1 (i 0) (i 3) (i 1) d)
    (fun d => by rw [v1_at R.h0 (lidx_main_v2 i d) rfl rfl rfl rfl, rd_eq R.h1 (ridx_main_v2 i d) rfl rfl rfl rfl, ← EReal.coe_mul])]
  rw [Head.sc, sum_lanes _ 96 (by norm_num)]
  · rfl
  · intro d hd
    show _ * rd x1 _ _ _ d = 0
    rw [rd_lane x1 hd, mul_zero]

/-- The mask. -/
theorem mask (i : S4x8x2048x2048.Idx) : val_main_v9_1 (F := Ideal) i = if (i 3).val ≤ (i 2).val then 1#1 else 0#1 := by
  rw [val_main_v9_1_apply, val_main_v8_apply, val_main_v6_apply, val_main_v4_apply, val_main_v3_apply, val_main_v7_apply,
    val_main_v5_apply, val_main_v3_apply]
  have h2 : (i 2).val < 2048 := (i 2).isLt
  have h3 : (i 3).val < 2048 := (i 3).isLt
  exact Cert.KernelIdeal.Hand.sle_of_nat (i 3).val (i 2).val (by omega) (by omega)

/-- The masked scores. -/
theorem v9 (i : S4x8x2048x2048.Idx) :
    val_main_v9_0 (F := Ideal) x0 x1 i
      = if (i 3).val ≤ (i 2).val then (((head x0 x1 x2 x3 (i 0) (i 1)).sc (i 2) (i 3) : ℝ) : EReal) else ⊥ := by
  rw [val_main_v9_0_apply, R.mask, R.v2, val_main_call0_v2_apply, val_main_call0_v0_apply, val_main_cst_0_apply]
  show Scalar.select _ _ (Ideal.ofBits .f32 0xFF800000#32) = _
  rw [bot_word]
  by_cases h : (i 3).val ≤ (i 2).val
  · rw [if_pos h, if_pos h]; rfl
  · rw [if_neg h, if_neg h]; rfl

/-- The row maxima. -/
theorem v10 (j : S4x8x2048.Idx) : val_main_v10 (F := Ideal) x0 x1 j = ((top x0 x1 (j 0) (j 1) (j 2) : ℝ) : EReal) := by
  have hr : S4x8x2048x2048.Reduces [3] S4x8x2048 := by decide
  have hj : j = ix3 ⟨(j 0).val, (j 0).isLt⟩ ⟨(j 1).val, (j 1).isLt⟩ ⟨(j 2).val, (j 2).isLt⟩ := by
    funext e
    match e with
    | 0 => rfl
    | 1 => rfl
    | 2 => rfl
  rw [top, dif_pos ⟨(j 0).isLt, (j 1).isLt, (j 2).isLt⟩]
  refine Eq.trans ?_ (congrArg (fun z => (((val_main_v10 (F := Ideal) x0 x1 z).toReal : ℝ) : EReal)) hj)
  have key : val_main_v10 (F := Ideal) x0 x1 j
      = (Finset.univ : Finset (Fin 2048)).fold max (⊥ : EReal) (fun k => val_main_v9_0 (F := Ideal) x0 x1 (hr.lift j k)) := by
    unfold val_main_v10
    rw [Host.reduce_eq_fold_single (FloatOps.maximumf (F := Ideal) (φ := .f32)) _ _ _ hr]
    rw [← bot_word]
    rfl
  refine (EReal.coe_toReal ?_ ?_).symm
  · rw [key]
    refine ne_of_lt ((Finset.fold_max_lt _).2 ⟨bot_lt_top, fun k _ => ?_⟩)
    rw [R.v9]
    split
    · exact EReal.coe_lt_top _
    · exact bot_lt_top
  · rw [key]
    refine ne_of_gt (lt_of_lt_of_le ?_ ((Finset.le_fold_max _).2 (Or.inr ⟨(0 : Fin 2048), Finset.mem_univ _, le_rfl⟩)))
    rw [R.v9, if_pos]
    · exact EReal.bot_lt_coe _
    · exact Nat.zero_le _

/-- The shifts. -/
theorem v17 (j : S4x8x2048.Idx) : val_main_v17 (F := Ideal) x0 x1 j = ((top x0 x1 (j 0) (j 1) (j 2) : ℝ) : EReal) := by
  rw [val_main_v17_apply, val_main_v16_apply, val_main_cst_3_apply, R.v10]
  show max (Ideal.ofBits .f32 0xFF800000#32) _ = _
  rw [bot_word, max_eq_right bot_le]

/-- The shifts, repeated along a row. -/
theorem v28 (i : S4x8x2048x2048.Idx) : val_main_v28 (F := Ideal) x0 x1 i = ((top x0 x1 (i 0) (i 1) (i 2) : ℝ) : EReal) := by
  rw [val_main_v28_apply, val_main_v27_apply, R.v17]

/-- The exponentials. -/
theorem v30 (i : S4x8x2048x2048.Idx) :
    val_main_v30 (F := Ideal) x0 x1 i = (((head x0 x1 x2 x3 (i 0) (i 1)).e (i 2) (i 3) : ℝ) : EReal) := by
  rw [val_main_v30_apply, val_main_v29_apply, R.v9, R.v28]
  show Ideal.exp (_ - _) = _
  unfold Head.e
  by_cases h : (i 3).val ≤ (i 2).val
  · rw [if_pos h, if_pos h, ← EReal.coe_sub, Ideal.exp_coe]; rfl
  · rw [if_neg h, if_neg h, EReal.bot_sub, Ideal.exp_bot, EReal.coe_zero]

/-- The row sums. -/
theorem v31 (j : S4x8x2048.Idx) :
    val_main_v31 (F := Ideal) x0 x1 j = (((head x0 x1 x2 x3 (j 0) (j 1)).Z (j 2) : ℝ) : EReal) := by
  rw [val_main_v31_apply, sum_coe _ (fun y => (head x0 x1 x2 x3 (j 0) (j 1)).e (j 2) y) (fun y => R.v30 (idx_main_v31 j y))]
  show Ideal.ofBits .f32 0x00000000#32 + _ = _
  rw [Ideal.ofBits_zero_f32, zero_add]
  rfl

/-- The row sums, as a column. -/
theorem v32 (i : S4x8x2048x1.Idx) :
    val_main_v32 (F := Ideal) x0 x1 i = (((head x0 x1 x2 x3 (i 0) (i 1)).Z (i 2) : ℝ) : EReal) := by
  rw [val_main_v32_apply, R.v31]

/-- The probabilities. -/
theorem v34 (i : S4x8x2048x2048.Idx) :
    val_main_v34 (F := Ideal) x0 x1 i = (((head x0 x1 x2 x3 (i 0) (i 1)).p (i 2) (i 3) : ℝ) : EReal) := by
  rw [val_main_v34_apply, R.v30, val_main_v33_apply, R.v32]
  show Ideal.div _ (((head x0 x1 x2 x3 (i 0) (i 1)).Z (i 2) : ℝ) : EReal) = _
  rw [Ideal.div_coe (Head.Z_ne _ _), ← EReal.coe_mul, Head.p, mul_one_div]

/-- The squares' reciprocals. -/
theorem v37 (i : S4x8x2048x1.Idx) :
    val_main_v37 (F := Ideal) x0 x1 i
      = ((1 / ((head x0 x1 x2 x3 (i 0) (i 1)).Z (i 2) * (head x0 x1 x2 x3 (i 0) (i 1)).Z (i 2)) : ℝ) : EReal) := by
  rw [val_main_v37_apply, val_main_v36_apply, val_main_cst_10_apply, val_main_v35_apply, R.v32]
  show Ideal.div (Ideal.ofBits .f32 0x3F800000#32) (_ * _) = _
  rw [one_word, ← EReal.coe_mul, Ideal.div_coe (mul_ne_zero (Head.Z_ne _ _) (Head.Z_ne _ _)), ← EReal.coe_mul, one_mul]

/-- The gradient of the output, transposed. -/
theorem v40 (i : S4x8x64x2048.Idx) : val_main_v40 (F := Ideal) x3 i = ((rd x3 (i 0) (i 3) (i 1) (i 2) : ℝ) : EReal) := by
  rw [val_main_v40_apply, rd_eq R.h3 (idx_main_v40 i) rfl rfl rfl rfl]

/-- The gradients of the probabilities. -/
theorem v41 (i : S4x8x2048x2048.Idx) :
    val_main_v41 (F := Ideal) x2 x3 i = (((head x0 x1 x2 x3 (i 0) (i 1)).dP (i 2) (i 3) : ℝ) : EReal) := by
  rw [val_main_v41_apply, sum_coe _ (fun d => rd x3 (i 0) (i 2) (i 1) d * rd x2 (i 0) (i 3) (i 1) d)
    (fun d => by rw [R.v40 (lidx_main_v41 i d), rd_eq R.h2 (ridx_main_v41 i d) rfl rfl rfl rfl, ← EReal.coe_mul])]
  rw [Head.dP, sum_lanes _ 64 (by norm_num)]
  · rfl
  · intro d hd
    show _ * rd x2 _ _ _ d = 0
    rw [rd_lane x2 hd, mul_zero]

/-- The gradient of the values, transposed. -/
theorem v42 (i : S4x8x64x2048.Idx) :
    val_main_v42 (F := Ideal) x0 x1 x3 i = (((head x0 x1 x2 x3 (i 0) (i 1)).dv (i 3) (i 2) : ℝ) : EReal) := by
  rw [val_main_v42_apply, sum_coe _ (fun x => (head x0 x1 x2 x3 (i 0) (i 1)).p x (i 3) * rd x3 (i 0) x (i 1) (i 2))
    (fun x => by rw [R.v40 (lidx_main_v42 i x), R.v34 (ridx_main_v42 i x), ← EReal.coe_mul, mul_comm])]
  rfl

/-- The products whose sum the quotient's derivative takes off. -/
theorem v46 (i : S4x8x2048x2048.Idx) :
    val_main_v46 (F := Ideal) x0 x1 x2 x3 i
      = (((head x0 x1 x2 x3 (i 0) (i 1)).dP (i 2) (i 3)
          * (1 / ((head x0 x1 x2 x3 (i 0) (i 1)).Z (i 2) * (head x0 x1 x2 x3 (i 0) (i 1)).Z (i 2)))
          * (head x0 x1 x2 x3 (i 0) (i 1)).e (i 2) (i 3) : ℝ) : EReal) := by
  rw [val_main_v46_apply, val_main_v45_apply, val_main_v44_apply, R.v41, R.v37, R.v30]
  show _ * _ * _ = _
  rw [EReal.coe_mul, EReal.coe_mul]

/-- Their sums. -/
theorem v47 (j : S4x8x2048.Idx) :
    val_main_v47 (F := Ideal) x0 x1 x2 x3 j
      = ((∑ k ∈ range 2048, (head x0 x1 x2 x3 (j 0) (j 1)).dP (j 2) k
          * (1 / ((head x0 x1 x2 x3 (j 0) (j 1)).Z (j 2) * (head x0 x1 x2 x3 (j 0) (j 1)).Z (j 2)))
          * (head x0 x1 x2 x3 (j 0) (j 1)).e (j 2) k : ℝ) : EReal) := by
  rw [val_main_v47_apply, sum_coe _ (fun k => (head x0 x1 x2 x3 (j 0) (j 1)).dP (j 2) k
          * (1 / ((head x0 x1 x2 x3 (j 0) (j 1)).Z (j 2) * (head x0 x1 x2 x3 (j 0) (j 1)).Z (j 2)))
          * (head x0 x1 x2 x3 (j 0) (j 1)).e (j 2) k) (fun y => R.v46 (idx_main_v47 j y))]
  show Ideal.ofBits .f32 0x00000000#32 + _ = _
  rw [Ideal.ofBits_zero_f32, zero_add]

/-- Their sums, negated. -/
theorem v52 (j : S4x8x2048.Idx) :
    val_main_v52 (F := Ideal) x0 x1 x2 x3 j
      = ((-(∑ k ∈ range 2048, (head x0 x1 x2 x3 (j 0) (j 1)).dP (j 2) k
          * (1 / ((head x0 x1 x2 x3 (j 0) (j 1)).Z (j 2) * (head x0 x1 x2 x3 (j 0) (j 1)).Z (j 2)))
          * (head x0 x1 x2 x3 (j 0) (j 1)).e (j 2) k) : ℝ) : EReal) := by
  have h0 : (j 0).val < 4 := (j 0).isLt
  have h1 : (j 1).val < 8 := (j 1).isLt
  have h2 : (j 2).val < 2048 := (j 2).isLt
  have hi : idx_main_v48 (idx_main_v52 j 0) = j := by
    funext e
    match e with
    | 0 => exact Fin.ext (by show ((((j 0).val * 8 + (j 1).val) * 2048 + (j 2).val) * 1 + 0) / 16384 = (j 0).val; omega)
    | 1 => exact Fin.ext (by show ((((j 0).val * 8 + (j 1).val) * 2048 + (j 2).val) * 1 + 0) / 2048 % 8 = (j 1).val; omega)
    | 2 => exact Fin.ext (by show ((((j 0).val * 8 + (j 1).val) * 2048 + (j 2).val) * 1 + 0) % 2048 = (j 2).val; omega)
  rw [val_main_v52_apply, Fin.sum_univ_one, val_main_v49_apply, val_main_v48_apply, hi, R.v47]
  show Ideal.ofBits .f32 0x00000000#32 + -_ = _
  rw [Ideal.ofBits_zero_f32, zero_add, EReal.coe_neg]

/-- The gradients of the scores. -/
theorem v56 (i : S4x8x2048x2048.Idx) :
    val_main_v56 (F := Ideal) x0 x1 x2 x3 i = (((head x0 x1 x2 x3 (i 0) (i 1)).ds (i 2) (i 3) : ℝ) : EReal) := by
  rw [val_main_v56_apply, R.mask, val_main_v55_apply, val_main_v54_apply, val_main_v51_apply, val_main_v50_apply, R.v32,
    val_main_v53_apply, R.v52, R.v41, R.v30]
  by_cases h : (i 3).val ≤ (i 2).val
  · rw [if_pos h]
    show (Ideal.div _ (((head x0 x1 x2 x3 (i 0) (i 1)).Z (i 2) : ℝ) : EReal) + _) * _ = _
    rw [Ideal.div_coe (Head.Z_ne _ _), ← EReal.coe_mul, ← EReal.coe_add, ← EReal.coe_mul, ← Head.ds_quot, mul_one_div]
  · rw [if_neg h, Head.ds_of_lt _ (by omega), val_main_call1_v0_apply]
    exact Ideal.ofBits_zero_f32

/-- The gradient of the keys, by heads. -/
theorem v57 (i : S4x8x2048x96.Idx) :
    val_main_v57 (F := Ideal) x0 x1 x2 x3 i = (((head x0 x1 x2 x3 (i 0) (i 1)).dk (i 2) (i 3) : ℝ) : EReal) := by
  rw [val_main_v57_apply, sum_coe _ (fun x => (head x0 x1 x2 x3 (i 0) (i 1)).ds x (i 2) * (rd x0 (i 0) x (i 1) (i 3) * scale))
    (fun x => by rw [R.v56 (lidx_main_v57 i x), v1_at R.h0 (ridx_main_v57 i x) rfl rfl rfl rfl, ← EReal.coe_mul])]
  rfl

/-- The gradient of the scaled queries, by heads. -/
theorem v59 (i : S4x8x2048x96.Idx) :
    val_main_v59 (F := Ideal) x0 x1 x2 x3 i = (((head x0 x1 x2 x3 (i 0) (i 1)).dq (i 2) (i 3) : ℝ) : EReal) := by
  rw [val_main_v59_apply, sum_coe _ (fun y => (head x0 x1 x2 x3 (i 0) (i 1)).ds (i 2) y * rd x1 (i 0) y (i 1) (i 3))
    (fun y => by rw [R.v56 (lidx_main_v59 i y), rd_eq R.h1 (ridx_main_v59 i y) rfl rfl rfl rfl, ← EReal.coe_mul])]
  rfl

end Args

end Cert.ReferenceIdeal.Hand

end

end
-- ==== Proof.Hand.Closed.lean ====
module

public import proofs.«01_k».proof.Proof.Hand.Attn
public import proofs.«01_k».proof.Proof.Hand.IdealRun

@[expose] public section

set_option maxRecDepth 16384

/-!
What the kernel adds up, when its operands are the arrays of attention heads: queries divided by `log 2`, the row statistics
`(M + log Z) / log 2` and `δ`. A grid point with key block `j` then adds, tile by tile, the part of the gradients its keys have.
-/

noncomputable section

namespace Cert.KernelIdeal.Hand

open Cert.KernelIdeal Cert.KernelIdeal.Gen Cert.Attn
open Idealize.ShloMosaic Idealize.ShloMosaic.TcCoe Idealize.ShloMosaic.Tactic
open Finset (range)

/-- The operands of a grid point with key block `j` are the arrays of the heads `A`. -/
structure Fits (T : Tile) (A : ℕ → Head) (j : ℕ) : Prop where
  /-- queries -/
  Q : ∀ x < 2048, ∀ h < 8, ∀ d < 128, T.Q x (128 * h + d) = (((A h).Q x d / Real.log 2 : ℝ) : EReal)
  /-- keys -/
  K : ∀ y < 256, ∀ h < 8, ∀ d < 128, T.K y (128 * h + d) = (((A h).K (256 * j + y) d : ℝ) : EReal)
  /-- values -/
  V : ∀ y < 256, ∀ h < 8, ∀ d < 128, T.V y (128 * h + d) = (((A h).V (256 * j + y) d : ℝ) : EReal)
  /-- gradient of the output -/
  O : ∀ x < 2048, ∀ h < 8, ∀ d < 128, T.O x (128 * h + d) = (((A h).O x d : ℝ) : EReal)
  /-- logarithm of a query's row -/
  L : ∀ i < 8, ∀ h < 8, ∀ x < 256,
    T.L i h x = ((((A h).M (256 * i + x) + Real.log ((A h).Z (256 * i + x))) / Real.log 2 : ℝ) : EReal)
  /-- product of a query's output with its gradient -/
  D : ∀ i < 8, ∀ h < 8, ∀ x < 256, T.D i h x = (((A h).δ (256 * i + x) : ℝ) : EReal)

/-- The logarithm of 2 is not 0. -/
theorem log2_ne : Real.log 2 ≠ 0 := (Real.log_pos (by norm_num)).ne'

namespace Fits

variable {T : Tile} {A : ℕ → Head} {j : ℕ} (F : Fits T A j) {m : Bool} {i h x y : ℕ}
include F

/-- The score of a tile. -/
theorem score (hi : i < 8) (hh : h < 8) (hx : x < 256) (hy : y < 256) :
    T.score m i h y x = if m = true → y ≤ x then (((A h).sc (256 * i + x) (256 * j + y) / Real.log 2 : ℝ) : EReal) else ⊥ := by
  unfold Tile.score
  refine if_congr Iff.rfl ?_ rfl
  rw [sum_coe _ (fun d => (A h).Q (256 * i + x) d * (A h).K (256 * j + y) d / Real.log 2)
    (fun d => by
      rw [F.K y hy h hh d d.isLt, F.Q _ (by omega) h hh d d.isLt, ← EReal.coe_mul]
      congr 1; ring), Head.sc, Finset.sum_div]

/-- The probability of a tile. -/
theorem prob (hm : m = true ↔ i = j) (hij : j ≤ i) (hi : i < 8) (hh : h < 8) (hx : x < 256) (hy : y < 256) :
    T.prob m i h y x = (((A h).p (256 * i + x) (256 * j + y) : ℝ) : EReal) := by
  unfold Tile.prob
  rw [F.score hi hh hx hy, F.L i hi h hh x hx]
  by_cases hc : 256 * j + y ≤ 256 * i + x
  · rw [if_pos (fun e => by have := hm.1 e; omega), ← EReal.coe_sub, Ideal.exp2_coe, (A h).prob_eq hc]
  · have e : i = j := by omega
    rw [if_neg (fun e' => by have := e' (hm.2 e); omega), EReal.bot_sub, Ideal.exp2_bot, (A h).p_of_lt (by omega), EReal.coe_zero]

/-- The gradient of a tile's score. -/
theorem dsc (hm : m = true ↔ i = j) (hij : j ≤ i) (hi : i < 8) (hh : h < 8) (hx : x < 256) (hy : y < 256) :
    T.dsc m i h y x = (((A h).ds (256 * i + x) (256 * j + y) : ℝ) : EReal) := by
  unfold Tile.dsc
  rw [F.prob hm hij hi hh hx hy, F.D i hi h hh x hx,
    sum_coe _ (fun d => (A h).O (256 * i + x) d * (A h).V (256 * j + y) d)
    (fun d => by
      rw [F.V y hy h hh d d.isLt, F.O _ (by omega) h hh d d.isLt, ← EReal.coe_mul, mul_comm]),
    ← EReal.coe_sub, ← EReal.coe_mul]
  rfl

/-- A tile's part of the gradient of the values. -/
theorem addV {d : ℕ} (hm : m = true ↔ i = j) (hij : j ≤ i) (hi : i < 8) (hh : h < 8) (hd : d < 128) (hy : y < 256) :
    T.addV m i y (128 * h + d)
      = ((∑ x ∈ range 256, (A h).p (256 * i + x) (256 * j + y) * (A h).O (256 * i + x) d : ℝ) : EReal) := by
  unfold Tile.addV
  rw [col_div hd]
  exact sum_coe _ _ fun x => by
    rw [F.prob hm hij hi hh x.isLt hy, F.O _ (by omega) h hh d hd, ← EReal.coe_mul]

/-- A tile's part of the gradient of the keys. -/
theorem addK {d : ℕ} (hm : m = true ↔ i = j) (hij : j ≤ i) (hi : i < 8) (hh : h < 8) (hd : d < 128) (hy : y < 256) :
    T.addK m i y (128 * h + d)
      = ((∑ x ∈ range 256, (A h).ds (256 * i + x) (256 * j + y) * ((A h).Q (256 * i + x) d / Real.log 2) : ℝ) : EReal) := by
  unfold Tile.addK
  rw [col_div hd]
  exact sum_coe _ _ fun x => by
    rw [F.dsc hm hij hi hh x.isLt hy, F.Q _ (by omega) h hh d hd, ← EReal.coe_mul]

/-- A tile's part of the gradient of the queries. -/
theorem addQ {d : ℕ} (hm : m = true ↔ i = j) (hij : j ≤ i) (hi : i < 8) (hh : h < 8) (hd : d < 128) (hx : x < 256) :
    T.addQ m i h d x
      = ((∑ y ∈ range 256, (A h).ds (256 * i + x) (256 * j + y) * (A h).K (256 * j + y) d : ℝ) : EReal) := by
  unfold Tile.addQ
  exact sum_coe _ _ fun y => by
    rw [F.dsc hm hij hi hh hx y.isLt, F.K y y.isLt h hh d hd, ← EReal.coe_mul, mul_comm]

/-- The values' gradient after the block's own tile and `n` more. -/
theorem seqV_eq {d : ℕ} (hh : h < 8) (hd : d < 128) (hy : y < 256) : ∀ n, j + n < 8 →
    seqV T j (fun _ => 0) n (ix2 ⟨y, hy⟩ ⟨128 * h + d, by omega⟩)
      = ((∑ l ∈ range (n + 1), ∑ x ∈ range 256, (A h).p (256 * (j + l) + x) (256 * j + y) * (A h).O (256 * (j + l) + x) d : ℝ) : EReal)
  | 0, hn => by
    show (0 : EReal) + T.addV true j y (128 * h + d) = _
    rw [F.addV (by simp) le_rfl hn hh hd hy, zero_add, Finset.sum_range_one, Nat.add_zero]
  | n + 1, hn => by
    show seqV T j (fun _ => 0) n (ix2 ⟨y, hy⟩ ⟨128 * h + d, by omega⟩) + T.addV false (j + 1 + n) y (128 * h + d) = _
    rw [seqV_eq hh hd hy n (by omega), F.addV (by simp; omega) (by omega) (by omega) hh hd hy, ← EReal.coe_add,
      Finset.sum_range_succ _ (n + 1), show j + 1 + n = j + (n + 1) by omega]

/-- The keys' gradient after the block's own tile and `n` more. -/
theorem seqK_eq {d : ℕ} (hh : h < 8) (hd : d < 128) (hy : y < 256) : ∀ n, j + n < 8 →
    seqK T j (fun _ => 0) n (ix2 ⟨y, hy⟩ ⟨128 * h + d, by omega⟩)
      = ((∑ l ∈ range (n + 1), ∑ x ∈ range 256,
          (A h).ds (256 * (j + l) + x) (256 * j + y) * ((A h).Q (256 * (j + l) + x) d / Real.log 2) : ℝ) : EReal)
  | 0, hn => by
    show (0 : EReal) + T.addK true j y (128 * h + d) = _
    rw [F.addK (by simp) le_rfl hn hh hd hy, zero_add, Finset.sum_range_one, Nat.add_zero]
  | n + 1, hn => by
    show seqK T j (fun _ => 0) n (ix2 ⟨y, hy⟩ ⟨128 * h + d, by omega⟩) + T.addK false (j + 1 + n) y (128 * h + d) = _
    rw [seqK_eq hh hd hy n (by omega), F.addK (by simp; omega) (by omega) (by omega) hh hd hy, ← EReal.coe_add,
      Finset.sum_range_succ _ (n + 1), show j + 1 + n = j + (n + 1) by omega]

end Fits

/-- The part of the gradient of query `256 i + x` that key block `j` has. -/
def partQ (A : Head) (j i d x : ℕ) : ℝ := ∑ y ∈ range 256, A.ds (256 * i + x) (256 * j + y) * A.K (256 * j + y) d

/-- A block of later keys has no part. -/
theorem partQ_of_lt (A : Head) {j i d x : ℕ} (hij : i < j) (hx : x < 256) : partQ A j i d x = 0 :=
  Finset.sum_eq_zero fun y hy => by rw [A.ds_of_lt (by omega), zero_mul]

namespace Fits

variable {T : Tile} {A : ℕ → Head} {j : ℕ} (F : Fits T A j)
include F

/-- The queries' gradient after the block's own tile and `n` more. -/
theorem seqQ_eq (B : S8x8x128x256.Idx → EReal) (h i : Fin 8) (d : Fin 128) (x : Fin 256) : ∀ n,
    seqQ T j B n (ix4 h i d x)
      = B (ix4 h i d x) + if i.val ≤ j + n then ((partQ (A h) j i d x : ℝ) : EReal) else 0
  | 0 => by
    show (if i.val = j then B (ix4 h i d x) + T.addQ true j h d x else B (ix4 h i d x)) = _
    by_cases e : i.val = j
    · rw [if_pos e, if_pos (by omega), ← e, F.addQ (i := i) (by simp [e]) (by omega) i.isLt h.isLt d.isLt x.isLt, e]
      rfl
    · rw [if_neg e]
      split
      · rw [partQ_of_lt _ (by omega) x.isLt, EReal.coe_zero, add_zero]
      · rw [add_zero]
  | n + 1 => by
    show (if i.val = j + 1 + n then Hand.seqQ T j B n (ix4 h i d x) + T.addQ false (j + 1 + n) h d x
      else Hand.seqQ T j B n (ix4 h i d x)) = _
    rw [seqQ_eq B h i d x n]
    by_cases e : i.val = j + 1 + n
    · rw [if_pos e, if_neg (by omega), if_pos (by omega), add_zero, ← e,
        F.addQ (i := i) (by simp; omega) (by omega) i.isLt h.isLt d.isLt x.isLt]
      rfl
    · rw [if_neg e]
      by_cases e' : i.val ≤ j + n
      · rw [if_pos e', if_pos (by omega)]
      · rw [if_neg e', if_neg (by omega)]

/-- The block of value gradients a grid point writes. -/
theorem dv (hj : j < 8) {h y d : ℕ} (hh : h < 8) (hd : d < 128) (hy : y < 256) :
    Hand.seqV T j (fun _ => 0) (7 - j) (ix2 ⟨y, hy⟩ ⟨128 * h + d, by omega⟩) = (((A h).dv (256 * j + y) d : ℝ) : EReal) := by
  rw [F.seqV_eq hh hd hy (7 - j) (by omega), Head.dv, show (2048 : ℕ) = 256 * 8 from rfl, sum_tiles]
  congr 1
  conv_rhs => rw [show 8 = j + (7 - j + 1) by omega, Finset.sum_range_add]
  rw [Finset.sum_eq_zero (s := range j), zero_add]
  intro i hi
  refine Finset.sum_eq_zero fun x hx => ?_
  have := Finset.mem_range.1 hi; have := Finset.mem_range.1 hx
  rw [(A h).p_of_lt (by omega), zero_mul]

/-- The sum a grid point makes for the gradients of its keys. -/
theorem dk (hj : j < 8) {h y d : ℕ} (hh : h < 8) (hd : d < 128) (hy : y < 256) :
    Hand.seqK T j (fun _ => 0) (7 - j) (ix2 ⟨y, hy⟩ ⟨128 * h + d, by omega⟩)
      = (((A h).dk (256 * j + y) d / Real.log 2 : ℝ) : EReal) := by
  rw [F.seqK_eq hh hd hy (7 - j) (by omega), Head.dk, show (2048 : ℕ) = 256 * 8 from rfl, sum_tiles]
  congr 1
  conv_rhs => rw [show 8 = j + (7 - j + 1) by omega, Finset.sum_range_add]
  rw [Finset.sum_eq_zero (s := range j), zero_add, Finset.sum_div]
  · refine Finset.sum_congr rfl fun l _ => ?_
    rw [Finset.sum_div]
    exact Finset.sum_congr rfl fun x _ => by ring
  intro i hi
  refine Finset.sum_eq_zero fun x hx => ?_
  have := Finset.mem_range.1 hi; have := Finset.mem_range.1 hx
  rw [(A h).ds_of_lt (by omega), zero_mul]

end Fits

/-- All key blocks together have the gradient of a query. -/
theorem sum_partQ (A : Head) (i d x : ℕ) : ∑ j ∈ range 8, partQ A j i d x = A.dq (256 * i + x) d := by
  rw [Head.dq, show (2048 : ℕ) = 256 * 8 from rfl, sum_tiles]
  rfl

variable (m : (l : Loc nD τ sig) → Buf (Elt Ideal) l)

/-- The scratch after `n` key blocks of batch `b`. -/
theorem accQ_closed (c : Dev nD) (A : ℕ → Head) (b : ℕ) (hb : b < 4)
    (F : ∀ j (hj : j < 8), Fits (tile m c ⟨8 * b + j, by show _ < 32; omega⟩) A j) (h i : Fin 8) (d : Fin 128) (x : Fin 256) :
    ∀ n, n < 8 → accQ m c (8 * b + n + 1) (ix4 h i d x) = ((∑ j ∈ range (n + 1), partQ (A h) j i d x : ℝ) : EReal) := by
  have step : ∀ n, n < 8 → accQ m c (8 * b + n + 1) (ix4 h i d x)
      = start n (accQ m c (8 * b + n)) (ix4 h i d x) + ((partQ (A h) n i d x : ℝ) : EReal) := fun n hn => by
    have e := accQ_succ m c ⟨8 * b + n, by show _ < 32; omega⟩
    have e8 : (8 * b + n) % 8 = n := by omega
    simp only [e8] at e
    rw [e, (F n hn).seqQ_eq, if_pos (by omega)]
  intro n
  induction n with
  | zero => intro hn; rw [step 0 hn, start, if_pos rfl, zero_add, Finset.sum_range_one]
  | succ n ih =>
    intro hn
    rw [step (n + 1) hn, start, if_neg (by omega), ← add_assoc, ih (by omega), ← EReal.coe_add, Finset.sum_range_succ _ (n + 1)]

end Cert.KernelIdeal.Hand

end

end
-- ==== Proof.Hand.Operands.lean ====
module

public import proofs.«01_k».proof.Proof.Gen.KernelIdeal.Frame
public import proofs.«01_k».proof.Proof.Hand.RefValue
public import proofs.«01_k».proof.Proof.Hand.Closed
public import Idealize.ShloMosaic.Lib.Pointwise
public import Idealize.ShloMosaic.Lib.Claim

@[expose] public section

set_option maxRecDepth 16384

/-!
The operands the host code prepares for the kernel, as functions of the arguments, and their entries as reals.
-/

noncomputable section

namespace Cert.KernelIdeal.Hand

open Cert.KernelIdeal Cert.KernelIdeal.Gen Cert.Attn
open Cert.ReferenceIdeal.Hand (AllReal rd rd_eq rd_lane scale scale_word one_word top head Args)
open Idealize.ShloMosaic Idealize.ShloMosaic.TcCoe Idealize.ShloMosaic.Tactic
open Finset (range)

variable (x0 x1 : S4x2048x8x96.Idx → EReal) (x2 x3 : S4x2048x8x64.Idx → EReal)

/-- The masked scores. -/
abbrev wS : S4x8x2048x2048.Idx → EReal := Cert.ReferenceIdeal.Read.val_main_v9_0 (F := Ideal) x0 x1

/-- Their row maxima. -/
abbrev wM : S4x8x2048.Idx → EReal := Cert.ReferenceIdeal.Read.val_main_v10 (F := Ideal) x0 x1

/-- A column along the rows, repeated along them. -/
def wRow (f : S4x8x2048.Idx → EReal) : S4x8x2048x2048.Idx → EReal :=
  broadcastInDim S4x8x2048x2048 ![0, 1, 2, 3] bcast_S4x8x2048x1_S4x8x2048x2048_0_1_2_3
    (broadcastInDim S4x8x2048x1 ![0, 1, 2] bcast_S4x8x2048_S4x8x2048x1_0_1_2 f)

/-- The exponentials. -/
def wE : S4x8x2048x2048.Idx → EReal :=
  Host.exp (F := Ideal) (φ := .f32) (subf (F := Ideal) (φ := .f32) (wS x0 x1) (wRow (wM x0 x1)))

/-- The row sums. -/
def wZ : S4x8x2048.Idx → EReal :=
  Host.reduceAdd (F := Ideal) (φ := .f32) (wE x0 x1) (constant (F := Ideal) S_ .f32 0x00000000#32) reducesTo_S4x8x2048x2048_S4x8x2048_d3 h_S_

/-- The logarithm of 2 on the host. -/
def wLog2 : S_.Idx → EReal := Host.log (F := Ideal) (φ := .f32) (constant (F := Ideal) S_ .f32 0x40000000#32)

/-- The logarithms of the row sums, to base 2. -/
def wL : S4x8x2048.Idx → EReal :=
  Host.divf (F := Ideal) (φ := .f32) (addf (F := Ideal) (φ := .f32) (wM x0 x1) (Host.log (F := Ideal) (φ := .f32) (wZ x0 x1)))
    (broadcastInDim S4x8x2048 ![] bcast_S_S4x8x2048 wLog2)

/-- The probabilities. -/
def wP : S4x8x2048x2048.Idx → EReal := Host.divf (F := Ideal) (φ := .f32) (wE x0 x1) (wRow (wZ x0 x1))

/-- The output of the attention. -/
def wO : S4x8x2048x64.Idx → EReal :=
  Host.dotGeneral (F := Ideal) (φ₁ := .f32) (φ₂ := .f32) dot_S4x8x2048x2048_S4x2048x8x64_S4x8x2048x64_3_1_2_3_01_02 none (wP x0 x1) x2

/-- The row sums of the output times its gradient. -/
def wD : S4x8x2048.Idx → EReal :=
  Host.reduceAdd (F := Ideal) (φ := .f32)
    (mulf (F := Ideal) (φ := .f32) (transpose S4x8x2048x64 [0, 2, 1, 3] x3 transposes_S4x2048x8x64_S4x8x2048x64_0_2_1_3) (wO x0 x1 x2))
    (constant (F := Ideal) S_ .f32 0x00000000#32) reducesTo_S4x8x2048x64_S4x8x2048_d3 h_S_

/-- The scaled queries, divided by the logarithm of 2. -/
def wQ : S4x2048x8x96.Idx → EReal :=
  Host.divf (F := Ideal) (φ := .f32)
    (mulf (F := Ideal) (φ := .f32) x0 (broadcastInDim S4x2048x8x96 ![] bcast_S_S4x2048x8x96 (constant (F := Ideal) S_ .f32 0x3DD105EC#32)))
    (broadcastInDim S4x2048x8x96 ![] bcast_S_S4x2048x8x96 wLog2)

/-- The padding's zero. -/
def wZero : S_.Idx → EReal := sitofp (F := Ideal) .f32 (constantI S_ 32 0#32)

/-- Heads of 96 columns padded to 128 and laid side by side. -/
def wPad96 (x : S4x2048x8x96.Idx → EReal) : S8192x1024.Idx → EReal :=
  truncf (F := Ideal) (φ := .f32) .bf16 (shapeCast S8192x1024
    (pad S4x2048x8x128 ![0, 0, 0, 0] ![0, 0, 0, 32] ![0, 0, 0, 0] x wZero pads_S4x2048x8x96_S4x2048x8x128_000_000_000_0320 h_S_)
    shapeCasts_S4x2048x8x128_S8192x1024) bitsLt_bf16_f32

/-- Heads of 64 columns padded to 128 and laid side by side. -/
def wPad64 (x : S4x2048x8x64.Idx → EReal) : S8192x1024.Idx → EReal :=
  truncf (F := Ideal) (φ := .f32) .bf16 (shapeCast S8192x1024
    (pad S4x2048x8x128 ![0, 0, 0, 0] ![0, 0, 0, 64] ![0, 0, 0, 0] x wZero pads_S4x2048x8x64_S4x2048x8x128_000_000_000_0640 h_S_)
    shapeCasts_S4x2048x8x128_S8192x1024) bitsLt_bf16_f32

/-- A statistic of the rows by sequence, query block, head and row. -/
def wStat (f : S4x8x2048.Idx → EReal) : S4x1x8x8x256.Idx → EReal :=
  broadcastInDim S4x1x8x8x256 ![0, 2, 3, 4] bcast_S4x8x8x256_S4x1x8x8x256_0_2_3_4
    (transpose S4x8x8x256 [0, 2, 1, 3] (shapeCast S4x8x8x256 f shapeCasts_S4x8x2048_S4x8x8x256) transposes_S4x8x8x256_S4x8x8x256_0_2_1_3)

section entry

variable (m : (l : Loc nD τ sig) → Buf (Elt Ideal) l) (c : Dev nD)

/-- The queries' operand. -/
theorem V_q : V m c main_v37 = wPad96 (wQ (m ((c.tc : Thread nD τ).loc main_arg0))) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The keys' operand. -/
theorem V_k : V m c main_v40 = wPad96 (m ((c.tc : Thread nD τ).loc main_arg1)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The values' operand. -/
theorem V_v : V m c main_v43 = wPad64 (m ((c.tc : Thread nD τ).loc main_arg2)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The output gradient's operand. -/
theorem V_o : V m c main_v46 = wPad64 (m ((c.tc : Thread nD τ).loc main_arg3)) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The operand of the logarithms of the row sums. -/
theorem V_l : V m c main_v49 = wStat (wL (m ((c.tc : Thread nD τ).loc main_arg0)) (m ((c.tc : Thread nD τ).loc main_arg1))) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The operand of the row sums of the output times its gradient. -/
theorem V_d : V m c main_v52 = wStat (wD (m ((c.tc : Thread nD τ).loc main_arg0)) (m ((c.tc : Thread nD τ).loc main_arg1))
    (m ((c.tc : Thread nD τ).loc main_arg2)) (m ((c.tc : Thread nD τ).loc main_arg3))) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

end entry

/-- A column repeated along the rows, at an index. -/
theorem wRow_at (f : S4x8x2048.Idx → EReal) (i : S4x8x2048x2048.Idx) : wRow f i = f (ix3 (i 0) (i 1) (i 2)) := by
  pointwise [wRow]

/-- The sums along the rows, at an index. -/
theorem rowSum_at (f : S4x8x2048x2048.Idx → EReal) (j : S4x8x2048.Idx) :
    Host.reduceAdd (F := Ideal) (φ := .f32) f (constant (F := Ideal) S_ .f32 0x00000000#32) reducesTo_S4x8x2048x2048_S4x8x2048_d3 h_S_ j
      = ∑ y : Fin 2048, f (ix4 (j 0) (j 1) (j 2) y) := by
  pointwise

/-- The sums along the rows of 64 products, at an index. -/
theorem wD_gen (x3 : S4x2048x8x64.Idx → EReal) (g : S4x8x2048x64.Idx → EReal) (j : S4x8x2048.Idx) :
    Host.reduceAdd (F := Ideal) (φ := .f32)
    (mulf (F := Ideal) (φ := .f32) (transpose S4x8x2048x64 [0, 2, 1, 3] x3 transposes_S4x2048x8x64_S4x8x2048x64_0_2_1_3) g)
    (constant (F := Ideal) S_ .f32 0x00000000#32) reducesTo_S4x8x2048x64_S4x8x2048_d3 h_S_ j
      = ∑ d : Fin 64, x3 (ix4 (j 0) (j 2) (j 1) d) * g (ix4 (j 0) (j 1) (j 2) d) := by
  pointwise

/-- The product with the values, at an index. -/
theorem wO_gen (g : S4x8x2048x2048.Idx → EReal) (x2 : S4x2048x8x64.Idx → EReal) (j : S4x8x2048x64.Idx) :
    Host.dotGeneral (F := Ideal) (φ₁ := .f32) (φ₂ := .f32) dot_S4x8x2048x2048_S4x2048x8x64_S4x8x2048x64_3_1_2_3_01_02 none g x2 j
      = ∑ y : Fin 2048, g (ix4 (j 0) (j 1) (j 2) y) * x2 (ix4 (j 0) y (j 1) (j 3)) := by
  pointwise

/-- The logarithm to base 2 of a row sum plus the row's maximum, at an index. -/
theorem wL_gen (M Z : S4x8x2048.Idx → EReal) (j : S4x8x2048.Idx) :
    Host.divf (F := Ideal) (φ := .f32) (addf (F := Ideal) (φ := .f32) M (Host.log (F := Ideal) (φ := .f32) Z))
      (broadcastInDim S4x8x2048 ![] bcast_S_S4x8x2048 wLog2) j
      = Ideal.div (M j + Ideal.log (Z j)) (Ideal.log (Ideal.ofBits .f32 0x40000000#32)) := by
  pointwise [wLog2]

/-- The scaled queries divided by the logarithm of 2, at an index. -/
theorem wQ_gen (i : S4x2048x8x96.Idx) :
    wQ x0 i = Ideal.div (x0 i * Ideal.ofBits .f32 0x3DD105EC#32) (Ideal.log (Ideal.ofBits .f32 0x40000000#32)) := by
  pointwise [wQ, wLog2]

/-- The padded heads of 96 columns, at an index. -/
theorem wPad96_at (x : S4x2048x8x96.Idx → EReal) (i : S8192x1024.Idx) : wPad96 x i =
    if h : (i 0).val / 2048 < 4 ∧ (i 0).val % 2048 < 2048 ∧ (i 1).val / 128 < 8 ∧ (i 1).val % 128 < 96 then
      x (ix4 ⟨(i 0).val / 2048, h.1⟩ ⟨(i 0).val % 2048, h.2.1⟩ ⟨(i 1).val / 128, h.2.2.1⟩ ⟨(i 1).val % 128, h.2.2.2⟩)
    else FloatOps.sitofp (F := Ideal) .f32 0#32 := by
  pointwise [wPad96, wZero]

/-- The padded heads of 64 columns, at an index. -/
theorem wPad64_at (x : S4x2048x8x64.Idx → EReal) (i : S8192x1024.Idx) : wPad64 x i =
    if h : (i 0).val / 2048 < 4 ∧ (i 0).val % 2048 < 2048 ∧ (i 1).val / 128 < 8 ∧ (i 1).val % 128 < 64 then
      x (ix4 ⟨(i 0).val / 2048, h.1⟩ ⟨(i 0).val % 2048, h.2.1⟩ ⟨(i 1).val / 128, h.2.2.1⟩ ⟨(i 1).val % 128, h.2.2.2⟩)
    else FloatOps.sitofp (F := Ideal) .f32 0#32 := by
  pointwise [wPad64, wZero]

/-- A statistic of the rows, at an index. -/
theorem wStat_at (f : S4x8x2048.Idx → EReal) (b : Fin 4) (i h : Fin 8) (x : Fin 256) :
    wStat f (ix5 b 0 i h x) = f (ix3 b h ⟨i.val * 256 + x.val, by omega⟩) := by
  pointwise [wStat]

/-- The word of 2. -/
theorem two_word : Ideal.ofBits .f32 0x40000000#32 = ((2 : ℝ) : EReal) := by
  simp [Ideal.ofBits, Ideal.ieee]
  rw [← EReal.coe_mul]
  norm_num

/-- Its logarithm. -/
theorem log_two : Ideal.log (Ideal.ofBits .f32 0x40000000#32) = ((Real.log 2 : ℝ) : EReal) := by
  rw [two_word, Ideal.log_coe, if_neg (by norm_num)]

/-- The integer zero as a float. -/
theorem sitofp_zero : FloatOps.sitofp (F := Ideal) .f32 (0#32 : BitVec 32) = ((0 : ℝ) : EReal) := by
  show (((0#32 : BitVec 32).toInt : ℝ) : EReal) = _
  simp

variable {x0 x1 x2 x3} (R : Args x0 x1 x2 x3)
include R

/-- The exponentials, as reals. -/
theorem wE_real (i : S4x8x2048x2048.Idx) : wE x0 x1 i = (((head x0 x1 x2 x3 (i 0) (i 1)).e (i 2) (i 3) : ℝ) : EReal) := by
  show Ideal.exp (wS x0 x1 i - wRow (wM x0 x1) i) = _
  rw [wRow_at]
  have e1 : wS x0 x1 i = _ := R.v9 i
  have e2 : wM x0 x1 (ix3 (i 0) (i 1) (i 2)) = ((top x0 x1 (i 0) (i 1) (i 2) : ℝ) : EReal) := R.v10 (ix3 (i 0) (i 1) (i 2))
  refine (congrArg₂ (fun a b => Ideal.exp (a - b)) e1 e2).trans ?_
  unfold Head.e
  by_cases h : (i 3).val ≤ (i 2).val
  · rw [if_pos h, if_pos h, ← EReal.coe_sub, Ideal.exp_coe]; rfl
  · rw [if_neg h, if_neg h, EReal.bot_sub, Ideal.exp_bot, EReal.coe_zero]

/-- The row sums, as reals. -/
theorem wZ_real (j : S4x8x2048.Idx) : wZ x0 x1 j = (((head x0 x1 x2 x3 (j 0) (j 1)).Z (j 2) : ℝ) : EReal) := by
  unfold wZ
  rw [rowSum_at, sum_coe _ (fun y => (head x0 x1 x2 x3 (j 0) (j 1)).e (j 2) y) (fun y => wE_real R (ix4 (j 0) (j 1) (j 2) y))]
  rfl

/-- The probabilities, as reals. -/
theorem wP_real (i : S4x8x2048x2048.Idx) : wP x0 x1 i = (((head x0 x1 x2 x3 (i 0) (i 1)).p (i 2) (i 3) : ℝ) : EReal) := by
  show Ideal.div (wE x0 x1 i) (wRow (wZ x0 x1) i) = _
  rw [wRow_at, wE_real R, wZ_real R]
  show Ideal.div _ (((head x0 x1 x2 x3 (i 0) (i 1)).Z (i 2) : ℝ) : EReal) = _
  rw [Ideal.div_coe (Head.Z_ne _ _), ← EReal.coe_mul, Head.p, mul_one_div]

/-- The logarithms of the row sums to base 2, as reals. -/
theorem wL_real (j : S4x8x2048.Idx) : wL x0 x1 j
    = ((((head x0 x1 x2 x3 (j 0) (j 1)).M (j 2) + Real.log ((head x0 x1 x2 x3 (j 0) (j 1)).Z (j 2))) / Real.log 2 : ℝ) : EReal) := by
  unfold wL
  have e : wM x0 x1 j = ((top x0 x1 (j 0) (j 1) (j 2) : ℝ) : EReal) := R.v10 j
  rw [wL_gen, e, wZ_real R, Ideal.log_coe, if_neg (not_le.2 (Head.Z_pos _ _)), ← EReal.coe_add, log_two, Ideal.div_coe log2_ne,
    ← EReal.coe_mul, mul_one_div]
  rfl

/-- The attention's output, as reals. -/
theorem wO_real (i : S4x8x2048x64.Idx) : wO x0 x1 x2 i
    = ((∑ y ∈ range 2048, (head x0 x1 x2 x3 (i 0) (i 1)).p (i 2) y * (head x0 x1 x2 x3 (i 0) (i 1)).V y (i 3) : ℝ) : EReal) := by
  unfold wO
  rw [wO_gen, sum_coe _ (fun y => (head x0 x1 x2 x3 (i 0) (i 1)).p (i 2) y * rd x2 (i 0) y (i 1) (i 3))
    (fun y => by rw [wP_real R (ix4 (i 0) (i 1) (i 2) y), rd_eq R.h2 (ix4 (i 0) y (i 1) (i 3)) rfl rfl rfl rfl, ← EReal.coe_mul]; rfl)]
  rfl

/-- The row sums of the output times its gradient, as reals. -/
theorem wD_real (j : S4x8x2048.Idx) : wD x0 x1 x2 x3 j = (((head x0 x1 x2 x3 (j 0) (j 1)).δ (j 2) : ℝ) : EReal) := by
  unfold wD
  rw [wD_gen, sum_coe _ (fun d => rd x3 (j 0) (j 2) (j 1) d
      * ∑ y ∈ range 2048, (head x0 x1 x2 x3 (j 0) (j 1)).p (j 2) y * (head x0 x1 x2 x3 (j 0) (j 1)).V y d)
    (fun d => by rw [wO_real R (ix4 (j 0) (j 1) (j 2) d), rd_eq R.h3 (ix4 (j 0) (j 2) (j 1) d) rfl rfl rfl rfl, ← EReal.coe_mul]; rfl),
    ← Head.δ_eq, sum_lanes _ 64 (by norm_num)]
  · rfl
  · intro d hd
    show rd x3 _ _ _ d * _ = 0
    rw [rd_lane x3 hd, zero_mul]

/-- The queries' operand, as reals. -/
theorem q_real (i : S8192x1024.Idx) : wPad96 (wQ x0) i
    = (((head x0 x1 x2 x3 ((i 0).val / 2048) ((i 1).val / 128)).Q ((i 0).val % 2048) ((i 1).val % 128) / Real.log 2 : ℝ) : EReal) := by
  have h0 : (i 0).val < 8192 := (i 0).isLt
  have h1 : (i 1).val < 1024 := (i 1).isLt
  rw [wPad96_at]
  show _ = ((rd x0 ((i 0).val / 2048) ((i 0).val % 2048) ((i 1).val / 128) ((i 1).val % 128) * scale / Real.log 2 : ℝ) : EReal)
  split
  · rw [wQ_gen, rd_eq R.h0 _ rfl rfl rfl rfl, scale_word, ← EReal.coe_mul, log_two, Ideal.div_coe log2_ne, ← EReal.coe_mul, mul_one_div]
    rfl
  · rw [rd_lane x0 (by omega), zero_mul, zero_div, sitofp_zero]

/-- The keys' operand, as reals. -/
theorem k_real (i : S8192x1024.Idx) : wPad96 x1 i
    = (((head x0 x1 x2 x3 ((i 0).val / 2048) ((i 1).val / 128)).K ((i 0).val % 2048) ((i 1).val % 128) : ℝ) : EReal) := by
  have h0 : (i 0).val < 8192 := (i 0).isLt
  have h1 : (i 1).val < 1024 := (i 1).isLt
  rw [wPad96_at]
  show _ = ((rd x1 ((i 0).val / 2048) ((i 0).val % 2048) ((i 1).val / 128) ((i 1).val % 128) : ℝ) : EReal)
  split
  · exact rd_eq R.h1 _ rfl rfl rfl rfl
  · rw [rd_lane x1 (by omega), sitofp_zero]

/-- The values' operand, as reals. -/
theorem v_real (i : S8192x1024.Idx) : wPad64 x2 i
    = (((head x0 x1 x2 x3 ((i 0).val / 2048) ((i 1).val / 128)).V ((i 0).val % 2048) ((i 1).val % 128) : ℝ) : EReal) := by
  have h0 : (i 0).val < 8192 := (i 0).isLt
  have h1 : (i 1).val < 1024 := (i 1).isLt
  rw [wPad64_at]
  show _ = ((rd x2 ((i 0).val / 2048) ((i 0).val % 2048) ((i 1).val / 128) ((i 1).val % 128) : ℝ) : EReal)
  split
  · exact rd_eq R.h2 _ rfl rfl rfl rfl
  · rw [rd_lane x2 (by omega), sitofp_zero]

/-- The operand of the output's gradient, as reals. -/
theorem o_real (i : S8192x1024.Idx) : wPad64 x3 i
    = (((head x0 x1 x2 x3 ((i 0).val / 2048) ((i 1).val / 128)).O ((i 0).val % 2048) ((i 1).val % 128) : ℝ) : EReal) := by
  have h0 : (i 0).val < 8192 := (i 0).isLt
  have h1 : (i 1).val < 1024 := (i 1).isLt
  rw [wPad64_at]
  show _ = ((rd x3 ((i 0).val / 2048) ((i 0).val % 2048) ((i 1).val / 128) ((i 1).val % 128) : ℝ) : EReal)
  split
  · exact rd_eq R.h3 _ rfl rfl rfl rfl
  · rw [rd_lane x3 (by omega), sitofp_zero]

end Cert.KernelIdeal.Hand

end

end
-- ==== Proof.Hand.RefOut.lean ====
module

public import proofs.«01_k».proof.Proof.Hand.RefValue

@[expose] public section

set_option maxRecDepth 16384

/-!
The reference's three results at an index: row `2048 b + s` and column `128 h + d` hold lane `d` of position `s` in head `h` of
sequence `b`; the lanes a head does not use are 0.
-/

noncomputable section

namespace Cert.ReferenceIdeal.Hand

open Cert.ReferenceIdeal Cert.ReferenceIdeal.Gen Cert.ReferenceIdeal.Read Cert.Attn
open Idealize.ShloMosaic Idealize.ShloMosaic.TcCoe Idealize.ShloMosaic.Tactic
open Finset (range)

variable {x0 x1 : S4x2048x8x96.Idx → EReal} {x2 x3 : S4x2048x8x64.Idx → EReal}

/-- The gradient of the queries is 0 in the unused lanes. -/
theorem dq_lane (b h x : ℕ) {d : ℕ} (hd : 96 ≤ d) : (head x0 x1 x2 x3 b h).dq x d = 0 :=
  Finset.sum_eq_zero fun y _ => by
    show _ * rd x1 _ _ _ d = 0
    rw [rd_lane x1 hd, mul_zero]

/-- The gradient of the keys is 0 in the unused lanes. -/
theorem dk_lane (b h y : ℕ) {d : ℕ} (hd : 96 ≤ d) : (head x0 x1 x2 x3 b h).dk y d = 0 :=
  Finset.sum_eq_zero fun x _ => by
    show _ * (rd x0 _ _ _ d * scale) = 0
    rw [rd_lane x0 hd, zero_mul, mul_zero]

/-- The gradient of the values is 0 in the unused lanes. -/
theorem dv_lane (b h y : ℕ) {d : ℕ} (hd : 64 ≤ d) : (head x0 x1 x2 x3 b h).dv y d = 0 :=
  Finset.sum_eq_zero fun x _ => by
    show _ * rd x3 _ _ _ d = 0
    rw [rd_lane x3 hd, mul_zero]

namespace Args

variable (R : Args x0 x1 x2 x3)
include R

/-- The gradient of the scaled queries, with all 128 lanes. -/
theorem v62 (i : S4x2048x8x128.Idx) :
    val_main_v62 (F := Ideal) x0 x1 x2 x3 i = (((head x0 x1 x2 x3 (i 0) (i 2)).dq (i 1) (i 3) : ℝ) : EReal) := by
  unfold val_main_v62
  by_cases h : (i 3).val < 96
  · rw [concatenate_pair_apply_left (s₁ := S4x2048x8x96) (s₂ := S4x2048x8x32) 3 _ _ _ i rfl
      (ix4 (i 0) (i 1) (i 2) ⟨(i 3).val, h⟩) (fun b => match b with
        | 0 => rfl
        | 1 => rfl
        | 2 => rfl
        | 3 => rfl), val_main_v60_apply, R.v59]
    rfl
  · have h3 : (i 3).val < 128 := (i 3).isLt
    rw [concatenate_pair_apply_right (s₁ := S4x2048x8x96) (s₂ := S4x2048x8x32) 3 _ _ _ i rfl rfl
      (ix4 (i 0) (i 1) (i 2) ⟨(i 3).val - 96, by omega⟩) (fun b hb => match b, hb with
        | 0, _ => rfl
        | 1, _ => rfl
        | 2, _ => rfl
        | 3, hb => absurd rfl hb) (by show (i 3).val - 96 + 96 = (i 3).val; omega), val_main_v61_apply, dq_lane _ _ _ (by omega)]
    exact Ideal.ofBits_zero_f32

/-- The gradient of the scaled queries: this result of the reference. -/
theorem v64 (i : S8192x1024.Idx) :
    val_main_v64 (F := Ideal) x0 x1 x2 x3 i
      = (((head x0 x1 x2 x3 ((i 0).val / 2048) ((i 1).val / 128)).dq ((i 0).val % 2048) ((i 1).val % 128) : ℝ) : EReal) := by
  rw [val_main_v64_apply]
  show val_main_v63 (F := Ideal) x0 x1 x2 x3 i = _
  have h0 : (i 0).val < 8192 := (i 0).isLt
  have h1 : (i 1).val < 1024 := (i 1).isLt
  have e0 : ((idx_main_v63 i) 0).val = (i 0).val / 2048 := by
    show ((i 0).val * 1024 + (i 1).val) / 2097152 = (i 0).val / 2048; omega
  have e1 : ((idx_main_v63 i) 1).val = (i 0).val % 2048 := by
    show ((i 0).val * 1024 + (i 1).val) / 1024 % 2048 = (i 0).val % 2048; omega
  have e2 : ((idx_main_v63 i) 2).val = (i 1).val / 128 := by
    show ((i 0).val * 1024 + (i 1).val) / 128 % 8 = (i 1).val / 128; omega
  have e3 : ((idx_main_v63 i) 3).val = (i 1).val % 128 := by
    show ((i 0).val * 1024 + (i 1).val) % 128 = (i 1).val % 128; omega
  rw [val_main_v63_apply, R.v62, e0, e1, e2, e3]

/-- The gradient of the keys, with all 128 lanes. -/
theorem v66 (i : S4x2048x8x128.Idx) :
    val_main_v66 (F := Ideal) x0 x1 x2 x3 i = (((head x0 x1 x2 x3 (i 0) (i 2)).dk (i 1) (i 3) : ℝ) : EReal) := by
  unfold val_main_v66
  by_cases h : (i 3).val < 96
  · rw [concatenate_pair_apply_left (s₁ := S4x2048x8x96) (s₂ := S4x2048x8x32) 3 _ _ _ i rfl
      (ix4 (i 0) (i 1) (i 2) ⟨(i 3).val, h⟩) (fun b => match b with
        | 0 => rfl
        | 1 => rfl
        | 2 => rfl
        | 3 => rfl), val_main_v58_apply, R.v57]
    rfl
  · have h3 : (i 3).val < 128 := (i 3).isLt
    rw [concatenate_pair_apply_right (s₁ := S4x2048x8x96) (s₂ := S4x2048x8x32) 3 _ _ _ i rfl rfl
      (ix4 (i 0) (i 1) (i 2) ⟨(i 3).val - 96, by omega⟩) (fun b hb => match b, hb with
        | 0, _ => rfl
        | 1, _ => rfl
        | 2, _ => rfl
        | 3, hb => absurd rfl hb) (by show (i 3).val - 96 + 96 = (i 3).val; omega), val_main_v65_apply, dk_lane _ _ _ (by omega)]
    exact Ideal.ofBits_zero_f32

/-- The gradient of the keys: this result of the reference. -/
theorem v68 (i : S8192x1024.Idx) :
    val_main_v68 (F := Ideal) x0 x1 x2 x3 i
      = (((head x0 x1 x2 x3 ((i 0).val / 2048) ((i 1).val / 128)).dk ((i 0).val % 2048) ((i 1).val % 128) : ℝ) : EReal) := by
  rw [val_main_v68_apply]
  show val_main_v67 (F := Ideal) x0 x1 x2 x3 i = _
  have h0 : (i 0).val < 8192 := (i 0).isLt
  have h1 : (i 1).val < 1024 := (i 1).isLt
  have e0 : ((idx_main_v67 i) 0).val = (i 0).val / 2048 := by
    show ((i 0).val * 1024 + (i 1).val) / 2097152 = (i 0).val / 2048; omega
  have e1 : ((idx_main_v67 i) 1).val = (i 0).val % 2048 := by
    show ((i 0).val * 1024 + (i 1).val) / 1024 % 2048 = (i 0).val % 2048; omega
  have e2 : ((idx_main_v67 i) 2).val = (i 1).val / 128 := by
    show ((i 0).val * 1024 + (i 1).val) / 128 % 8 = (i 1).val / 128; omega
  have e3 : ((idx_main_v67 i) 3).val = (i 1).val % 128 := by
    show ((i 0).val * 1024 + (i 1).val) % 128 = (i 1).val % 128; omega
  rw [val_main_v67_apply, R.v66, e0, e1, e2, e3]

/-- The gradient of the values, with all 128 lanes. -/
theorem v70 (i : S4x2048x8x128.Idx) :
    val_main_v70 (F := Ideal) x0 x1 x3 i = (((head x0 x1 x2 x3 (i 0) (i 2)).dv (i 1) (i 3) : ℝ) : EReal) := by
  unfold val_main_v70
  by_cases h : (i 3).val < 64
  · rw [concatenate_pair_apply_left (s₁ := S4x2048x8x64) (s₂ := S4x2048x8x64) 3 _ _ _ i rfl
      (ix4 (i 0) (i 1) (i 2) ⟨(i 3).val, h⟩) (fun b => match b with
        | 0 => rfl
        | 1 => rfl
        | 2 => rfl
        | 3 => rfl), val_main_v43_apply, R.v42]
    rfl
  · have h3 : (i 3).val < 128 := (i 3).isLt
    rw [concatenate_pair_apply_right (s₁ := S4x2048x8x64) (s₂ := S4x2048x8x64) 3 _ _ _ i rfl rfl
      (ix4 (i 0) (i 1) (i 2) ⟨(i 3).val - 64, by omega⟩) (fun b hb => match b, hb with
        | 0, _ => rfl
        | 1, _ => rfl
        | 2, _ => rfl
        | 3, hb => absurd rfl hb) (by show (i 3).val - 64 + 64 = (i 3).val; omega), val_main_v69_apply, dv_lane _ _ _ (by omega)]
    exact Ideal.ofBits_zero_f32

/-- The gradient of the values: this result of the reference. -/
theorem v72 (i : S8192x1024.Idx) :
    val_main_v72 (F := Ideal) x0 x1 x3 i
      = (((head x0 x1 x2 x3 ((i 0).val / 2048) ((i 1).val / 128)).dv ((i 0).val % 2048) ((i 1).val % 128) : ℝ) : EReal) := by
  rw [val_main_v72_apply]
  show val_main_v71 (F := Ideal) x0 x1 x3 i = _
  have h0 : (i 0).val < 8192 := (i 0).isLt
  have h1 : (i 1).val < 1024 := (i 1).isLt
  have e0 : ((idx_main_v71 i) 0).val = (i 0).val / 2048 := by
    show ((i 0).val * 1024 + (i 1).val) / 2097152 = (i 0).val / 2048; omega
  have e1 : ((idx_main_v71 i) 1).val = (i 0).val % 2048 := by
    show ((i 0).val * 1024 + (i 1).val) / 1024 % 2048 = (i 0).val % 2048; omega
  have e2 : ((idx_main_v71 i) 2).val = (i 1).val / 128 := by
    show ((i 0).val * 1024 + (i 1).val) / 128 % 8 = (i 1).val / 128; omega
  have e3 : ((idx_main_v71 i) 3).val = (i 1).val % 128 := by
    show ((i 0).val * 1024 + (i 1).val) % 128 = (i 1).val % 128; omega
  rw [val_main_v71_apply, R.v70, e0, e1, e2, e3]

end Args

end Cert.ReferenceIdeal.Hand

end

end
-- ==== Proof.Hand.Arrays.lean ====
module

public import proofs.«01_k».proof.Proof.Hand.Operands
public import proofs.«01_k».proof.Proof.Hand.RefOut
public import Idealize.ShloMosaic.Lib.Pipeline.ValueKit

@[expose] public section

set_option maxRecDepth 16384

/-!
The arrays the launch ends with: the kernel's blocks, read off the operands' blocks, are the reference's gradients.
-/

noncomputable section

namespace Cert.KernelIdeal.Hand

open Cert.KernelIdeal Cert.KernelIdeal.Gen Cert.Attn
open Cert.ReferenceIdeal.Hand (AllReal rd head Args)
open Idealize.ShloMosaic Idealize.ShloMosaic.TcCoe Idealize.ShloMosaic.Tactic Idealize.ShloMosaic.Pipeline
open Finset (range)

/-- Where the windows' blocks lie at a grid point. -/
theorem idx : ∀ t : Fin cfg0.N,
    win0_0.index t = ![t.val / 8, 0] ∧ win0_1.index t = ![t.val, 0] ∧ win0_2.index t = ![t.val, 0] ∧ win0_3.index t = ![t.val / 8, 0]
      ∧ win0_4.index t = ![t.val / 8, 0, 0, 0, 0] ∧ win0_5.index t = ![t.val / 8, 0, 0, 0, 0]
      ∧ win0_6.index t = ![t.val / 8, 0] ∧ win0_7.index t = ![t.val, 0] ∧ win0_8.index t = ![t.val, 0] :=
  (by decide +kernel : ∀ t : Fin grid0.N, _)

/-- The number of grid points. -/
theorem pt_lt (t : Fin cfg0.N) : t.val < 32 := t.isLt

/-- A block of the queries. -/
theorem read_0 (t : Fin cfg0.N) (X : S8192x1024.Idx → EReal) (a : Fin 2048) (b : Fin 1024) :
    ((cfg0.win 0).blk t).view.read (Elt Ideal) X (ix2 a b) = X (ix2 ⟨2048 * (t.val / 8) + a.val, by have := pt_lt t; omega⟩ b) := by
  blk_ext [idx t]

/-- A block of the keys. -/
theorem read_1 (t : Fin cfg0.N) (X : S8192x1024.Idx → EReal) (a : Fin 256) (b : Fin 1024) :
    ((cfg0.win 1).blk t).view.read (Elt Ideal) X (ix2 a b) = X (ix2 ⟨256 * t.val + a.val, by have := pt_lt t; omega⟩ b) := by
  blk_ext [idx t]

/-- A block of the values. -/
theorem read_2 (t : Fin cfg0.N) (X : S8192x1024.Idx → EReal) (a : Fin 256) (b : Fin 1024) :
    ((cfg0.win 2).blk t).view.read (Elt Ideal) X (ix2 a b) = X (ix2 ⟨256 * t.val + a.val, by have := pt_lt t; omega⟩ b) := by
  blk_ext [idx t]

/-- A block of the output's gradient. -/
theorem read_3 (t : Fin cfg0.N) (X : S8192x1024.Idx → EReal) (a : Fin 2048) (b : Fin 1024) :
    ((cfg0.win 3).blk t).view.read (Elt Ideal) X (ix2 a b) = X (ix2 ⟨2048 * (t.val / 8) + a.val, by have := pt_lt t; omega⟩ b) := by
  blk_ext [idx t]

/-- A block of the logarithms of the row sums. -/
theorem read_4 (t : Fin cfg0.N) (X : S4x1x8x8x256.Idx → EReal) (i h : Fin 8) (x : Fin 256) :
    ((cfg0.win 4).blk t).view.read (Elt Ideal) X (ix5 0 0 i h x) = X (ix5 ⟨t.val / 8, by have := pt_lt t; omega⟩ 0 i h x) := by
  blk_ext [idx t]

/-- A block of the row sums of the output times its gradient. -/
theorem read_5 (t : Fin cfg0.N) (X : S4x1x8x8x256.Idx → EReal) (i h : Fin 8) (x : Fin 256) :
    ((cfg0.win 5).blk t).view.read (Elt Ideal) X (ix5 0 0 i h x) = X (ix5 ⟨t.val / 8, by have := pt_lt t; omega⟩ 0 i h x) := by
  blk_ext [idx t]

variable (m : (l : Loc nD τ sig) → Buf (Elt Ideal) l) (c : Dev nD)

/-- The queries. -/
abbrev a0 : S4x2048x8x96.Idx → EReal := m ((c.tc : Thread nD τ).loc main_arg0)
/-- The keys. -/
abbrev a1 : S4x2048x8x96.Idx → EReal := m ((c.tc : Thread nD τ).loc main_arg1)
/-- The values. -/
abbrev a2 : S4x2048x8x64.Idx → EReal := m ((c.tc : Thread nD τ).loc main_arg2)
/-- The gradient of the output. -/
abbrev a3 : S4x2048x8x64.Idx → EReal := m ((c.tc : Thread nD τ).loc main_arg3)

/-- The queries of a tile. -/
theorem tile_Q (t : Fin cfg0.N) {x y : ℕ} (hx : x < 2048) (hy : y < 1024) :
    (tile m c t).Q x y = wPad96 (wQ (a0 m c)) (ix2 ⟨2048 * (t.val / 8) + x, by have := pt_lt t; omega⟩ ⟨y, hy⟩) := by
  refine (dif_pos (⟨hx, hy⟩ : x < 2048 ∧ y < 1024)).trans ((read_0 t (V m c main_v37) ⟨x, hx⟩ ⟨y, hy⟩).trans ?_)
  rw [V_q]

/-- The keys of a tile. -/
theorem tile_K (t : Fin cfg0.N) {x y : ℕ} (hx : x < 256) (hy : y < 1024) :
    (tile m c t).K x y = wPad96 (a1 m c) (ix2 ⟨256 * t.val + x, by have := pt_lt t; omega⟩ ⟨y, hy⟩) := by
  refine (dif_pos (⟨hx, hy⟩ : x < 256 ∧ y < 1024)).trans ((read_1 t (V m c main_v40) ⟨x, hx⟩ ⟨y, hy⟩).trans ?_)
  rw [V_k]

/-- The values of a tile. -/
theorem tile_V (t : Fin cfg0.N) {x y : ℕ} (hx : x < 256) (hy : y < 1024) :
    (tile m c t).V x y = wPad64 (a2 m c) (ix2 ⟨256 * t.val + x, by have := pt_lt t; omega⟩ ⟨y, hy⟩) := by
  refine (dif_pos (⟨hx, hy⟩ : x < 256 ∧ y < 1024)).trans ((read_2 t (V m c main_v43) ⟨x, hx⟩ ⟨y, hy⟩).trans ?_)
  rw [V_v]

/-- The output's gradient of a tile. -/
theorem tile_O (t : Fin cfg0.N) {x y : ℕ} (hx : x < 2048) (hy : y < 1024) :
    (tile m c t).O x y = wPad64 (a3 m c) (ix2 ⟨2048 * (t.val / 8) + x, by have := pt_lt t; omega⟩ ⟨y, hy⟩) := by
  refine (dif_pos (⟨hx, hy⟩ : x < 2048 ∧ y < 1024)).trans ((read_3 t (V m c main_v46) ⟨x, hx⟩ ⟨y, hy⟩).trans ?_)
  rw [V_o]

/-- The logarithms of the row sums of a tile. -/
theorem tile_L (t : Fin cfg0.N) {i h x : ℕ} (hi : i < 8) (hh : h < 8) (hx : x < 256) :
    (tile m c t).L i h x = wL (a0 m c) (a1 m c) (ix3 ⟨t.val / 8, by have := pt_lt t; omega⟩ ⟨h, hh⟩ ⟨i * 256 + x, by omega⟩) := by
  refine (dif_pos (⟨hi, hh, hx⟩ : i < 8 ∧ h < 8 ∧ x < 256)).trans ((read_4 t (V m c main_v49) ⟨i, hi⟩ ⟨h, hh⟩ ⟨x, hx⟩).trans ?_)
  rw [V_l]
  exact wStat_at _ _ _ _ _

/-- The row sums of the output times its gradient of a tile. -/
theorem tile_D (t : Fin cfg0.N) {i h x : ℕ} (hi : i < 8) (hh : h < 8) (hx : x < 256) :
    (tile m c t).D i h x
      = wD (a0 m c) (a1 m c) (a2 m c) (a3 m c) (ix3 ⟨t.val / 8, by have := pt_lt t; omega⟩ ⟨h, hh⟩ ⟨i * 256 + x, by omega⟩) := by
  refine (dif_pos (⟨hi, hh, hx⟩ : i < 8 ∧ h < 8 ∧ x < 256)).trans ((read_5 t (V m c main_v52) ⟨i, hi⟩ ⟨h, hh⟩ ⟨x, hx⟩).trans ?_)
  rw [V_d]
  exact wStat_at _ _ _ _ _

/-- The heads of sequence `b` among the arguments. -/
abbrev heads (b h : ℕ) : Head := head (a0 m c) (a1 m c) (a2 m c) (a3 m c) b h

variable {m c} (R : Args (a0 m c) (a1 m c) (a2 m c) (a3 m c))
include R

/-- A tile fits the heads of its sequence. -/
theorem fits {b j : ℕ} (hb : b < 4) (hj : j < 8) :
    Fits (tile m c ⟨8 * b + j, show 8 * b + j < 32 by omega⟩) (fun h => heads m c b h) j where
  Q x hx h hh d hd := by
    rw [tile_Q m c _ hx (by omega), q_real R]
    show (((heads m c ((2048 * ((8 * b + j) / 8) + x) / 2048) ((128 * h + d) / 128)).Q ((2048 * ((8 * b + j) / 8) + x) % 2048) ((128 * h + d) % 128) / Real.log 2 : ℝ) : EReal) = _
    rw [show (2048 * ((8 * b + j) / 8) + x) / 2048 = b by omega, show (128 * h + d) / 128 = h by omega,
      show (2048 * ((8 * b + j) / 8) + x) % 2048 = x by omega, show (128 * h + d) % 128 = d by omega]
  K y hy h hh d hd := by
    rw [tile_K m c _ hy (by omega), k_real R]
    show (((heads m c ((256 * (8 * b + j) + y) / 2048) ((128 * h + d) / 128)).K ((256 * (8 * b + j) + y) % 2048) ((128 * h + d) % 128) : ℝ) : EReal) = _
    rw [show (256 * (8 * b + j) + y) / 2048 = b by omega, show (128 * h + d) / 128 = h by omega,
      show (256 * (8 * b + j) + y) % 2048 = 256 * j + y by omega, show (128 * h + d) % 128 = d by omega]
  V y hy h hh d hd := by
    rw [tile_V m c _ hy (by omega), v_real R]
    show (((heads m c ((256 * (8 * b + j) + y) / 2048) ((128 * h + d) / 128)).V ((256 * (8 * b + j) + y) % 2048) ((128 * h + d) % 128) : ℝ) : EReal) = _
    rw [show (256 * (8 * b + j) + y) / 2048 = b by omega, show (128 * h + d) / 128 = h by omega,
      show (256 * (8 * b + j) + y) % 2048 = 256 * j + y by omega, show (128 * h + d) % 128 = d by omega]
  O x hx h hh d hd := by
    rw [tile_O m c _ hx (by omega), o_real R]
    show (((heads m c ((2048 * ((8 * b + j) / 8) + x) / 2048) ((128 * h + d) / 128)).O ((2048 * ((8 * b + j) / 8) + x) % 2048) ((128 * h + d) % 128) : ℝ) : EReal) = _
    rw [show (2048 * ((8 * b + j) / 8) + x) / 2048 = b by omega, show (128 * h + d) / 128 = h by omega,
      show (2048 * ((8 * b + j) / 8) + x) % 2048 = x by omega, show (128 * h + d) % 128 = d by omega]
  L i hi h hh x hx := by
    rw [tile_L m c _ hi hh hx, wL_real R]
    show ((((heads m c ((8 * b + j) / 8) h).M (i * 256 + x) + Real.log ((heads m c ((8 * b + j) / 8) h).Z (i * 256 + x))) / Real.log 2 : ℝ) : EReal) = _
    rw [show (8 * b + j) / 8 = b by omega, mul_comm i 256]
  D i hi h hh x hx := by
    rw [tile_D m c _ hi hh hx, wD_real R]
    show (((heads m c ((8 * b + j) / 8) h).δ (i * 256 + x) : ℝ) : EReal) = _
    rw [show (8 * b + j) / 8 = b by omega, mul_comm i 256]

/-- The gradient of the values, at an index of a block. -/
theorem dvBlk_at (t : Fin cfg0.N) (y : S256x1024.Idx) : dvBlk m c t y
    = (((heads m c (t.val / 8) ((y 1).val / 128)).dv (256 * (t.val % 8) + (y 0).val) ((y 1).val % 128) : ℝ) : EReal) := by
  have ht := pt_lt t
  have h1 : (y 1).val < 1024 := (y 1).isLt
  have e : t = ⟨8 * (t.val / 8) + t.val % 8, show 8 * (t.val / 8) + t.val % 8 < 32 by omega⟩ := Fin.ext (by show t.val = 8 * (t.val / 8) + t.val % 8; omega)
  have F := fits R (b := t.val / 8) (j := t.val % 8) (by omega) (by omega)
  rw [← e] at F
  have key := F.dv (h := (y 1).val / 128) (d := (y 1).val % 128) (y := (y 0).val) (by omega) (by omega) (by omega) (y 0).isLt
  refine Eq.trans (congrArg (dvBlk m c t) ?_) key
  funext a
  match a with
  | 0 => rfl
  | 1 => exact Fin.ext (by show (y 1).val = 128 * ((y 1).val / 128) + (y 1).val % 128; omega)

/-- The gradient of the keys, at an index of a block. -/
theorem dkBlk_at (t : Fin cfg0.N) (y : S256x1024.Idx) : dkBlk m c t y
    = (((heads m c (t.val / 8) ((y 1).val / 128)).dk (256 * (t.val % 8) + (y 0).val) ((y 1).val % 128) : ℝ) : EReal) := by
  have ht := pt_lt t
  have h1 : (y 1).val < 1024 := (y 1).isLt
  have e : t = ⟨8 * (t.val / 8) + t.val % 8, show 8 * (t.val / 8) + t.val % 8 < 32 by omega⟩ := Fin.ext (by show t.val = 8 * (t.val / 8) + t.val % 8; omega)
  have F := fits R (b := t.val / 8) (j := t.val % 8) (by omega) (by omega)
  rw [← e] at F
  have key := F.dk (h := (y 1).val / 128) (d := (y 1).val % 128) (y := (y 0).val) (by omega) (by omega) (by omega) (y 0).isLt
  have hy : (ix2 ⟨(y 0).val, (y 0).isLt⟩ ⟨128 * ((y 1).val / 128) + (y 1).val % 128, by omega⟩ : S256x1024.Idx) = y := by
    funext a
    match a with
    | 0 => rfl
    | 1 => exact Fin.ext (by show 128 * ((y 1).val / 128) + (y 1).val % 128 = (y 1).val; omega)
  rw [hy] at key
  unfold dkBlk
  have hp : ∀ Z : S256x1024.Idx → EReal, k0_pay3 (F := Ideal) Z y = Z y * ((Real.log 2 : ℝ) : EReal) := fun Z => by
    pointwise [k0_pay3]
    rfl
  rw [hp, key, ← EReal.coe_mul, div_mul_cancel₀ _ log2_ne]

/-- The gradient of the queries the last point of a sequence writes, at an index of a block. -/
theorem outQ_at (t : Fin cfg0.N) (hf : t.val % 8 = 7) (y : S2048x1024.Idx) : outQ (accQ m c (t.val + 1)) y
    = (((heads m c (t.val / 8) ((y 1).val / 128)).dq (y 0).val ((y 1).val % 128) : ℝ) : EReal) := by
  have ht := pt_lt t
  have h0 : (y 0).val < 2048 := (y 0).isLt
  have h1 : (y 1).val < 1024 := (y 1).isLt
  have key := accQ_closed m c (fun h => heads m c (t.val / 8) h) (t.val / 8) (by omega)
    (fun j hj => fits R (b := t.val / 8) (j := j) (by omega) hj) ⟨(y 1).val / 128, by omega⟩ ⟨(y 0).val / 256, by omega⟩
    ⟨(y 1).val % 128, by omega⟩ ⟨(y 0).val % 256, by omega⟩ 7 (by omega)
  rw [sum_partQ, show 8 * (t.val / 8) + 7 + 1 = t.val + 1 by omega] at key
  refine (dif_pos (⟨⟨by omega, by omega⟩, by omega, by omega⟩ :
    ((y 1).val / 128 < 8 ∧ (y 0).val / 256 < 8) ∧ (y 1).val % 128 < 128 ∧ (y 0).val % 256 < 256)).trans (key.trans ?_)
  show (((heads m c (t.val / 8) ((y 1).val / 128)).dq (256 * ((y 0).val / 256) + (y 0).val % 256) ((y 1).val % 128) : ℝ) : EReal) = _
  rw [show 256 * ((y 0).val / 256) + (y 0).val % 256 = (y 0).val by omega]

omit R in
/-- Where an index of the block lies in the array. -/
theorem emb_6 (t : Fin cfg0.N) (y : S2048x1024.Idx) : ((win0_6.blk t).view.emb y 0).val = 2048 * (t.val / 8) + (y 0).val
    ∧ ((win0_6.blk t).view.emb y 1).val = (y 1).val := by
  constructor
  · blk_simp [idx t]; omega
  · blk_simp [idx t]

omit R in
/-- Where an index of the block lies in the array. -/
theorem emb_7 (t : Fin cfg0.N) (y : S256x1024.Idx) : ((win0_7.blk t).view.emb y 0).val = 256 * t.val + (y 0).val
    ∧ ((win0_7.blk t).view.emb y 1).val = (y 1).val := by
  constructor
  · blk_simp [idx t]; omega
  · blk_simp [idx t]

omit R in
/-- Where an index of the block lies in the array. -/
theorem emb_8 (t : Fin cfg0.N) (y : S256x1024.Idx) : ((win0_8.blk t).view.emb y 0).val = 256 * t.val + (y 0).val
    ∧ ((win0_8.blk t).view.emb y 1).val = (y 1).val := by
  constructor
  · blk_simp [idx t]; omega
  · blk_simp [idx t]

/-- The first result is the reference's gradient of the scaled queries. -/
theorem arr_6 : (dats m 0 c).arrAt 6 cfg0.N = Cert.ReferenceIdeal.Read.val_main_v64 (F := Ideal) (a0 m c) (a1 m c) (a2 m c) (a3 m c) := by
  refine (dats m 0 c).arrAt_eq_of_covers 6 _ (by decide +kernel) fun t hf y => ?_
  blk_simp
  rw [after_6]
  have ht := pt_lt t
  have h0 : (y 0).val < 2048 := (y 0).isLt
  have h1 : (y 1).val < 1024 := (y 1).isLt
  have e := emb_6 t y
  refine (outQ_at R t ((flush0_6 t).mp hf) y).trans (Eq.trans ?_ (R.v64 ((win0_6.blk t).view.emb y)).symm)
  rw [e.1, e.2, show (2048 * (t.val / 8) + (y 0).val) / 2048 = t.val / 8 by omega,
    show (2048 * (t.val / 8) + (y 0).val) % 2048 = (y 0).val by omega]

/-- The second result is the reference's gradient of the keys. -/
theorem arr_7 : (dats m 0 c).arrAt 7 cfg0.N = Cert.ReferenceIdeal.Read.val_main_v68 (F := Ideal) (a0 m c) (a1 m c) (a2 m c) (a3 m c) := by
  refine (dats m 0 c).arrAt_eq_of_covers 7 _ (by decide +kernel) fun t hf y => ?_
  blk_simp
  rw [after_7]
  have ht := pt_lt t
  have h0 : (y 0).val < 256 := (y 0).isLt
  have e := emb_7 t y
  refine (dkBlk_at R t y).trans (Eq.trans ?_ (R.v68 ((win0_7.blk t).view.emb y)).symm)
  rw [e.1, e.2, show (256 * t.val + (y 0).val) / 2048 = t.val / 8 by omega,
    show (256 * t.val + (y 0).val) % 2048 = 256 * (t.val % 8) + (y 0).val by omega]

/-- The third result is the reference's gradient of the values. -/
theorem arr_8 : (dats m 0 c).arrAt 8 cfg0.N = Cert.ReferenceIdeal.Read.val_main_v72 (F := Ideal) (a0 m c) (a1 m c) (a3 m c) := by
  refine (dats m 0 c).arrAt_eq_of_covers 8 _ (by decide +kernel) fun t hf y => ?_
  blk_simp
  rw [after_8]
  have ht := pt_lt t
  have h0 : (y 0).val < 256 := (y 0).isLt
  have e := emb_8 t y
  refine (dvBlk_at R t y).trans (Eq.trans ?_ (R.v72 ((win0_8.blk t).view.emb y)).symm)
  rw [e.1, e.2, show (256 * t.val + (y 0).val) / 2048 = t.val / 8 by omega,
    show (256 * t.val + (y 0).val) % 2048 = 256 * (t.val % 8) + (y 0).val by omega]

omit R in
/-- The idealized kernel's run: on real arguments it ends with the reference's three gradients, its arguments unchanged. -/
theorem results (ρ : Dev nD → PrngReg) (hR : ∀ c, Args (a0 m c) (a1 m c) (a2 m c) (a3 m c)) :
    θ_run defs (onTc (τ := τ) (main (F := Ideal))) (s₀ m ρ) (fun r => ∀ c : Dev nD,
      r.2.mem ((c.tc : Thread nD τ).loc main_v53_0) = Cert.ReferenceIdeal.Read.val_main_v64 (F := Ideal) (a0 m c) (a1 m c) (a2 m c) (a3 m c)
      ∧ r.2.mem ((c.tc : Thread nD τ).loc main_v53_1) = Cert.ReferenceIdeal.Read.val_main_v68 (F := Ideal) (a0 m c) (a1 m c) (a2 m c) (a3 m c)
      ∧ r.2.mem ((c.tc : Thread nD τ).loc main_v53_2) = Cert.ReferenceIdeal.Read.val_main_v72 (F := Ideal) (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have kept (b : Ref sig .tc) (hb : b ∈ Pipeline.restRefs sig cfg0.spec) := (h.1 c).2 b hb
    ⟨((h.1 c).1 6).trans (arr_6 (hR c)), ((h.1 c).1 7).trans (arr_7 (hR c)), ((h.1 c).1 8).trans (arr_8 (hR c)),
      (kept main_arg0 (Pipeline.mem_restRefs_of main_arg0 (by decide) (by decide))).trans (V_main_arg0 m c),
      (kept main_arg1 (Pipeline.mem_restRefs_of main_arg1 (by decide) (by decide))).trans (V_main_arg1 m c),
      (kept main_arg2 (Pipeline.mem_restRefs_of main_arg2 (by decide) (by decide))).trans (V_main_arg2 m c),
      (kept main_arg3 (Pipeline.mem_restRefs_of main_arg3 (by decide) (by decide))).trans (V_main_arg3 m c)⟩)
    (run_main m ρ)

end Cert.KernelIdeal.Hand

end

end
-- ==== Proof.Hand.Layout.lean ====
module

public import Idealize.ShloMosaic.Init
public import Mathlib.Algebra.BigOperators.Fin
public import Mathlib.Data.EReal.Operations

@[expose] public section

/-!
The lane layout of the combined projection: its 4256 columns, in ten segments, are laid out in 5120 lanes, the segments permuted and
the heads of three of them, and the rotary key, padded to 128 lanes.
-/

noncomputable section

namespace Cert.Layout

open Finset

/-- The lane of column `d`. -/
def lane (d : ℕ) : ℕ :=
  if d < 512 then 2048 + 128 * (d / 64) + d % 64
  else if d < 640 then 4096 + 128 * ((d - 512) / 64) + (d - 512) % 64
  else if d < 768 then 4352 + 128 * ((d - 640) / 64) + (d - 640) % 64
  else if d < 1280 then 3072 + (d - 768)
  else if d < 1536 then 4608 + (d - 1280)
  else if d < 1664 then 4864 + (d - 1536)
  else if d < 1696 then 5056 + (d - 1664)
  else if d < 2208 then 3584 + (d - 1696)
  else if d < 3232 then d - 2208
  else 1024 + (d - 3232)

/-- The column of lane `c`, of a lane that holds one. -/
def col (c : ℕ) : ℕ :=
  if c < 1024 then 2208 + c
  else if c < 2048 then 3232 + (c - 1024)
  else if c < 3072 then 64 * ((c - 2048) / 128) + (c - 2048) % 128
  else if c < 3584 then 768 + (c - 3072)
  else if c < 4096 then 1696 + (c - 3584)
  else if c < 4352 then 512 + (64 * ((c - 4096) / 128) + (c - 4096) % 128)
  else if c < 4608 then 640 + (64 * ((c - 4352) / 128) + (c - 4352) % 128)
  else if c < 4864 then 1280 + (c - 4608)
  else if c < 4992 then 1536 + (c - 4864)
  else 1664 + (c - 5056)

/-- Whether lane `c` holds a column. -/
def used (c : ℕ) : Prop :=
  (2048 ≤ c ∧ c < 3072 → c % 128 < 64) ∧ (4096 ≤ c ∧ c < 4608 → c % 128 < 64) ∧ (4992 ≤ c → 5056 ≤ c ∧ c < 5088)

instance (c : ℕ) : Decidable (used c) := inferInstanceAs (Decidable (_ ∧ _ ∧ _))

/-- A lane lies below 5120. -/
theorem lane_lt {d : ℕ} (h : d < 4256) : lane d < 5120 := by
  unfold lane; split_ifs <;> omega

/-- A used lane's column lies below 4256. -/
theorem col_lt {c : ℕ} (h : c < 5120) (u : used c) : col c < 4256 := by
  unfold used at u; unfold col; split_ifs <;> omega

/-- A column's lane is used. -/
theorem used_lane {d : ℕ} (h : d < 4256) : used (lane d) := by
  unfold used lane; split_ifs <;> omega

/-- The column of a column's lane is the column. -/
theorem col_lane {d : ℕ} (h : d < 4256) : col (lane d) = d :=
  (by decide +kernel : ∀ d < 4256, col (lane d) = d) d h

/-- And the lane of a used lane's column is the lane. -/
theorem lane_col {c : ℕ} (h : c < 5120) (u : used c) : lane (col c) = c :=
  (by decide +kernel : ∀ c < 5120, used c → lane (col c) = c) c h u

/-- The lane of column `d`, among the lanes. -/
def pos (d : Fin 4256) : Fin 5120 := ⟨lane d.val, lane_lt d.isLt⟩

/-- A row over the columns, laid out over the lanes, zero in the lanes between. -/
def lay (f : Fin 4256 → EReal) (c : Fin 5120) : EReal :=
  if u : used c.val then f ⟨col c.val, col_lt c.isLt u⟩ else 0

/-- The layout at a column's lane is the column. -/
theorem lay_pos (f : Fin 4256 → EReal) (d : Fin 4256) : lay f (pos d) = f d := by
  unfold lay
  exact (dif_pos (used_lane d.isLt)).trans (congrArg f (Fin.ext (col_lane d.isLt)))

/-- The layout at a used lane is the lane's column. -/
theorem lay_used (f : Fin 4256 → EReal) {c : Fin 5120} (d : Fin 4256) (u : used c.val) (h : col c.val = d.val) : lay f c = f d := by
  unfold lay
  exact (dif_pos u).trans (congrArg f (Fin.ext h))

/-- A lane that is not used holds zero. -/
theorem lay_unused (f : Fin 4256 → EReal) {c : Fin 5120} (u : ¬ used c.val) : lay f c = 0 := by
  unfold lay
  exact dif_neg u

/-- Distinct columns have distinct lanes. -/
theorem pos_injective : Function.Injective pos := fun a b h => Fin.ext (by
  rw [← col_lane a.isLt, ← col_lane b.isLt]
  exact congrArg col (congrArg Fin.val h))

/-- A lane that is no column's holds zero. -/
theorem lay_of_notMem (f : Fin 4256 → EReal) {c : Fin 5120} (h : c ∉ Set.range pos) : lay f c = 0 := by
  unfold lay
  rw [dif_neg]
  exact fun u => h ⟨⟨col c.val, col_lt c.isLt u⟩, Fin.ext (lane_col c.isLt u)⟩

/-- A sum of products over the lanes is the sum over the columns. -/
theorem sum_lay (f g : Fin 4256 → EReal) : ∑ c, lay f c * lay g c = ∑ d, f d * g d :=
  (Fintype.sum_of_injective pos pos_injective (fun d => f d * g d) (fun c => lay f c * lay g c)
    (fun c h => by rw [lay_of_notMem f h, zero_mul]) (fun d => by rw [lay_pos, lay_pos])).symm

end Cert.Layout

end

end
-- ==== Proof.Hand.Lanes2.lean ====
module

public import proofs.«01_k».proof.Proof.Hand.Layout
public import proofs.«01_k».proof.Proof.Gen.Kernel2Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.Layout

/-- The zero the lanes are padded with. -/
def laneZero : S_.Idx → EReal := sitofp (F := Ideal) .f32 (constantI S_ 32 0#32)

/-- Eight heads of 64 columns, each padded to 128 lanes. -/
def heads8 (x : S8192x512.Idx → EReal) : S8192x1024.Idx → EReal :=
  shapeCast S8192x1024 (pad S8192x8x128 ![0, 0, 0] ![0, 0, 64] ![0, 0, 0] (shapeCast S8192x8x64 x shapeCasts_S8192x512_S8192x8x64) laneZero
    pads_S8192x8x64_S8192x8x128_000_000_0640 h_S_) shapeCasts_S8192x8x128_S8192x1024

/-- Two heads of 64 columns, each padded to 128 lanes. -/
def heads2 (x : S8192x128.Idx → EReal) : S8192x256.Idx → EReal :=
  shapeCast S8192x256 (pad S8192x2x128 ![0, 0, 0] ![0, 0, 64] ![0, 0, 0] (shapeCast S8192x2x64 x shapeCasts_S8192x128_S8192x2x64) laneZero
    pads_S8192x2x64_S8192x2x128_000_000_0640 h_S_) shapeCasts_S8192x2x128_S8192x256

/-- The rotary key's 32 columns, at lane 64 of 128. -/
def rotary (x : S8192x32.Idx → EReal) : S8192x128.Idx → EReal :=
  pad S8192x128 ![0, 64] ![0, 32] ![0, 0] x laneZero pads_S8192x32_S8192x128_000_64320 h_S_

/-- Ten pieces side by side, 5120 lanes in all. -/
def beside (p0 p1 p2 : S8192x1024.Idx → EReal) (p3 p4 : S8192x512.Idx → EReal) (p5 p6 p7 : S8192x256.Idx → EReal)
    (p8 p9 : S8192x128.Idx → EReal) : S8192x5120.Idx → EReal :=
  concatenate S8192x5120 1 [⟨S8192x1024, p0⟩, ⟨S8192x1024, p1⟩, ⟨S8192x1024, p2⟩, ⟨S8192x512, p3⟩, ⟨S8192x512, p4⟩, ⟨S8192x256, p5⟩, ⟨S8192x256, p6⟩, ⟨S8192x256, p7⟩, ⟨S8192x128, p8⟩, ⟨S8192x128, p9⟩]
    concatenates_S8192x1024_S8192x1024_S8192x1024_S8192x512_S8192x512_S8192x256_S8192x256_S8192x256_S8192x128_S8192x128_S8192x5120_d1

/-- The columns of the projection laid out over its lanes. -/
def laid (x : S8192x4256.Idx → EReal) : S8192x5120.Idx → EReal :=
  beside
    (extractStridedSlice S8192x1024 ![0, 2208] x slices_S8192x4256_S8192x1024_0_2208)
    (extractStridedSlice S8192x1024 ![0, 3232] x slices_S8192x4256_S8192x1024_0_3232)
    (heads8 (extractStridedSlice S8192x512 ![0, 0] x slices_S8192x4256_S8192x512_0_0))
    (extractStridedSlice S8192x512 ![0, 768] x slices_S8192x4256_S8192x512_0_768)
    (extractStridedSlice S8192x512 ![0, 1696] x slices_S8192x4256_S8192x512_0_1696)
    (heads2 (extractStridedSlice S8192x128 ![0, 512] x slices_S8192x4256_S8192x128_0_512))
    (heads2 (extractStridedSlice S8192x128 ![0, 640] x slices_S8192x4256_S8192x128_0_640))
    (extractStridedSlice S8192x256 ![0, 1280] x slices_S8192x4256_S8192x256_0_1280)
    (extractStridedSlice S8192x128 ![0, 1536] x slices_S8192x4256_S8192x128_0_1536)
    (rotary (extractStridedSlice S8192x32 ![0, 1664] x slices_S8192x4256_S8192x32_0_1664))

/-- The padding is zero. -/
theorem laneZero_eq : FloatOps.sitofp (F := Ideal) .f32 0#32 = (0 : EReal) := by
  show ((((0#32 : BitVec 32).toInt : ℝ)) : EReal) = 0
  norm_num

/-- Eight padded heads, at an index. -/
theorem heads8_at (x : S8192x512.Idx → EReal) (r : Fin 8192) (c : Fin 1024) : heads8 x (ix2 r c) =
    if h : c.val / 128 < 8 ∧ c.val % 128 < 64 then x (ix2 r ⟨c.val / 128 * 64 + c.val % 128, by omega⟩) else FloatOps.sitofp (F := Ideal) .f32 0#32 := by
  pointwise [heads8, laneZero]

/-- Two padded heads, at an index. -/
theorem heads2_at (x : S8192x128.Idx → EReal) (r : Fin 8192) (c : Fin 256) : heads2 x (ix2 r c) =
    if h : c.val / 128 < 2 ∧ c.val % 128 < 64 then x (ix2 r ⟨c.val / 128 * 64 + c.val % 128, by omega⟩) else FloatOps.sitofp (F := Ideal) .f32 0#32 := by
  pointwise [heads2, laneZero]

/-- The padded rotary key, at an index. -/
theorem rotary_at (x : S8192x32.Idx → EReal) (r : Fin 8192) (c : Fin 128) : rotary x (ix2 r c) =
    if h : 64 ≤ c.val ∧ c.val - 64 < 32 then x (ix2 r ⟨c.val - 64, h.2⟩) else FloatOps.sitofp (F := Ideal) .f32 0#32 := by
  pointwise [rotary, laneZero]

/-- Columns 2208 to 3232 of the projection, at an index. -/
theorem cut2208_at (x : S8192x4256.Idx → EReal) (r : Fin 8192) (c : Fin 1024) :
    extractStridedSlice S8192x1024 ![0, 2208] x slices_S8192x4256_S8192x1024_0_2208 (ix2 r c) = x (ix2 r ⟨2208 + c.val, by omega⟩) := by
  pointwise []

/-- Columns 3232 to 4256 of the projection, at an index. -/
theorem cut3232_at (x : S8192x4256.Idx → EReal) (r : Fin 8192) (c : Fin 1024) :
    extractStridedSlice S8192x1024 ![0, 3232] x slices_S8192x4256_S8192x1024_0_3232 (ix2 r c) = x (ix2 r ⟨3232 + c.val, by omega⟩) := by
  pointwise []

/-- Columns 0 to 512 of the projection, at an index. -/
theorem cut0_at (x : S8192x4256.Idx → EReal) (r : Fin 8192) (c : Fin 512) :
    extractStridedSlice S8192x512 ![0, 0] x slices_S8192x4256_S8192x512_0_0 (ix2 r c) = x (ix2 r ⟨0 + c.val, by omega⟩) := by
  pointwise []

/-- Columns 768 to 1280 of the projection, at an index. -/
theorem cut768_at (x : S8192x4256.Idx → EReal) (r : Fin 8192) (c : Fin 512) :
    extractStridedSlice S8192x512 ![0, 768] x slices_S8192x4256_S8192x512_0_768 (ix2 r c) = x (ix2 r ⟨768 + c.val, by omega⟩) := by
  pointwise []

/-- Columns 1696 to 2208 of the projection, at an index. -/
theorem cut1696_at (x : S8192x4256.Idx → EReal) (r : Fin 8192) (c : Fin 512) :
    extractStridedSlice S8192x512 ![0, 1696] x slices_S8192x4256_S8192x512_0_1696 (ix2 r c) = x (ix2 r ⟨1696 + c.val, by omega⟩) := by
  pointwise []

/-- Columns 512 to 640 of the projection, at an index. -/
theorem cut512_at (x : S8192x4256.Idx → EReal) (r : Fin 8192) (c : Fin 128) :
    extractStridedSlice S8192x128 ![0, 512] x slices_S8192x4256_S8192x128_0_512 (ix2 r c) = x (ix2 r ⟨512 + c.val, by omega⟩) := by
  pointwise []

/-- Columns 640 to 768 of the projection, at an index. -/
theorem cut640_at (x : S8192x4256.Idx → EReal) (r : Fin 8192) (c : Fin 128) :
    extractStridedSlice S8192x128 ![0, 640] x slices_S8192x4256_S8192x128_0_640 (ix2 r c) = x (ix2 r ⟨640 + c.val, by omega⟩) := by
  pointwise []

/-- Columns 1280 to 1536 of the projection, at an index. -/
theorem cut1280_at (x : S8192x4256.Idx → EReal) (r : Fin 8192) (c : Fin 256) :
    extractStridedSlice S8192x256 ![0, 1280] x slices_S8192x4256_S8192x256_0_1280 (ix2 r c) = x (ix2 r ⟨1280 + c.val, by omega⟩) := by
  pointwise []

/-- Columns 1536 to 1664 of the projection, at an index. -/
theorem cut1536_at (x : S8192x4256.Idx → EReal) (r : Fin 8192) (c : Fin 128) :
    extractStridedSlice S8192x128 ![0, 1536] x slices_S8192x4256_S8192x128_0_1536 (ix2 r c) = x (ix2 r ⟨1536 + c.val, by omega⟩) := by
  pointwise []

/-- Columns 1664 to 1696 of the projection, at an index. -/
theorem cut1664_at (x : S8192x4256.Idx → EReal) (r : Fin 8192) (c : Fin 32) :
    extractStridedSlice S8192x32 ![0, 1664] x slices_S8192x4256_S8192x32_0_1664 (ix2 r c) = x (ix2 r ⟨1664 + c.val, by omega⟩) := by
  pointwise []

/-- The pieces side by side, at an index. -/
theorem beside_at (p0 p1 p2 : S8192x1024.Idx → EReal) (p3 p4 : S8192x512.Idx → EReal) (p5 p6 p7 : S8192x256.Idx → EReal)
    (p8 p9 : S8192x128.Idx → EReal) (r : Fin 8192) (c : Fin 5120) : beside p0 p1 p2 p3 p4 p5 p6 p7 p8 p9 (ix2 r c) =
    if h : c.val < 1024 then p0 (ix2 r ⟨c.val, h⟩) else
    if h : c.val - 1024 < 1024 then p1 (ix2 r ⟨c.val - 1024, h⟩) else
    if h : c.val - 1024 - 1024 < 1024 then p2 (ix2 r ⟨c.val - 1024 - 1024, h⟩) else
    if h : c.val - 1024 - 1024 - 1024 < 512 then p3 (ix2 r ⟨c.val - 1024 - 1024 - 1024, h⟩) else
    if h : c.val - 1024 - 1024 - 1024 - 512 < 512 then p4 (ix2 r ⟨c.val - 1024 - 1024 - 1024 - 512, h⟩) else
    if h : c.val - 1024 - 1024 - 1024 - 512 - 512 < 256 then p5 (ix2 r ⟨c.val - 1024 - 1024 - 1024 - 512 - 512, h⟩) else
    if h : c.val - 1024 - 1024 - 1024 - 512 - 512 - 256 < 256 then p6 (ix2 r ⟨c.val - 1024 - 1024 - 1024 - 512 - 512 - 256, h⟩) else
    if h : c.val - 1024 - 1024 - 1024 - 512 - 512 - 256 - 256 < 256 then p7 (ix2 r ⟨c.val - 1024 - 1024 - 1024 - 512 - 512 - 256 - 256, h⟩) else
    if h : c.val - 1024 - 1024 - 1024 - 512 - 512 - 256 - 256 - 256 < 128 then p8 (ix2 r ⟨c.val - 1024 - 1024 - 1024 - 512 - 512 - 256 - 256 - 256, h⟩) else
    p9 (ix2 r ⟨c.val - 1024 - 1024 - 1024 - 512 - 512 - 256 - 256 - 256 - 128, by omega⟩) := by
  pointwise [beside]

/-- The columns laid out over the lanes, at an index. -/
theorem laid_at (x : S8192x4256.Idx → EReal) (r : Fin 8192) (c : Fin 5120) : laid x (ix2 r c) = lay (fun d => x (ix2 r d)) c := by
  have hc : c.val < 5120 := c.isLt
  unfold laid
  rw [beside_at]
  split
  · rw [cut2208_at]
    refine (lay_used (fun d => x (ix2 r d)) _ ?_ ?_).symm
    · (try dsimp only at *); unfold used; omega
    · (try dsimp only at *); unfold col; rw [if_pos (by omega)]
  split
  · rw [cut3232_at]
    refine (lay_used (fun d => x (ix2 r d)) _ ?_ ?_).symm
    · (try dsimp only at *); unfold used; omega
    · (try dsimp only at *); unfold col; rw [if_neg (by omega), if_pos (by omega)] <;> omega
  split
  · rw [heads8_at]
    split
    · rw [cut0_at]
      refine (lay_used (fun d => x (ix2 r d)) _ ?_ ?_).symm
      · (try dsimp only at *); unfold used; omega
      · (try dsimp only at *); unfold col; rw [if_neg (by omega), if_neg (by omega), if_pos (by omega)] <;> omega
    · rw [laneZero_eq]
      refine (lay_unused _ ?_).symm
      (try dsimp only at *); unfold used; omega
  split
  · rw [cut768_at]
    refine (lay_used (fun d => x (ix2 r d)) _ ?_ ?_).symm
    · (try dsimp only at *); unfold used; omega
    · (try dsimp only at *); unfold col; rw [if_neg (by omega), if_neg (by omega), if_neg (by omega), if_pos (by omega)] <;> omega
  split
  · rw [cut1696_at]
    refine (lay_used (fun d => x (ix2 r d)) _ ?_ ?_).symm
    · (try dsimp only at *); unfold used; omega
    · (try dsimp only at *); unfold col; rw [if_neg (by omega), if_neg (by omega), if_neg (by omega), if_neg (by omega), if_pos (by omega)] <;> omega
  split
  · rw [heads2_at]
    split
    · rw [cut512_at]
      refine (lay_used (fun d => x (ix2 r d)) _ ?_ ?_).symm
      · (try dsimp only at *); unfold used; omega
      · (try dsimp only at *); unfold col; rw [if_neg (by omega), if_neg (by omega), if_neg (by omega), if_neg (by omega), if_neg (by omega), if_pos (by omega)] <;> omega
    · rw [laneZero_eq]
      refine (lay_unused _ ?_).symm
      (try dsimp only at *); unfold used; omega
  split
  · rw [heads2_at]
    split
    · rw [cut640_at]
      refine (lay_used (fun d => x (ix2 r d)) _ ?_ ?_).symm
      · (try dsimp only at *); unfold used; omega
      · (try dsimp only at *); unfold col; rw [if_neg (by omega), if_neg (by omega), if_neg (by omega), if_neg (by omega), if_neg (by omega), if_neg (by omega), if_pos (by omega)] <;> omega
    · rw [laneZero_eq]
      refine (lay_unused _ ?_).symm
      (try dsimp only at *); unfold used; omega
  split
  · rw [cut1280_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_pos (by omega)] <;> omega
  split
  · rw [cut1536_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_neg (by omega), if_pos (by omega)] <;> omega
  rw [rotary_at]
  split
  · rw [cut1664_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_neg (by omega), if_neg (by omega)] <;> omega
  · rw [laneZero_eq]
    refine (lay_unused _ ?_).symm
    (try dsimp only at *); unfold used; omega

/-- The 64 columns of each of eight padded heads. -/
def unpadded8 (x : S1024x1024.Idx → EReal) : S1024x512.Idx → EReal :=
  shapeCast S1024x512 (extractStridedSlice S1024x8x64 ![0, 0, 0] (shapeCast S1024x8x128 x shapeCasts_S1024x1024_S1024x8x128)
    slices_S1024x8x128_S1024x8x64_0_0_0) shapeCasts_S1024x8x64_S1024x512

/-- They are, at an index, lanes of the heads. -/
theorem unpadded8_at (x : S1024x1024.Idx → EReal) (r : Fin 1024) (c : Fin 512) :
    unpadded8 x (ix2 r c) = x (ix2 r ⟨c.val / 64 * 128 + c.val % 64, by omega⟩) := by
  pointwise [unpadded8]

/-- The 64 columns of each of two padded heads. -/
def unpadded2 (x : S1024x256.Idx → EReal) : S1024x128.Idx → EReal :=
  shapeCast S1024x128 (extractStridedSlice S1024x2x64 ![0, 0, 0] (shapeCast S1024x2x128 x shapeCasts_S1024x256_S1024x2x128)
    slices_S1024x2x128_S1024x2x64_0_0_0) shapeCasts_S1024x2x64_S1024x128

/-- They are, at an index, lanes of the heads. -/
theorem unpadded2_at (x : S1024x256.Idx → EReal) (r : Fin 1024) (c : Fin 128) :
    unpadded2 x (ix2 r c) = x (ix2 r ⟨c.val / 64 * 128 + c.val % 64, by omega⟩) := by
  pointwise [unpadded2]

/-- Ten pieces side by side, 4256 columns in all. -/
def columns (p0 : S1024x512.Idx → EReal) (p1 : S1024x128.Idx → EReal) (p2 : S1024x128.Idx → EReal) (p3 : S1024x512.Idx → EReal) (p4 : S1024x256.Idx → EReal) (p5 : S1024x128.Idx → EReal) (p6 : S1024x32.Idx → EReal) (p7 : S1024x512.Idx → EReal) (p8 : S1024x1024.Idx → EReal) (p9 : S1024x1024.Idx → EReal) :
    S1024x4256.Idx → EReal :=
  concatenate S1024x4256 1 [⟨S1024x512, p0⟩, ⟨S1024x128, p1⟩, ⟨S1024x128, p2⟩, ⟨S1024x512, p3⟩, ⟨S1024x256, p4⟩, ⟨S1024x128, p5⟩, ⟨S1024x32, p6⟩, ⟨S1024x512, p7⟩, ⟨S1024x1024, p8⟩, ⟨S1024x1024, p9⟩]
    concatenates_S1024x512_S1024x128_S1024x128_S1024x512_S1024x256_S1024x128_S1024x32_S1024x512_S1024x1024_S1024x1024_S1024x4256_d1

/-- The columns of the projection, taken from its lanes. -/
def unlaid (y : S1024x5120.Idx → EReal) : S1024x4256.Idx → EReal :=
  columns
    (unpadded8 (extractStridedSlice S1024x1024 ![0, 2048] y slices_S1024x5120_S1024x1024_0_2048))
    (unpadded2 (extractStridedSlice S1024x256 ![0, 4096] y slices_S1024x5120_S1024x256_0_4096))
    (unpadded2 (extractStridedSlice S1024x256 ![0, 4352] y slices_S1024x5120_S1024x256_0_4352))
    (extractStridedSlice S1024x512 ![0, 3072] y slices_S1024x5120_S1024x512_0_3072)
    (extractStridedSlice S1024x256 ![0, 4608] y slices_S1024x5120_S1024x256_0_4608)
    (extractStridedSlice S1024x128 ![0, 4864] y slices_S1024x5120_S1024x128_0_4864)
    (extractStridedSlice S1024x32 ![0, 64] (extractStridedSlice S1024x128 ![0, 4992] y slices_S1024x5120_S1024x128_0_4992) slices_S1024x128_S1024x32_0_64)
    (extractStridedSlice S1024x512 ![0, 3584] y slices_S1024x5120_S1024x512_0_3584)
    (extractStridedSlice S1024x1024 ![0, 0] y slices_S1024x5120_S1024x1024_0_0)
    (extractStridedSlice S1024x1024 ![0, 1024] y slices_S1024x5120_S1024x1024_0_1024)

/-- Lanes 2048 to 3072 of the projection, at an index. -/
theorem lanes2048_at (y : S1024x5120.Idx → EReal) (r : Fin 1024) (c : Fin 1024) :
    extractStridedSlice S1024x1024 ![0, 2048] y slices_S1024x5120_S1024x1024_0_2048 (ix2 r c) = y (ix2 r ⟨2048 + c.val, by omega⟩) := by
  pointwise []

/-- Lanes 4096 to 4352 of the projection, at an index. -/
theorem lanes4096_at (y : S1024x5120.Idx → EReal) (r : Fin 1024) (c : Fin 256) :
    extractStridedSlice S1024x256 ![0, 4096] y slices_S1024x5120_S1024x256_0_4096 (ix2 r c) = y (ix2 r ⟨4096 + c.val, by omega⟩) := by
  pointwise []

/-- Lanes 4352 to 4608 of the projection, at an index. -/
theorem lanes4352_at (y : S1024x5120.Idx → EReal) (r : Fin 1024) (c : Fin 256) :
    extractStridedSlice S1024x256 ![0, 4352] y slices_S1024x5120_S1024x256_0_4352 (ix2 r c) = y (ix2 r ⟨4352 + c.val, by omega⟩) := by
  pointwise []

/-- Lanes 3072 to 3584 of the projection, at an index. -/
theorem lanes3072_at (y : S1024x5120.Idx → EReal) (r : Fin 1024) (c : Fin 512) :
    extractStridedSlice S1024x512 ![0, 3072] y slices_S1024x5120_S1024x512_0_3072 (ix2 r c) = y (ix2 r ⟨3072 + c.val, by omega⟩) := by
  pointwise []

/-- Lanes 4608 to 4864 of the projection, at an index. -/
theorem lanes4608_at (y : S1024x5120.Idx → EReal) (r : Fin 1024) (c : Fin 256) :
    extractStridedSlice S1024x256 ![0, 4608] y slices_S1024x5120_S1024x256_0_4608 (ix2 r c) = y (ix2 r ⟨4608 + c.val, by omega⟩) := by
  pointwise []

/-- Lanes 4864 to 4992 of the projection, at an index. -/
theorem lanes4864_at (y : S1024x5120.Idx → EReal) (r : Fin 1024) (c : Fin 128) :
    extractStridedSlice S1024x128 ![0, 4864] y slices_S1024x5120_S1024x128_0_4864 (ix2 r c) = y (ix2 r ⟨4864 + c.val, by omega⟩) := by
  pointwise []

/-- Lanes 4992 to 5120 of the projection, at an index. -/
theorem lanes4992_at (y : S1024x5120.Idx → EReal) (r : Fin 1024) (c : Fin 128) :
    extractStridedSlice S1024x128 ![0, 4992] y slices_S1024x5120_S1024x128_0_4992 (ix2 r c) = y (ix2 r ⟨4992 + c.val, by omega⟩) := by
  pointwise []

/-- Lanes 3584 to 4096 of the projection, at an index. -/
theorem lanes3584_at (y : S1024x5120.Idx → EReal) (r : Fin 1024) (c : Fin 512) :
    extractStridedSlice S1024x512 ![0, 3584] y slices_S1024x5120_S1024x512_0_3584 (ix2 r c) = y (ix2 r ⟨3584 + c.val, by omega⟩) := by
  pointwise []

/-- Lanes 0 to 1024 of the projection, at an index. -/
theorem lanes0_at (y : S1024x5120.Idx → EReal) (r : Fin 1024) (c : Fin 1024) :
    extractStridedSlice S1024x1024 ![0, 0] y slices_S1024x5120_S1024x1024_0_0 (ix2 r c) = y (ix2 r ⟨0 + c.val, by omega⟩) := by
  pointwise []

/-- Lanes 1024 to 2048 of the projection, at an index. -/
theorem lanes1024_at (y : S1024x5120.Idx → EReal) (r : Fin 1024) (c : Fin 1024) :
    extractStridedSlice S1024x1024 ![0, 1024] y slices_S1024x5120_S1024x1024_0_1024 (ix2 r c) = y (ix2 r ⟨1024 + c.val, by omega⟩) := by
  pointwise []

/-- The rotary key's columns, at an index. -/
theorem rotary_lanes_at (y : S1024x128.Idx → EReal) (r : Fin 1024) (c : Fin 32) :
    extractStridedSlice S1024x32 ![0, 64] y slices_S1024x128_S1024x32_0_64 (ix2 r c) = y (ix2 r ⟨64 + c.val, by omega⟩) := by
  pointwise []

/-- The pieces side by side, at an index. -/
theorem columns_at (p0 : S1024x512.Idx → EReal) (p1 : S1024x128.Idx → EReal) (p2 : S1024x128.Idx → EReal) (p3 : S1024x512.Idx → EReal) (p4 : S1024x256.Idx → EReal) (p5 : S1024x128.Idx → EReal) (p6 : S1024x32.Idx → EReal) (p7 : S1024x512.Idx → EReal) (p8 : S1024x1024.Idx → EReal) (p9 : S1024x1024.Idx → EReal)
    (r : Fin 1024) (c : Fin 4256) : columns p0 p1 p2 p3 p4 p5 p6 p7 p8 p9 (ix2 r c) =
    if h : c.val < 512 then p0 (ix2 r ⟨c.val, h⟩) else
    if h : c.val - 512 < 128 then p1 (ix2 r ⟨c.val - 512, h⟩) else
    if h : c.val - 512 - 128 < 128 then p2 (ix2 r ⟨c.val - 512 - 128, h⟩) else
    if h : c.val - 512 - 128 - 128 < 512 then p3 (ix2 r ⟨c.val - 512 - 128 - 128, h⟩) else
    if h : c.val - 512 - 128 - 128 - 512 < 256 then p4 (ix2 r ⟨c.val - 512 - 128 - 128 - 512, h⟩) else
    if h : c.val - 512 - 128 - 128 - 512 - 256 < 128 then p5 (ix2 r ⟨c.val - 512 - 128 - 128 - 512 - 256, h⟩) else
    if h : c.val - 512 - 128 - 128 - 512 - 256 - 128 < 32 then p6 (ix2 r ⟨c.val - 512 - 128 - 128 - 512 - 256 - 128, h⟩) else
    if h : c.val - 512 - 128 - 128 - 512 - 256 - 128 - 32 < 512 then p7 (ix2 r ⟨c.val - 512 - 128 - 128 - 512 - 256 - 128 - 32, h⟩) else
    if h : c.val - 512 - 128 - 128 - 512 - 256 - 128 - 32 - 512 < 1024 then p8 (ix2 r ⟨c.val - 512 - 128 - 128 - 512 - 256 - 128 - 32 - 512, h⟩) else
    p9 (ix2 r ⟨c.val - 512 - 128 - 128 - 512 - 256 - 128 - 32 - 512 - 1024, by omega⟩) := by
  pointwise [columns]

/-- The columns taken from the lanes, at an index. -/
theorem unlaid_at (y : S1024x5120.Idx → EReal) (r : Fin 1024) (c : Fin 4256) : unlaid y (ix2 r c) = y (ix2 r (pos c)) := by
  have hc : c.val < 4256 := c.isLt
  unfold unlaid
  rw [columns_at]
  split
  · rw [unpadded8_at, lanes2048_at]
    refine congrArg (fun e => y (ix2 r e)) (Fin.ext ?_)
    show _ = lane c.val
    (try dsimp only); unfold lane; rw [if_pos (by omega)] <;> omega
  split
  · rw [unpadded2_at, lanes4096_at]
    refine congrArg (fun e => y (ix2 r e)) (Fin.ext ?_)
    show _ = lane c.val
    (try dsimp only); unfold lane; rw [if_neg (by omega), if_pos (by omega)] <;> omega
  split
  · rw [unpadded2_at, lanes4352_at]
    refine congrArg (fun e => y (ix2 r e)) (Fin.ext ?_)
    show _ = lane c.val
    (try dsimp only); unfold lane; rw [if_neg (by omega), if_neg (by omega), if_pos (by omega)] <;> omega
  split
  · rw [lanes3072_at]
    refine congrArg (fun e => y (ix2 r e)) (Fin.ext ?_)
    show _ = lane c.val
    (try dsimp only); unfold lane; rw [if_neg (by omega), if_neg (by omega), if_neg (by omega), if_pos (by omega)] <;> omega
  split
  · rw [lanes4608_at]
    refine congrArg (fun e => y (ix2 r e)) (Fin.ext ?_)
    show _ = lane c.val
    (try dsimp only); unfold lane; rw [if_neg (by omega), if_neg (by omega), if_neg (by omega), if_neg (by omega), if_pos (by omega)] <;> omega
  split
  · rw [lanes4864_at]
    refine congrArg (fun e => y (ix2 r e)) (Fin.ext ?_)
    show _ = lane c.val
    (try dsimp only); unfold lane; rw [if_neg (by omega), if_neg (by omega), if_neg (by omega), if_neg (by omega), if_neg (by omega), if_pos (by omega)] <;> omega
  split
  · rw [rotary_lanes_at, lanes4992_at]
    refine congrArg (fun e => y (ix2 r e)) (Fin.ext ?_)
    show _ = lane c.val
    (try dsimp only); unfold lane; rw [if_neg (by omega), if_neg (by omega), if_neg (by omega), if_neg (by omega), if_neg (by omega), if_neg (by omega), if_pos (by omega)] <;> omega
  split
  · rw [lanes3584_at]
    refine congrArg (fun e => y (ix2 r e)) (Fin.ext ?_)
    show _ = lane c.val
    (try dsimp only); unfold lane; rw [if_neg (by omega), if_neg (by omega), if_neg (by omega), if_neg (by omega), if_neg (by omega), if_neg (by omega), if_neg (by omega), if_pos (by omega)] <;> omega
  split
  · rw [lanes0_at]
    refine congrArg (fun e => y (ix2 r e)) (Fin.ext ?_)
    show _ = lane c.val
    (try dsimp only); unfold lane; rw [if_neg (by omega), if_neg (by omega), if_neg (by omega), if_neg (by omega), if_neg (by omega), if_neg (by omega), if_neg (by omega), if_neg (by omega), if_pos (by omega)] <;> omega
  rw [lanes1024_at]
  refine congrArg (fun e => y (ix2 r e)) (Fin.ext ?_)
  show _ = lane c.val
  (try dsimp only); unfold lane; rw [if_neg (by omega), if_neg (by omega), if_neg (by omega), if_neg (by omega), if_neg (by omega), if_neg (by omega), if_neg (by omega), if_neg (by omega), if_neg (by omega)] <;> omega

end Cert.Kernel2Ideal.Hand

end

end
-- ==== Proof.Hand.GradIn.lean ====
module

public import proofs.«01_k».proof.Proof.Hand.Lanes2
public import proofs.«01_k».proof.Proof.Gen.Reference2Ideal.Read

@[expose] public section

set_option maxRecDepth 16384

/-!
The gradient of the combined projection's weights: the idealized kernel sums, over eight blocks of 1024 tokens, the products of a
block of the normalised stream with a block of the laid-out output gradient; its columns are the reference's product.
-/

noncomputable section

namespace Cert.Kernel2Ideal.Hand

open Cert.Kernel2Ideal Cert.Kernel2Ideal.Gen Cert.Layout
open Idealize.ShloMosaic Idealize.ShloMosaic.TcCoe Idealize.ShloMosaic.Tactic Idealize.ShloMosaic.Pipeline
open Finset (range)

/-- There are sixteen grid points. -/
theorem pt_lt (t : Fin cfg0.N) : t.val < 16 := lt_of_lt_of_eq t.isLt (show cfg0.N = 16 from N_0)

/-- The blocks of the grid's points: eight blocks of tokens for each half of the lanes. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- A block of tokens of the stream. -/
theorem read_0 (t : Fin cfg0.N) (X : S8192x1024.Idx → EReal) (a r : Fin 1024) :
    ((cfg0.win 0).blk t).view.read (Elt Ideal) X (ix2 a r) = X (ix2 ⟨1024 * (t.val % 8) + a.val, by omega⟩ r) := by
  blk_ext [idx t]

/-- A block of tokens and lanes of the output gradient. -/
theorem read_1 (t : Fin cfg0.N) (X : S8192x5120.Idx → EReal) (a : Fin 1024) (q : Fin 2560) :
    ((cfg0.win 1).blk t).view.read (Elt Ideal) X (ix2 a q)
      = X (ix2 ⟨1024 * (t.val % 8) + a.val, by omega⟩ ⟨2560 * (t.val / 8) + q.val, by have := pt_lt t; omega⟩) := by
  blk_ext [idx t]

/-- A point's product, at an index. -/
theorem pay1_at (x : S1024x1024.Idx → EReal) (z : S1024x2560.Idx → EReal) (r : Fin 1024) (q : Fin 2560) :
    k0_pay1 (F := Ideal) x z (ix2 r q) = ∑ a : Fin 1024, x (ix2 a r) * z (ix2 a q) := by
  pointwise [k0_pay1]

/-- A later point adds its product. -/
theorem pay2_at (x : S1024x1024.Idx → EReal) (z w : S1024x2560.Idx → EReal) (r : Fin 1024) (q : Fin 2560) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S1024x2560 w shapeCasts_S1024x2560_S1024x2560) p := by rw [← hp]; rfl
  rw [this]
  pointwise []

variable (m : (l : Loc nD τ sig) → Buf (Elt Ideal) l) (c : Dev nD)

/-- The normalised stream. -/
abbrev a0 : S8192x1024.Idx → EReal := m ((c.tc : Thread nD τ).loc main_arg0)
/-- The gradient of the projection's output. -/
abbrev a1 : S8192x4256.Idx → EReal := m ((c.tc : Thread nD τ).loc main_arg1)

/-- The first operand is the stream. -/
theorem V_h : V m c main_v0 = a0 m c := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- The second operand is the output gradient, laid out. -/
theorem V_z : V m c main_v22 = laid (a1 m c) := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- Token `n`'s product at a row and a lane, zero past the tokens. -/
def term (r : Fin 1024) (q : Fin 5120) (n : ℕ) : EReal :=
  if h : n < 8192 then a0 m c (ix2 ⟨n, h⟩ r) * laid (a1 m c) (ix2 ⟨n, h⟩ q) else 0

/-- A point's product is the sum of its block of tokens. -/
theorem part_at (t : Fin cfg0.N) (r : Fin 1024) (q : Fin 2560) :
    k0_pay1 (F := Ideal) (iblk m c 0 t) (iblk m c 1 t) (ix2 r q)
      = ∑ a ∈ range 1024, term m c r ⟨2560 * (t.val / 8) + q.val, by have := pt_lt t; omega⟩ (1024 * (t.val % 8) + a) := by
  refine (pay1_at _ _ r q).trans (Eq.trans ?_ (Fin.sum_univ_eq_sum_range _ 1024))
  refine Finset.sum_congr rfl fun a _ => ?_
  have h : 1024 * (t.val % 8) + a.val < 8192 := by omega
  refine Eq.trans ?_ (dif_pos h).symm
  refine congrArg₂ (· * ·) ((read_0 t (V m c main_v0) a r).trans ?_) ((read_1 t (V m c main_v22) a q).trans ?_)
  · rw [V_h]
  · rw [V_z]

/-- What a block's first point leaves. -/
theorem outs_first (t : Fin cfg0.N) (h : t.val % 8 = 0) :
    outsAt0 m c t.val t.isLt = k0_pay1 (F := Ideal) (iblk m c 0 t) (iblk m c 1 t) := by
  rw [outsAt0_A m c t h (by omega)]
  frame_out

/-- What a later point leaves. -/
theorem outs_later (t : Fin cfg0.N) (h : ¬ t.val % 8 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (j k : ℕ) (hj : j < 2) (hk : k < 8) (r : Fin 1024) (q : Fin 2560) :
    outsAt0 m c (8 * j + k) (lt_of_lt_of_eq (show 8 * j + k < 16 by omega) (show cfg0.N = 16 from N_0).symm) (ix2 r q)
      = ∑ n ∈ range (1024 * (k + 1)), term m c r ⟨2560 * j + q.val, by omega⟩ n := by
  induction k with
  | zero =>
    have hN : 8 * j + 0 < cfg0.N := lt_of_lt_of_eq (show 8 * j + 0 < 16 by omega) (show cfg0.N = 16 from N_0).symm
    refine (congrFun (outs_first m c ⟨8 * j + 0, hN⟩ (by show (8 * j + 0) % 8 = 0; omega)) _).trans ((part_at m c _ r q).trans ?_)
    simp only [show (8 * j + 0) / 8 = j by omega, show (8 * j + 0) % 8 = 0 by omega, Nat.mul_zero, Nat.zero_add, Nat.mul_one]
  | succ k ih =>
    have hN : 8 * j + (k + 1) < cfg0.N := lt_of_lt_of_eq (show 8 * j + (k + 1) < 16 by omega) (show cfg0.N = 16 from N_0).symm
    refine (congrFun (outs_later m c ⟨8 * j + (k + 1), hN⟩ (by show ¬ (8 * j + (k + 1)) % 8 = 0; omega)) _).trans ?_
    refine (pay2_at _ _ _ r q).trans ?_
    rw [show 1024 * (k + 1 + 1) = 1024 * (k + 1) + 1024 by ring, Finset.sum_range_add]
    refine congrArg₂ (· + ·) (ih (by omega)) ((part_at m c _ r q).trans ?_)
    simp only [show (8 * j + (k + 1)) / 8 = j by omega, show (8 * j + (k + 1)) % 8 = k + 1 by omega]

/-- The product over all the tokens, at the lanes. -/
def whole : S1024x5120.Idx → EReal := fun i => ∑ n : Fin 8192, a0 m c (ix2 n (i 0)) * laid (a1 m c) (ix2 n (i 1))

/-- The output block's place in the array. -/
theorem emb_2 (t : Fin cfg0.N) (y : S1024x2560.Idx) :
    ((win0_2.blk t).view.emb y 0).val = (y 0).val ∧ ((win0_2.blk t).view.emb y 1).val = 2560 * (t.val / 8) + (y 1).val := by
  constructor
  · blk_simp [idx t]
  · blk_simp [idx t]; omega

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 8 = 7 := by
    have := (flush0_2 t).mp hf
    omega
  have e := emb_2 t y
  have h1 : (y 1).val < 2560 := (y 1).isLt
  have hN : 8 * (t.val / 8) + 7 < cfg0.N := lt_of_lt_of_eq (show 8 * (t.val / 8) + 7 < 16 by omega) (show cfg0.N = 16 from N_0).symm
  have ht' : t = ⟨8 * (t.val / 8) + 7, hN⟩ := Fin.ext (by show t.val = 8 * (t.val / 8) + 7; omega)
  have hy : y = ix2 ⟨(y 0).val, (y 0).isLt⟩ ⟨(y 1).val, h1⟩ := by
    funext a
    match a with
    | 0 => rfl
    | 1 => rfl
  have key := outs_at m c (t.val / 8) 7 (by omega) (by omega) ⟨(y 0).val, (y 0).isLt⟩ ⟨(y 1).val, h1⟩
  have gen : ∀ s : Fin cfg0.N, s = ⟨8 * (t.val / 8) + 7, hN⟩ → outsAt0 m c s.val s.isLt y = outsAt0 m c (8 * (t.val / 8) + 7) hN y := by
    rintro s rfl; rfl
  refine (gen t ht').trans ((congrArg _ hy).trans (key.trans ?_))
  refine (Fin.sum_univ_eq_sum_range (fun n => term m c ⟨(y 0).val, (y 0).isLt⟩ ⟨2560 * (t.val / 8) + (y 1).val, by omega⟩ n) 8192).symm.trans ?_
  refine Finset.sum_congr rfl fun n _ => ?_
  refine (dif_pos n.isLt).trans ?_
  have e0 : (⟨(y 0).val, (y 0).isLt⟩ : Fin 1024) = (win0_2.blk t).view.emb y 0 := Fin.ext e.1.symm
  have e1 : (⟨2560 * (t.val / 8) + (y 1).val, by omega⟩ : Fin 5120) = (win0_2.blk t).view.emb y 1 := Fin.ext e.2.symm
  exact congrArg₂ (fun r q => a0 m c (ix2 n r) * laid (a1 m c) (ix2 n q)) e0 e1

/-- The columns of the product are the reference's. -/
theorem unlaid_whole : unlaid (whole m c) = Cert.Reference2Ideal.Read.val_main_v3 (F := Ideal) (a0 m c) (a1 m c) := by
  funext i
  have hi : i = ix2 (i 0) (i 1) := by
    funext a
    match a with
    | 0 => rfl
    | 1 => rfl
  rw [Cert.Reference2Ideal.Read.val_main_v3_apply, Cert.Reference2Ideal.Read.val_main_v2_apply]
  refine (congrArg _ hi).trans ((unlaid_at (whole m c) (i 0) (i 1)).trans ?_)
  refine Finset.sum_congr rfl fun n _ => ?_
  have hl : laid (a1 m c) (ix2 n (pos (i 1))) = a1 m c (ix2 n (i 1)) := (laid_at _ _ _).trans (lay_pos _ _)
  refine (congrArg (a0 m c (ix2 n (i 0)) * ·) hl).trans ((mul_comm _ _).trans (congrArg₂ (· * ·) (congrArg _ ?_) (congrArg _ ?_)))
  · funext a
    match a with
    | 0 => rfl
    | 1 => rfl
  · funext a
    match a with
    | 0 => rfl
    | 1 => rfl

/-- What the host code after the kernel computes, from any buffers. -/
theorem tail_value (v : Valuation τ sig (Elt Ideal)) :
    StableHlo.after (List.flatten [hostOps1]) v (Proc.devRef .tc main_v44) = unlaid (v (Proc.devRef .tc main_v23)) := by
  simp only [hostOps1, List.flatten_cons, List.flatten_nil, List.append_nil]
  after_results_simp
  rfl

/-- What it leaves in the result. -/
theorem tail_result : Pipeline.afterTail₀ cfgs (dats m) 0 (V0 m) [hostOps1] c main_v44 = unlaid ((dats m 0 c).arrAt 2 cfg0.N) := by
  unfold Pipeline.afterTail₀
  exact (tail_value _).trans (congrArg unlaid (Pipeline.withArrays_arr cfg0.spec (by decide) c (V0 m c) (fun w => (dats m 0 c).arrAt w cfg0.N) 2))

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v44) = Cert.Reference2Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have kept (b : Ref sig .tc) (hb : b ∈ Pipeline.restRefs sig cfg0.spec) := (h c).2 b hb
    ⟨(kept main_v44 (Pipeline.mem_restRefs_of main_v44 (by decide) (by decide))).trans
        ((tail_result m c).trans ((congrArg unlaid (arr_2 m c)).trans (unlaid_whole m c))),
      (kept main_arg0 (Pipeline.mem_restRefs_of main_arg0 (by decide) (by decide))).trans (W_main_arg0 m (dats m) c),
      (kept main_arg1 (Pipeline.mem_restRefs_of main_arg1 (by decide) (by decide))).trans (W_main_arg1 m (dats m) c)⟩)
    (run_main m ρ)

end Cert.Kernel2Ideal.Hand

end

end
-- ==== Proof.Hand.RmsBack.lean ====
module

public import Idealize.ShloMosaic.PureOps.Ideal.Laws

@[expose] public section

/-!
The gradient of a root-mean-square norm, for one row of extended reals: the form that subtracts the row's mean from the
scaled gradient, and the form that differentiates the reciprocal root, agree, whatever the row holds.
-/

noncomputable section

namespace Cert.RmsBack

open Idealize.ShloMosaic

/-- The word of the row's length is 1024. -/
theorem word_len : Ideal.ofBits FTy.f32 1149239296#32 = ((1024 : ℝ) : EReal) := by
  simp [Ideal.ofBits, Ideal.ieee]; rw [← EReal.coe_mul]; norm_num

/-- The word of the guard under the root is a positive real. -/
theorem word_eps : ∃ e : ℝ, 0 < e ∧ Ideal.ofBits FTy.f32 897988541#32 = (e : EReal) := by
  refine ⟨_, ?_, by simp only [Ideal.ofBits, Ideal.ieee]; simp; rfl⟩
  norm_num

/-- The word of the exponent is minus one half. -/
theorem word_half : Ideal.ofBits FTy.f32 3204448256#32 = ((-(1 / 2) : ℝ) : EReal) := by
  simp [Ideal.ofBits, Ideal.ieee]; rw [← EReal.coe_mul]; norm_num

variable {n : ℕ}

/-- The row's mean square, guarded. -/
def meanSq (x : Fin n → EReal) : EReal :=
  Ideal.div (∑ k, x k * x k) (Ideal.ofBits FTy.f32 1149239296#32) + Ideal.ofBits FTy.f32 897988541#32

/-- Its reciprocal root. -/
def inv (x : Fin n → EReal) : EReal := Ideal.rsqrt (meanSq x)

/-- The gradient, the mean subtracted: `y` is the gradient of the scaled row, `d` what is added. -/
def centred (x y : Fin n → EReal) (d : EReal) (j : Fin n) : EReal :=
  inv x * (y j - x j * inv x * Ideal.div (∑ k, y k * (x k * inv x)) (Ideal.ofBits FTy.f32 1149239296#32)) + d

/-- What every element of the row receives through the mean square, over twice itself. -/
def through (x y : Fin n → EReal) : EReal :=
  Ideal.div ((∑ k, x k * y k) * (Ideal.ofBits FTy.f32 3204448256#32 * Ideal.div (inv x) (meanSq x))) (Ideal.ofBits FTy.f32 1149239296#32)

/-- The gradient, the reciprocal root differentiated. -/
def differentiated (x y : Fin n → EReal) (d : EReal) (j : Fin n) : EReal :=
  d + y j * inv x + x j * through x y + through x y * x j

/-- Equal rows, gradients and summands give equal gradients. -/
theorem centred_congr {x x' y y' : Fin n → EReal} {d d' : EReal} (hx : ∀ k, x k = x' k) (hy : ∀ k, y k = y' k) (hd : d = d') (j : Fin n) :
    centred x y d j = centred x' y' d' j := by
  rw [funext hx, funext hy, hd]

/-- Dividing by a nonzero real multiplies by its inverse. -/
theorem div_real (a : EReal) {b : ℝ} (h : b ≠ 0) : Ideal.div a (b : EReal) = a * ((b⁻¹ : ℝ) : EReal) := by
  unfold Ideal.div
  rw [if_neg (by exact_mod_cast h), EReal.coe_inv]

/-- A nonnegative real factor passes into a sum of two. -/
theorem mul_add_real {ρ : ℝ} (h : 0 ≤ ρ) (a b : EReal) : (ρ : EReal) * (a + b) = ρ * a + ρ * b :=
  EReal.left_distrib_of_nonneg_of_ne_top (by exact_mod_cast h) (EReal.coe_ne_top ρ) a b

/-- A nonnegative real factor passes into a sum. -/
theorem mul_sum_real {ι : Type} (s : Finset ι) {ρ : ℝ} (h : 0 ≤ ρ) (f : ι → EReal) : (ρ : EReal) * ∑ k ∈ s, f k = ∑ k ∈ s, ρ * f k := by
  classical
  induction s using Finset.induction_on with
  | empty => simp
  | insert a s ha ih => rw [Finset.sum_insert ha, Finset.sum_insert ha, mul_add_real h, ih]

/-- A sum of reals, as an extended real. -/
theorem sum_coe {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real twice is its double. -/
theorem add_self (z : EReal) : z + z = ((2 : ℝ) : EReal) * z := by
  induction z using EReal.rec with
  | bot => rw [EReal.coe_mul_bot_of_pos (by norm_num)]; rfl
  | top => rw [EReal.coe_mul_top_of_pos (by norm_num)]; rfl
  | coe z => rw [← EReal.coe_add, ← EReal.coe_mul]; congr 1; ring

/-- A row with an infinite element has infinite mean square. -/
theorem meanSq_top (x : Fin n → EReal) {k : Fin n} (hk : x k = ⊤ ∨ x k = ⊥) : meanSq x = ⊤ := by
  have hsq : x k * x k = ⊤ := by
    rcases hk with h | h
    · rw [h, EReal.top_mul_top]
    · rw [h, EReal.bot_mul_bot]
  have hs : (∑ k, x k * x k) = ⊤ := by
    refine top_le_iff.mp ?_
    rw [← hsq]
    refine Finset.single_le_sum (f := fun k => x k * x k) (fun i _ => ?_) (Finset.mem_univ k)
    show 0 ≤ x i * x i
    induction x i using EReal.rec with
    | bot => rw [EReal.bot_mul_bot]; exact le_top
    | top => rw [EReal.top_mul_top]; exact le_top
    | coe z => rw [← EReal.coe_mul]; exact_mod_cast mul_self_nonneg z
  obtain ⟨e, _, he⟩ := word_eps
  unfold meanSq
  rw [hs, word_len, he, div_real _ (by norm_num), EReal.top_mul_coe_of_pos (by norm_num)]
  exact EReal.top_add_coe e

/-- A row of reals has a positive real mean square. -/
theorem meanSq_real (x : Fin n → EReal) (h : ∀ k, x k ≠ ⊤ ∧ x k ≠ ⊥) : ∃ v : ℝ, 0 < v ∧ meanSq x = (v : EReal) := by
  obtain ⟨e, he0, he⟩ := word_eps
  have hx : ∀ k, x k = ((x k).toReal : EReal) := fun k => (EReal.coe_toReal (h k).1 (h k).2).symm
  refine ⟨(∑ k, (x k).toReal * (x k).toReal) * (1024 : ℝ)⁻¹ + e, ?_, ?_⟩
  · have : 0 ≤ ∑ k, (x k).toReal * (x k).toReal := Finset.sum_nonneg fun k _ => mul_self_nonneg _
    positivity
  · unfold meanSq
    have hs : (∑ k, x k * x k) = ((∑ k, (x k).toReal * (x k).toReal : ℝ) : EReal) := by
      rw [sum_coe]
      refine Finset.sum_congr rfl fun k _ => ?_
      rw [EReal.coe_mul, ← hx k]
    rw [hs, word_len, he, div_real _ (by norm_num), ← EReal.coe_mul, ← EReal.coe_add]

/-- The two forms agree on a row of reals. -/
theorem agree_real (x y : Fin n → EReal) (d : EReal) (j : Fin n) (h : ∀ k, x k ≠ ⊤ ∧ x k ≠ ⊥) : centred x y d j = differentiated x y d j := by
  obtain ⟨v, hv, hm⟩ := meanSq_real x h
  obtain ⟨ρ, hρ⟩ : ∃ ρ : ℝ, ρ = (Real.sqrt v)⁻¹ := ⟨_, rfl⟩
  have hi : inv x = (ρ : EReal) := by
    unfold inv
    rw [hm, Ideal.rsqrt_coe, if_neg (not_lt.mpr hv.le), if_neg hv.ne', hρ]
  have hρ0 : 0 < ρ := by rw [hρ]; exact inv_pos.mpr (Real.sqrt_pos.mpr hv)
  have hρv : v⁻¹ = ρ * ρ := by rw [hρ, ← mul_inv, Real.mul_self_sqrt hv.le]
  have hs : (∑ k, y k * (x k * (ρ : EReal))) = ρ * ∑ k, x k * y k := by
    rw [mul_sum_real _ hρ0.le]
    refine Finset.sum_congr rfl fun k _ => ?_
    rw [mul_comm (x k) (y k), ← mul_assoc, mul_comm]
  have ht : through x y = (∑ k, x k * y k) * ((-(ρ * ρ * ρ / 2048) : ℝ) : EReal) := by
    unfold through
    rw [hi, hm, word_len, word_half, div_real _ hv.ne', div_real _ (by norm_num), ← EReal.coe_mul, ← EReal.coe_mul, mul_assoc, ← EReal.coe_mul, hρv]
    congr 2; ring
  unfold centred differentiated
  rw [ht, hi, hs, word_len, div_real _ (by norm_num)]
  generalize (∑ k, x k * y k) = S
  have hc : ((ρ : ℝ) : EReal) * -(x j * ρ * (ρ * S * (((1024 : ℝ)⁻¹ : ℝ) : EReal))) = ((2 : ℝ) : EReal) * (x j * (S * ((-(ρ * ρ * ρ / 2048) : ℝ) : EReal))) := by
    have e1 : ((-(ρ * ρ * ρ / 2048) : ℝ) : EReal) = -((ρ * ρ * ρ / 2048 : ℝ) : EReal) := EReal.coe_neg _
    have e2 : ((ρ : ℝ) : EReal) * (x j * ρ * (ρ * S * (((1024 : ℝ)⁻¹ : ℝ) : EReal))) = x j * S * ((ρ * ρ * ρ * (1024 : ℝ)⁻¹ : ℝ) : EReal) := by
      rw [EReal.coe_mul, EReal.coe_mul, EReal.coe_mul]; ac_rfl
    have e3 : ((2 : ℝ) : EReal) * (x j * (S * ((ρ * ρ * ρ / 2048 : ℝ) : EReal))) = x j * S * ((2 * (ρ * ρ * ρ / 2048) : ℝ) : EReal) := by
      rw [EReal.coe_mul]; ac_rfl
    rw [e1, mul_neg, mul_neg, mul_neg, mul_neg, e2, e3]
    congr 3; ring
  rw [mul_comm (S * _) (x j), sub_eq_add_neg, mul_add_real hρ0.le, hc, add_assoc (d + _), add_self, mul_comm (ρ : EReal) (y j)]
  ac_rfl

/-- The two forms agree. -/
theorem agree (x y : Fin n → EReal) (d : EReal) (j : Fin n) : centred x y d j = differentiated x y d j := by
  by_cases h : ∀ k, x k ≠ ⊤ ∧ x k ≠ ⊥
  · exact agree_real x y d j h
  · obtain ⟨k, hk⟩ := not_forall.mp h
    have hm : meanSq x = ⊤ := meanSq_top x (by by_contra hn; exact hk ⟨fun e => hn (.inl e), fun e => hn (.inr e)⟩)
    have hi : inv x = 0 := by unfold inv; rw [hm]; rfl
    have ht : through x y = 0 := by
      unfold through
      rw [hi, hm, word_len, div_real _ (by norm_num)]
      unfold Ideal.div
      rw [if_neg (by exact EReal.top_ne_zero)]
      simp
    unfold centred differentiated
    rw [ht, hi]
    simp

end Cert.RmsBack

end

end
-- ==== Proof.Hand.Lanes4.lean ====
module

public import proofs.«01_k».proof.Proof.Hand.Layout
public import proofs.«01_k».proof.Proof.Gen.Kernel4Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Cert.Layout

/-- The zero the lanes are padded with. -/
def laneZero : S_.Idx → EReal := sitofp (F := Ideal) .bf16 (constantI S_ 32 0#32)

/-- Eight heads of 64 columns, each padded to 128 lanes. -/
def heads8 (x : S1024x512.Idx → EReal) : S1024x1024.Idx → EReal :=
  shapeCast S1024x1024 (pad S1024x8x128 ![0, 0, 0] ![0, 0, 64] ![0, 0, 0] (shapeCast S1024x8x64 x shapeCasts_S1024x512_S1024x8x64) laneZero
    pads_S1024x8x64_S1024x8x128_000_000_0640 h_S_) shapeCasts_S1024x8x128_S1024x1024

/-- Two heads of 64 columns, each padded to 128 lanes. -/
def heads2 (x : S1024x128.Idx → EReal) : S1024x256.Idx → EReal :=
  shapeCast S1024x256 (pad S1024x2x128 ![0, 0, 0] ![0, 0, 64] ![0, 0, 0] (shapeCast S1024x2x64 x shapeCasts_S1024x128_S1024x2x64) laneZero
    pads_S1024x2x64_S1024x2x128_000_000_0640 h_S_) shapeCasts_S1024x2x128_S1024x256

/-- The rotary key's 32 columns, at lane 64 of 128. -/
def rotary (x : S1024x32.Idx → EReal) : S1024x128.Idx → EReal :=
  pad S1024x128 ![0, 64] ![0, 32] ![0, 0] x laneZero pads_S1024x32_S1024x128_000_64320 h_S_

/-- Ten pieces side by side, 5120 lanes in all. -/
def beside (p0 p1 p2 : S1024x1024.Idx → EReal) (p3 p4 : S1024x512.Idx → EReal) (p5 p6 p7 : S1024x256.Idx → EReal)
    (p8 p9 : S1024x128.Idx → EReal) : S1024x5120.Idx → EReal :=
  concatenate S1024x5120 1 [⟨S1024x1024, p0⟩, ⟨S1024x1024, p1⟩, ⟨S1024x1024, p2⟩, ⟨S1024x512, p3⟩, ⟨S1024x512, p4⟩, ⟨S1024x256, p5⟩, ⟨S1024x256, p6⟩, ⟨S1024x256, p7⟩, ⟨S1024x128, p8⟩, ⟨S1024x128, p9⟩]
    concatenates_S1024x1024_S1024x1024_S1024x1024_S1024x512_S1024x512_S1024x256_S1024x256_S1024x256_S1024x128_S1024x128_S1024x5120_d1

/-- The columns of the projection laid out over its lanes. -/
def laid (x : S1024x4256.Idx → EReal) : S1024x5120.Idx → EReal :=
  beside
    (extractStridedSlice S1024x1024 ![0, 2208] x slices_S1024x4256_S1024x1024_0_2208)
    (extractStridedSlice S1024x1024 ![0, 3232] x slices_S1024x4256_S1024x1024_0_3232)
    (heads8 (extractStridedSlice S1024x512 ![0, 0] x slices_S1024x4256_S1024x512_0_0))
    (extractStridedSlice S1024x512 ![0, 768] x slices_S1024x4256_S1024x512_0_768)
    (extractStridedSlice S1024x512 ![0, 1696] x slices_S1024x4256_S1024x512_0_1696)
    (heads2 (extractStridedSlice S1024x128 ![0, 512] x slices_S1024x4256_S1024x128_0_512))
    (heads2 (extractStridedSlice S1024x128 ![0, 640] x slices_S1024x4256_S1024x128_0_640))
    (extractStridedSlice S1024x256 ![0, 1280] x slices_S1024x4256_S1024x256_0_1280)
    (extractStridedSlice S1024x128 ![0, 1536] x slices_S1024x4256_S1024x128_0_1536)
    (rotary (extractStridedSlice S1024x32 ![0, 1664] x slices_S1024x4256_S1024x32_0_1664))

/-- The padding is zero. -/
theorem laneZero_eq : FloatOps.sitofp (F := Ideal) .bf16 0#32 = (0 : EReal) := by
  show ((((0#32 : BitVec 32).toInt : ℝ)) : EReal) = 0
  norm_num

/-- Eight padded heads, at an index. -/
theorem heads8_at (x : S1024x512.Idx → EReal) (r : Fin 1024) (c : Fin 1024) : heads8 x (ix2 r c) =
    if h : c.val / 128 < 8 ∧ c.val % 128 < 64 then x (ix2 r ⟨c.val / 128 * 64 + c.val % 128, by omega⟩) else FloatOps.sitofp (F := Ideal) .bf16 0#32 := by
  pointwise [heads8, laneZero]

/-- Two padded heads, at an index. -/
theorem heads2_at (x : S1024x128.Idx → EReal) (r : Fin 1024) (c : Fin 256) : heads2 x (ix2 r c) =
    if h : c.val / 128 < 2 ∧ c.val % 128 < 64 then x (ix2 r ⟨c.val / 128 * 64 + c.val % 128, by omega⟩) else FloatOps.sitofp (F := Ideal) .bf16 0#32 := by
  pointwise [heads2, laneZero]

/-- The padded rotary key, at an index. -/
theorem rotary_at (x : S1024x32.Idx → EReal) (r : Fin 1024) (c : Fin 128) : rotary x (ix2 r c) =
    if h : 64 ≤ c.val ∧ c.val - 64 < 32 then x (ix2 r ⟨c.val - 64, h.2⟩) else FloatOps.sitofp (F := Ideal) .bf16 0#32 := by
  pointwise [rotary, laneZero]

/-- Columns 2208 to 3232 of the projection, at an index. -/
theorem cut2208_at (x : S1024x4256.Idx → EReal) (r : Fin 1024) (c : Fin 1024) :
    extractStridedSlice S1024x1024 ![0, 2208] x slices_S1024x4256_S1024x1024_0_2208 (ix2 r c) = x (ix2 r ⟨2208 + c.val, by omega⟩) := by
  pointwise []

/-- Columns 3232 to 4256 of the projection, at an index. -/
theorem cut3232_at (x : S1024x4256.Idx → EReal) (r : Fin 1024) (c : Fin 1024) :
    extractStridedSlice S1024x1024 ![0, 3232] x slices_S1024x4256_S1024x1024_0_3232 (ix2 r c) = x (ix2 r ⟨3232 + c.val, by omega⟩) := by
  pointwise []

/-- Columns 0 to 512 of the projection, at an index. -/
theorem cut0_at (x : S1024x4256.Idx → EReal) (r : Fin 1024) (c : Fin 512) :
    extractStridedSlice S1024x512 ![0, 0] x slices_S1024x4256_S1024x512_0_0 (ix2 r c) = x (ix2 r ⟨0 + c.val, by omega⟩) := by
  pointwise []

/-- Columns 768 to 1280 of the projection, at an index. -/
theorem cut768_at (x : S1024x4256.Idx → EReal) (r : Fin 1024) (c : Fin 512) :
    extractStridedSlice S1024x512 ![0, 768] x slices_S1024x4256_S1024x512_0_768 (ix2 r c) = x (ix2 r ⟨768 + c.val, by omega⟩) := by
  pointwise []

/-- Columns 1696 to 2208 of the projection, at an index. -/
theorem cut1696_at (x : S1024x4256.Idx → EReal) (r : Fin 1024) (c : Fin 512) :
    extractStridedSlice S1024x512 ![0, 1696] x slices_S1024x4256_S1024x512_0_1696 (ix2 r c) = x (ix2 r ⟨1696 + c.val, by omega⟩) := by
  pointwise []

/-- Columns 512 to 640 of the projection, at an index. -/
theorem cut512_at (x : S1024x4256.Idx → EReal) (r : Fin 1024) (c : Fin 128) :
    extractStridedSlice S1024x128 ![0, 512] x slices_S1024x4256_S1024x128_0_512 (ix2 r c) = x (ix2 r ⟨512 + c.val, by omega⟩) := by
  pointwise []

/-- Columns 640 to 768 of the projection, at an index. -/
theorem cut640_at (x : S1024x4256.Idx → EReal) (r : Fin 1024) (c : Fin 128) :
    extractStridedSlice S1024x128 ![0, 640] x slices_S1024x4256_S1024x128_0_640 (ix2 r c) = x (ix2 r ⟨640 + c.val, by omega⟩) := by
  pointwise []

/-- Columns 1280 to 1536 of the projection, at an index. -/
theorem cut1280_at (x : S1024x4256.Idx → EReal) (r : Fin 1024) (c : Fin 256) :
    extractStridedSlice S1024x256 ![0, 1280] x slices_S1024x4256_S1024x256_0_1280 (ix2 r c) = x (ix2 r ⟨1280 + c.val, by omega⟩) := by
  pointwise []

/-- Columns 1536 to 1664 of the projection, at an index. -/
theorem cut1536_at (x : S1024x4256.Idx → EReal) (r : Fin 1024) (c : Fin 128) :
    extractStridedSlice S1024x128 ![0, 1536] x slices_S1024x4256_S1024x128_0_1536 (ix2 r c) = x (ix2 r ⟨1536 + c.val, by omega⟩) := by
  pointwise []

/-- Columns 1664 to 1696 of the projection, at an index. -/
theorem cut1664_at (x : S1024x4256.Idx → EReal) (r : Fin 1024) (c : Fin 32) :
    extractStridedSlice S1024x32 ![0, 1664] x slices_S1024x4256_S1024x32_0_1664 (ix2 r c) = x (ix2 r ⟨1664 + c.val, by omega⟩) := by
  pointwise []

/-- The pieces side by side, at an index. -/
theorem beside_at (p0 p1 p2 : S1024x1024.Idx → EReal) (p3 p4 : S1024x512.Idx → EReal) (p5 p6 p7 : S1024x256.Idx → EReal)
    (p8 p9 : S1024x128.Idx → EReal) (r : Fin 1024) (c : Fin 5120) : beside p0 p1 p2 p3 p4 p5 p6 p7 p8 p9 (ix2 r c) =
    if h : c.val < 1024 then p0 (ix2 r ⟨c.val, h⟩) else
    if h : c.val - 1024 < 1024 then p1 (ix2 r ⟨c.val - 1024, h⟩) else
    if h : c.val - 1024 - 1024 < 1024 then p2 (ix2 r ⟨c.val - 1024 - 1024, h⟩) else
    if h : c.val - 1024 - 1024 - 1024 < 512 then p3 (ix2 r ⟨c.val - 1024 - 1024 - 1024, h⟩) else
    if h : c.val - 1024 - 1024 - 1024 - 512 < 512 then p4 (ix2 r ⟨c.val - 1024 - 1024 - 1024 - 512, h⟩) else
    if h : c.val - 1024 - 1024 - 1024 - 512 - 512 < 256 then p5 (ix2 r ⟨c.val - 1024 - 1024 - 1024 - 512 - 512, h⟩) else
    if h : c.val - 1024 - 1024 - 1024 - 512 - 512 - 256 < 256 then p6 (ix2 r ⟨c.val - 1024 - 1024 - 1024 - 512 - 512 - 256, h⟩) else
    if h : c.val - 1024 - 1024 - 1024 - 512 - 512 - 256 - 256 < 256 then p7 (ix2 r ⟨c.val - 1024 - 1024 - 1024 - 512 - 512 - 256 - 256, h⟩) else
    if h : c.val - 1024 - 1024 - 1024 - 512 - 512 - 256 - 256 - 256 < 128 then p8 (ix2 r ⟨c.val - 1024 - 1024 - 1024 - 512 - 512 - 256 - 256 - 256, h⟩) else
    p9 (ix2 r ⟨c.val - 1024 - 1024 - 1024 - 512 - 512 - 256 - 256 - 256 - 128, by omega⟩) := by
  pointwise [beside]

/-- The columns laid out over the lanes, at an index. -/
theorem laid_at (x : S1024x4256.Idx → EReal) (r : Fin 1024) (c : Fin 5120) : laid x (ix2 r c) = lay (fun d => x (ix2 r d)) c := by
  have hc : c.val < 5120 := c.isLt
  unfold laid
  rw [beside_at]
  split
  · rw [cut2208_at]
    refine (lay_used (fun d => x (ix2 r d)) _ ?_ ?_).symm
    · (try dsimp only at *); unfold used; omega
    · (try dsimp only at *); unfold col; rw [if_pos (by omega)]
  split
  · rw [cut3232_at]
    refine (lay_used (fun d => x (ix2 r d)) _ ?_ ?_).symm
    · (try dsimp only at *); unfold used; omega
    · (try dsimp only at *); unfold col; rw [if_neg (by omega), if_pos (by omega)] <;> omega
  split
  · rw [heads8_at]
    split
    · rw [cut0_at]
      refine (lay_used (fun d => x (ix2 r d)) _ ?_ ?_).symm
      · (try dsimp only at *); unfold used; omega
      · (try dsimp only at *); unfold col; rw [if_neg (by omega), if_neg (by omega), if_pos (by omega)] <;> omega
    · rw [laneZero_eq]
      refine (lay_unused _ ?_).symm
      (try dsimp only at *); unfold used; omega
  split
  · rw [cut768_at]
    refine (lay_used (fun d => x (ix2 r d)) _ ?_ ?_).symm
    · (try dsimp only at *); unfold used; omega
    · (try dsimp only at *); unfold col; rw [if_neg (by omega), if_neg (by omega), if_neg (by omega), if_pos (by omega)] <;> omega
  split
  · rw [cut1696_at]
    refine (lay_used (fun d => x (ix2 r d)) _ ?_ ?_).symm
    · (try dsimp only at *); unfold used; omega
    · (try dsimp only at *); unfold col; rw [if_neg (by omega), if_neg (by omega), if_neg (by omega), if_neg (by omega), if_pos (by omega)] <;> omega
  split
  · rw [heads2_at]
    split
    · rw [cut512_at]
      refine (lay_used (fun d => x (ix2 r d)) _ ?_ ?_).symm
      · (try dsimp only at *); unfold used; omega
      · (try dsimp only at *); unfold col; rw [if_neg (by omega), if_neg (by omega), if_neg (by omega), if_neg (by omega), if_neg (by omega), if_pos (by omega)] <;> omega
    · rw [laneZero_eq]
      refine (lay_unused _ ?_).symm
      (try dsimp only at *); unfold used; omega
  split
  · rw [heads2_at]
    split
    · rw [cut640_at]
      refine (lay_used (fun d => x (ix2 r d)) _ ?_ ?_).symm
      · (try dsimp only at *); unfold used; omega
      · (try dsimp only at *); unfold col; rw [if_neg (by omega), if_neg (by omega), if_neg (by omega), if_neg (by omega), if_neg (by omega), if_neg (by omega), if_pos (by omega)] <;> omega
    · rw [laneZero_eq]
      refine (lay_unused _ ?_).symm
      (try dsimp only at *); unfold used; omega
  split
  · rw [cut1280_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_pos (by omega)] <;> omega
  split
  · rw [cut1536_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_neg (by omega), if_pos (by omega)] <;> omega
  rw [rotary_at]
  split
  · rw [cut1664_at]
    refine (lay_used (fun d => x (ix2 r d)) _ ?_ ?_).symm
    · (try dsimp only at *); unfold used; omega
    · (try dsimp only at *); unfold col; rw [if_neg (by omega), if_neg (by omega), if_neg (by omega), if_neg (by omega), if_neg (by omega), if_neg (by omega), if_neg (by omega), if_neg (by omega), if_neg (by omega)] <;> omega
  · rw [laneZero_eq]
    refine (lay_unused _ ?_).symm
    (try dsimp only at *); unfold used; omega

/-- The 64 columns of each of eight padded heads. -/
def unpadded8 (x : S8192x1024.Idx → EReal) : S8192x512.Idx → EReal :=
  shapeCast S8192x512 (extractStridedSlice S8192x8x64 ![0, 0, 0] (shapeCast S8192x8x128 x shapeCasts_S8192x1024_S8192x8x128)
    slices_S8192x8x128_S8192x8x64_0_0_0) shapeCasts_S8192x8x64_S8192x512

/-- They are, at an index, lanes of the heads. -/
theorem unpadded8_at (x : S8192x1024.Idx → EReal) (r : Fin 8192) (c : Fin 512) :
    unpadded8 x (ix2 r c) = x (ix2 r ⟨c.val / 64 * 128 + c.val % 64, by omega⟩) := by
  pointwise [unpadded8]

/-- The 64 columns of each of two padded heads. -/
def unpadded2 (x : S8192x256.Idx → EReal) : S8192x128.Idx → EReal :=
  shapeCast S8192x128 (extractStridedSlice S8192x2x64 ![0, 0, 0] (shapeCast S8192x2x128 x shapeCasts_S8192x256_S8192x2x128)
    slices_S8192x2x128_S8192x2x64_0_0_0) shapeCasts_S8192x2x64_S8192x128

/-- They are, at an index, lanes of the heads. -/
theorem unpadded2_at (x : S8192x256.Idx → EReal) (r : Fin 8192) (c : Fin 128) :
    unpadded2 x (ix2 r c) = x (ix2 r ⟨c.val / 64 * 128 + c.val % 64, by omega⟩) := by
  pointwise [unpadded2]

/-- Ten pieces side by side, 4256 columns in all. -/
def columns (p0 : S8192x512.Idx → EReal) (p1 : S8192x128.Idx → EReal) (p2 : S8192x128.Idx → EReal) (p3 : S8192x512.Idx → EReal) (p4 : S8192x256.Idx → EReal) (p5 : S8192x128.Idx → EReal) (p6 : S8192x32.Idx → EReal) (p7 : S8192x512.Idx → EReal) (p8 : S8192x1024.Idx → EReal) (p9 : S8192x1024.Idx → EReal) :
    S8192x4256.Idx → EReal :=
  concatenate S8192x4256 1 [⟨S8192x512, p0⟩, ⟨S8192x128, p1⟩, ⟨S8192x128, p2⟩, ⟨S8192x512, p3⟩, ⟨S8192x256, p4⟩, ⟨S8192x128, p5⟩, ⟨S8192x32, p6⟩, ⟨S8192x512, p7⟩, ⟨S8192x1024, p8⟩, ⟨S8192x1024, p9⟩]
    concatenates_S8192x512_S8192x128_S8192x128_S8192x512_S8192x256_S8192x128_S8192x32_S8192x512_S8192x1024_S8192x1024_S8192x4256_d1

/-- The columns of the projection, taken from its lanes. -/
def unlaid (y : S8192x5120.Idx → EReal) : S8192x4256.Idx → EReal :=
  columns
    (unpadded8 (extractStridedSlice S8192x1024 ![0, 2048] y slices_S8192x5120_S8192x1024_0_2048))
    (unpadded2 (extractStridedSlice S8192x256 ![0, 4096] y slices_S8192x5120_S8192x256_0_4096))
    (unpadded2 (extractStridedSlice S8192x256 ![0, 4352] y slices_S8192x5120_S8192x256_0_4352))
    (extractStridedSlice S8192x512 ![0, 3072] y slices_S8192x5120_S8192x512_0_3072)
    (extractStridedSlice S8192x256 ![0, 4608] y slices_S8192x5120_S8192x256_0_4608)
    (extractStridedSlice S8192x128 ![0, 4864] y slices_S8192x5120_S8192x128_0_4864)
    (extractStridedSlice S8192x32 ![0, 64] (extractStridedSlice S8192x128 ![0, 4992] y slices_S8192x5120_S8192x128_0_4992) slices_S8192x128_S8192x32_0_64)
    (extractStridedSlice S8192x512 ![0, 3584] y slices_S8192x5120_S8192x512_0_3584)
    (extractStridedSlice S8192x1024 ![0, 0] y slices_S8192x5120_S8192x1024_0_0)
    (extractStridedSlice S8192x1024 ![0, 1024] y slices_S8192x5120_S8192x1024_0_1024)

/-- Lanes 2048 to 3072 of the projection, at an index. -/
theorem lanes2048_at (y : S8192x5120.Idx → EReal) (r : Fin 8192) (c : Fin 1024) :
    extractStridedSlice S8192x1024 ![0, 2048] y slices_S8192x5120_S8192x1024_0_2048 (ix2 r c) = y (ix2 r ⟨2048 + c.val, by omega⟩) := by
  pointwise []

/-- Lanes 4096 to 4352 of the projection, at an index. -/
theorem lanes4096_at (y : S8192x5120.Idx → EReal) (r : Fin 8192) (c : Fin 256) :
    extractStridedSlice S8192x256 ![0, 4096] y slices_S8192x5120_S8192x256_0_4096 (ix2 r c) = y (ix2 r ⟨4096 + c.val, by omega⟩) := by
  pointwise []

/-- Lanes 4352 to 4608 of the projection, at an index. -/
theorem lanes4352_at (y : S8192x5120.Idx → EReal) (r : Fin 8192) (c : Fin 256) :
    extractStridedSlice S8192x256 ![0, 4352] y slices_S8192x5120_S8192x256_0_4352 (ix2 r c) = y (ix2 r ⟨4352 + c.val, by omega⟩) := by
  pointwise []

/-- Lanes 3072 to 3584 of the projection, at an index. -/
theorem lanes3072_at (y : S8192x5120.Idx → EReal) (r : Fin 8192) (c : Fin 512) :
    extractStridedSlice S8192x512 ![0, 3072] y slices_S8192x5120_S8192x512_0_3072 (ix2 r c) = y (ix2 r ⟨3072 + c.val, by omega⟩) := by
  pointwise []

/-- Lanes 4608 to 4864 of the projection, at an index. -/
theorem lanes4608_at (y : S8192x5120.Idx → EReal) (r : Fin 8192) (c : Fin 256) :
    extractStridedSlice S8192x256 ![0, 4608] y slices_S8192x5120_S8192x256_0_4608 (ix2 r c) = y (ix2 r ⟨4608 + c.val, by omega⟩) := by
  pointwise []

/-- Lanes 4864 to 4992 of the projection, at an index. -/
theorem lanes4864_at (y : S8192x5120.Idx → EReal) (r : Fin 8192) (c : Fin 128) :
    extractStridedSlice S8192x128 ![0, 4864] y slices_S8192x5120_S8192x128_0_4864 (ix2 r c) = y (ix2 r ⟨4864 + c.val, by omega⟩) := by
  pointwise []

/-- Lanes 4992 to 5120 of the projection, at an index. -/
theorem lanes4992_at (y : S8192x5120.Idx → EReal) (r : Fin 8192) (c : Fin 128) :
    extractStridedSlice S8192x128 ![0, 4992] y slices_S8192x5120_S8192x128_0_4992 (ix2 r c) = y (ix2 r ⟨4992 + c.val, by omega⟩) := by
  pointwise []

/-- Lanes 3584 to 4096 of the projection, at an index. -/
theorem lanes3584_at (y : S8192x5120.Idx → EReal) (r : Fin 8192) (c : Fin 512) :
    extractStridedSlice S8192x512 ![0, 3584] y slices_S8192x5120_S8192x512_0_3584 (ix2 r c) = y (ix2 r ⟨3584 + c.val, by omega⟩) := by
  pointwise []

/-- Lanes 0 to 1024 of the projection, at an index. -/
theorem lanes0_at (y : S8192x5120.Idx → EReal) (r : Fin 8192) (c : Fin 1024) :
    extractStridedSlice S8192x1024 ![0, 0] y slices_S8192x5120_S8192x1024_0_0 (ix2 r c) = y (ix2 r ⟨0 + c.val, by omega⟩) := by
  pointwise []

/-- Lanes 1024 to 2048 of the projection, at an index. -/
theorem lanes1024_at (y : S8192x5120.Idx → EReal) (r : Fin 8192) (c : Fin 1024) :
    extractStridedSlice S8192x1024 ![0, 1024] y slices_S8192x5120_S8192x1024_0_1024 (ix2 r c) = y (ix2 r ⟨1024 + c.val, by omega⟩) := by
  pointwise []

/-- The rotary key's columns, at an index. -/
theorem rotary_lanes_at (y : S8192x128.Idx → EReal) (r : Fin 8192) (c : Fin 32) :
    extractStridedSlice S8192x32 ![0, 64] y slices_S8192x128_S8192x32_0_64 (ix2 r c) = y (ix2 r ⟨64 + c.val, by omega⟩) := by
  pointwise []

/-- The pieces side by side, at an index. -/
theorem columns_at (p0 : S8192x512.Idx → EReal) (p1 : S8192x128.Idx → EReal) (p2 : S8192x128.Idx → EReal) (p3 : S8192x512.Idx → EReal) (p4 : S8192x256.Idx → EReal) (p5 : S8192x128.Idx → EReal) (p6 : S8192x32.Idx → EReal) (p7 : S8192x512.Idx → EReal) (p8 : S8192x1024.Idx → EReal) (p9 : S8192x1024.Idx → EReal)
    (r : Fin 8192) (c : Fin 4256) : columns p0 p1 p2 p3 p4 p5 p6 p7 p8 p9 (ix2 r c) =
    if h : c.val < 512 then p0 (ix2 r ⟨c.val, h⟩) else
    if h : c.val - 512 < 128 then p1 (ix2 r ⟨c.val - 512, h⟩) else
    if h : c.val - 512 - 128 < 128 then p2 (ix2 r ⟨c.val - 512 - 128, h⟩) else
    if h : c.val - 512 - 128 - 128 < 512 then p3 (ix2 r ⟨c.val - 512 - 128 - 128, h⟩) else
    if h : c.val - 512 - 128 - 128 - 512 < 256 then p4 (ix2 r ⟨c.val - 512 - 128 - 128 - 512, h⟩) else
    if h : c.val - 512 - 128 - 128 - 512 - 256 < 128 then p5 (ix2 r ⟨c.val - 512 - 128 - 128 - 512 - 256, h⟩) else
    if h : c.val - 512 - 128 - 128 - 512 - 256 - 128 < 32 then p6 (ix2 r ⟨c.val - 512 - 128 - 128 - 512 - 256 - 128, h⟩) else
    if h : c.val - 512 - 128 - 128 - 512 - 256 - 128 - 32 < 512 then p7 (ix2 r ⟨c.val - 512 - 128 - 128 - 512 - 256 - 128 - 32, h⟩) else
    if h : c.val - 512 - 128 - 128 - 512 - 256 - 128 - 32 - 512 < 1024 then p8 (ix2 r ⟨c.val - 512 - 128 - 128 - 512 - 256 - 128 - 32 - 512, h⟩) else
    p9 (ix2 r ⟨c.val - 512 - 128 - 128 - 512 - 256 - 128 - 32 - 512 - 1024, by omega⟩) := by
  pointwise [columns]

/-- The columns taken from the lanes, at an index. -/
theorem unlaid_at (y : S8192x5120.Idx → EReal) (r : Fin 8192) (c : Fin 4256) : unlaid y (ix2 r c) = y (ix2 r (pos c)) := by
  have hc : c.val < 4256 := c.isLt
  unfold unlaid
  rw [columns_at]
  split
  · rw [unpadded8_at, lanes2048_at]
    refine congrArg (fun e => y (ix2 r e)) (Fin.ext ?_)
    show _ = lane c.val
    (try dsimp only); unfold lane; rw [if_pos (by omega)] <;> omega
  split
  · rw [unpadded2_at, lanes4096_at]
    refine congrArg (fun e => y (ix2 r e)) (Fin.ext ?_)
    show _ = lane c.val
    (try dsimp only); unfold lane; rw [if_neg (by omega), if_pos (by omega)] <;> omega
  split
  · rw [unpadded2_at, lanes4352_at]
    refine congrArg (fun e => y (ix2 r e)) (Fin.ext ?_)
    show _ = lane c.val
    (try dsimp only); unfold lane; rw [if_neg (by omega), if_neg (by omega), if_pos (by omega)] <;> omega
  split
  · rw [lanes3072_at]
    refine congrArg (fun e => y (ix2 r e)) (Fin.ext ?_)
    show _ = lane c.val
    (try dsimp only); unfold lane; rw [if_neg (by omega), if_neg (by omega), if_neg (by omega), if_pos (by omega)] <;> omega
  split
  · rw [lanes4608_at]
    refine congrArg (fun e => y (ix2 r e)) (Fin.ext ?_)
    show _ = lane c.val
    (try dsimp only); unfold lane; rw [if_neg (by omega), if_neg (by omega), if_neg (by omega), if_neg (by omega), if_pos (by omega)] <;> omega
  split
  · rw [lanes4864_at]
    refine congrArg (fun e => y (ix2 r e)) (Fin.ext ?_)
    show _ = lane c.val
    (try dsimp only); unfold lane; rw [if_neg (by omega), if_neg (by omega), if_neg (by omega), if_neg (by omega), if_neg (by omega), if_pos (by omega)] <;> omega
  split
  · rw [rotary_lanes_at, lanes4992_at]
    refine congrArg (fun e => y (ix2 r e)) (Fin.ext ?_)
    show _ = lane c.val
    (try dsimp only); unfold lane; rw [if_neg (by omega), if_neg (by omega), if_neg (by omega), if_neg (by omega), if_neg (by omega), if_neg (by omega), if_pos (by omega)] <;> omega
  split
  · rw [lanes3584_at]
    refine congrArg (fun e => y (ix2 r e)) (Fin.ext ?_)
    show _ = lane c.val
    (try dsimp only); unfold lane; rw [if_neg (by omega), if_neg (by omega), if_neg (by omega), if_neg (by omega), if_neg (by omega), if_neg (by omega), if_neg (by omega), if_pos (by omega)] <;> omega
  split
  · rw [lanes0_at]
    refine congrArg (fun e => y (ix2 r e)) (Fin.ext ?_)
    show _ = lane c.val
    (try dsimp only); unfold lane; rw [if_neg (by omega), if_neg (by omega), if_neg (by omega), if_neg (by omega), if_neg (by omega), if_neg (by omega), if_neg (by omega), if_neg (by omega), if_pos (by omega)] <;> omega
  rw [lanes1024_at]
  refine congrArg (fun e => y (ix2 r e)) (Fin.ext ?_)
  show _ = lane c.val
  (try dsimp only); unfold lane; rw [if_neg (by omega), if_neg (by omega), if_neg (by omega), if_neg (by omega), if_neg (by omega), if_neg (by omega), if_neg (by omega), if_neg (by omega), if_neg (by omega)] <;> omega

end Cert.Kernel4Ideal.Hand

end

end
-- ==== Proof.Hand.NormMix.lean ====
module

public import proofs.«01_k».proof.Proof.Gen.Kernel3Ideal.Frame
public import proofs.«01_k».proof.Proof.Gen.Reference3Ideal.Read
public import Idealize.ShloMosaic.Lib.Pointwise
public import Idealize.ShloMosaic.Lib.Claim
public import Idealize.ShloMosaic.Lib.Pipeline.ValueKit
public import proofs.«01_k».proof.Proof.Hand.RmsBack
public import proofs.«01_k».proof.Proof.Hand.Lanes2
public import proofs.«01_k».proof.Proof.Hand.Lanes4

@[expose] public section

set_option maxRecDepth 16384

/-!
The gradient through the mixer's norm: each of sixteen grid points multiplies 512 rows of the laid-out gradient of the combined projection with the
laid-out weights, takes the gradient of the norm of its rows, and adds their share of the scale's gradient to one row; both are the reference's.
-/

noncomputable section

namespace Cert.Kernel3Ideal.Hand

open Cert.Kernel3Ideal Cert.Kernel3Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are sixteen grid points. -/
theorem pt_lt (t : Fin cfg0.N) : t.val < 16 := lt_of_lt_of_eq t.isLt (show cfg0.N = 16 from N_0)

/-- The blocks of the grid's points: 512 tokens each. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- A block of rows of the laid-out gradient. -/
theorem read_0 (t : Fin cfg0.N) (X : S8192x5120.Idx → EReal) (a : Fin 512) (k : Fin 5120) :
    ((cfg0.win 0).blk t).view.read (Elt Ideal) X (ix2 a k) = X (ix2 ⟨512 * t.val + a.val, by have := pt_lt t; omega⟩ k) := by
  blk_ext [idx t]

/-- The weights are read whole. -/
theorem read_1 (t : Fin cfg0.N) (X : S5120x1024.Idx → EReal) (k : Fin 5120) (q : Fin 1024) :
    ((cfg0.win 1).blk t).view.read (Elt Ideal) X (ix2 k q) = X (ix2 k q) := by
  blk_ext [idx t]

/-- A block of rows of the stream. -/
theorem read_2 (t : Fin cfg0.N) (X : S8192x1024.Idx → EReal) (a : Fin 512) (k : Fin 1024) :
    ((cfg0.win 2).blk t).view.read (Elt Ideal) X (ix2 a k) = X (ix2 ⟨512 * t.val + a.val, by have := pt_lt t; omega⟩ k) := by
  blk_ext [idx t]

/-- The scale is read whole. -/
theorem read_3 (t : Fin cfg0.N) (X : S1x1024.Idx → EReal) (q : Fin 1024) :
    ((cfg0.win 3).blk t).view.read (Elt Ideal) X (ix2 0 q) = X (ix2 0 q) := by
  blk_ext [idx t]

/-- A block of rows of the stream's own gradient. -/
theorem read_4 (t : Fin cfg0.N) (X : S8192x1024.Idx → EReal) (a : Fin 512) (k : Fin 1024) :
    ((cfg0.win 4).blk t).view.read (Elt Ideal) X (ix2 a k) = X (ix2 ⟨512 * t.val + a.val, by have := pt_lt t; omega⟩ k) := by
  blk_ext [idx t]

/-! ## One point -/

/-- Half the columns of the product, at an index. -/
theorem pay5_at (x : S512x5120.Idx → EReal) (w : S5120x512.Idx → EReal) (a q : Fin 512) :
    k0_pay5 (F := Ideal) x w (ix2 a q) = ∑ k : Fin 5120, x (ix2 a k) * w (ix2 k q) := by
  pointwise [k0_pay5, k0_pay4]

/-- The other half is such a product too. -/
theorem pay6_eq (x : S512x5120.Idx → EReal) (w : S5120x512.Idx → EReal) : k0_pay6 (F := Ideal) x w = k0_pay5 (F := Ideal) x w := rfl

/-- The reciprocal root of a row's guarded mean square. -/
theorem pay8_at (x : S512x1024.Idx → EReal) (a : Fin 512) : k0_pay8 (F := Ideal) x (ix2 a 0) = Cert.RmsBack.inv (fun k => x (ix2 a k)) := by
  unfold Cert.RmsBack.inv Cert.RmsBack.meanSq
  pointwise [k0_pay8]

/-- The rows, normalised. -/
theorem pay9_at (x : S512x1024.Idx → EReal) (a : Fin 512) (q : Fin 1024) :
    k0_pay9 (F := Ideal) x (ix2 a q) = x (ix2 a q) * Cert.RmsBack.inv (fun k => x (ix2 a k)) := by
  refine Eq.trans ?_ (congrArg (x (ix2 a q) * ·) (pay8_at x a))
  generalize hp : k0_pay8 (F := Ideal) x = p
  have : k0_pay9 (F := Ideal) x = mulf (F := Ideal) (φ := .f32) x (broadcastTo S512x1024 p broadcasts_S512x1_S512x1024) := by rw [← hp]; rfl
  rw [this]
  pointwise []

/-- A point's share of the scale's gradient is added to the row so far. -/
theorem pay1_at (h xh : S512x1024.Idx → EReal) (w : S1x1024.Idx → EReal) (q : Fin 1024) :
    k0_pay1 (F := Ideal) h xh w (ix2 0 q) = w (ix2 0 q) + ∑ a : Fin 512, h (ix2 a q) * xh (ix2 a q) := by
  pointwise [k0_pay1]

/-- The gradient of the norm, at an index. -/
theorem pay2_at (h : S512x1024.Idx → EReal) (g : S1x1024.Idx → EReal) (r : S512x1.Idx → EReal) (xh d : S512x1024.Idx → EReal) (a : Fin 512) (q : Fin 1024) :
    k0_pay2 (F := Ideal) h g r xh d (ix2 a q) = r (ix2 a 0) * (h (ix2 a q) * g (ix2 0 q)
      - xh (ix2 a q) * Ideal.div (∑ k : Fin 1024, h (ix2 a k) * g (ix2 0 k) * xh (ix2 a k)) (Ideal.ofBits FTy.f32 1149239296#32)) + d (ix2 a q) := by
  pointwise [k0_pay2]

/-- The scale passes unchanged through the cast to its own shape. -/
theorem pay7_eq (g : S1x1024.Idx → EReal) : k0_pay7 (F := Ideal) g = g := by
  funext i
  rw [ix2_self i]
  pointwise [k0_pay7]

/-- The row starts at zero. -/
theorem pay3_at (q : Fin 1024) : k0_pay3 (F := Ideal) (ix2 0 q) = 0 := by
  pointwise [k0_pay3]

/-- The product of a block of rows with the weights, at a row and a column. -/
def prod (x : S512x5120.Idx → EReal) (w : S5120x1024.Idx → EReal) : S512x1024.Idx → EReal :=
  fun i => ∑ k : Fin 5120, x (ix2 (i 0) k) * w (ix2 k (i 1))

/-- Half the columns of the weights, loaded from column `o` on. -/
theorem ld_w (w : Vec Ideal S5120x1024 .bf16) (o : ℕ) (inb) (k : Fin 5120) (q : Fin 512) (h : o + q.val < 1024) :
    View.ld (Val := Elt Ideal) w (Rect.unit (s := S5120x1024) ![0, o] S5120x512.size inb) (ix2 k q) = w (ix2 k ⟨o + q.val, h⟩) := by
  refine congrArg w (funext fun a => Fin.ext ((Rect.idx_unit_val _ _ _ _ a).trans ?_))
  match a with
  | 0 => exact Nat.zero_add _
  | 1 => rfl

/-- Half the columns of the weights, starting at column `o`, give the product at those columns. -/
theorem half (x0 : S512x5120.Idx → EReal) (x1 : S5120x1024.Idx → EReal) (w : S5120x512.Idx → EReal) (o : ℕ) (x : S512x512.Idx)
    (hw : ∀ (k : Fin 5120) (q : Fin 512) (h : o + q.val < 1024), w (ix2 k q) = x1 (ix2 k ⟨o + q.val, h⟩))
    (i : S512x1024.Idx) (h0 : (i 0).val = (x 0).val) (h1 : (i 1).val = o + (x 1).val) :
    k0_pay5 (F := Ideal) x0 w x = prod x0 x1 i := by
  refine (congrArg _ (ix2_self x)).trans ((pay5_at x0 w (x 0) (x 1)).trans (Finset.sum_congr rfl fun k _ => ?_))
  have h : o + (x 1).val < 1024 := h1 ▸ (i 1).isLt
  refine congrArg₂ (· * ·) (congrArg (fun b => x0 (ix2 b k)) (Fin.ext h0.symm)) ((hw k (x 1) h).trans ?_)
  exact congrArg (fun b => x1 (ix2 k b)) (Fin.ext h1.symm)

/-- What the two halves leave in the product's buffer, read back whole. -/
abbrev stored (x0 : Vec Ideal S512x5120 .bf16) (x1 : Vec Ideal S5120x1024 .bf16) : S512x1024.Idx → EReal :=
  View.readCov (Val := Elt Ideal) (View.whole cc0_scratch0)
    [⟨Rect.unit (s := S512x1024) ![0, 512] ![512, 512] inb_S512x1024_S512x512_0_512,
        k0_pay6 (F := Ideal) x0 (View.ld (Val := Elt Ideal) x1 (Rect.unit (s := S5120x1024) ![0, 512] ![5120, 512] inb_S5120x1024_S5120x512_0_512))⟩,
      ⟨Rect.unit (s := S512x1024) ![0, 0] ![512, 512] inb_S512x1024_S512x512_0_0,
        k0_pay5 (F := Ideal) x0 (View.ld (Val := Elt Ideal) x1 (Rect.unit (s := S5120x1024) ![0, 0] ![5120, 512] inb_S5120x1024_S5120x512_0_0))⟩]
    (Rect.unit (s := S512x1024) ![0, 0] ![512, 1024] inb_S512x1024_S512x1024_0_0).toLoadRect

/-- It is the product. -/
theorem stored_eq (x0 : S512x5120.Idx → EReal) (x1 : S5120x1024.Idx → EReal) : stored x0 x1 = prod x0 x1 := by
  funext i
  unfold stored
  rw [View.readCov_eq_canon']
  have hi : (Rect.unit (s := S512x1024) ![0, 0] ![512, 1024] inb_S512x1024_S512x1024_0_0).toLoadRect.idx i = i := by
    funext a
    refine Fin.ext ((Rect.idx_unit_val _ _ _ _ a).trans ?_)
    match a with
    | 0 => exact Nat.zero_add _
    | 1 => exact Nat.zero_add _
  show View.canon _ _ = _
  rw [hi]
  canon_tiles x h
  · exact half x0 x1 _ 512 x (fun k q h => ld_w x1 512 _ k q h) _ h0 h1
  · exact half x0 x1 _ 0 x (fun k q h => ld_w x1 0 _ k q h) _ h0 (h1.trans (Nat.zero_add _).symm)

/-- A point's gradient block, from its operands' blocks. -/
def dxBlock (x0 : S512x5120.Idx → EReal) (x1 : S5120x1024.Idx → EReal) (x2 : S512x1024.Idx → EReal) (x3 : S1x1024.Idx → EReal) (x4 : S512x1024.Idx → EReal) :
    S512x1024.Idx → EReal :=
  k0_pay2 (F := Ideal) (stored x0 x1) (k0_pay7 (F := Ideal) x3) (k0_pay8 (F := Ideal) x2) (k0_pay9 (F := Ideal) x2) x4

/-- It is the gradient of the norm of each row. -/
theorem dxBlock_at (x0 : S512x5120.Idx → EReal) (x1 : S5120x1024.Idx → EReal) (x2 : S512x1024.Idx → EReal) (x3 : S1x1024.Idx → EReal)
    (x4 : S512x1024.Idx → EReal) (a : Fin 512) (q : Fin 1024) :
    dxBlock x0 x1 x2 x3 x4 (ix2 a q)
      = Cert.RmsBack.centred (fun k => x2 (ix2 a k)) (fun k => prod x0 x1 (ix2 a k) * x3 (ix2 0 k)) (x4 (ix2 a q)) q := by
  unfold dxBlock Cert.RmsBack.centred
  rw [stored_eq, pay7_eq]
  refine (pay2_at _ _ _ _ _ a q).trans ?_
  simp only [pay8_at, pay9_at]

/-- A point's share of the scale's gradient, added to the row so far. -/
theorem dgRow_at (x0 : S512x5120.Idx → EReal) (x1 : S5120x1024.Idx → EReal) (x2 : S512x1024.Idx → EReal) (w : S1x1024.Idx → EReal) (q : Fin 1024) :
    k0_pay1 (F := Ideal) (stored x0 x1) (k0_pay9 (F := Ideal) x2) w (ix2 0 q)
      = w (ix2 0 q) + ∑ a : Fin 512, prod x0 x1 (ix2 a q) * (x2 (ix2 a q) * Cert.RmsBack.inv (fun k => x2 (ix2 a k))) := by
  rw [stored_eq]
  refine (pay1_at _ _ _ q).trans ?_
  simp only [pay9_at]

variable (m : (l : Loc nD τ sig) → Buf (Elt Ideal) l) (c : Dev nD)

/-- Every point leaves its gradient block. -/
theorem outs_dx (t : Fin cfg0.N) :
    (outsAt0 m c t.val t.isLt).1 = dxBlock (iblk m c 0 t) (iblk m c 1 t) (iblk m c 2 t) (iblk m c 3 t) (iblk m c 4 t) := by
  by_cases h : t.val % 16 = 0
  · rw [outsAt0_A m c t h]
    frame_out
    rfl
  · rw [outsAt0_B m c t h]
    frame_out
    rfl

/-- The first point starts the row. -/
theorem outs_first (t : Fin cfg0.N) (h : t.val % 16 = 0) :
    (outsAt0 m c t.val t.isLt).2 = k0_pay1 (F := Ideal) (stored (iblk m c 0 t) (iblk m c 1 t)) (k0_pay9 (F := Ideal) (iblk m c 2 t)) (k0_pay3 (F := Ideal)) := by
  rw [outsAt0_A m c t h]
  frame_out

/-- A later point adds to the row. -/
theorem outs_later (t : Fin cfg0.N) (h : ¬ t.val % 16 = 0) :
    (outsAt0 m c t.val t.isLt).2 = k0_pay1 (F := Ideal) (stored (iblk m c 0 t) (iblk m c 1 t)) (k0_pay9 (F := Ideal) (iblk m c 2 t))
      (outsAt0 m c (t.val - 1) (Nat.lt_of_le_of_lt (Nat.sub_le _ _) t.isLt)).2 := by
  rw [outsAt0_B m c t h]
  frame_out

/-- The stream. -/
abbrev a0 : S8192x1024.Idx → EReal := m ((c.tc : Thread nD τ).loc main_arg0)
/-- The scale. -/
abbrev a1 : S1024.Idx → EReal := m ((c.tc : Thread nD τ).loc main_arg1)
/-- The combined projection's weights. -/
abbrev a2 : S1024x4256.Idx → EReal := m ((c.tc : Thread nD τ).loc main_arg2)
/-- The gradient of the projection's output. -/
abbrev a3 : S8192x4256.Idx → EReal := m ((c.tc : Thread nD τ).loc main_arg3)
/-- The stream's own gradient. -/
abbrev a4 : S8192x1024.Idx → EReal := m ((c.tc : Thread nD τ).loc main_arg4)

/-- The first operand is the gradient of the projection's output, laid out. -/
theorem V_d : V m c main_v21 = Cert.Kernel2Ideal.Hand.laid (a3 m c) := by
  unfold V V0; simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp; rfl

/-- The second operand is the weights, laid out and transposed. -/
theorem V_w : V m c main_v44 = transpose S5120x1024 [1, 0] (Cert.Kernel4Ideal.Hand.laid (a2 m c)) transposes_S1024x5120_S5120x1024_1_0 := by
  unfold V V0; simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp; rfl

/-- The third operand is the stream. -/
theorem V_x : V m c main_arg0 = a0 m c := by
  unfold V V0; simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp

/-- The fourth operand is the scale as one row. -/
theorem V_g : V m c main_v45 = shapeCast S1x1024 (a1 m c) shapeCasts_S1024_S1x1024 := by
  unfold V V0; simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp; rfl

/-- The fifth operand is the stream's own gradient. -/
theorem V_r : V m c main_arg4 = a4 m c := by
  unfold V V0; simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp

/-- A vector as one row, at a column. -/
theorem row_at (g : S1024.Idx → EReal) (q : Fin 1024) : shapeCast S1x1024 g shapeCasts_S1024_S1x1024 (ix2 0 q) = g (ix1 q) := by
  pointwise []

/-- The weights, transposed, at an index. -/
theorem trans_at (w : S1024x5120.Idx → EReal) (k : Fin 5120) (q : Fin 1024) : transpose S5120x1024 [1, 0] w transposes_S1024x5120_S5120x1024_1_0 (ix2 k q) = w (ix2 q k) := by
  pointwise []

/-- The gradient of the normalised, scaled row: the product with the weights' rows. -/
def dh (d : S8192x4256.Idx → EReal) (w : S1024x4256.Idx → EReal) (r : Fin 8192) (q : Fin 1024) : EReal :=
  ∑ k : Fin 4256, d (ix2 r k) * w (ix2 q k)

/-- A row of the stream. -/
def row (x : S8192x1024.Idx → EReal) (r : Fin 8192) : Fin 1024 → EReal := fun k => x (ix2 r k)

/-- A point's product is the whole one at its rows. -/
theorem prod_at (t : Fin cfg0.N) (a : Fin 512) (q : Fin 1024) :
    prod (iblk m c 0 t) (iblk m c 1 t) (ix2 a q) = dh (a3 m c) (a2 m c) ⟨512 * t.val + a.val, by have := pt_lt t; omega⟩ q := by
  refine Eq.trans (Finset.sum_congr rfl fun k _ => ?_) (Cert.Layout.sum_lay (fun d => a3 m c (ix2 ⟨512 * t.val + a.val, by have := pt_lt t; omega⟩ d)) (fun d => a2 m c (ix2 q d)))
  refine congrArg₂ (· * ·) ((read_0 t (V m c main_v21) a k).trans ?_) ((read_1 t (V m c main_v44) k q).trans ?_)
  · rw [V_d]
    exact Cert.Kernel2Ideal.Hand.laid_at _ _ k
  · rw [V_w]
    exact (trans_at _ k q).trans (Cert.Kernel4Ideal.Hand.laid_at _ q k)

/-- A point reads its rows of the stream. -/
theorem x_at (t : Fin cfg0.N) (a : Fin 512) (q : Fin 1024) :
    (iblk m c 2 t : S512x1024.Idx → EReal) (ix2 a q) = row (a0 m c) ⟨512 * t.val + a.val, by have := pt_lt t; omega⟩ q := by
  refine (read_2 t (V m c main_arg0) a q).trans ?_
  rw [V_x]; rfl

/-- A point reads the scale. -/
theorem g_at (t : Fin cfg0.N) (q : Fin 1024) : (iblk m c 3 t : S1x1024.Idx → EReal) (ix2 0 q) = a1 m c (ix1 q) := by
  refine (read_3 t (V m c main_v45) q).trans ?_
  rw [V_g]
  exact row_at _ q

/-- A point reads its rows of the stream's own gradient. -/
theorem r_at (t : Fin cfg0.N) (a : Fin 512) (q : Fin 1024) :
    (iblk m c 4 t : S512x1024.Idx → EReal) (ix2 a q) = a4 m c (ix2 ⟨512 * t.val + a.val, by have := pt_lt t; omega⟩ q) := by
  refine (read_4 t (V m c main_arg4) a q).trans ?_
  rw [V_r]

/-! ## The output arrays -/

/-- The stream's gradient, at a row and a column. -/
def dx (r : Fin 8192) (q : Fin 1024) : EReal :=
  Cert.RmsBack.centred (row (a0 m c) r) (fun k => dh (a3 m c) (a2 m c) r k * a1 m c (ix1 k)) (a4 m c (ix2 r q)) q

/-- A row's share of the scale's gradient, zero past the rows. -/
def term (q : Fin 1024) (n : ℕ) : EReal :=
  if h : n < 8192 then dh (a3 m c) (a2 m c) ⟨n, h⟩ q * (row (a0 m c) ⟨n, h⟩ q * Cert.RmsBack.inv (row (a0 m c) ⟨n, h⟩)) else 0

/-- A point's gradient block, at an index. -/
theorem dx_at (t : Fin cfg0.N) (a : Fin 512) (q : Fin 1024) :
    dxBlock (iblk m c 0 t) (iblk m c 1 t) (iblk m c 2 t) (iblk m c 3 t) (iblk m c 4 t) (ix2 a q)
      = dx m c ⟨512 * t.val + a.val, by have := pt_lt t; omega⟩ q := by
  refine (dxBlock_at (iblk m c 0 t) (iblk m c 1 t) (iblk m c 2 t) (iblk m c 3 t) (iblk m c 4 t) a q).trans ?_
  exact Cert.RmsBack.centred_congr (fun k => x_at m c t a k) (fun k => congrArg₂ (· * ·) (prod_at m c t a k) (g_at m c t k)) (r_at m c t a q) q

/-- A point adds its block of rows to the scale's gradient. -/
theorem part_at (t : Fin cfg0.N) (w : S1x1024.Idx → EReal) (q : Fin 1024) :
    k0_pay1 (F := Ideal) (stored (iblk m c 0 t) (iblk m c 1 t)) (k0_pay9 (F := Ideal) (iblk m c 2 t)) w (ix2 0 q)
      = w (ix2 0 q) + ∑ a ∈ range 512, term m c q (512 * t.val + a) := by
  refine (dgRow_at (iblk m c 0 t) (iblk m c 1 t) (iblk m c 2 t) w q).trans (congrArg (w (ix2 0 q) + ·) (Eq.trans ?_ (Fin.sum_univ_eq_sum_range _ 512)))
  refine Finset.sum_congr rfl fun a _ => ?_
  have ht := pt_lt t
  have h : 512 * t.val + a.val < 8192 := by omega
  refine Eq.trans ?_ (dif_pos h).symm
  refine congrArg₂ (· * ·) (prod_at m c t a q) (congrArg₂ (· * ·) (x_at m c t a q) (congrArg Cert.RmsBack.inv ?_))
  funext k
  exact x_at m c t a k

/-- After a point, the row holds the sum over the rows so far. -/
theorem outs_at (k : ℕ) (hk : k < 16) (q : Fin 1024) :
    (outsAt0 m c k (lt_of_lt_of_eq hk (show cfg0.N = 16 from N_0).symm)).2 (ix2 0 q) = ∑ n ∈ range (512 * (k + 1)), term m c q n := by
  induction k with
  | zero =>
    have hN : 0 < cfg0.N := lt_of_lt_of_eq hk (show cfg0.N = 16 from N_0).symm
    refine (congrFun (outs_first m c ⟨0, hN⟩ rfl) _).trans ((part_at m c _ _ q).trans ?_)
    rw [pay3_at, zero_add]
    simp only [Nat.mul_zero, Nat.zero_add, Nat.mul_one]
  | succ k ih =>
    have hN : k + 1 < cfg0.N := lt_of_lt_of_eq hk (show cfg0.N = 16 from N_0).symm
    refine (congrFun (outs_later m c ⟨k + 1, hN⟩ (by show ¬ (k + 1) % 16 = 0; omega)) _).trans ((part_at m c _ _ q).trans ?_)
    rw [show 512 * (k + 1 + 1) = 512 * (k + 1) + 512 by ring, Finset.sum_range_add]
    exact congrArg (· + _) (ih (by omega))

/-- The gradient blocks' places in the array. -/
theorem emb_5 (t : Fin cfg0.N) (y : S512x1024.Idx) :
    ((win0_5.blk t).view.emb y 0).val = 512 * t.val + (y 0).val ∧ ((win0_5.blk t).view.emb y 1).val = (y 1).val := by
  constructor
  · blk_simp [idx t]; omega
  · blk_simp [idx t]

/-- The row's block is the array. -/
theorem emb_6 (t : Fin cfg0.N) (y : S1x1024.Idx) : ((win0_6.blk t).view.emb y 1).val = (y 1).val := by
  blk_simp [idx t]

/-- The stream's gradient ends at every row's. -/
theorem arr_5 : (dats m 0 c).arrAt 5 cfg0.N = (fun i : S8192x1024.Idx => dx m c (i 0) (i 1)) := by
  refine (dats m 0 c).arrAt_eq_of_covers 5 _ (by decide +kernel) fun t hf y => ?_
  blk_simp
  rw [after0_5, outs_dx]
  have e := emb_5 t y
  refine (congrArg _ (ix2_self y)).trans ((dx_at m c t (y 0) (y 1)).trans ?_)
  exact congrArg₂ (dx m c) (Fin.ext e.1.symm) (Fin.ext e.2.symm)

/-- The scale's gradient, over all the rows. -/
def dg (q : Fin 1024) : EReal :=
  ∑ n : Fin 8192, dh (a3 m c) (a2 m c) n q * (row (a0 m c) n q * Cert.RmsBack.inv (row (a0 m c) n))

/-- The scale's gradient ends at the sum over the rows. -/
theorem arr_6 : (dats m 0 c).arrAt 6 cfg0.N = (fun i : S1x1024.Idx => dg m c (i 1)) := by
  refine (dats m 0 c).arrAt_eq_of_covers 6 _ (by decide +kernel) fun t hf y => ?_
  blk_simp
  rw [after0_6]
  have ht := pt_lt t
  have hm : t.val % 16 = 15 := (flush0_6 t).mp hf
  have e := emb_6 t y
  have hN : 15 < cfg0.N := lt_of_lt_of_eq (show 15 < 16 by omega) (show cfg0.N = 16 from N_0).symm
  have ht' : t = ⟨15, hN⟩ := Fin.ext (by show t.val = 15; omega)
  have gen : ∀ s : Fin cfg0.N, s = ⟨15, hN⟩ → (outsAt0 m c s.val s.isLt).2 y = (outsAt0 m c 15 hN).2 y := by
    rintro s rfl; rfl
  have hy : y = ix2 0 (y 1) := (ix2_self y).trans (congrArg (fun b => ix2 b (y 1)) (Subsingleton.elim (α := Fin 1) _ _))
  refine (gen t ht').trans ((congrArg _ hy).trans ((outs_at m c 15 (by omega) (y 1)).trans ?_))
  refine (Fin.sum_univ_eq_sum_range (fun n => term m c (y 1) n) 8192).symm.trans ?_
  refine Eq.trans ?_ (congrArg (dg m c) (Fin.ext e.symm : (y 1 : Fin 1024) = (win0_6.blk t).view.emb y 1))
  exact Finset.sum_congr rfl fun n _ => dif_pos n.isLt

/-! ## The reference -/

section Reference

open Cert.Reference3Ideal.Read

/-- The reference's product. -/
theorem ref_dh (d : S8192x4256.Idx → EReal) (w : S1024x4256.Idx → EReal) (r : Fin 8192) (q : Fin 1024) :
    val_main_v17 (F := Ideal) w d (ix2 r q) = dh d w r q := by
  refine (val_main_v17_apply w d _).trans (Finset.sum_congr rfl fun k _ => congrArg₂ (· * ·) (congrArg d ?_) (congrArg w ?_))
  · exact ix2_self _
  · exact ix2_self _

/-- The reference's guarded mean square. -/
theorem ref_sq (x : S8192x1024.Idx → EReal) (r : Fin 8192) : val_main_v6 (F := Ideal) x (ix2 r 0) = Cert.RmsBack.meanSq (row x r) := by
  rw [val_main_v6_apply, val_main_v4_apply, val_main_v2_apply, val_main_v1_apply, val_main_v3_apply, val_main_v5_apply]
  refine congrArg₂ (· + ·) (congrArg₂ Ideal.div ?_ rfl) rfl
  refine (congrArg₂ (· + ·) Ideal.ofBits_zero_f32 (Finset.sum_congr rfl fun k _ => ?_)).trans (zero_add _)
  exact congrArg (fun z => x z * x z) (ix2_self _)

/-- The reference's reciprocal root. -/
theorem ref_inv (x : S8192x1024.Idx → EReal) (r : Fin 8192) : val_main_v7 (F := Ideal) x (ix2 r 0) = Cert.RmsBack.inv (row x r) :=
  congrArg Ideal.rsqrt (ref_sq x r)

/-- The gradient of the normalised row, in the reference. -/
theorem ref_dy (d : S8192x4256.Idx → EReal) (w : S1024x4256.Idx → EReal) (g : S1024.Idx → EReal) (r : Fin 8192) (q : Fin 1024) :
    val_main_v22 (F := Ideal) g w d (ix2 r q) = dh d w r q * g (ix1 q) := by
  refine congrArg₂ (· * ·) (ref_dh d w r q) ?_
  rw [val_main_v21_apply, val_main_v13_apply]
  exact congrArg g (funext fun a => by match a with | 0 => rfl)

/-- What every element of a row receives through the mean square, in the reference. -/
theorem ref_through (x : S8192x1024.Idx → EReal) (d : S8192x4256.Idx → EReal) (w : S1024x4256.Idx → EReal) (g : S1024.Idx → EReal) (r : Fin 8192) (q : Fin 1024) :
    val_main_v34 (F := Ideal) x g w d (ix2 r q) = Cert.RmsBack.through (row x r) (fun k => dh d w r k * g (ix1 k)) := by
  rw [val_main_v34_apply, val_main_v33_apply]
  refine (congrArg₂ (· + ·) Ideal.ofBits_zero_f32 (Fin.sum_univ_one _)).trans ((zero_add _).trans ?_)
  rw [val_main_v32_apply, val_main_v30_apply, val_main_v10_apply, val_main_v8_apply, val_main_v31_apply, val_main_v9_apply, val_main_v26_apply, val_main_v25_apply]
  have e : ∀ i : Cert.Reference3Ideal.S8192x1.Idx, (i 0).val = r.val → i = ix2 r 0 := fun i h =>
    (ix2_self i).trans (congrArg₂ ix2 (Fin.ext h) (Subsingleton.elim (α := Fin 1) _ _))
  refine congrArg₂ Ideal.div (congrArg₂ (· * ·) ?_ (congrArg₂ (· * ·) rfl (congrArg₂ Ideal.div ?_ ?_))) rfl
  · refine (congrArg₂ (· + ·) Ideal.ofBits_zero_f32 (Finset.sum_congr rfl fun k _ => ?_)).trans (zero_add _)
    rw [val_main_v24_apply]
    have e' : ∀ i : S8192x1024.Idx, (i 0).val = r.val → (i 1).val = k.val → i = ix2 r k := fun i h h' =>
      (ix2_self i).trans (congrArg₂ ix2 (Fin.ext h) (Fin.ext h'))
    refine congrArg₂ (· * ·) (congrArg x ?_) ((congrArg _ ?_).trans (ref_dy d w g r k))
    · exact e' _ (by show r.val * 1 + 0 = r.val; omega) rfl
    · exact e' _ (by show r.val * 1 + 0 = r.val; omega) rfl
  · exact (congrArg _ (e _ rfl)).trans (ref_inv x r)
  · exact (congrArg _ (e _ rfl)).trans (ref_sq x r)

/-- The reference's gradient of the stream. -/
theorem ref_dx (x : S8192x1024.Idx → EReal) (d : S8192x4256.Idx → EReal) (e : S8192x1024.Idx → EReal) (w : S1024x4256.Idx → EReal) (g : S1024.Idx → EReal) (r : Fin 8192) (q : Fin 1024) :
    val_main_v38 (F := Ideal) x g w d e (ix2 r q)
      = Cert.RmsBack.differentiated (row x r) (fun k => dh d w r k * g (ix1 k)) (e (ix2 r q)) q := by
  rw [val_main_v38_apply, val_main_v36_apply, val_main_v37_apply, val_main_v35_apply, val_main_v29_apply, val_main_v28_apply, val_main_v27_apply,
    ref_through, ref_dy]
  refine congrArg₂ (· + ·) (congrArg₂ (· + ·) (congrArg₂ (· + ·) rfl (congrArg₂ (· * ·) rfl ?_)) rfl) rfl
  exact (congrArg _ (ix2_self _)).trans (ref_inv x r)

/-- The reference's gradient of the scale. -/
theorem ref_dg (x : S8192x1024.Idx → EReal) (d : S8192x4256.Idx → EReal) (w : S1024x4256.Idx → EReal) (q : Fin 1024) :
    val_main_v23 (F := Ideal) x w d (ix1 q)
      = ∑ n : Fin 8192, dh d w n q * (row x n q * Cert.RmsBack.inv (row x n)) := by
  rw [val_main_v23_apply]
  refine (congrArg₂ (· + ·) Ideal.ofBits_zero_f32 (Fin.sum_univ_one _)).trans ((zero_add _).trans ?_)
  rw [val_main_v20_apply, val_main_v19_apply]
  refine (congrArg₂ (· + ·) Ideal.ofBits_zero_f32 (Finset.sum_congr rfl fun n _ => ?_)).trans (zero_add _)
  have e : ∀ i : S8192x1024.Idx, (i 0).val = n.val → (i 1).val = q.val → i = ix2 n q := fun i h h' =>
    (ix2_self i).trans (congrArg₂ ix2 (Fin.ext h) (Fin.ext h'))
  refine (congrArg _ (e _ rfl (by simp))).trans ?_
  rw [val_main_v18_apply, val_main_v12_apply, val_main_v11_apply, ref_dh]
  refine (mul_comm _ _).trans (congrArg₂ (· * ·) rfl (congrArg₂ (· * ·) rfl ?_))
  exact (congrArg _ (ix2_self _)).trans (ref_inv x n)

end Reference

/-- The stream's gradient is the reference's. -/
theorem dx_eq : (fun i : S8192x1024.Idx => dx m c (i 0) (i 1))
    = Cert.Reference3Ideal.Read.val_main_v38 (F := Ideal) (a0 m c) (a1 m c) (a2 m c) (a3 m c) (a4 m c) := by
  funext i
  refine (Cert.RmsBack.agree _ _ _ _).trans ((ref_dx (a0 m c) (a3 m c) (a4 m c) (a2 m c) (a1 m c) (i 0) (i 1)).symm.trans ?_)
  exact congrArg _ (ix2_self i).symm

/-- The scale's gradient, as the host code leaves it, is the reference's. -/
theorem dg_eq : shapeCast S1024 (fun i : S1x1024.Idx => dg m c (i 1)) shapeCasts_S1x1024_S1024
    = Cert.Reference3Ideal.Read.val_main_v23 (F := Ideal) (a0 m c) (a2 m c) (a3 m c) := by
  have flat : ∀ (y : S1x1024.Idx → EReal) (q : Fin 1024), shapeCast S1024 y shapeCasts_S1x1024_S1024 (ix1 q) = y (ix2 0 q) := fun y q => by
    pointwise []
  funext i
  have hi : i = ix1 (i 0) := funext fun a => by match a with | 0 => rfl
  refine (congrArg _ hi).trans ((flat _ (i 0)).trans ((ref_dg (a0 m c) (a3 m c) (a2 m c) (i 0)).symm.trans ?_))
  exact congrArg _ hi.symm

/-- What the host code after the kernel computes, from any buffers. -/
theorem tail_value (v : Valuation τ sig (Elt Ideal)) :
    StableHlo.after (List.flatten [hostOps1]) v (Proc.devRef .tc main_v47) = shapeCast S1024 (v (Proc.devRef .tc main_v46_1)) shapeCasts_S1x1024_S1024 := by
  simp only [hostOps1, List.flatten_cons, List.flatten_nil, List.append_nil]
  after_results_simp
  rfl

/-- What it leaves in the scale's gradient. -/
theorem tail_result : Pipeline.afterTail₀ cfgs (dats m) 0 (V0 m) [hostOps1] c main_v47
    = shapeCast S1024 ((dats m 0 c).arrAt 6 cfg0.N) shapeCasts_S1x1024_S1024 := by
  unfold Pipeline.afterTail₀
  exact (tail_value _).trans (congrArg (fun y => shapeCast S1024 y shapeCasts_S1x1024_S1024)
    (Pipeline.withArrays_arr cfg0.spec (by decide) c (V0 m c) (fun w => (dats m 0 c).arrAt w cfg0.N) 6))

/-- The idealized kernel's run: it ends with the reference's gradients of the stream and of the scale, its arguments unchanged. -/
theorem results (ρ : Dev nD → PrngReg) :
    θ_run defs (onTc (τ := τ) (main (F := Ideal))) (s₀ m ρ) (fun r => ∀ c : Dev nD,
      r.2.mem ((c.tc : Thread nD τ).loc main_v46_0) = Cert.Reference3Ideal.Read.val_main_v38 (F := Ideal) (a0 m c) (a1 m c) (a2 m c) (a3 m c) (a4 m c)
      ∧ r.2.mem ((c.tc : Thread nD τ).loc main_v47) = Cert.Reference3Ideal.Read.val_main_v23 (F := Ideal) (a0 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 : θ_run defs (onTc (τ := τ) (main (F := Ideal))) (s₀ m ρ) (fun r => ∀ c : Dev nD,
      r.2.mem ((c.tc : Thread nD τ).loc main_v46_0) = Cert.Reference3Ideal.Read.val_main_v38 (F := Ideal) (a0 m c) (a1 m c) (a2 m c) (a3 m c) (a4 m c)
      ∧ r.2.mem ((c.tc : Thread nD τ).loc main_v47) = Cert.Reference3Ideal.Read.val_main_v23 (F := Ideal) (a0 m c) (a2 m c) (a3 m c)) :=
    (θ_run defs _ _).mono (fun r h c =>
      ⟨((h c).1 5).trans ((arr_5 m c).trans (dx_eq m c)),
       ((h c).2 main_v47 (Pipeline.mem_restRefs_of main_v47 (by decide) (by decide))).trans
        ((tail_result m c).trans ((congrArg (fun y => shapeCast S1024 y shapeCasts_S1x1024_S1024) (arr_6 m c)).trans (dg_eq m c)))⟩) (run_main m ρ)
  exact (θ_run defs _ _).mono (fun r hk c => ⟨(hk.1 c).1, (hk.1 c).2, hk.2 c⟩) (θ_run_and h1 (unchanged m ρ))

end Cert.Kernel3Ideal.Hand

end

end
-- ==== Proof.Hand.ProjIn.lean ====
module

public import proofs.«01_k».proof.Proof.Hand.Lanes4
public import proofs.«01_k».proof.Proof.Gen.Reference4Ideal.Read

@[expose] public section

set_option maxRecDepth 16384

/-!
The mixer's combined input projection: each grid point multiplies 512 tokens of the normalised stream with the laid-out weights,
stripe by stripe, and normalises the two low-rank columns of the last stripe; its columns are the reference's.
-/

noncomputable section

namespace Cert.Kernel4Ideal.Hand

open Cert.Kernel4Ideal Cert.Kernel4Ideal.Gen Cert.Layout
open Idealize.ShloMosaic Idealize.ShloMosaic.TcCoe Idealize.ShloMosaic.Tactic Idealize.ShloMosaic.Pipeline

/-- There are sixteen grid points. -/
theorem pt_lt (t : Fin cfg0.N) : t.val < 16 := lt_of_lt_of_eq t.isLt (show cfg0.N = 16 from N_0)

/-- The blocks of the grid's points: 512 tokens each. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- A block of tokens of the stream. -/
theorem read_0 (t : Fin cfg0.N) (X : S8192x1024.Idx → EReal) (a : Fin 512) (k : Fin 1024) :
    ((cfg0.win 0).blk t).view.read (Elt Ideal) X (ix2 a k) = X (ix2 ⟨512 * t.val + a.val, by have := pt_lt t; omega⟩ k) := by
  blk_ext [idx t]

/-- The weights are read whole. -/
theorem read_1 (t : Fin cfg0.N) (X : S1024x5120.Idx → EReal) (k : Fin 1024) (q : Fin 5120) :
    ((cfg0.win 1).blk t).view.read (Elt Ideal) X (ix2 k q) = X (ix2 k q) := by
  blk_ext [idx t]

/-- The query norm's scale is read whole. -/
theorem read_2 (t : Fin cfg0.N) (X : S1x256.Idx → EReal) (q : Fin 256) :
    ((cfg0.win 2).blk t).view.read (Elt Ideal) X (ix2 0 q) = X (ix2 0 q) := by
  blk_ext [idx t]

/-- The key norm's scale is read whole. -/
theorem read_3 (t : Fin cfg0.N) (X : S1x128.Idx → EReal) (q : Fin 128) :
    ((cfg0.win 3).blk t).view.read (Elt Ideal) X (ix2 0 q) = X (ix2 0 q) := by
  blk_ext [idx t]

/-- An index of a matrix is its row and its column. -/
theorem ix2_self {a b : ℕ} (i : (⟨2, ![a, b]⟩ : Shape).Idx) : i = ix2 (i 0) (i 1) := by
  funext d
  match d with
  | 0 => rfl
  | 1 => rfl

/-! ## One point's products -/

/-- The product of a block of tokens with the weights, at a token and a lane. -/
def prod (x : S512x1024.Idx → EReal) (w : S1024x5120.Idx → EReal) (a : Fin 512) (q : Fin 5120) : EReal :=
  ∑ k : Fin 1024, x (ix2 a k) * w (ix2 k q)

/-- The block of tokens passes unchanged through the cast to its own shape. -/
theorem pay3_eq (x : S512x1024.Idx → EReal) : k0_pay3 (F := Ideal) x = x := by
  funext i
  rw [ix2_self i]
  pointwise [k0_pay3]

/-- One stripe's product, at an index. -/
theorem pay14_at (x : S512x1024.Idx → EReal) (w : S1024x512.Idx → EReal) (i : S512x512.Idx) :
    k0_pay14 (F := Ideal) x w i = ∑ k : Fin 1024, x (ix2 (i 0) k) * w (ix2 k (i 1)) := by
  rw [ix2_self i]
  pointwise [k0_pay14]

/-- The first stripe is such a product, and so are the others of the first half. -/
theorem pay4_eq (x : S512x1024.Idx → EReal) (w : S1024x512.Idx → EReal) : k0_pay4 (F := Ideal) x w = k0_pay14 (F := Ideal) x w :=
  (show k0_pay4 (F := Ideal) x w = k0_pay14 (F := Ideal) (k0_pay3 (F := Ideal) x) w from rfl).trans (by rw [pay3_eq])

/-- The first 256 columns of the last stripe. -/
theorem pay16_at (x : S512x1024.Idx → EReal) (w : S1024x512.Idx → EReal) (a : Fin 512) (q : Fin 256) :
    k0_pay16 (F := Ideal) x w (ix2 a q) = k0_pay14 (F := Ideal) x w (ix2 a ⟨q.val, by omega⟩) := by
  generalize hp : k0_pay14 (F := Ideal) x w = p
  have : k0_pay16 (F := Ideal) x w = extractStridedSlice S512x256 ![0, 0] p slices_S512x512_o0_0_S512x256 := by rw [← hp]; rfl
  rw [this]
  pointwise []

/-- A row over its root mean square, scaled, at a column; `W` is the word of the row's length. -/
def normed {n : ℕ} (W : BitVec 32) (y g : Fin n → EReal) (q : Fin n) : EReal :=
  y q * Ideal.rsqrt (Ideal.div (∑ k, y k * y k) (Ideal.ofBits FTy.f32 W) + Ideal.ofBits FTy.f32 897988541#32) * g q

/-- The query's normalisation, at an index. -/
theorem pay1_at (y : S512x256.Idx → EReal) (g : S1x256.Idx → EReal) (a : Fin 512) (q : Fin 256) :
    k0_pay1 (F := Ideal) y g (ix2 a q) = normed 1132462080#32 (fun k => y (ix2 a k)) (fun k => g (ix2 0 k)) q := by
  unfold normed
  pointwise [k0_pay1]

/-- The key's normalisation, at an index. -/
theorem pay2_at (y : S512x512.Idx → EReal) (g : S1x128.Idx → EReal) (a : Fin 512) (q : Fin 128) :
    k0_pay2 (F := Ideal) y g (ix2 a q)
      = normed 1124073472#32 (fun k => y (ix2 a ⟨256 + k.val, by omega⟩)) (fun k => g (ix2 0 k)) q := by
  unfold normed
  pointwise [k0_pay2]

/-- A stripe of the weights, starting at lane `o`, gives the product at those lanes. -/
theorem stripe (x0 : S512x1024.Idx → EReal) (x1 : S1024x5120.Idx → EReal) (w : S1024x512.Idx → EReal) (o : ℕ) (x : S512x512.Idx)
    (hw : ∀ (k : Fin 1024) (q : Fin 512) (h : o + q.val < 5120), w (ix2 k q) = x1 (ix2 k ⟨o + q.val, h⟩))
    (a : Fin 512) (q : Fin 5120) (h0 : a.val = (x 0).val) (h1 : q.val = o + (x 1).val) :
    k0_pay14 (F := Ideal) x0 w x = prod x0 x1 a q := by
  refine (pay14_at x0 w x).trans (Finset.sum_congr rfl fun k _ => ?_)
  have h : o + (x 1).val < 5120 := h1 ▸ q.isLt
  refine congrArg₂ (· * ·) (congrArg (fun b => x0 (ix2 b k)) (Fin.ext h0.symm)) ((hw k (x 1) h).trans ?_)
  exact congrArg (fun b => x1 (ix2 k b)) (Fin.ext h1.symm)

/-- The block of tokens is loaded whole. -/
theorem ld_x (x0 : Vec Ideal S512x1024 .bf16) : View.ld (Val := Elt Ideal) x0 r0_0 = x0 := by
  funext i
  refine congrArg x0 (funext fun a => Fin.ext ((Rect.idx_unit_val _ _ _ i a).trans ?_))
  match a with
  | 0 => exact Nat.zero_add _
  | 1 => exact Nat.zero_add _

/-- The block of tokens that the second half of the stripes is multiplied with. -/
theorem pay17_eq (x0 : S512x1024.Idx → EReal) (x1 : S1024x5120.Idx → EReal) (x2 : S1x256.Idx → EReal) (x3 : S1x128.Idx → EReal) :
    k0_pay17 (F := Ideal) x0 x1 x2 x3 = x0 := by
  unfold k0_pay17
  exact (pay3_eq _).trans (ld_x x0)

/-- A stripe of the weights, loaded from lane `o` on. -/
theorem ld_w (x1 : Vec Ideal S1024x5120 .bf16) (o : ℕ) (inb) (k : Fin 1024) (q : Fin 512) (h : o + q.val < 5120) :
    View.ld (Val := Elt Ideal) x1 (Rect.unit (s := S1024x5120) ![0, o] S1024x512.size inb) (ix2 k q) = x1 (ix2 k ⟨o + q.val, h⟩) := by
  refine congrArg x1 (funext fun a => Fin.ext ((Rect.idx_unit_val _ _ _ _ a).trans ?_))
  match a with
  | 0 => exact Nat.zero_add _
  | 1 => rfl

/-- The query norm's scale is loaded whole. -/
theorem ld_gq (g : Vec Ideal S1x256 .f32) (q : Fin 256) : View.ld (Val := Elt Ideal) g r0_22 (ix2 0 q) = g (ix2 0 q) := by
  refine congrArg g (funext fun a => Fin.ext ((Rect.idx_unit_val _ _ _ _ a).trans ?_))
  match a with
  | 0 => rfl
  | 1 => exact Nat.zero_add _

/-- The key norm's scale is loaded whole. -/
theorem ld_gkv (g : Vec Ideal S1x128 .f32) (q : Fin 128) : View.ld (Val := Elt Ideal) g r0_24 (ix2 0 q) = g (ix2 0 q) := by
  refine congrArg g (funext fun a => Fin.ext ((Rect.idx_unit_val _ _ _ _ a).trans ?_))
  match a with
  | 0 => rfl
  | 1 => exact Nat.zero_add _

/-- What a point leaves in the projection's output block. -/
theorem out4_at (x0 : S512x1024.Idx → EReal) (x1 : S1024x5120.Idx → EReal) (x2 : S1x256.Idx → EReal) (x3 : S1x128.Idx → EReal) (y : S512x5120.Idx) :
    out0_4 (F := Ideal) x0 x1 x2 x3 y = prod x0 x1 (y 0) (y 1) := by
  canon_tiles x h
  all_goals try rw [pay17_eq]
  all_goals try rw [ld_x]
  · exact stripe x0 x1 _ 4608 x (fun k q h => ld_w x1 4608 _ k q h) _ _ h0 h1
  · exact stripe x0 x1 _ 4096 x (fun k q h => ld_w x1 4096 _ k q h) _ _ h0 h1
  · exact stripe x0 x1 _ 3584 x (fun k q h => ld_w x1 3584 _ k q h) _ _ h0 h1
  · exact stripe x0 x1 _ 3072 x (fun k q h => ld_w x1 3072 _ k q h) _ _ h0 h1
  · exact stripe x0 x1 _ 2560 x (fun k q h => ld_w x1 2560 _ k q h) _ _ h0 h1
  · exact (congrFun (pay4_eq x0 _) x).trans (stripe x0 x1 _ 2048 x (fun k q h => ld_w x1 2048 _ k q h) _ _ h0 h1)
  · exact (congrFun (pay4_eq x0 _) x).trans (stripe x0 x1 _ 1536 x (fun k q h => ld_w x1 1536 _ k q h) _ _ h0 h1)
  · exact (congrFun (pay4_eq x0 _) x).trans (stripe x0 x1 _ 1024 x (fun k q h => ld_w x1 1024 _ k q h) _ _ h0 h1)
  · exact (congrFun (pay4_eq x0 _) x).trans (stripe x0 x1 _ 512 x (fun k q h => ld_w x1 512 _ k q h) _ _ h0 h1)
  · exact (congrFun (pay4_eq x0 _) x).trans (stripe x0 x1 _ 0 x (fun k q h => ld_w x1 0 _ k q h) _ _ h0 (h1.trans (Nat.zero_add _).symm))

/-- What a point leaves in the gate's block. -/
theorem out5_at (x0 : S512x1024.Idx → EReal) (x1 : S1024x5120.Idx → EReal) (x2 : S1x256.Idx → EReal) (x3 : S1x128.Idx → EReal) (a q : Fin 512) :
    out0_5 (F := Ideal) x0 x1 x2 x3 (ix2 a q) = prod x0 x1 a ⟨3072 + q.val, by omega⟩ := by
  canon_tiles x h
  rw [pay17_eq]
  exact stripe x0 x1 _ 3072 x (fun k q h => ld_w x1 3072 _ k q h) _ _ h0 (congrArg (3072 + ·) h1)

/-- What a point leaves in the query's block. -/
theorem out6_at (x0 : S512x1024.Idx → EReal) (x1 : S1024x5120.Idx → EReal) (x2 : S1x256.Idx → EReal) (x3 : S1x128.Idx → EReal) (a : Fin 512) (q : Fin 256) :
    out0_6 (F := Ideal) x0 x1 x2 x3 (ix2 a q)
      = normed 1132462080#32 (fun k => prod x0 x1 a ⟨4608 + k.val, by omega⟩) (fun k => x2 (ix2 0 k)) q := by
  canon_tiles x h
  rw [pay17_eq]
  have hx : x = ix2 a q := by
    rw [ix2_self x]
    exact congrArg₂ ix2 (Fin.ext h0.symm) (Fin.ext h1.symm)
  rw [hx]
  refine (pay1_at _ _ a q).trans ?_
  congr 1
  · funext k
    exact (pay16_at _ _ a k).trans (stripe x0 x1 _ 4608 _ (fun k q h => ld_w x1 4608 _ k q h) _ _ rfl rfl)
  · funext k
    exact ld_gq x2 k

/-- What a point leaves in the key's block. -/
theorem out7_at (x0 : S512x1024.Idx → EReal) (x1 : S1024x5120.Idx → EReal) (x2 : S1x256.Idx → EReal) (x3 : S1x128.Idx → EReal) (a : Fin 512) (q : Fin 128) :
    out0_7 (F := Ideal) x0 x1 x2 x3 (ix2 a q)
      = normed 1124073472#32 (fun k => prod x0 x1 a ⟨4864 + k.val, by omega⟩) (fun k => x3 (ix2 0 k)) q := by
  canon_tiles x h
  rw [pay17_eq]
  have hx : x = ix2 a q := by
    rw [ix2_self x]
    exact congrArg₂ ix2 (Fin.ext h0.symm) (Fin.ext h1.symm)
  rw [hx]
  refine (pay2_at _ _ a q).trans ?_
  congr 1
  · funext k
    exact stripe x0 x1 _ 4608 _ (fun k q h => ld_w x1 4608 _ k q h) _ _ rfl (by show 4864 + k.val = 4608 + (256 + k.val); omega)
  · funext k
    exact ld_gkv x3 k

/-! ## The output arrays -/

variable (m : (l : Loc nD τ sig) → Buf (Elt Ideal) l) (c : Dev nD)

/-- The normalised stream. -/
abbrev a0 : S8192x1024.Idx → EReal := m ((c.tc : Thread nD τ).loc main_arg0)
/-- The projection's weights. -/
abbrev a1 : S1024x4256.Idx → EReal := m ((c.tc : Thread nD τ).loc main_arg1)
/-- The query norm's scale. -/
abbrev a2 : S256.Idx → EReal := m ((c.tc : Thread nD τ).loc main_arg2)
/-- The key norm's scale. -/
abbrev a3 : S128.Idx → EReal := m ((c.tc : Thread nD τ).loc main_arg3)

/-- The first operand is the stream. -/
theorem V_h : V m c main_v0 = a0 m c := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- The second operand is the weights, laid out. -/
theorem V_w : V m c main_v22 = laid (a1 m c) := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- The query norm's scale as one row. -/
theorem V_gq : V m c main_v23 = shapeCast S1x256 (a2 m c) shapeCasts_S256_S1x256 := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- The key norm's scale as one row. -/
theorem V_gkv : V m c main_v24 = shapeCast S1x128 (a3 m c) shapeCasts_S128_S1x128 := by
  unfold V V0; simp only [hostOps0, hostOps0_1, hostOps0_2, hostOps0_3, hostOps0_4, hostOps0_5, hostOps0_6, hostOps0_7, hostOps0_8,
    List.flatten_cons, List.flatten_nil, List.append_nil, List.cons_append, List.nil_append]
  after_results_simp; rfl

/-- A vector as one row, at a column. -/
theorem row256 (g : S256.Idx → EReal) (q : Fin 256) : shapeCast S1x256 g shapeCasts_S256_S1x256 (ix2 0 q) = g (ix1 q) := by
  pointwise []

/-- A vector as one row, at a column. -/
theorem row128 (g : S128.Idx → EReal) (q : Fin 128) : shapeCast S1x128 g shapeCasts_S128_S1x128 (ix2 0 q) = g (ix1 q) := by
  pointwise []

/-- The product over all the tokens, at a token and a lane. -/
def whole (x : S8192x1024.Idx → EReal) (w : S1024x4256.Idx → EReal) (r : Fin 8192) (q : Fin 5120) : EReal :=
  ∑ k : Fin 1024, x (ix2 r k) * laid w (ix2 k q)

/-- A point's product is the whole one at its tokens. -/
theorem prod_at (t : Fin cfg0.N) (a : Fin 512) (q : Fin 5120) :
    prod (iblk m c 0 t) (iblk m c 1 t) a q = whole (a0 m c) (a1 m c) ⟨512 * t.val + a.val, by have := pt_lt t; omega⟩ q := by
  refine Finset.sum_congr rfl fun k _ => ?_
  refine congrArg₂ (· * ·) ((read_0 t (V m c main_v0) a k).trans ?_) ((read_1 t (V m c main_v22) k q).trans ?_)
  · rw [V_h]
  · rw [V_w]

/-- A point reads the query norm's scale. -/
theorem gq_at (t : Fin cfg0.N) (q : Fin 256) : (iblk m c 2 t : S1x256.Idx → EReal) (ix2 0 q) = a2 m c (ix1 q) := by
  refine (read_2 t (V m c main_v23) q).trans ?_
  rw [V_gq]
  exact row256 _ q

/-- A point reads the key norm's scale. -/
theorem gkv_at (t : Fin cfg0.N) (q : Fin 128) : (iblk m c 3 t : S1x128.Idx → EReal) (ix2 0 q) = a3 m c (ix1 q) := by
  refine (read_3 t (V m c main_v24) q).trans ?_
  rw [V_gkv]
  exact row128 _ q

/-- The output blocks' places in the arrays. -/
theorem emb_4 (t : Fin cfg0.N) (y : S512x5120.Idx) :
    ((win0_4.blk t).view.emb y 0).val = 512 * t.val + (y 0).val ∧ ((win0_4.blk t).view.emb y 1).val = (y 1).val := by
  constructor
  · blk_simp [idx t]; omega
  · blk_simp [idx t]
/-- The gate's. -/
theorem emb_5 (t : Fin cfg0.N) (y : S512x512.Idx) :
    ((win0_5.blk t).view.emb y 0).val = 512 * t.val + (y 0).val ∧ ((win0_5.blk t).view.emb y 1).val = (y 1).val := by
  constructor
  · blk_simp [idx t]; omega
  · blk_simp [idx t]
/-- The query's. -/
theorem emb_6 (t : Fin cfg0.N) (y : S512x256.Idx) :
    ((win0_6.blk t).view.emb y 0).val = 512 * t.val + (y 0).val ∧ ((win0_6.blk t).view.emb y 1).val = (y 1).val := by
  constructor
  · blk_simp [idx t]; omega
  · blk_simp [idx t]
/-- The key's. -/
theorem emb_7 (t : Fin cfg0.N) (y : S512x128.Idx) :
    ((win0_7.blk t).view.emb y 0).val = 512 * t.val + (y 0).val ∧ ((win0_7.blk t).view.emb y 1).val = (y 1).val := by
  constructor
  · blk_simp [idx t]; omega
  · blk_simp [idx t]

/-- The projection's array ends at the product. -/
theorem arr_4 : (dats m 0 c).arrAt 4 cfg0.N = (fun i : S8192x5120.Idx => whole (a0 m c) (a1 m c) (i 0) (i 1)) := by
  refine (dats m 0 c).arrAt_eq_of_covers 4 _ (by decide +kernel) fun t hf y => ?_
  blk_simp
  rw [after0_4]
  have e := emb_4 t y
  refine (out4_at _ _ _ _ y).trans ((prod_at m c t _ _).trans ?_)
  exact congrArg₂ (whole (a0 m c) (a1 m c)) (Fin.ext e.1.symm) (Fin.ext e.2.symm)

/-- The gate's array ends at the product's gate lanes. -/
theorem arr_5 : (dats m 0 c).arrAt 5 cfg0.N
    = (fun i : S8192x512.Idx => whole (a0 m c) (a1 m c) (i 0) ⟨3072 + (i 1).val, by have : (i 1).val < 512 := (i 1).isLt; omega⟩) := by
  refine (dats m 0 c).arrAt_eq_of_covers 5 _ (by decide +kernel) fun t hf y => ?_
  blk_simp
  rw [after0_5]
  have e := emb_5 t y
  refine (congrArg _ (ix2_self y)).trans ((out5_at _ _ _ _ (y 0) (y 1)).trans ((prod_at m c t _ _).trans ?_))
  exact congrArg₂ (whole (a0 m c) (a1 m c)) (Fin.ext e.1.symm) (Fin.ext (by simp [idx t]))

/-- The query's array ends at the normalised query lanes. -/
theorem arr_6 : (dats m 0 c).arrAt 6 cfg0.N
    = (fun i : S8192x256.Idx => normed 1132462080#32 (fun k : Fin 256 => whole (a0 m c) (a1 m c) (i 0) ⟨4608 + k.val, by omega⟩)
        (fun k => a2 m c (ix1 k)) (i 1)) := by
  refine (dats m 0 c).arrAt_eq_of_covers 6 _ (by decide +kernel) fun t hf y => ?_
  blk_simp
  rw [after0_6]
  have e := emb_6 t y
  refine (congrArg _ (ix2_self y)).trans ((out6_at _ _ _ _ (y 0) (y 1)).trans ?_)
  refine congr (congrArg₂ _ (funext fun k => (prod_at m c t _ _).trans ?_) (funext fun k => gq_at m c t k)) (Fin.ext e.2.symm)
  exact congrArg (fun r => whole (a0 m c) (a1 m c) r _) (Fin.ext e.1.symm)

/-- The key's array ends at the normalised key lanes. -/
theorem arr_7 : (dats m 0 c).arrAt 7 cfg0.N
    = (fun i : S8192x128.Idx => normed 1124073472#32 (fun k : Fin 128 => whole (a0 m c) (a1 m c) (i 0) ⟨4864 + k.val, by omega⟩)
        (fun k => a3 m c (ix1 k)) (i 1)) := by
  refine (dats m 0 c).arrAt_eq_of_covers 7 _ (by decide +kernel) fun t hf y => ?_
  blk_simp
  rw [after0_7]
  have e := emb_7 t y
  refine (congrArg _ (ix2_self y)).trans ((out7_at _ _ _ _ (y 0) (y 1)).trans ?_)
  refine congr (congrArg₂ _ (funext fun k => (prod_at m c t _ _).trans ?_) (funext fun k => gkv_at m c t k)) (Fin.ext e.2.symm)
  exact congrArg (fun r => whole (a0 m c) (a1 m c) r _) (Fin.ext e.1.symm)

/-! ## The reference's values -/

open Cert.Reference4Ideal.Read in
/-- The reference's product, at a token and a column. -/
theorem ref_v0 (x : S8192x1024.Idx → EReal) (w : S1024x4256.Idx → EReal) (r : Fin 8192) (d : Fin 4256) (q : Fin 5120)
    (u : used q.val) (h : col q.val = d.val) : whole x w r q = val_main_v0 (F := Ideal) x w (ix2 r d) := by
  rw [val_main_v0_apply]
  refine Finset.sum_congr rfl fun k _ => congrArg₂ (· * ·) (congrArg x ?_) (((laid_at w k q).trans
    (lay_used (fun d => w (ix2 k d)) d u h)).trans (congrArg w ?_))
  · funext a
    match a with
    | 0 => rfl
    | 1 => rfl
  · funext a
    match a with
    | 0 => rfl
    | 1 => rfl

/-- The columns of the product are the reference's first result. -/
theorem ref_z (x : S8192x1024.Idx → EReal) (w : S1024x4256.Idx → EReal) :
    unlaid (fun i : S8192x5120.Idx => whole x w (i 0) (i 1)) = Cert.Reference4Ideal.Read.val_main_v11 (F := Ideal) x w := by
  funext i
  refine (congrArg _ (ix2_self i)).trans ((unlaid_at _ (i 0) (i 1)).trans ?_)
  refine (ref_v0 x w (i 0) (i 1) (pos (i 1)) (used_lane (i 1).isLt) (col_lane (i 1).isLt)).trans ?_
  exact congrArg (Cert.Reference4Ideal.Read.val_main_v0 (F := Ideal) x w) (ix2_self i).symm

open Cert.Reference4Ideal.Read in
/-- The product's gate lanes are the reference's second result. -/
theorem ref_gate (x : S8192x1024.Idx → EReal) (w : S1024x4256.Idx → EReal) (i : S8192x512.Idx) (h : 3072 + (i 1).val < 5120) :
    whole x w (i 0) ⟨3072 + (i 1).val, h⟩ = val_main_v4 (F := Ideal) x w i := by
  have hi : (i 1).val < 512 := (i 1).isLt
  rw [val_main_v4_apply]
  refine (ref_v0 x w (i 0) ⟨768 + (i 1).val, by omega⟩ _ ?_ ?_).trans (congrArg _ ?_)
  · exact (by decide +kernel : ∀ j < 512, used (3072 + j)) _ hi
  · exact (by decide +kernel : ∀ j < 512, col (3072 + j) = 768 + j) _ hi
  · funext a
    match a with
    | 0 => exact Fin.ext (by show (i 0).val = _; simp [idx_main_v4])
    | 1 => exact Fin.ext (by show 768 + (i 1).val = _; simp [idx_main_v4]; try omega)

open Cert.Reference4Ideal.Read in
/-- The query lanes are the reference's query columns. -/
theorem ref_q (x : S8192x1024.Idx → EReal) (w : S1024x4256.Idx → EReal) (r : Fin 8192) (k : Fin 256) (h : 4608 + k.val < 5120) :
    whole x w r ⟨4608 + k.val, h⟩ = val_main_v5 (F := Ideal) x w (ix2 r k) := by
  rw [val_main_v5_apply]
  refine (ref_v0 x w r ⟨1280 + k.val, by omega⟩ _ ?_ ?_).trans (congrArg _ ?_)
  · exact (by decide +kernel : ∀ j < 256, used (4608 + j)) _ k.isLt
  · exact (by decide +kernel : ∀ j < 256, col (4608 + j) = 1280 + j) _ k.isLt
  · funext a
    match a with
    | 0 => exact Fin.ext (by show r.val = _; simp [idx_main_v5])
    | 1 => exact Fin.ext (by show 1280 + k.val = _; simp [idx_main_v5]; try omega)

open Cert.Reference4Ideal.Read in
/-- The key lanes are the reference's key columns. -/
theorem ref_k (x : S8192x1024.Idx → EReal) (w : S1024x4256.Idx → EReal) (r : Fin 8192) (k : Fin 128) (h : 4864 + k.val < 5120) :
    whole x w r ⟨4864 + k.val, h⟩ = val_main_v6 (F := Ideal) x w (ix2 r k) := by
  rw [val_main_v6_apply]
  refine (ref_v0 x w r ⟨1536 + k.val, by omega⟩ _ ?_ ?_).trans (congrArg _ ?_)
  · exact (by decide +kernel : ∀ j < 128, used (4864 + j)) _ k.isLt
  · exact (by decide +kernel : ∀ j < 128, col (4864 + j) = 1536 + j) _ k.isLt
  · funext a
    match a with
    | 0 => exact Fin.ext (by show r.val = _; simp [idx_main_v6])
    | 1 => exact Fin.ext (by show 1536 + k.val = _; simp [idx_main_v6]; try omega)

open Cert.Reference4Ideal.Read in
/-- The reference's third result normalises its query columns. -/
theorem ref_qdn (x : S8192x1024.Idx → EReal) (w : S1024x4256.Idx → EReal) (g : S256.Idx → EReal) (r : Fin 8192) (q : Fin 256) :
    val_main_v25 (F := Ideal) x w g (ix2 r q)
      = normed 1132462080#32 (fun k : Fin 256 => val_main_v5 (F := Ideal) x w (ix2 r k)) (fun k => g (ix1 k)) q := by
  rw [val_main_v25_apply, val_main_v24_apply, val_main_v23_apply, val_main_v22_apply, val_main_v21_apply, val_main_v20_apply, val_main_v19_apply,
    val_main_v18_apply, val_main_v17_apply, val_main_cst_1_apply, val_main_v16_apply, val_main_v15_apply, val_main_cst_0_apply,
    val_main_v14_apply, val_main_v13_apply, val_main_cst_apply]
  simp only [val_main_v12_apply]
  generalize val_main_v5 (F := Ideal) x w = y
  rw [show FloatOps.ofBits (F := Ideal) .f32 0x00000000#32 = (0 : EReal) from Ideal.ofBits_zero_f32, zero_add]
  unfold normed
  have e1 : ∀ k : Fin 256, idx_main_v13 (idx_main_v14 (idx_main_v20 (ix2 r q))) k = ix2 r k := fun k => ix2_self _
  simp only [e1]
  have e2 : idx_main_v22 (idx_main_v23 (ix2 r q)) = ix1 q := by
    funext a
    match a with
    | 0 => rfl
  rw [e2]
  rfl

open Cert.Reference4Ideal.Read in
/-- The reference's fourth result normalises its key columns. -/
theorem ref_kvdn (x : S8192x1024.Idx → EReal) (w : S1024x4256.Idx → EReal) (g : S128.Idx → EReal) (r : Fin 8192) (q : Fin 128) :
    val_main_v39 (F := Ideal) x w g (ix2 r q)
      = normed 1124073472#32 (fun k : Fin 128 => val_main_v6 (F := Ideal) x w (ix2 r k)) (fun k => g (ix1 k)) q := by
  rw [val_main_v39_apply, val_main_v38_apply, val_main_v37_apply, val_main_v36_apply, val_main_v35_apply, val_main_v34_apply, val_main_v33_apply,
    val_main_v32_apply, val_main_v31_apply, val_main_cst_4_apply, val_main_v30_apply, val_main_v29_apply, val_main_cst_3_apply,
    val_main_v28_apply, val_main_v27_apply, val_main_cst_2_apply]
  simp only [val_main_v26_apply]
  generalize val_main_v6 (F := Ideal) x w = y
  rw [show FloatOps.ofBits (F := Ideal) .f32 0x00000000#32 = (0 : EReal) from Ideal.ofBits_zero_f32, zero_add]
  unfold normed
  have e1 : ∀ k : Fin 128, idx_main_v27 (idx_main_v28 (idx_main_v34 (ix2 r q))) k = ix2 r k := fun k => ix2_self _
  simp only [e1]
  have e2 : idx_main_v36 (idx_main_v37 (ix2 r q)) = ix1 q := by
    funext a
    match a with
    | 0 => rfl
  rw [e2]
  rfl

/-! ## The run -/

/-- What the host code after the kernel computes, from any buffers. -/
theorem tail_value (v : Valuation τ sig (Elt Ideal)) :
    StableHlo.after (List.flatten [hostOps1]) v (Proc.devRef .tc main_v46) = unlaid (v (Proc.devRef .tc main_v25_0)) := by
  simp only [hostOps1, List.flatten_cons, List.flatten_nil, List.append_nil]
  after_results_simp
  rfl

/-- What it leaves in the result. -/
theorem tail_result : Pipeline.afterTail₀ cfgs (dats m) 0 (V0 m) [hostOps1] c main_v46 = unlaid ((dats m 0 c).arrAt 4 cfg0.N) := by
  unfold Pipeline.afterTail₀
  exact (tail_value _).trans (congrArg unlaid (Pipeline.withArrays_arr cfg0.spec (by decide) c (V0 m c) (fun w => (dats m 0 c).arrAt w cfg0.N) 4))

/-- The idealized kernel's run: it ends with the reference's four results, its arguments unchanged. -/
theorem results (ρ : Dev nD → PrngReg) :
    θ_run defs (onTc (τ := τ) (main (F := Ideal))) (s₀ m ρ) (fun r => ∀ c : Dev nD,
      r.2.mem ((c.tc : Thread nD τ).loc main_v46) = Cert.Reference4Ideal.Read.val_main_v11 (F := Ideal) (a0 m c) (a1 m c)
      ∧ r.2.mem ((c.tc : Thread nD τ).loc main_v25_1) = Cert.Reference4Ideal.Read.val_main_v4 (F := Ideal) (a0 m c) (a1 m c)
      ∧ r.2.mem ((c.tc : Thread nD τ).loc main_v25_2) = Cert.Reference4Ideal.Read.val_main_v25 (F := Ideal) (a0 m c) (a1 m c) (a2 m c)
      ∧ r.2.mem ((c.tc : Thread nD τ).loc main_v25_3) = Cert.Reference4Ideal.Read.val_main_v39 (F := Ideal) (a0 m c) (a1 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have kept (b : Ref sig .tc) (hb : b ∈ Pipeline.restRefs sig cfg0.spec) := (h c).2 b hb
    ⟨(kept main_v46 (Pipeline.mem_restRefs_of main_v46 (by decide) (by decide))).trans
        ((tail_result m c).trans ((congrArg unlaid (arr_4 m c)).trans (ref_z _ _))),
      ((h c).1 5).trans ((arr_5 m c).trans (funext fun i => ref_gate _ _ i _)),
      ((h c).1 6).trans ((arr_6 m c).trans (funext fun i => (congrArg (fun y => normed 1132462080#32 y _ _)
        (funext fun k => ref_q _ _ (i 0) k _)).trans ((ref_qdn _ _ _ (i 0) (i 1)).symm.trans (congrArg _ (ix2_self i).symm)))),
      ((h c).1 7).trans ((arr_7 m c).trans (funext fun i => (congrArg (fun y => normed 1124073472#32 y _ _)
        (funext fun k => ref_k _ _ (i 0) k _)).trans ((ref_kvdn _ _ _ (i 0) (i 1)).symm.trans (congrArg _ (ix2_self i).symm)))),
      (kept main_arg0 (Pipeline.mem_restRefs_of main_arg0 (by decide) (by decide))).trans (W_main_arg0 m (dats m) c),
      (kept main_arg1 (Pipeline.mem_restRefs_of main_arg1 (by decide) (by decide))).trans (W_main_arg1 m (dats m) c),
      (kept main_arg2 (Pipeline.mem_restRefs_of main_arg2 (by decide) (by decide))).trans (W_main_arg2 m (dats m) c),
      (kept main_arg3 (Pipeline.mem_restRefs_of main_arg3 (by decide) (by decide))).trans (W_main_arg3 m (dats m) c)⟩)
    (run_main m ρ)

end Cert.Kernel4Ideal.Hand

end

end
-- ==== Proof.Hand.GradOut.lean ====
module

public import proofs.«01_k».proof.Proof.Gen.Kernel5Ideal.Frame
public import proofs.«01_k».proof.Proof.Gen.Reference5Ideal.Read
public import Idealize.ShloMosaic.Lib.Pointwise
public import Idealize.ShloMosaic.Lib.Claim
public import Idealize.ShloMosaic.Lib.Pipeline.ValueKit

@[expose] public section

set_option maxRecDepth 16384

/-!
The gradient of the output projection's weights: the idealized kernel sums, over four blocks of 2048 tokens, the products of a block of the stream with a block of the
output gradient; the sum is the reference's product.
-/

noncomputable section

namespace Cert.Kernel5Ideal.Hand

open Cert.Kernel5Ideal Cert.Kernel5Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x1024.Idx → EReal) (a : Fin 2048) (r : Fin 1024) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x z : S2048x1024.Idx → EReal) (r q : Fin 1024) :
    k0_pay1 (F := Ideal) x z (ix2 r q) = ∑ a : Fin 2048, x (ix2 a r) * z (ix2 a q) := by
  pointwise [k0_pay1]

/-- A later point adds its product. -/
theorem pay2_at (x z : S2048x1024.Idx → EReal) (w : S1024x1024.Idx → EReal) (r q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S1024x1024 w shapeCasts_S1024x1024_S1024x1024) p := by rw [← hp]; rfl
  rw [this]
  pointwise []

variable (m : (l : Loc nD τ sig) → Buf (Elt Ideal) l) (c : Dev nD)

/-- The merged stream. -/
abbrev a0 : S8192x1024.Idx → EReal := m ((c.tc : Thread nD τ).loc main_arg0)
/-- The gradient of the projection's output. -/
abbrev a1 : S8192x1024.Idx → EReal := m ((c.tc : Thread nD τ).loc main_arg1)

/-- The first operand is the stream. -/
theorem V_a : V m c main_v0 = a0 m c := by
  unfold V; simp only [hostOps0, List.flatten_cons, List.flatten_nil, List.append_nil, List.cons_append, List.nil_append]
  after_results_simp; rfl

/-- The second operand is the output gradient. -/
theorem V_b : V m c main_arg1 = a1 m c := by
  unfold V; simp only [hostOps0, List.flatten_cons, List.flatten_nil, List.append_nil, List.cons_append, List.nil_append]
  after_results_simp

/-- Token `n`'s product at a row and a column, zero past the tokens. -/
def term (r q : Fin 1024) (n : ℕ) : EReal :=
  if h : n < 8192 then a0 m c (ix2 ⟨n, h⟩ r) * a1 m c (ix2 ⟨n, h⟩ q) else 0

/-- A point's product is the sum of its block of tokens. -/
theorem part_at (t : Fin cfg0.N) (r q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v0) a r).trans ?_) ((read_1 t (V m c main_arg1) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S1024x1024.Idx → EReal := fun i => ∑ n : Fin 8192, a0 m c (ix2 n (i 0)) * a1 m c (ix2 n (i 1))

/-- The output block is the array. -/
theorem emb_2 (t : Fin cfg0.N) (y : S1024x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 1024) = (win0_2.blk t).view.emb y 0 := Fin.ext e.1.symm
  have e1 : (y 1 : Fin 1024) = (win0_2.blk t).view.emb y 1 := Fin.ext e.2.symm
  exact congrArg₂ (fun r q => a0 m c (ix2 n r) * a1 m c (ix2 n q)) e0 e1

/-- The product is the reference's. -/
theorem whole_eq : whole m c = Cert.Reference5Ideal.Read.val_main_v3 (F := Ideal) (a0 m c) (a1 m c) := by
  funext i
  rw [Cert.Reference5Ideal.Read.val_main_v3_apply, Cert.Reference5Ideal.Read.val_main_v2_apply]
  refine Finset.sum_congr rfl fun n _ => (mul_comm _ _).trans (congrArg₂ (· * ·) (congrArg _ ?_) (congrArg _ ?_))
  · exact (ix2_self _).symm
  · exact (ix2_self _).symm

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v1) = Cert.Reference5Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v1) = Cert.Reference5Ideal.Read.val_main_v3 (F := Ideal) (a0 m c) (a1 m c)) :=
    (θ_run defs _ _).mono (fun r h c => ((h c).1 2).trans ((arr_2 m c).trans (whole_eq m c))) (run_main m ρ)
  exact (θ_run defs _ _).mono (fun r hk c => ⟨hk.1 c, hk.2 c⟩) (θ_run_and h1 (unchanged m ρ))

end Cert.Kernel5Ideal.Hand

end

end
-- ==== Proof.Hand.GradGate.lean ====
module

public import proofs.«01_k».proof.Proof.Gen.Kernel6Ideal.Frame
public import proofs.«01_k».proof.Proof.Gen.Reference6Ideal.Read
public import Idealize.ShloMosaic.Lib.Pointwise
public import Idealize.ShloMosaic.Lib.Claim
public import Idealize.ShloMosaic.Lib.Pipeline.ValueKit

@[expose] public section

set_option maxRecDepth 16384

/-!
The gradient of the per-layer gate's weights: the idealized kernel sums, over four blocks of 2048 tokens, the products of a block of the stream with a block of the
output gradient; the sum is the reference's product.
-/

noncomputable section

namespace Cert.Kernel6Ideal.Hand

open Cert.Kernel6Ideal Cert.Kernel6Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x1024.Idx → EReal) (a : Fin 2048) (r : Fin 1024) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x z : S2048x1024.Idx → EReal) (r q : Fin 1024) :
    k0_pay1 (F := Ideal) x z (ix2 r q) = ∑ a : Fin 2048, x (ix2 a r) * z (ix2 a q) := by
  pointwise [k0_pay1]

/-- A later point adds its product. -/
theorem pay2_at (x z : S2048x1024.Idx → EReal) (w : S1024x1024.Idx → EReal) (r q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S1024x1024 w shapeCasts_S1024x1024_S1024x1024) p := by rw [← hp]; rfl
  rw [this]
  pointwise []

variable (m : (l : Loc nD τ sig) → Buf (Elt Ideal) l) (c : Dev nD)

/-- The normalised stream. -/
abbrev a0 : S8192x1024.Idx → EReal := m ((c.tc : Thread nD τ).loc main_arg0)
/-- The gradient of the gate's argument. -/
abbrev a1 : S8192x1024.Idx → EReal := m ((c.tc : Thread nD τ).loc main_arg1)

/-- The first operand is the stream. -/
theorem V_a : V m c main_v0 = a0 m c := by
  unfold V; simp only [hostOps0, List.flatten_cons, List.flatten_nil, List.append_nil, List.cons_append, List.nil_append]
  after_results_simp; rfl

/-- The second operand is the output gradient. -/
theorem V_b : V m c main_v1 = a1 m c := by
  unfold V; simp only [hostOps0, List.flatten_cons, List.flatten_nil, List.append_nil, List.cons_append, List.nil_append]
  after_results_simp; rfl

/-- Token `n`'s product at a row and a column, zero past the tokens. -/
def term (r q : Fin 1024) (n : ℕ) : EReal :=
  if h : n < 8192 then a0 m c (ix2 ⟨n, h⟩ r) * a1 m c (ix2 ⟨n, h⟩ q) else 0

/-- A point's product is the sum of its block of tokens. -/
theorem part_at (t : Fin cfg0.N) (r q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v0) a r).trans ?_) ((read_1 t (V m c main_v1) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S1024x1024.Idx → EReal := fun i => ∑ n : Fin 8192, a0 m c (ix2 n (i 0)) * a1 m c (ix2 n (i 1))

/-- The output block is the array. -/
theorem emb_2 (t : Fin cfg0.N) (y : S1024x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 1024) = (win0_2.blk t).view.emb y 0 := Fin.ext e.1.symm
  have e1 : (y 1 : Fin 1024) = (win0_2.blk t).view.emb y 1 := Fin.ext e.2.symm
  exact congrArg₂ (fun r q => a0 m c (ix2 n r) * a1 m c (ix2 n q)) e0 e1

/-- The product is the reference's. -/
theorem whole_eq : whole m c = Cert.Reference6Ideal.Read.val_main_v3 (F := Ideal) (a0 m c) (a1 m c) := by
  funext i
  rw [Cert.Reference6Ideal.Read.val_main_v3_apply, Cert.Reference6Ideal.Read.val_main_v2_apply]
  refine Finset.sum_congr rfl fun n _ => (mul_comm _ _).trans (congrArg₂ (· * ·) (congrArg _ ?_) (congrArg _ ?_))
  · exact (ix2_self _).symm
  · exact (ix2_self _).symm

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v2) = Cert.Reference6Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v2) = Cert.Reference6Ideal.Read.val_main_v3 (F := Ideal) (a0 m c) (a1 m c)) :=
    (θ_run defs _ _).mono (fun r h c => ((h c).1 2).trans ((arr_2 m c).trans (whole_eq m c))) (run_main m ρ)
  exact (θ_run defs _ _).mono (fun r hk c => ⟨hk.1 c, hk.2 c⟩) (θ_run_and h1 (unchanged m ρ))

end Cert.Kernel6Ideal.Hand

end

end
-- ==== Proof.Hand.GradBranch.lean ====
module

public import proofs.«01_k».proof.Proof.Gen.Kernel7Ideal.Frame
public import proofs.«01_k».proof.Proof.Gen.Reference7Ideal.Read
public import Idealize.ShloMosaic.Lib.Pointwise
public import Idealize.ShloMosaic.Lib.Claim
public import Idealize.ShloMosaic.Lib.Pipeline.ValueKit

@[expose] public section

set_option maxRecDepth 16384

/-!
The gradient of a branch projection's weights: the idealized kernel sums, over four blocks of 2048 tokens, the products of a block of the stream with a block of the
output gradient; the sum is the reference's product.
-/

noncomputable section

namespace Cert.Kernel7Ideal.Hand

open Cert.Kernel7Ideal Cert.Kernel7Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x1024.Idx → EReal) (a : Fin 2048) (r : Fin 1024) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x z : S2048x1024.Idx → EReal) (r q : Fin 1024) :
    k0_pay1 (F := Ideal) x z (ix2 r q) = ∑ a : Fin 2048, x (ix2 a r) * z (ix2 a q) := by
  pointwise [k0_pay1]

/-- A later point adds its product. -/
theorem pay2_at (x z : S2048x1024.Idx → EReal) (w : S1024x1024.Idx → EReal) (r q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S1024x1024 w shapeCasts_S1024x1024_S1024x1024) p := by rw [← hp]; rfl
  rw [this]
  pointwise []

/-- The zero the heads are padded with. -/
def laneZero : S_.Idx → EReal := sitofp (F := Ideal) .f32 (constantI S_ 32 0#32)

/-- Eight heads of 64 columns, each padded to 128 lanes. -/
def padded (x : S8192x512.Idx → EReal) : S8192x1024.Idx → EReal :=
  shapeCast S8192x1024 (pad S8192x8x128 ![0, 0, 0] ![0, 0, 64] ![0, 0, 0] (shapeCast S8192x8x64 x shapeCasts_S8192x512_S8192x8x64) laneZero
    pads_S8192x8x64_S8192x8x128_000_000_0640 h_S_) shapeCasts_S8192x8x128_S8192x1024

/-- The rows of the heads, without the lanes between. -/
def unpadded (y : S1024x1024.Idx → EReal) : S512x1024.Idx → EReal :=
  transpose S512x1024 [1, 0] (shapeCast S1024x512 (extractStridedSlice S1024x8x64 ![0, 0, 0]
    (shapeCast S1024x8x128 (transpose S1024x1024 [1, 0] y transposes_S1024x1024_S1024x1024_1_0) shapeCasts_S1024x1024_S1024x8x128)
    slices_S1024x8x128_S1024x8x64_0_0_0) shapeCasts_S1024x8x64_S1024x512) transposes_S1024x512_S512x1024_1_0

/-- The padded heads, at an index. -/
theorem padded_at (x : S8192x512.Idx → EReal) (r : Fin 8192) (c : Fin 1024) : padded x (ix2 r c) =
    if h : c.val / 128 < 8 ∧ c.val % 128 < 64 then x (ix2 r ⟨c.val / 128 * 64 + c.val % 128, by omega⟩) else FloatOps.sitofp (F := Ideal) .f32 0#32 := by
  pointwise [padded, laneZero]

/-- A column's lane among the padded heads. -/
def pos (j : Fin 512) : Fin 1024 := ⟨j.val / 64 * 128 + j.val % 64, by omega⟩

/-- The padded heads at a column's lane. -/
theorem padded_pos (x : S8192x512.Idx → EReal) (r : Fin 8192) (j : Fin 512) : padded x (ix2 r (pos j)) = x (ix2 r j) := by
  have h1 : (pos j).val / 128 = j.val / 64 := by show (j.val / 64 * 128 + j.val % 64) / 128 = _; omega
  have h2 : (pos j).val % 128 = j.val % 64 := by show (j.val / 64 * 128 + j.val % 64) % 128 = _; omega
  refine (padded_at x r (pos j)).trans ((dif_pos ⟨by omega, by omega⟩).trans ?_)
  exact congrArg (fun c => x (ix2 r c)) (Fin.ext (by show (pos j).val / 128 * 64 + (pos j).val % 128 = j.val; omega))

/-- The kept rows, at an index. -/
theorem unpadded_at (y : S1024x1024.Idx → EReal) (j : Fin 512) (q : Fin 1024) : unpadded y (ix2 j q) = y (ix2 (pos j) q) := by
  unfold pos
  pointwise [unpadded]

variable (m : (l : Loc nD τ sig) → Buf (Elt Ideal) l) (c : Dev nD)

/-- The branch's output. -/
abbrev a0 : S8192x512.Idx → EReal := m ((c.tc : Thread nD τ).loc main_arg0)
/-- The gradient of the projected branch. -/
abbrev a1 : S8192x1024.Idx → EReal := m ((c.tc : Thread nD τ).loc main_arg1)

/-- The first operand is the stream, its heads padded. -/
theorem V_a : V m c main_v3 = padded (a0 m c) := by
  unfold V V0; simp only [hostOps0, hostOps0_1, hostOps0_2, List.flatten_cons, List.flatten_nil, List.append_nil, List.cons_append, List.nil_append]
  after_results_simp; rfl

/-- The second operand is the output gradient. -/
theorem V_b : V m c main_v4 = a1 m c := by
  unfold V V0; simp only [hostOps0, hostOps0_1, hostOps0_2, List.flatten_cons, List.flatten_nil, List.append_nil, List.cons_append, List.nil_append]
  after_results_simp; rfl

/-- Token `n`'s product at a row and a column, zero past the tokens. -/
def term (r q : Fin 1024) (n : ℕ) : EReal :=
  if h : n < 8192 then padded (a0 m c) (ix2 ⟨n, h⟩ r) * a1 m c (ix2 ⟨n, h⟩ q) else 0

/-- A point's product is the sum of its block of tokens. -/
theorem part_at (t : Fin cfg0.N) (r q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v3) a r).trans ?_) ((read_1 t (V m c main_v4) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S1024x1024.Idx → EReal := fun i => ∑ n : Fin 8192, padded (a0 m c) (ix2 n (i 0)) * a1 m c (ix2 n (i 1))

/-- The output block is the array. -/
theorem emb_2 (t : Fin cfg0.N) (y : S1024x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 1024) = (win0_2.blk t).view.emb y 0 := Fin.ext e.1.symm
  have e1 : (y 1 : Fin 1024) = (win0_2.blk t).view.emb y 1 := Fin.ext e.2.symm
  exact congrArg₂ (fun r q => padded (a0 m c) (ix2 n r) * a1 m c (ix2 n q)) e0 e1

/-- The kept rows of the product are the reference's. -/
theorem unpadded_whole : unpadded (whole m c) = Cert.Reference7Ideal.Read.val_main_v3 (F := Ideal) (a0 m c) (a1 m c) := by
  funext i
  rw [Cert.Reference7Ideal.Read.val_main_v3_apply, Cert.Reference7Ideal.Read.val_main_v2_apply]
  refine (congrArg _ (ix2_self i)).trans ((unpadded_at (whole m c) (i 0) (i 1)).trans ?_)
  refine Finset.sum_congr rfl fun n _ => (congrArg (· * a1 m c (ix2 n (i 1))) (padded_pos (a0 m c) n (i 0))).trans
    ((mul_comm _ _).trans (congrArg₂ (· * ·) (congrArg _ ?_) (congrArg _ ?_)))
  · exact (ix2_self _).symm
  · exact (ix2_self _).symm

/-- What the host code after the kernel computes, from any buffers. -/
theorem tail_value (v : Valuation τ sig (Elt Ideal)) :
    StableHlo.after (List.flatten [hostOps1]) v (Proc.devRef .tc main_v10) = unpadded (v (Proc.devRef .tc main_v5)) := by
  simp only [hostOps1, List.flatten_cons, List.flatten_nil, List.append_nil]
  after_results_simp
  rfl

/-- What it leaves in the result. -/
theorem tail_result : Pipeline.afterTail₀ cfgs (dats m) 0 (V0 m) [hostOps1] c main_v10 = unpadded ((dats m 0 c).arrAt 2 cfg0.N) := by
  unfold Pipeline.afterTail₀
  exact (tail_value _).trans (congrArg unpadded (Pipeline.withArrays_arr cfg0.spec (by decide) c (V0 m c) (fun w => (dats m 0 c).arrAt w cfg0.N) 2))

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v10) = Cert.Reference7Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v10) = Cert.Reference7Ideal.Read.val_main_v3 (F := Ideal) (a0 m c) (a1 m c)) :=
    (θ_run defs _ _).mono (fun r h c => ((h c).2 main_v10 (Pipeline.mem_restRefs_of main_v10 (by decide) (by decide))).trans
      ((tail_result m c).trans ((congrArg unpadded (arr_2 m c)).trans (unpadded_whole m c)))) (run_main m ρ)
  exact (θ_run defs _ _).mono (fun r hk c => ⟨hk.1 c, hk.2 c⟩) (θ_run_and h1 (unchanged m ρ))

end Cert.Kernel7Ideal.Hand

end

end
-- ==== Proof.Hand.GradBranchB.lean ====
module

public import proofs.«01_k».proof.Proof.Gen.Kernel8Ideal.Frame
public import proofs.«01_k».proof.Proof.Gen.Reference8Ideal.Read
public import Idealize.ShloMosaic.Lib.Pointwise
public import Idealize.ShloMosaic.Lib.Claim
public import Idealize.ShloMosaic.Lib.Pipeline.ValueKit

@[expose] public section

set_option maxRecDepth 16384

/-!
The gradient of the other branch projection's weights: the idealized kernel sums, over four blocks of 2048 tokens, the products of a block of the stream with a block of the
output gradient; the sum is the reference's product.
-/

noncomputable section

namespace Cert.Kernel8Ideal.Hand

open Cert.Kernel8Ideal Cert.Kernel8Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x1024.Idx → EReal) (a : Fin 2048) (r : Fin 1024) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x z : S2048x1024.Idx → EReal) (r q : Fin 1024) :
    k0_pay1 (F := Ideal) x z (ix2 r q) = ∑ a : Fin 2048, x (ix2 a r) * z (ix2 a q) := by
  pointwise [k0_pay1]

/-- A later point adds its product. -/
theorem pay2_at (x z : S2048x1024.Idx → EReal) (w : S1024x1024.Idx → EReal) (r q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S1024x1024 w shapeCasts_S1024x1024_S1024x1024) p := by rw [← hp]; rfl
  rw [this]
  pointwise []

/-- The zero the heads are padded with. -/
def laneZero : S_.Idx → EReal := sitofp (F := Ideal) .f32 (constantI S_ 32 0#32)

/-- Eight heads of 64 columns, each padded to 128 lanes. -/
def padded (x : S8192x512.Idx → EReal) : S8192x1024.Idx → EReal :=
  shapeCast S8192x1024 (pad S8192x8x128 ![0, 0, 0] ![0, 0, 64] ![0, 0, 0] (shapeCast S8192x8x64 x shapeCasts_S8192x512_S8192x8x64) laneZero
    pads_S8192x8x64_S8192x8x128_000_000_0640 h_S_) shapeCasts_S8192x8x128_S8192x1024

/-- The rows of the heads, without the lanes between. -/
def unpadded (y : S1024x1024.Idx → EReal) : S512x1024.Idx → EReal :=
  transpose S512x1024 [1, 0] (shapeCast S1024x512 (extractStridedSlice S1024x8x64 ![0, 0, 0]
    (shapeCast S1024x8x128 (transpose S1024x1024 [1, 0] y transposes_S1024x1024_S1024x1024_1_0) shapeCasts_S1024x1024_S1024x8x128)
    slices_S1024x8x128_S1024x8x64_0_0_0) shapeCasts_S1024x8x64_S1024x512) transposes_S1024x512_S512x1024_1_0

/-- The padded heads, at an index. -/
theorem padded_at (x : S8192x512.Idx → EReal) (r : Fin 8192) (c : Fin 1024) : padded x (ix2 r c) =
    if h : c.val / 128 < 8 ∧ c.val % 128 < 64 then x (ix2 r ⟨c.val / 128 * 64 + c.val % 128, by omega⟩) else FloatOps.sitofp (F := Ideal) .f32 0#32 := by
  pointwise [padded, laneZero]

/-- A column's lane among the padded heads. -/
def pos (j : Fin 512) : Fin 1024 := ⟨j.val / 64 * 128 + j.val % 64, by omega⟩

/-- The padded heads at a column's lane. -/
theorem padded_pos (x : S8192x512.Idx → EReal) (r : Fin 8192) (j : Fin 512) : padded x (ix2 r (pos j)) = x (ix2 r j) := by
  have h1 : (pos j).val / 128 = j.val / 64 := by show (j.val / 64 * 128 + j.val % 64) / 128 = _; omega
  have h2 : (pos j).val % 128 = j.val % 64 := by show (j.val / 64 * 128 + j.val % 64) % 128 = _; omega
  refine (padded_at x r (pos j)).trans ((dif_pos ⟨by omega, by omega⟩).trans ?_)
  exact congrArg (fun c => x (ix2 r c)) (Fin.ext (by show (pos j).val / 128 * 64 + (pos j).val % 128 = j.val; omega))

/-- The kept rows, at an index. -/
theorem unpadded_at (y : S1024x1024.Idx → EReal) (j : Fin 512) (q : Fin 1024) : unpadded y (ix2 j q) = y (ix2 (pos j) q) := by
  unfold pos
  pointwise [unpadded]

variable (m : (l : Loc nD τ sig) → Buf (Elt Ideal) l) (c : Dev nD)

/-- The branch's output. -/
abbrev a0 : S8192x512.Idx → EReal := m ((c.tc : Thread nD τ).loc main_arg0)
/-- The gradient of the projected branch. -/
abbrev a1 : S8192x1024.Idx → EReal := m ((c.tc : Thread nD τ).loc main_arg1)

/-- The first operand is the stream, its heads padded. -/
theorem V_a : V m c main_v3 = padded (a0 m c) := by
  unfold V V0; simp only [hostOps0, hostOps0_1, hostOps0_2, List.flatten_cons, List.flatten_nil, List.append_nil, List.cons_append, List.nil_append]
  after_results_simp; rfl

/-- The second operand is the output gradient. -/
theorem V_b : V m c main_v4 = a1 m c := by
  unfold V V0; simp only [hostOps0, hostOps0_1, hostOps0_2, List.flatten_cons, List.flatten_nil, List.append_nil, List.cons_append, List.nil_append]
  after_results_simp; rfl

/-- Token `n`'s product at a row and a column, zero past the tokens. -/
def term (r q : Fin 1024) (n : ℕ) : EReal :=
  if h : n < 8192 then padded (a0 m c) (ix2 ⟨n, h⟩ r) * a1 m c (ix2 ⟨n, h⟩ q) else 0

/-- A point's product is the sum of its block of tokens. -/
theorem part_at (t : Fin cfg0.N) (r q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v3) a r).trans ?_) ((read_1 t (V m c main_v4) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S1024x1024.Idx → EReal := fun i => ∑ n : Fin 8192, padded (a0 m c) (ix2 n (i 0)) * a1 m c (ix2 n (i 1))

/-- The output block is the array. -/
theorem emb_2 (t : Fin cfg0.N) (y : S1024x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 1024) = (win0_2.blk t).view.emb y 0 := Fin.ext e.1.symm
  have e1 : (y 1 : Fin 1024) = (win0_2.blk t).view.emb y 1 := Fin.ext e.2.symm
  exact congrArg₂ (fun r q => padded (a0 m c) (ix2 n r) * a1 m c (ix2 n q)) e0 e1

/-- The kept rows of the product are the reference's. -/
theorem unpadded_whole : unpadded (whole m c) = Cert.Reference8Ideal.Read.val_main_v3 (F := Ideal) (a0 m c) (a1 m c) := by
  funext i
  rw [Cert.Reference8Ideal.Read.val_main_v3_apply, Cert.Reference8Ideal.Read.val_main_v2_apply]
  refine (congrArg _ (ix2_self i)).trans ((unpadded_at (whole m c) (i 0) (i 1)).trans ?_)
  refine Finset.sum_congr rfl fun n _ => (congrArg (· * a1 m c (ix2 n (i 1))) (padded_pos (a0 m c) n (i 0))).trans
    ((mul_comm _ _).trans (congrArg₂ (· * ·) (congrArg _ ?_) (congrArg _ ?_)))
  · exact (ix2_self _).symm
  · exact (ix2_self _).symm

/-- What the host code after the kernel computes, from any buffers. -/
theorem tail_value (v : Valuation τ sig (Elt Ideal)) :
    StableHlo.after (List.flatten [hostOps1]) v (Proc.devRef .tc main_v10) = unpadded (v (Proc.devRef .tc main_v5)) := by
  simp only [hostOps1, List.flatten_cons, List.flatten_nil, List.append_nil]
  after_results_simp
  rfl

/-- What it leaves in the result. -/
theorem tail_result : Pipeline.afterTail₀ cfgs (dats m) 0 (V0 m) [hostOps1] c main_v10 = unpadded ((dats m 0 c).arrAt 2 cfg0.N) := by
  unfold Pipeline.afterTail₀
  exact (tail_value _).trans (congrArg unpadded (Pipeline.withArrays_arr cfg0.spec (by decide) c (V0 m c) (fun w => (dats m 0 c).arrAt w cfg0.N) 2))

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v10) = Cert.Reference8Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v10) = Cert.Reference8Ideal.Read.val_main_v3 (F := Ideal) (a0 m c) (a1 m c)) :=
    (θ_run defs _ _).mono (fun r h c => ((h c).2 main_v10 (Pipeline.mem_restRefs_of main_v10 (by decide) (by decide))).trans
      ((tail_result m c).trans ((congrArg unpadded (arr_2 m c)).trans (unpadded_whole m c)))) (run_main m ρ)
  exact (θ_run defs _ _).mono (fun r hk c => ⟨hk.1 c, hk.2 c⟩) (θ_run_and h1 (unchanged m ρ))

end Cert.Kernel8Ideal.Hand

end

end
-- ==== Proof.Hand.GradPle.lean ====
module

public import proofs.«01_k».proof.Proof.Gen.Kernel9Ideal.Frame
public import proofs.«01_k».proof.Proof.Gen.Reference9Ideal.Read
public import Idealize.ShloMosaic.Lib.Pointwise
public import Idealize.ShloMosaic.Lib.Claim
public import Idealize.ShloMosaic.Lib.Pipeline.ValueKit

@[expose] public section

set_option maxRecDepth 16384

/-!
The gradient of the per-layer embedding's weights: the idealized kernel sums, over four blocks of 2048 tokens, the products of a block of the stream with a block of the
output gradient; the sum is the reference's product.
-/

noncomputable section

namespace Cert.Kernel9Ideal.Hand

open Cert.Kernel9Ideal Cert.Kernel9Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x256.Idx → EReal) (a : Fin 2048) (r : Fin 256) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x : S2048x256.Idx → EReal) (z : S2048x1024.Idx → EReal) (r : Fin 256) (q : Fin 1024) :
    k0_pay1 (F := Ideal) x z (ix2 r q) = ∑ a : Fin 2048, x (ix2 a r) * z (ix2 a q) := by
  pointwise [k0_pay1]

/-- A later point adds its product. -/
theorem pay2_at (x : S2048x256.Idx → EReal) (z : S2048x1024.Idx → EReal) (w : S256x1024.Idx → EReal) (r : Fin 256) (q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S256x1024 w shapeCasts_S256x1024_S256x1024) p := by rw [← hp]; rfl
  rw [this]
  pointwise []

variable (m : (l : Loc nD τ sig) → Buf (Elt Ideal) l) (c : Dev nD)

/-- The per-layer embedding. -/
abbrev a0 : S8192x256.Idx → EReal := m ((c.tc : Thread nD τ).loc main_arg0)
/-- The gradient of the projected embedding. -/
abbrev a1 : S8192x1024.Idx → EReal := m ((c.tc : Thread nD τ).loc main_arg1)

/-- The first operand is the stream. -/
theorem V_a : V m c main_arg0 = a0 m c := by
  unfold V; simp only [hostOps0, List.flatten_cons, List.flatten_nil, List.append_nil, List.cons_append, List.nil_append]
  after_results_simp

/-- The second operand is the output gradient. -/
theorem V_b : V m c main_v0 = a1 m c := by
  unfold V; simp only [hostOps0, List.flatten_cons, List.flatten_nil, List.append_nil, List.cons_append, List.nil_append]
  after_results_simp; rfl

/-- Token `n`'s product at a row and a column, zero past the tokens. -/
def term (r : Fin 256) (q : Fin 1024) (n : ℕ) : EReal :=
  if h : n < 8192 then a0 m c (ix2 ⟨n, h⟩ r) * a1 m c (ix2 ⟨n, h⟩ q) else 0

/-- A point's product is the sum of its block of tokens. -/
theorem part_at (t : Fin cfg0.N) (r : Fin 256) (q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_arg0) a r).trans ?_) ((read_1 t (V m c main_v0) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r : Fin 256) (q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S256x1024.Idx → EReal := fun i => ∑ n : Fin 8192, a0 m c (ix2 n (i 0)) * a1 m c (ix2 n (i 1))

/-- The output block is the array. -/
theorem emb_2 (t : Fin cfg0.N) (y : S256x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 256) = (win0_2.blk t).view.emb y 0 := Fin.ext e.1.symm
  have e1 : (y 1 : Fin 1024) = (win0_2.blk t).view.emb y 1 := Fin.ext e.2.symm
  exact congrArg₂ (fun r q => a0 m c (ix2 n r) * a1 m c (ix2 n q)) e0 e1

/-- The product is the reference's. -/
theorem whole_eq : whole m c = Cert.Reference9Ideal.Read.val_main_v3 (F := Ideal) (a0 m c) (a1 m c) := by
  funext i
  rw [Cert.Reference9Ideal.Read.val_main_v3_apply, Cert.Reference9Ideal.Read.val_main_v2_apply]
  refine Finset.sum_congr rfl fun n _ => (mul_comm _ _).trans (congrArg₂ (· * ·) (congrArg _ ?_) (congrArg _ ?_))
  · exact (ix2_self _).symm
  · exact (ix2_self _).symm

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v1) = Cert.Reference9Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v1) = Cert.Reference9Ideal.Read.val_main_v3 (F := Ideal) (a0 m c) (a1 m c)) :=
    (θ_run defs _ _).mono (fun r h c => ((h c).1 2).trans ((arr_2 m c).trans (whole_eq m c))) (run_main m ρ)
  exact (θ_run defs _ _).mono (fun r hk c => ⟨hk.1 c, hk.2 c⟩) (θ_run_and h1 (unchanged m ρ))

end Cert.Kernel9Ideal.Hand

end

end
-- ==== Proof.Hand.GradUq.lean ====
module

public import proofs.«01_k».proof.Proof.Gen.Kernel10Ideal.Frame
public import proofs.«01_k».proof.Proof.Gen.Reference10Ideal.Read
public import Idealize.ShloMosaic.Lib.Pointwise
public import Idealize.ShloMosaic.Lib.Claim
public import Idealize.ShloMosaic.Lib.Pipeline.ValueKit

@[expose] public section

set_option maxRecDepth 16384

/-!
The gradient of the query up-projection's weights: the idealized kernel sums, over four blocks of 2048 tokens, the products of a block of the stream with a block of the
output gradient; the sum is the reference's product.
-/

noncomputable section

namespace Cert.Kernel10Ideal.Hand

open Cert.Kernel10Ideal Cert.Kernel10Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x256.Idx → EReal) (a : Fin 2048) (r : Fin 256) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x1024.Idx → EReal) (a : Fin 2048) (q : Fin 1024) :
    ((cfg0.win 1).blk t).view.read (Elt Ideal) X (ix2 a q) = X (ix2 ⟨2048 * t.val + a.val, by have := pt_lt t; omega⟩ q) := by
  blk_ext [idx t]

/-- A point's product, at an index. -/
theorem pay1_at (x : S2048x256.Idx → EReal) (z : S2048x1024.Idx → EReal) (r : Fin 256) (q : Fin 1024) :
    k0_pay1 (F := Ideal) x z (ix2 r q) = ∑ a : Fin 2048, x (ix2 a r) * z (ix2 a q) := by
  pointwise [k0_pay1]

/-- A later point adds its product. -/
theorem pay2_at (x : S2048x256.Idx → EReal) (z : S2048x1024.Idx → EReal) (w : S256x1024.Idx → EReal) (r : Fin 256) (q : Fin 1024) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S256x1024 w shapeCasts_S256x1024_S256x1024) p := by rw [← hp]; rfl
  rw [this]
  pointwise []

/-- The zero the heads are padded with. -/
def laneZero : S_.Idx → EReal := sitofp (F := Ideal) .f32 (constantI S_ 32 0#32)

/-- Eight heads of 96 columns, each padded to 128 lanes. -/
def padded (x : S8192x768.Idx → EReal) : S8192x1024.Idx → EReal :=
  shapeCast S8192x1024 (pad S8192x8x128 ![0, 0, 0] ![0, 0, 32] ![0, 0, 0] (shapeCast S8192x8x96 x shapeCasts_S8192x768_S8192x8x96) laneZero
    pads_S8192x8x96_S8192x8x128_000_000_0320 h_S_) shapeCasts_S8192x8x128_S8192x1024

/-- The columns of the heads, without the lanes between. -/
def unpadded (y : S256x1024.Idx → EReal) : S256x768.Idx → EReal :=
  shapeCast S256x768 (extractStridedSlice S256x8x96 ![0, 0, 0] (shapeCast S256x8x128 y shapeCasts_S256x1024_S256x8x128)
    slices_S256x8x128_S256x8x96_0_0_0) shapeCasts_S256x8x96_S256x768

/-- The padded heads, at an index. -/
theorem padded_at (x : S8192x768.Idx → EReal) (r : Fin 8192) (c : Fin 1024) : padded x (ix2 r c) =
    if h : c.val / 128 < 8 ∧ c.val % 128 < 96 then x (ix2 r ⟨c.val / 128 * 96 + c.val % 128, by omega⟩) else FloatOps.sitofp (F := Ideal) .f32 0#32 := by
  pointwise [padded, laneZero]

/-- A column's lane among the padded heads. -/
def pos (j : Fin 768) : Fin 1024 := ⟨j.val / 96 * 128 + j.val % 96, by omega⟩

/-- The padded heads at a column's lane. -/
theorem padded_pos (x : S8192x768.Idx → EReal) (r : Fin 8192) (j : Fin 768) : padded x (ix2 r (pos j)) = x (ix2 r j) := by
  have h1 : (pos j).val / 128 = j.val / 96 := by show (j.val / 96 * 128 + j.val % 96) / 128 = _; omega
  have h2 : (pos j).val % 128 = j.val % 96 := by show (j.val / 96 * 128 + j.val % 96) % 128 = _; omega
  refine (padded_at x r (pos j)).trans ((dif_pos ⟨by omega, by omega⟩).trans ?_)
  exact congrArg (fun c => x (ix2 r c)) (Fin.ext (by show (pos j).val / 128 * 96 + (pos j).val % 128 = j.val; omega))

/-- The kept columns, at an index. -/
theorem unpadded_at (y : S256x1024.Idx → EReal) (r : Fin 256) (j : Fin 768) : unpadded y (ix2 r j) = y (ix2 r (pos j)) := by
  unfold pos
  pointwise [unpadded]

variable (m : (l : Loc nD τ sig) → Buf (Elt Ideal) l) (c : Dev nD)

/-- The normed low-rank queries. -/
abbrev a0 : S8192x256.Idx → EReal := m ((c.tc : Thread nD τ).loc main_arg0)
/-- The gradient of the queries. -/
abbrev a1 : S8192x768.Idx → EReal := m ((c.tc : Thread nD τ).loc main_arg1)

/-- The first operand is the normed columns. -/
theorem V_a : V m c main_v0 = a0 m c := by
  unfold V V0; simp only [hostOps0, hostOps0_1, hostOps0_2, List.flatten_cons, List.flatten_nil, List.append_nil, List.cons_append, List.nil_append]
  after_results_simp; rfl

/-- The second operand is the output gradient, its heads padded. -/
theorem V_b : V m c main_v4 = padded (a1 m c) := by
  unfold V V0; simp only [hostOps0, hostOps0_1, hostOps0_2, List.flatten_cons, List.flatten_nil, List.append_nil, List.cons_append, List.nil_append]
  after_results_simp; rfl

/-- Token `n`'s product at a row and a column, zero past the tokens. -/
def term (r : Fin 256) (q : Fin 1024) (n : ℕ) : EReal :=
  if h : n < 8192 then a0 m c (ix2 ⟨n, h⟩ r) * padded (a1 m c) (ix2 ⟨n, h⟩ q) else 0

/-- A point's product is the sum of its block of tokens. -/
theorem part_at (t : Fin cfg0.N) (r : Fin 256) (q : Fin 1024) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v0) a r).trans ?_) ((read_1 t (V m c main_v4) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r : Fin 256) (q : Fin 1024) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S256x1024.Idx → EReal := fun i => ∑ n : Fin 8192, a0 m c (ix2 n (i 0)) * padded (a1 m c) (ix2 n (i 1))

/-- The output block is the array. -/
theorem emb_2 (t : Fin cfg0.N) (y : S256x1024.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 256) = (win0_2.blk t).view.emb y 0 := Fin.ext e.1.symm
  have e1 : (y 1 : Fin 1024) = (win0_2.blk t).view.emb y 1 := Fin.ext e.2.symm
  exact congrArg₂ (fun r q => a0 m c (ix2 n r) * padded (a1 m c) (ix2 n q)) e0 e1

/-- The kept columns of the product are the reference's. -/
theorem unpadded_whole : unpadded (whole m c) = Cert.Reference10Ideal.Read.val_main_v3 (F := Ideal) (a0 m c) (a1 m c) := by
  funext i
  rw [Cert.Reference10Ideal.Read.val_main_v3_apply, Cert.Reference10Ideal.Read.val_main_v2_apply]
  refine (congrArg _ (ix2_self i)).trans ((unpadded_at (whole m c) (i 0) (i 1)).trans ?_)
  refine Finset.sum_congr rfl fun n _ => (congrArg (a0 m c (ix2 n (i 0)) * ·) (padded_pos (a1 m c) n (i 1))).trans
    ((mul_comm _ _).trans (congrArg₂ (· * ·) (congrArg _ ?_) (congrArg _ ?_)))
  · exact (ix2_self _).symm
  · exact (ix2_self _).symm

/-- What the host code after the kernel computes, from any buffers. -/
theorem tail_value (v : Valuation τ sig (Elt Ideal)) :
    StableHlo.after (List.flatten [hostOps1]) v (Proc.devRef .tc main_v8) = unpadded (v (Proc.devRef .tc main_v5)) := by
  simp only [hostOps1, List.flatten_cons, List.flatten_nil, List.append_nil]
  after_results_simp
  rfl

/-- What it leaves in the result. -/
theorem tail_result : Pipeline.afterTail₀ cfgs (dats m) 0 (V0 m) [hostOps1] c main_v8 = unpadded ((dats m 0 c).arrAt 2 cfg0.N) := by
  unfold Pipeline.afterTail₀
  exact (tail_value _).trans (congrArg unpadded (Pipeline.withArrays_arr cfg0.spec (by decide) c (V0 m c) (fun w => (dats m 0 c).arrAt w cfg0.N) 2))

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v8) = Cert.Reference10Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v8) = Cert.Reference10Ideal.Read.val_main_v3 (F := Ideal) (a0 m c) (a1 m c)) :=
    (θ_run defs _ _).mono (fun r h c => ((h c).2 main_v8 (Pipeline.mem_restRefs_of main_v8 (by decide) (by decide))).trans
      ((tail_result m c).trans ((congrArg unpadded (arr_2 m c)).trans (unpadded_whole m c)))) (run_main m ρ)
  exact (θ_run defs _ _).mono (fun r hk c => ⟨hk.1 c, hk.2 c⟩) (θ_run_and h1 (unchanged m ρ))

end Cert.Kernel10Ideal.Hand

end

end
-- ==== Proof.Hand.GradUkv.lean ====
module

public import proofs.«01_k».proof.Proof.Gen.Kernel11Ideal.Frame
public import proofs.«01_k».proof.Proof.Gen.Reference11Ideal.Read
public import Idealize.ShloMosaic.Lib.Pointwise
public import Idealize.ShloMosaic.Lib.Claim
public import Idealize.ShloMosaic.Lib.Pipeline.ValueKit

@[expose] public section

set_option maxRecDepth 16384

/-!
The gradient of the key-value up-projection's weights: the idealized kernel sums, over four blocks of 2048 tokens, the products of a block of the stream with a block of the
output gradient; the sum is the reference's product.
-/

noncomputable section

namespace Cert.Kernel11Ideal.Hand

open Cert.Kernel11Ideal Cert.Kernel11Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are four grid points. -/
theorem pt_lt (t : Fin cfg0.N) : t.val < 4 := lt_of_lt_of_eq t.isLt (show cfg0.N = 4 from N_0)

/-- The blocks of the grid's points: 2048 tokens each. -/
theorem idx : ∀ t : Fin cfg0.N, win0_0.index t = ![t.val, 0] ∧ win0_1.index t = ![t.val, 0] ∧ win0_2.index t = ![0, 0] :=
  (by decide +kernel : ∀ t : Fin grid0.N, _)

/-- A block of tokens of the stream. -/
theorem read_0 (t : Fin cfg0.N) (X : S8192x128.Idx → EReal) (a : Fin 2048) (r : Fin 128) :
    ((cfg0.win 0).blk t).view.read (Elt Ideal) X (ix2 a r) = X (ix2 ⟨2048 * t.val + a.val, by have := pt_lt t; omega⟩ r) := by
  blk_ext [idx t]

/-- A block of tokens of the output gradient. -/
theorem read_1 (t : Fin cfg0.N) (X : S8192x2048.Idx → EReal) (a : Fin 2048) (q : Fin 2048) :
    ((cfg0.win 1).blk t).view.read (Elt Ideal) X (ix2 a q) = X (ix2 ⟨2048 * t.val + a.val, by have := pt_lt t; omega⟩ q) := by
  blk_ext [idx t]

/-- A point's product, at an index. -/
theorem pay1_at (x : S2048x128.Idx → EReal) (z : S2048x2048.Idx → EReal) (r : Fin 128) (q : Fin 2048) :
    k0_pay1 (F := Ideal) x z (ix2 r q) = ∑ a : Fin 2048, x (ix2 a r) * z (ix2 a q) := by
  pointwise [k0_pay1]

/-- A later point adds its product. -/
theorem pay2_at (x : S2048x128.Idx → EReal) (z : S2048x2048.Idx → EReal) (w : S128x2048.Idx → EReal) (r : Fin 128) (q : Fin 2048) :
    k0_pay2 (F := Ideal) x z w (ix2 r q) = w (ix2 r q) + k0_pay1 (F := Ideal) x z (ix2 r q) := by
  generalize hp : k0_pay1 (F := Ideal) x z = p
  have : k0_pay2 (F := Ideal) x z w = addf (F := Ideal) (φ := .f32) (shapeCast S128x2048 w shapeCasts_S128x2048_S128x2048) p := by rw [← hp]; rfl
  rw [this]
  pointwise []

/-- The zero the heads are padded with. -/
def laneZero : S_.Idx → EReal := sitofp (F := Ideal) .f32 (constantI S_ 32 0#32)

/-- Eight heads of 64 columns, each padded to 128 lanes. -/
def lanes (x : S8192x8x64.Idx → EReal) : S8192x1024.Idx → EReal :=
  shapeCast S8192x1024 (pad S8192x8x128 ![0, 0, 0] ![0, 0, 64] ![0, 0, 0] x laneZero
    pads_S8192x8x64_S8192x8x128_000_000_0640 h_S_) shapeCasts_S8192x8x128_S8192x1024

/-- Two pieces side by side. -/
def beside (a b : S8192x1024.Idx → EReal) : S8192x2048.Idx → EReal :=
  concatenate S8192x2048 1 [⟨S8192x1024, a⟩, ⟨S8192x1024, b⟩] concatenates_S8192x1024_S8192x1024_S8192x2048_d1

/-- The first 64 columns of each head. -/
def keys (x : S8192x1024.Idx → EReal) : S8192x8x64.Idx → EReal :=
  extractStridedSlice S8192x8x64 ![0, 0, 0] (shapeCast S8192x8x128 x shapeCasts_S8192x1024_S8192x8x128) slices_S8192x8x128_S8192x8x64_0_0_0

/-- The last 64 columns of each head. -/
def values (x : S8192x1024.Idx → EReal) : S8192x8x64.Idx → EReal :=
  extractStridedSlice S8192x8x64 ![0, 0, 64] (shapeCast S8192x8x128 x shapeCasts_S8192x1024_S8192x8x128) slices_S8192x8x128_S8192x8x64_0_0_64

/-- The keys' columns, each head padded to 128 lanes, then the values'. -/
def padded (x : S8192x1024.Idx → EReal) : S8192x2048.Idx → EReal := beside (lanes (keys x)) (lanes (values x))

/-- The first 64 lanes of each head of each half. -/
def kept (y : S128x2048.Idx → EReal) : S128x2x8x64.Idx → EReal :=
  extractStridedSlice S128x2x8x64 ![0, 0, 0, 0] (shapeCast S128x2x8x128 y shapeCasts_S128x2048_S128x2x8x128) slices_S128x2x8x128_S128x2x8x64_0_0_0_0

/-- The keys' half. -/
def half0 (z : S128x2x8x64.Idx → EReal) : S128x8x64.Idx → EReal :=
  shapeCast S128x8x64 (extractStridedSlice S128x1x8x64 ![0, 0, 0, 0] z slices_S128x2x8x64_S128x1x8x64_0_0_0_0) shapeCasts_S128x1x8x64_S128x8x64

/-- The values' half. -/
def half1 (z : S128x2x8x64.Idx → EReal) : S128x8x64.Idx → EReal :=
  shapeCast S128x8x64 (extractStridedSlice S128x1x8x64 ![0, 1, 0, 0] z slices_S128x2x8x64_S128x1x8x64_0_1_0_0) shapeCasts_S128x1x8x64_S128x8x64

/-- Each head's keys beside its values, as columns. -/
def together (a b : S128x8x64.Idx → EReal) : S128x1024.Idx → EReal :=
  shapeCast S128x1024 (concatenate S128x8x128 2 [⟨S128x8x64, a⟩, ⟨S128x8x64, b⟩] concatenates_S128x8x64_S128x8x64_S128x8x128_d2)
    shapeCasts_S128x8x128_S128x1024

/-- The columns of the heads' keys and values, without the lanes between. -/
def unpadded (y : S128x2048.Idx → EReal) : S128x1024.Idx → EReal := together (half0 (kept y)) (half1 (kept y))

/-- The padded heads, at an index. -/
theorem lanes_at (x : S8192x8x64.Idx → EReal) (r : Fin 8192) (c : Fin 1024) : lanes x (ix2 r c) =
    if h : c.val / 128 < 8 ∧ c.val % 128 < 64 then x (ix3 r ⟨c.val / 128, h.1⟩ ⟨c.val % 128, h.2⟩) else FloatOps.sitofp (F := Ideal) .f32 0#32 := by
  pointwise [lanes, laneZero]

/-- Two pieces side by side, at an index. -/
theorem beside_at (a b : S8192x1024.Idx → EReal) (r : Fin 8192) (c : Fin 2048) : beside a b (ix2 r c) =
    if h : c.val < 1024 then a (ix2 r ⟨c.val, h⟩) else b (ix2 r ⟨c.val - 1024, by omega⟩) := by
  pointwise [beside]

/-- The keys' columns, at an index. -/
theorem keys_at (x : S8192x1024.Idx → EReal) (r : Fin 8192) (h : Fin 8) (d : Fin 64) :
    keys x (ix3 r h d) = x (ix2 r ⟨h.val * 128 + d.val, by omega⟩) := by
  pointwise [keys]

/-- The values' columns, at an index. -/
theorem values_at (x : S8192x1024.Idx → EReal) (r : Fin 8192) (h : Fin 8) (d : Fin 64) :
    values x (ix3 r h d) = x (ix2 r ⟨h.val * 128 + (64 + d.val), by omega⟩) := by
  pointwise [values]

/-- The first lanes, at an index. -/
theorem kept_at (y : S128x2048.Idx → EReal) (r : Fin 128) (g : Fin 2) (h : Fin 8) (d : Fin 64) :
    kept y (ix4 r g h d) = y (ix2 r ⟨g.val * 1024 + h.val * 128 + d.val, by omega⟩) := by
  pointwise [kept]

/-- The keys' half, at an index. -/
theorem half0_at (z : S128x2x8x64.Idx → EReal) (r : Fin 128) (h : Fin 8) (d : Fin 64) : half0 z (ix3 r h d) = z (ix4 r 0 h d) := by
  pointwise [half0]

/-- The values' half, at an index. -/
theorem half1_at (z : S128x2x8x64.Idx → EReal) (r : Fin 128) (h : Fin 8) (d : Fin 64) : half1 z (ix3 r h d) = z (ix4 r 1 h d) := by
  pointwise [half1]

/-- The columns put together, at an index. -/
theorem together_at (a b : S128x8x64.Idx → EReal) (r : Fin 128) (j : Fin 1024) : together a b (ix2 r j) =
    if h : j.val % 128 < 64 then a (ix3 r ⟨j.val / 128, by omega⟩ ⟨j.val % 128, h⟩)
    else b (ix3 r ⟨j.val / 128, by omega⟩ ⟨j.val % 128 - 64, by omega⟩) := by
  pointwise [together]

/-- A column's lane among the padded heads. -/
def pos (j : Fin 1024) : Fin 2048 :=
  if j.val % 128 < 64 then ⟨j.val / 128 * 128 + j.val % 128, by omega⟩ else ⟨(8 + j.val / 128) * 128 + (j.val % 128 - 64), by omega⟩

/-- The padded heads at a column's lane. -/
theorem padded_pos (x : S8192x1024.Idx → EReal) (r : Fin 8192) (j : Fin 1024) : padded x (ix2 r (pos j)) = x (ix2 r j) := by
  have hj : j.val < 1024 := j.isLt
  unfold padded pos
  rw [beside_at]
  by_cases h : j.val % 128 < 64
  · simp only [if_pos h]
    rw [dif_pos (by omega), lanes_at, dif_pos ⟨by dsimp only; omega, by dsimp only; omega⟩, keys_at]
    exact congrArg (fun c => x (ix2 r c)) (Fin.ext (by dsimp only; omega))
  · simp only [if_neg h]
    rw [dif_neg (by omega), lanes_at, dif_pos ⟨by dsimp only; omega, by dsimp only; omega⟩, values_at]
    exact congrArg (fun c => x (ix2 r c)) (Fin.ext (by dsimp only; omega))

/-- The kept columns, at an index. -/
theorem unpadded_at (y : S128x2048.Idx → EReal) (r : Fin 128) (j : Fin 1024) : unpadded y (ix2 r j) = y (ix2 r (pos j)) := by
  have hj : j.val < 1024 := j.isLt
  unfold unpadded pos
  rw [together_at]
  by_cases h : j.val % 128 < 64
  · rw [dif_pos h, if_pos h, half0_at, kept_at]
    exact congrArg (fun c => y (ix2 r c)) (Fin.ext (by show 0 * 1024 + j.val / 128 * 128 + j.val % 128 = j.val / 128 * 128 + j.val % 128; omega))
  · rw [dif_neg h, if_neg h, half1_at, kept_at]
    exact congrArg (fun c => y (ix2 r c)) (Fin.ext (by show 1 * 1024 + j.val / 128 * 128 + (j.val % 128 - 64) = (8 + j.val / 128) * 128 + (j.val % 128 - 64); omega))

variable (m : (l : Loc nD τ sig) → Buf (Elt Ideal) l) (c : Dev nD)

/-- The normed low-rank keys and values. -/
abbrev a0 : S8192x128.Idx → EReal := m ((c.tc : Thread nD τ).loc main_arg0)
/-- The gradient of the keys and values. -/
abbrev a1 : S8192x1024.Idx → EReal := m ((c.tc : Thread nD τ).loc main_arg1)

/-- The first operand is the normed columns. -/
theorem V_a : V m c main_v8 = a0 m c := by
  unfold V V0; simp only [hostOps0, hostOps0_1, hostOps0_2, hostOps0_3, hostOps0_4, List.flatten_cons, List.flatten_nil, List.append_nil, List.cons_append, List.nil_append]
  after_results_simp; rfl

/-- The second operand is the output gradient, its heads padded. -/
theorem V_b : V m c main_v9 = padded (a1 m c) := by
  unfold V V0; simp only [hostOps0, hostOps0_1, hostOps0_2, hostOps0_3, hostOps0_4, List.flatten_cons, List.flatten_nil, List.append_nil, List.cons_append, List.nil_append]
  after_results_simp; rfl

/-- Token `n`'s product at a row and a column, zero past the tokens. -/
def term (r : Fin 128) (q : Fin 2048) (n : ℕ) : EReal :=
  if h : n < 8192 then a0 m c (ix2 ⟨n, h⟩ r) * padded (a1 m c) (ix2 ⟨n, h⟩ q) else 0

/-- A point's product is the sum of its block of tokens. -/
theorem part_at (t : Fin cfg0.N) (r : Fin 128) (q : Fin 2048) :
    k0_pay1 (F := Ideal) (iblk m c 0 t) (iblk m c 1 t) (ix2 r q) = ∑ a ∈ range 2048, term m c r q (2048 * t.val + a) := by
  refine (pay1_at _ _ r q).trans (Eq.trans ?_ (Fin.sum_univ_eq_sum_range _ 2048))
  refine Finset.sum_congr rfl fun a _ => ?_
  have ht := pt_lt t
  have h : 2048 * t.val + a.val < 8192 := by omega
  refine Eq.trans ?_ (dif_pos h).symm
  refine congrArg₂ (· * ·) ((read_0 t (V m c main_v8) a r).trans ?_) ((read_1 t (V m c main_v9) a q).trans ?_)
  · rw [V_a]
  · rw [V_b]

/-- What the first point leaves. -/
theorem outs_first (t : Fin cfg0.N) (h : t.val % 4 = 0) :
    outsAt0 m c t.val t.isLt = k0_pay1 (F := Ideal) (iblk m c 0 t) (iblk m c 1 t) := by
  rw [outsAt0_A m c t h (by have := pt_lt t; omega)]
  frame_out

/-- What a later point leaves. -/
theorem outs_later (t : Fin cfg0.N) (h : ¬ t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

/-- After a point, the output block holds the sum over the tokens so far. -/
theorem outs_at (k : ℕ) (hk : k < 4) (r : Fin 128) (q : Fin 2048) :
    outsAt0 m c k (lt_of_lt_of_eq hk (show cfg0.N = 4 from N_0).symm) (ix2 r q) = ∑ n ∈ range (2048 * (k + 1)), term m c r q n := by
  induction k with
  | zero =>
    have hN : 0 < cfg0.N := lt_of_lt_of_eq hk (show cfg0.N = 4 from N_0).symm
    refine (congrFun (outs_first m c ⟨0, hN⟩ rfl) _).trans ((part_at m c _ r q).trans ?_)
    simp only [Nat.mul_zero, Nat.zero_add, Nat.mul_one]
  | succ k ih =>
    have hN : k + 1 < cfg0.N := lt_of_lt_of_eq hk (show cfg0.N = 4 from N_0).symm
    refine (congrFun (outs_later m c ⟨k + 1, hN⟩ (by show ¬ (k + 1) % 4 = 0; omega)) _).trans ?_
    refine (pay2_at _ _ _ r q).trans ?_
    rw [show 2048 * (k + 1 + 1) = 2048 * (k + 1) + 2048 by ring, Finset.sum_range_add]
    exact congrArg₂ (· + ·) (ih (by omega)) (part_at m c _ r q)

/-- The product over all the tokens. -/
def whole : S128x2048.Idx → EReal := fun i => ∑ n : Fin 8192, a0 m c (ix2 n (i 0)) * padded (a1 m c) (ix2 n (i 1))

/-- The output block is the array. -/
theorem emb_2 (t : Fin cfg0.N) (y : S128x2048.Idx) :
    ((win0_2.blk t).view.emb y 0).val = (y 0).val ∧ ((win0_2.blk t).view.emb y 1).val = (y 1).val := by
  constructor
  · blk_simp [idx t]
  · blk_simp [idx t]

/-- The output array ends at the product. -/
theorem arr_2 : (dats m 0 c).arrAt 2 cfg0.N = whole m c := by
  refine (dats m 0 c).arrAt_eq_of_covers 2 _ (by decide +kernel) fun t hf y => ?_
  blk_simp
  rw [after0_2]
  have ht := pt_lt t
  have hm : t.val % 4 = 3 := (flush0_2 t).mp hf
  have e := emb_2 t y
  have hN : 3 < cfg0.N := lt_of_lt_of_eq (show 3 < 4 by omega) (show cfg0.N = 4 from N_0).symm
  have ht' : t = ⟨3, hN⟩ := Fin.ext (by show t.val = 3; omega)
  have gen : ∀ s : Fin cfg0.N, s = ⟨3, hN⟩ → outsAt0 m c s.val s.isLt y = outsAt0 m c 3 hN y := by
    rintro s rfl; rfl
  refine (gen t ht').trans ((congrArg _ (ix2_self y)).trans ((outs_at m c 3 (by omega) (y 0) (y 1)).trans ?_))
  refine (Fin.sum_univ_eq_sum_range (fun n => term m c (y 0) (y 1) n) 8192).symm.trans ?_
  refine Finset.sum_congr rfl fun n _ => ?_
  refine (dif_pos n.isLt).trans ?_
  have e0 : (y 0 : Fin 128) = (win0_2.blk t).view.emb y 0 := Fin.ext e.1.symm
  have e1 : (y 1 : Fin 2048) = (win0_2.blk t).view.emb y 1 := Fin.ext e.2.symm
  exact congrArg₂ (fun r q => a0 m c (ix2 n r) * padded (a1 m c) (ix2 n q)) e0 e1

/-- The kept columns of the product are the reference's. -/
theorem unpadded_whole : unpadded (whole m c) = Cert.Reference11Ideal.Read.val_main_v3 (F := Ideal) (a0 m c) (a1 m c) := by
  funext i
  rw [Cert.Reference11Ideal.Read.val_main_v3_apply, Cert.Reference11Ideal.Read.val_main_v2_apply]
  refine (congrArg _ (ix2_self i)).trans ((unpadded_at (whole m c) (i 0) (i 1)).trans ?_)
  refine Finset.sum_congr rfl fun n _ => (congrArg (a0 m c (ix2 n (i 0)) * ·) (padded_pos (a1 m c) n (i 1))).trans
    ((mul_comm _ _).trans (congrArg₂ (· * ·) (congrArg _ ?_) (congrArg _ ?_)))
  · exact (ix2_self _).symm
  · exact (ix2_self _).symm

/-- What the host code after the kernel computes, from any buffers. -/
theorem tail_value (v : Valuation τ sig (Elt Ideal)) :
    StableHlo.after (List.flatten [hostOps1]) v (Proc.devRef .tc main_v18) = unpadded (v (Proc.devRef .tc main_v10)) := by
  simp only [hostOps1, List.flatten_cons, List.flatten_nil, List.append_nil]
  after_results_simp
  rfl

/-- What it leaves in the result. -/
theorem tail_result : Pipeline.afterTail₀ cfgs (dats m) 0 (V0 m) [hostOps1] c main_v18 = unpadded ((dats m 0 c).arrAt 2 cfg0.N) := by
  unfold Pipeline.afterTail₀
  exact (tail_value _).trans (congrArg unpadded (Pipeline.withArrays_arr cfg0.spec (by decide) c (V0 m c) (fun w => (dats m 0 c).arrAt w cfg0.N) 2))

/-- The idealized kernel's run: it ends with the reference's gradient of the weights, its arguments unchanged. -/
theorem results (ρ : Dev nD → PrngReg) :
    θ_run defs (onTc (τ := τ) (main (F := Ideal))) (s₀ m ρ) (fun r => ∀ c : Dev nD,
      r.2.mem ((c.tc : Thread nD τ).loc main_v18) = Cert.Reference11Ideal.Read.val_main_v3 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h1 : θ_run defs (onTc (τ := τ) (main (F := Ideal))) (s₀ m ρ) (fun r => ∀ c : Dev nD,
      r.2.mem ((c.tc : Thread nD τ).loc main_v18) = Cert.Reference11Ideal.Read.val_main_v3 (F := Ideal) (a0 m c) (a1 m c)) :=
    (θ_run defs _ _).mono (fun r h c => ((h c).2 main_v18 (Pipeline.mem_restRefs_of main_v18 (by decide) (by decide))).trans
      ((tail_result m c).trans ((congrArg unpadded (arr_2 m c)).trans (unpadded_whole m c)))) (run_main m ρ)
  exact (θ_run defs _ _).mono (fun r hk c => ⟨hk.1 c, hk.2 c⟩) (θ_run_and h1 (unchanged m ρ))

end Cert.Kernel11Ideal.Hand

end

end
-- ==== Proof.Hand.NormPle.lean ====
module

public import proofs.«01_k».proof.Proof.Gen.Kernel12Ideal.Frame
public import proofs.«01_k».proof.Proof.Gen.Reference12Ideal.Read
public import Idealize.ShloMosaic.Lib.Pointwise
public import Idealize.ShloMosaic.Lib.Claim
public import Idealize.ShloMosaic.Lib.Pipeline.ValueKit
public import proofs.«01_k».proof.Proof.Hand.RmsBack

@[expose] public section

set_option maxRecDepth 16384

/-!
The gradient through the side branch's norm: each of sixteen grid points multiplies 512 rows of the branch gradient with the gate's weights, takes the
gradient of the norm of its rows, and adds their share of the scale's gradient to one row; both are the reference's.
-/

noncomputable section

namespace Cert.Kernel12Ideal.Hand

open Cert.Kernel12Ideal Cert.Kernel12Ideal.Gen
open Idealize.ShloMosaic Idealize.ShloMosaic.TcCoe Idealize.ShloMosaic.Tactic Idealize.ShloMosaic.Pipeline
open Finset (range)

/-- An index of a matrix is its row and its column. -/
theorem ix2_self {a b : ℕ} (i : (⟨2, ![a, b]⟩ : Shape).Idx) : i = ix2 (i 0) (i 1) := by
  funext d
  match d with
  | 0 => rfl
  | 1 => rfl

/-- There are sixteen grid points. -/
theorem pt_lt (t : Fin cfg0.N) : t.val < 16 := lt_of_lt_of_eq t.isLt (show cfg0.N = 16 from N_0)

/-- The blocks of the grid's points: 512 tokens each. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- A block of rows of the branch gradient. -/
theorem read_0 (t : Fin cfg0.N) (X : S8192x1024.Idx → EReal) (a : Fin 512) (k : Fin 1024) :
    ((cfg0.win 0).blk t).view.read (Elt Ideal) X (ix2 a k) = X (ix2 ⟨512 * t.val + a.val, by have := pt_lt t; omega⟩ k) := by
  blk_ext [idx t]

/-- The weights are read whole. -/
theorem read_1 (t : Fin cfg0.N) (X : S1024x1024.Idx → EReal) (k : Fin 1024) (q : Fin 1024) :
    ((cfg0.win 1).blk t).view.read (Elt Ideal) X (ix2 k q) = X (ix2 k q) := by
  blk_ext [idx t]

/-- A block of rows of the stream. -/
theorem read_2 (t : Fin cfg0.N) (X : S8192x1024.Idx → EReal) (a : Fin 512) (k : Fin 1024) :
    ((cfg0.win 2).blk t).view.read (Elt Ideal) X (ix2 a k) = X (ix2 ⟨512 * t.val + a.val, by have := pt_lt t; omega⟩ k) := by
  blk_ext [idx t]

/-- The scale is read whole. -/
theorem read_3 (t : Fin cfg0.N) (X : S1x1024.Idx → EReal) (q : Fin 1024) :
    ((cfg0.win 3).blk t).view.read (Elt Ideal) X (ix2 0 q) = X (ix2 0 q) := by
  blk_ext [idx t]

/-- A block of rows of the stream's own gradient. -/
theorem read_4 (t : Fin cfg0.N) (X : S8192x1024.Idx → EReal) (a : Fin 512) (k : Fin 1024) :
    ((cfg0.win 4).blk t).view.read (Elt Ideal) X (ix2 a k) = X (ix2 ⟨512 * t.val + a.val, by have := pt_lt t; omega⟩ k) := by
  blk_ext [idx t]

/-! ## One point -/

/-- Half the columns of the product, at an index. -/
theorem pay5_at (x : S512x1024.Idx → EReal) (w : S1024x512.Idx → EReal) (a q : Fin 512) :
    k0_pay5 (F := Ideal) x w (ix2 a q) = ∑ k : Fin 1024, x (ix2 a k) * w (ix2 k q) := by
  pointwise [k0_pay5, k0_pay4]

/-- The other half is such a product too. -/
theorem pay6_eq (x : S512x1024.Idx → EReal) (w : S1024x512.Idx → EReal) : k0_pay6 (F := Ideal) x w = k0_pay5 (F := Ideal) x w := rfl

/-- The reciprocal root of a row's guarded mean square. -/
theorem pay8_at (x : S512x1024.Idx → EReal) (a : Fin 512) : k0_pay8 (F := Ideal) x (ix2 a 0) = Cert.RmsBack.inv (fun k => x (ix2 a k)) := by
  unfold Cert.RmsBack.inv Cert.RmsBack.meanSq
  pointwise [k0_pay8]

/-- The rows, normalised. -/
theorem pay9_at (x : S512x1024.Idx → EReal) (a : Fin 512) (q : Fin 1024) :
    k0_pay9 (F := Ideal) x (ix2 a q) = x (ix2 a q) * Cert.RmsBack.inv (fun k => x (ix2 a k)) := by
  refine Eq.trans ?_ (congrArg (x (ix2 a q) * ·) (pay8_at x a))
  generalize hp : k0_pay8 (F := Ideal) x = p
  have : k0_pay9 (F := Ideal) x = mulf (F := Ideal) (φ := .f32) x (broadcastTo S512x1024 p broadcasts_S512x1_S512x1024) := by rw [← hp]; rfl
  rw [this]
  pointwise []

/-- A point's share of the scale's gradient is added to the row so far. -/
theorem pay1_at (h xh : S512x1024.Idx → EReal) (w : S1x1024.Idx → EReal) (q : Fin 1024) :
    k0_pay1 (F := Ideal) h xh w (ix2 0 q) = w (ix2 0 q) + ∑ a : Fin 512, h (ix2 a q) * xh (ix2 a q) := by
  pointwise [k0_pay1]

/-- The gradient of the norm, at an index. -/
theorem pay2_at (h : S512x1024.Idx → EReal) (g : S1x1024.Idx → EReal) (r : S512x1.Idx → EReal) (xh d : S512x1024.Idx → EReal) (a : Fin 512) (q : Fin 1024) :
    k0_pay2 (F := Ideal) h g r xh d (ix2 a q) = r (ix2 a 0) * (h (ix2 a q) * g (ix2 0 q)
      - xh (ix2 a q) * Ideal.div (∑ k : Fin 1024, h (ix2 a k) * g (ix2 0 k) * xh (ix2 a k)) (Ideal.ofBits FTy.f32 1149239296#32)) + d (ix2 a q) := by
  pointwise [k0_pay2]

/-- The scale passes unchanged through the cast to its own shape. -/
theorem pay7_eq (g : S1x1024.Idx → EReal) : k0_pay7 (F := Ideal) g = g := by
  funext i
  rw [ix2_self i]
  pointwise [k0_pay7]

/-- The row starts at zero. -/
theorem pay3_at (q : Fin 1024) : k0_pay3 (F := Ideal) (ix2 0 q) = 0 := by
  pointwise [k0_pay3]

/-- The product of a block of rows with the weights, at a row and a column. -/
def prod (x : S512x1024.Idx → EReal) (w : S1024x1024.Idx → EReal) : S512x1024.Idx → EReal :=
  fun i => ∑ k : Fin 1024, x (ix2 (i 0) k) * w (ix2 k (i 1))

/-- Half the columns of the weights, loaded from column `o` on. -/
theorem ld_w (w : Vec Ideal S1024x1024 .bf16) (o : ℕ) (inb) (k : Fin 1024) (q : Fin 512) (h : o + q.val < 1024) :
    View.ld (Val := Elt Ideal) w (Rect.unit (s := S1024x1024) ![0, o] S1024x512.size inb) (ix2 k q) = w (ix2 k ⟨o + q.val, h⟩) := by
  refine congrArg w (funext fun a => Fin.ext ((Rect.idx_unit_val _ _ _ _ a).trans ?_))
  match a with
  | 0 => exact Nat.zero_add _
  | 1 => rfl

/-- Half the columns of the weights, starting at column `o`, give the product at those columns. -/
theorem half (x0 : S512x1024.Idx → EReal) (x1 : S1024x1024.Idx → EReal) (w : S1024x512.Idx → EReal) (o : ℕ) (x : S512x512.Idx)
    (hw : ∀ (k : Fin 1024) (q : Fin 512) (h : o + q.val < 1024), w (ix2 k q) = x1 (ix2 k ⟨o + q.val, h⟩))
    (i : S512x1024.Idx) (h0 : (i 0).val = (x 0).val) (h1 : (i 1).val = o + (x 1).val) :
    k0_pay5 (F := Ideal) x0 w x = prod x0 x1 i := by
  refine (congrArg _ (ix2_self x)).trans ((pay5_at x0 w (x 0) (x 1)).trans (Finset.sum_congr rfl fun k _ => ?_))
  have h : o + (x 1).val < 1024 := h1 ▸ (i 1).isLt
  refine congrArg₂ (· * ·) (congrArg (fun b => x0 (ix2 b k)) (Fin.ext h0.symm)) ((hw k (x 1) h).trans ?_)
  exact congrArg (fun b => x1 (ix2 k b)) (Fin.ext h1.symm)

/-- What the two halves leave in the product's buffer, read back whole. -/
abbrev stored (x0 : Vec Ideal S512x1024 .bf16) (x1 : Vec Ideal S1024x1024 .bf16) : S512x1024.Idx → EReal :=
  View.readCov (Val := Elt Ideal) (View.whole cc0_scratch0)
    [⟨Rect.unit (s := S512x1024) ![0, 512] ![512, 512] inb_S512x1024_S512x512_0_512,
        k0_pay6 (F := Ideal) x0 (View.ld (Val := Elt Ideal) x1 (Rect.unit (s := S1024x1024) ![0, 512] ![1024, 512] inb_S1024x1024_S1024x512_0_512))⟩,
      ⟨Rect.unit (s := S512x1024) ![0, 0] ![512, 512] inb_S512x1024_S512x512_0_0,
        k0_pay5 (F := Ideal) x0 (View.ld (Val := Elt Ideal) x1 (Rect.unit (s := S1024x1024) ![0, 0] ![1024, 512] inb_S1024x1024_S1024x512_0_0))⟩]
    (Rect.unit (s := S512x1024) ![0, 0] ![512, 1024] inb_S512x1024_S512x1024_0_0).toLoadRect

/-- It is the product. -/
theorem stored_eq (x0 : S512x1024.Idx → EReal) (x1 : S1024x1024.Idx → EReal) : stored x0 x1 = prod x0 x1 := by
  funext i
  unfold stored
  rw [View.readCov_eq_canon']
  have hi : (Rect.unit (s := S512x1024) ![0, 0] ![512, 1024] inb_S512x1024_S512x1024_0_0).toLoadRect.idx i = i := by
    funext a
    refine Fin.ext ((Rect.idx_unit_val _ _ _ _ a).trans ?_)
    match a with
    | 0 => exact Nat.zero_add _
    | 1 => exact Nat.zero_add _
  show View.canon _ _ = _
  rw [hi]
  canon_tiles x h
  · exact half x0 x1 _ 512 x (fun k q h => ld_w x1 512 _ k q h) _ h0 h1
  · exact half x0 x1 _ 0 x (fun k q h => ld_w x1 0 _ k q h) _ h0 (h1.trans (Nat.zero_add _).symm)

/-- A point's gradient block, from its operands' blocks. -/
def dxBlock (x0 : S512x1024.Idx → EReal) (x1 : S1024x1024.Idx → EReal) (x2 : S512x1024.Idx → EReal) (x3 : S1x1024.Idx → EReal) (x4 : S512x1024.Idx → EReal) :
    S512x1024.Idx → EReal :=
  k0_pay2 (F := Ideal) (stored x0 x1) (k0_pay7 (F := Ideal) x3) (k0_pay8 (F := Ideal) x2) (k0_pay9 (F := Ideal) x2) x4

/-- It is the gradient of the norm of each row. -/
theorem dxBlock_at (x0 : S512x1024.Idx → EReal) (x1 : S1024x1024.Idx → EReal) (x2 : S512x1024.Idx → EReal) (x3 : S1x1024.Idx → EReal)
    (x4 : S512x1024.Idx → EReal) (a : Fin 512) (q : Fin 1024) :
    dxBlock x0 x1 x2 x3 x4 (ix2 a q)
      = Cert.RmsBack.centred (fun k => x2 (ix2 a k)) (fun k => prod x0 x1 (ix2 a k) * x3 (ix2 0 k)) (x4 (ix2 a q)) q := by
  unfold dxBlock Cert.RmsBack.centred
  rw [stored_eq, pay7_eq]
  refine (pay2_at _ _ _ _ _ a q).trans ?_
  simp only [pay8_at, pay9_at]

/-- A point's share of the scale's gradient, added to the row so far. -/
theorem dgRow_at (x0 : S512x1024.Idx → EReal) (x1 : S1024x1024.Idx → EReal) (x2 : S512x1024.Idx → EReal) (w : S1x1024.Idx → EReal) (q : Fin 1024) :
    k0_pay1 (F := Ideal) (stored x0 x1) (k0_pay9 (F := Ideal) x2) w (ix2 0 q)
      = w (ix2 0 q) + ∑ a : Fin 512, prod x0 x1 (ix2 a q) * (x2 (ix2 a q) * Cert.RmsBack.inv (fun k => x2 (ix2 a k))) := by
  rw [stored_eq]
  refine (pay1_at _ _ _ q).trans ?_
  simp only [pay9_at]

variable (m : (l : Loc nD τ sig) → Buf (Elt Ideal) l) (c : Dev nD)

/-- Every point leaves its gradient block. -/
theorem outs_dx (t : Fin cfg0.N) :
    (outsAt0 m c t.val t.isLt).1 = dxBlock (iblk m c 0 t) (iblk m c 1 t) (iblk m c 2 t) (iblk m c 3 t) (iblk m c 4 t) := by
  by_cases h : t.val % 16 = 0
  · rw [outsAt0_A m c t h]
    frame_out
    rfl
  · rw [outsAt0_B m c t h]
    frame_out
    rfl

/-- The first point starts the row. -/
theorem outs_first (t : Fin cfg0.N) (h : t.val % 16 = 0) :
    (outsAt0 m c t.val t.isLt).2 = k0_pay1 (F := Ideal) (stored (iblk m c 0 t) (iblk m c 1 t)) (k0_pay9 (F := Ideal) (iblk m c 2 t)) (k0_pay3 (F := Ideal)) := by
  rw [outsAt0_A m c t h]
  frame_out

/-- A later point adds to the row. -/
theorem outs_later (t : Fin cfg0.N) (h : ¬ t.val % 16 = 0) :
    (outsAt0 m c t.val t.isLt).2 = k0_pay1 (F := Ideal) (stored (iblk m c 0 t) (iblk m c 1 t)) (k0_pay9 (F := Ideal) (iblk m c 2 t))
      (outsAt0 m c (t.val - 1) (Nat.lt_of_le_of_lt (Nat.sub_le _ _) t.isLt)).2 := by
  rw [outsAt0_B m c t h]
  frame_out

/-- The stream. -/
abbrev a0 : S8192x1024.Idx → EReal := m ((c.tc : Thread nD τ).loc main_arg0)
/-- The scale. -/
abbrev a1 : S1024.Idx → EReal := m ((c.tc : Thread nD τ).loc main_arg1)
/-- The gate's weights. -/
abbrev a2 : S1024x1024.Idx → EReal := m ((c.tc : Thread nD τ).loc main_arg2)
/-- The gradient of the gate's input. -/
abbrev a3 : S8192x1024.Idx → EReal := m ((c.tc : Thread nD τ).loc main_arg3)
/-- The stream's own gradient. -/
abbrev a4 : S8192x1024.Idx → EReal := m ((c.tc : Thread nD τ).loc main_arg4)

/-- The first operand is the gradient of the gate's input. -/
theorem V_d : V m c main_v0 = a3 m c := by
  unfold V V0; simp only [hostOps0, List.flatten_cons, List.flatten_nil, List.append_nil, List.cons_append, List.nil_append]
  after_results_simp; rfl

/-- The second operand is the weights, transposed. -/
theorem V_w : V m c main_v2 = transpose S1024x1024 [1, 0] (a2 m c) transposes_S1024x1024_S1024x1024_1_0 := by
  unfold V V0; simp only [hostOps0, List.flatten_cons, List.flatten_nil, List.append_nil, List.cons_append, List.nil_append]
  after_results_simp; rfl

/-- The third operand is the stream. -/
theorem V_x : V m c main_arg0 = a0 m c := by
  unfold V V0; simp only [hostOps0, List.flatten_cons, List.flatten_nil, List.append_nil, List.cons_append, List.nil_append]
  after_results_simp

/-- The fourth operand is the scale as one row. -/
theorem V_g : V m c main_v3 = shapeCast S1x1024 (a1 m c) shapeCasts_S1024_S1x1024 := by
  unfold V V0; simp only [hostOps0, List.flatten_cons, List.flatten_nil, List.append_nil, List.cons_append, List.nil_append]
  after_results_simp; rfl

/-- The fifth operand is the stream's own gradient. -/
theorem V_r : V m c main_arg4 = a4 m c := by
  unfold V V0; simp only [hostOps0, List.flatten_cons, List.flatten_nil, List.append_nil, List.cons_append, List.nil_append]
  after_results_simp

/-- A vector as one row, at a column. -/
theorem row_at (g : S1024.Idx → EReal) (q : Fin 1024) : shapeCast S1x1024 g shapeCasts_S1024_S1x1024 (ix2 0 q) = g (ix1 q) := by
  pointwise []

/-- The weights, transposed, at an index. -/
theorem trans_at (w : S1024x1024.Idx → EReal) (k q : Fin 1024) : transpose S1024x1024 [1, 0] w transposes_S1024x1024_S1024x1024_1_0 (ix2 k q) = w (ix2 q k) := by
  pointwise []

/-- The gradient of the normalised, scaled row: the product with the weights' rows. -/
def dh (d : S8192x1024.Idx → EReal) (w : S1024x1024.Idx → EReal) (r : Fin 8192) (q : Fin 1024) : EReal :=
  ∑ k : Fin 1024, d (ix2 r k) * w (ix2 q k)

/-- A row of the stream. -/
def row (x : S8192x1024.Idx → EReal) (r : Fin 8192) : Fin 1024 → EReal := fun k => x (ix2 r k)

/-- A point's product is the whole one at its rows. -/
theorem prod_at (t : Fin cfg0.N) (a : Fin 512) (q : Fin 1024) :
    prod (iblk m c 0 t) (iblk m c 1 t) (ix2 a q) = dh (a3 m c) (a2 m c) ⟨512 * t.val + a.val, by have := pt_lt t; omega⟩ q := by
  refine Finset.sum_congr rfl fun k _ => ?_
  refine congrArg₂ (· * ·) ((read_0 t (V m c main_v0) a k).trans ?_) ((read_1 t (V m c main_v2) k q).trans ?_)
  · rw [V_d]
  · rw [V_w]
    exact trans_at _ k q

/-- A point reads its rows of the stream. -/
theorem x_at (t : Fin cfg0.N) (a : Fin 512) (q : Fin 1024) :
    (iblk m c 2 t : S512x1024.Idx → EReal) (ix2 a q) = row (a0 m c) ⟨512 * t.val + a.val, by have := pt_lt t; omega⟩ q := by
  refine (read_2 t (V m c main_arg0) a q).trans ?_
  rw [V_x]; rfl

/-- A point reads the scale. -/
theorem g_at (t : Fin cfg0.N) (q : Fin 1024) : (iblk m c 3 t : S1x1024.Idx → EReal) (ix2 0 q) = a1 m c (ix1 q) := by
  refine (read_3 t (V m c main_v3) q).trans ?_
  rw [V_g]
  exact row_at _ q

/-- A point reads its rows of the stream's own gradient. -/
theorem r_at (t : Fin cfg0.N) (a : Fin 512) (q : Fin 1024) :
    (iblk m c 4 t : S512x1024.Idx → EReal) (ix2 a q) = a4 m c (ix2 ⟨512 * t.val + a.val, by have := pt_lt t; omega⟩ q) := by
  refine (read_4 t (V m c main_arg4) a q).trans ?_
  rw [V_r]

/-! ## The output arrays -/

/-- The stream's gradient, at a row and a column. -/
def dx (r : Fin 8192) (q : Fin 1024) : EReal :=
  Cert.RmsBack.centred (row (a0 m c) r) (fun k => dh (a3 m c) (a2 m c) r k * a1 m c (ix1 k)) (a4 m c (ix2 r q)) q

/-- A row's share of the scale's gradient, zero past the rows. -/
def term (q : Fin 1024) (n : ℕ) : EReal :=
  if h : n < 8192 then dh (a3 m c) (a2 m c) ⟨n, h⟩ q * (row (a0 m c) ⟨n, h⟩ q * Cert.RmsBack.inv (row (a0 m c) ⟨n, h⟩)) else 0

/-- A point's gradient block, at an index. -/
theorem dx_at (t : Fin cfg0.N) (a : Fin 512) (q : Fin 1024) :
    dxBlock (iblk m c 0 t) (iblk m c 1 t) (iblk m c 2 t) (iblk m c 3 t) (iblk m c 4 t) (ix2 a q)
      = dx m c ⟨512 * t.val + a.val, by have := pt_lt t; omega⟩ q := by
  refine (dxBlock_at (iblk m c 0 t) (iblk m c 1 t) (iblk m c 2 t) (iblk m c 3 t) (iblk m c 4 t) a q).trans ?_
  exact Cert.RmsBack.centred_congr (fun k => x_at m c t a k) (fun k => congrArg₂ (· * ·) (prod_at m c t a k) (g_at m c t k)) (r_at m c t a q) q

/-- A point adds its block of rows to the scale's gradient. -/
theorem part_at (t : Fin cfg0.N) (w : S1x1024.Idx → EReal) (q : Fin 1024) :
    k0_pay1 (F := Ideal) (stored (iblk m c 0 t) (iblk m c 1 t)) (k0_pay9 (F := Ideal) (iblk m c 2 t)) w (ix2 0 q)
      = w (ix2 0 q) + ∑ a ∈ range 512, term m c q (512 * t.val + a) := by
  refine (dgRow_at (iblk m c 0 t) (iblk m c 1 t) (iblk m c 2 t) w q).trans (congrArg (w (ix2 0 q) + ·) (Eq.trans ?_ (Fin.sum_univ_eq_sum_range _ 512)))
  refine Finset.sum_congr rfl fun a _ => ?_
  have ht := pt_lt t
  have h : 512 * t.val + a.val < 8192 := by omega
  refine Eq.trans ?_ (dif_pos h).symm
  refine congrArg₂ (· * ·) (prod_at m c t a q) (congrArg₂ (· * ·) (x_at m c t a q) (congrArg Cert.RmsBack.inv ?_))
  funext k
  exact x_at m c t a k

/-- After a point, the row holds the sum over the rows so far. -/
theorem outs_at (k : ℕ) (hk : k < 16) (q : Fin 1024) :
    (outsAt0 m c k (lt_of_lt_of_eq hk (show cfg0.N = 16 from N_0).symm)).2 (ix2 0 q) = ∑ n ∈ range (512 * (k + 1)), term m c q n := by
  induction k with
  | zero =>
    have hN : 0 < cfg0.N := lt_of_lt_of_eq hk (show cfg0.N = 16 from N_0).symm
    refine (congrFun (outs_first m c ⟨0, hN⟩ rfl) _).trans ((part_at m c _ _ q).trans ?_)
    rw [pay3_at, zero_add]
    simp only [Nat.mul_zero, Nat.zero_add, Nat.mul_one]
  | succ k ih =>
    have hN : k + 1 < cfg0.N := lt_of_lt_of_eq hk (show cfg0.N = 16 from N_0).symm
    refine (congrFun (outs_later m c ⟨k + 1, hN⟩ (by show ¬ (k + 1) % 16 = 0; omega)) _).trans ((part_at m c _ _ q).trans ?_)
    rw [show 512 * (k + 1 + 1) = 512 * (k + 1) + 512 by ring, Finset.sum_range_add]
    exact congrArg (· + _) (ih (by omega))

/-- The gradient blocks' places in the array. -/
theorem emb_5 (t : Fin cfg0.N) (y : S512x1024.Idx) :
    ((win0_5.blk t).view.emb y 0).val = 512 * t.val + (y 0).val ∧ ((win0_5.blk t).view.emb y 1).val = (y 1).val := by
  constructor
  · blk_simp [idx t]; omega
  · blk_simp [idx t]

/-- The row's block is the array. -/
theorem emb_6 (t : Fin cfg0.N) (y : S1x1024.Idx) : ((win0_6.blk t).view.emb y 1).val = (y 1).val := by
  blk_simp [idx t]

/-- The stream's gradient ends at every row's. -/
theorem arr_5 : (dats m 0 c).arrAt 5 cfg0.N = (fun i : S8192x1024.Idx => dx m c (i 0) (i 1)) := by
  refine (dats m 0 c).arrAt_eq_of_covers 5 _ (by decide +kernel) fun t hf y => ?_
  blk_simp
  rw [after0_5, outs_dx]
  have e := emb_5 t y
  refine (congrArg _ (ix2_self y)).trans ((dx_at m c t (y 0) (y 1)).trans ?_)
  exact congrArg₂ (dx m c) (Fin.ext e.1.symm) (Fin.ext e.2.symm)

/-- The scale's gradient, over all the rows. -/
def dg (q : Fin 1024) : EReal :=
  ∑ n : Fin 8192, dh (a3 m c) (a2 m c) n q * (row (a0 m c) n q * Cert.RmsBack.inv (row (a0 m c) n))

/-- The scale's gradient ends at the sum over the rows. -/
theorem arr_6 : (dats m 0 c).arrAt 6 cfg0.N = (fun i : S1x1024.Idx => dg m c (i 1)) := by
  refine (dats m 0 c).arrAt_eq_of_covers 6 _ (by decide +kernel) fun t hf y => ?_
  blk_simp
  rw [after0_6]
  have ht := pt_lt t
  have hm : t.val % 16 = 15 := (flush0_6 t).mp hf
  have e := emb_6 t y
  have hN : 15 < cfg0.N := lt_of_lt_of_eq (show 15 < 16 by omega) (show cfg0.N = 16 from N_0).symm
  have ht' : t = ⟨15, hN⟩ := Fin.ext (by show t.val = 15; omega)
  have gen : ∀ s : Fin cfg0.N, s = ⟨15, hN⟩ → (outsAt0 m c s.val s.isLt).2 y = (outsAt0 m c 15 hN).2 y := by
    rintro s rfl; rfl
  have hy : y = ix2 0 (y 1) := (ix2_self y).trans (congrArg (fun b => ix2 b (y 1)) (Subsingleton.elim (α := Fin 1) _ _))
  refine (gen t ht').trans ((congrArg _ hy).trans ((outs_at m c 15 (by omega) (y 1)).trans ?_))
  refine (Fin.sum_univ_eq_sum_range (fun n => term m c (y 1) n) 8192).symm.trans ?_
  refine Eq.trans ?_ (congrArg (dg m c) (Fin.ext e.symm : (y 1 : Fin 1024) = (win0_6.blk t).view.emb y 1))
  exact Finset.sum_congr rfl fun n _ => dif_pos n.isLt

/-! ## The reference -/

section Reference

open Cert.Reference12Ideal.Read

/-- The reference's product. -/
theorem ref_dh (d : S8192x1024.Idx → EReal) (w : S1024x1024.Idx → EReal) (r : Fin 8192) (q : Fin 1024) :
    val_main_v17 (F := Ideal) w d (ix2 r q) = dh d w r q := by
  refine (val_main_v17_apply w d _).trans (Finset.sum_congr rfl fun k _ => congrArg₂ (· * ·) (congrArg d ?_) (congrArg w ?_))
  · exact ix2_self _
  · exact ix2_self _

/-- The reference's guarded mean square. -/
theorem ref_sq (x : S8192x1024.Idx → EReal) (r : Fin 8192) : val_main_v6 (F := Ideal) x (ix2 r 0) = Cert.RmsBack.meanSq (row x r) := by
  rw [val_main_v6_apply, val_main_v4_apply, val_main_v2_apply, val_main_v1_apply, val_main_v3_apply, val_main_v5_apply]
  refine congrArg₂ (· + ·) (congrArg₂ Ideal.div ?_ rfl) rfl
  refine (congrArg₂ (· + ·) Ideal.ofBits_zero_f32 (Finset.sum_congr rfl fun k _ => ?_)).trans (zero_add _)
  exact congrArg (fun z => x z * x z) (ix2_self _)

/-- The reference's reciprocal root. -/
theorem ref_inv (x : S8192x1024.Idx → EReal) (r : Fin 8192) : val_main_v7 (F := Ideal) x (ix2 r 0) = Cert.RmsBack.inv (row x r) :=
  congrArg Ideal.rsqrt (ref_sq x r)

/-- The gradient of the normalised row, in the reference. -/
theorem ref_dy (d : S8192x1024.Idx → EReal) (w : S1024x1024.Idx → EReal) (g : S1024.Idx → EReal) (r : Fin 8192) (q : Fin 1024) :
    val_main_v22 (F := Ideal) g w d (ix2 r q) = dh d w r q * g (ix1 q) := by
  refine congrArg₂ (· * ·) (ref_dh d w r q) ?_
  rw [val_main_v21_apply, val_main_v13_apply]
  exact congrArg g (funext fun a => by match a with | 0 => rfl)

/-- What every element of a row receives through the mean square, in the reference. -/
theorem ref_through (x d : S8192x1024.Idx → EReal) (w : S1024x1024.Idx → EReal) (g : S1024.Idx → EReal) (r : Fin 8192) (q : Fin 1024) :
    val_main_v34 (F := Ideal) x g w d (ix2 r q) = Cert.RmsBack.through (row x r) (fun k => dh d w r k * g (ix1 k)) := by
  rw [val_main_v34_apply, val_main_v33_apply]
  refine (congrArg₂ (· + ·) Ideal.ofBits_zero_f32 (Fin.sum_univ_one _)).trans ((zero_add _).trans ?_)
  rw [val_main_v32_apply, val_main_v30_apply, val_main_v10_apply, val_main_v8_apply, val_main_v31_apply, val_main_v9_apply, val_main_v26_apply, val_main_v25_apply]
  have e : ∀ i : Cert.Reference12Ideal.S8192x1.Idx, (i 0).val = r.val → i = ix2 r 0 := fun i h =>
    (ix2_self i).trans (congrArg₂ ix2 (Fin.ext h) (Subsingleton.elim (α := Fin 1) _ _))
  refine congrArg₂ Ideal.div (congrArg₂ (· * ·) ?_ (congrArg₂ (· * ·) rfl (congrArg₂ Ideal.div ?_ ?_))) rfl
  · refine (congrArg₂ (· + ·) Ideal.ofBits_zero_f32 (Finset.sum_congr rfl fun k _ => ?_)).trans (zero_add _)
    rw [val_main_v24_apply]
    have e' : ∀ i : S8192x1024.Idx, (i 0).val = r.val → (i 1).val = k.val → i = ix2 r k := fun i h h' =>
      (ix2_self i).trans (congrArg₂ ix2 (Fin.ext h) (Fin.ext h'))
    refine congrArg₂ (· * ·) (congrArg x ?_) ((congrArg _ ?_).trans (ref_dy d w g r k))
    · exact e' _ (by show r.val * 1 + 0 = r.val; omega) rfl
    · exact e' _ (by show r.val * 1 + 0 = r.val; omega) rfl
  · exact (congrArg _ (e _ rfl)).trans (ref_inv x r)
  · exact (congrArg _ (e _ rfl)).trans (ref_sq x r)

/-- The reference's gradient of the stream. -/
theorem ref_dx (x d e : S8192x1024.Idx → EReal) (w : S1024x1024.Idx → EReal) (g : S1024.Idx → EReal) (r : Fin 8192) (q : Fin 1024) :
    val_main_v38 (F := Ideal) x g w d e (ix2 r q)
      = Cert.RmsBack.differentiated (row x r) (fun k => dh d w r k * g (ix1 k)) (e (ix2 r q)) q := by
  rw [val_main_v38_apply, val_main_v36_apply, val_main_v37_apply, val_main_v35_apply, val_main_v29_apply, val_main_v28_apply, val_main_v27_apply,
    ref_through, ref_dy]
  refine congrArg₂ (· + ·) (congrArg₂ (· + ·) (congrArg₂ (· + ·) rfl (congrArg₂ (· * ·) rfl ?_)) rfl) rfl
  exact (congrArg _ (ix2_self _)).trans (ref_inv x r)

/-- The reference's gradient of the scale. -/
theorem ref_dg (x d : S8192x1024.Idx → EReal) (w : S1024x1024.Idx → EReal) (q : Fin 1024) :
    val_main_v23 (F := Ideal) x w d (ix1 q)
      = ∑ n : Fin 8192, dh d w n q * (row x n q * Cert.RmsBack.inv (row x n)) := by
  rw [val_main_v23_apply]
  refine (congrArg₂ (· + ·) Ideal.ofBits_zero_f32 (Fin.sum_univ_one _)).trans ((zero_add _).trans ?_)
  rw [val_main_v20_apply, val_main_v19_apply]
  refine (congrArg₂ (· + ·) Ideal.ofBits_zero_f32 (Finset.sum_congr rfl fun n _ => ?_)).trans (zero_add _)
  have e : ∀ i : S8192x1024.Idx, (i 0).val = n.val → (i 1).val = q.val → i = ix2 n q := fun i h h' =>
    (ix2_self i).trans (congrArg₂ ix2 (Fin.ext h) (Fin.ext h'))
  refine (congrArg _ (e _ rfl (by simp))).trans ?_
  rw [val_main_v18_apply, val_main_v12_apply, val_main_v11_apply, ref_dh]
  refine (mul_comm _ _).trans (congrArg₂ (· * ·) rfl (congrArg₂ (· * ·) rfl ?_))
  exact (congrArg _ (ix2_self _)).trans (ref_inv x n)

end Reference

/-- The stream's gradient is the reference's. -/
theorem dx_eq : (fun i : S8192x1024.Idx => dx m c (i 0) (i 1))
    = Cert.Reference12Ideal.Read.val_main_v38 (F := Ideal) (a0 m c) (a1 m c) (a2 m c) (a3 m c) (a4 m c) := by
  funext i
  refine (Cert.RmsBack.agree _ _ _ _).trans ((ref_dx (a0 m c) (a3 m c) (a4 m c) (a2 m c) (a1 m c) (i 0) (i 1)).symm.trans ?_)
  exact congrArg _ (ix2_self i).symm

/-- The scale's gradient, as the host code leaves it, is the reference's. -/
theorem dg_eq : shapeCast S1024 (fun i : S1x1024.Idx => dg m c (i 1)) shapeCasts_S1x1024_S1024
    = Cert.Reference12Ideal.Read.val_main_v23 (F := Ideal) (a0 m c) (a2 m c) (a3 m c) := by
  have flat : ∀ (y : S1x1024.Idx → EReal) (q : Fin 1024), shapeCast S1024 y shapeCasts_S1x1024_S1024 (ix1 q) = y (ix2 0 q) := fun y q => by
    pointwise []
  funext i
  have hi : i = ix1 (i 0) := funext fun a => by match a with | 0 => rfl
  refine (congrArg _ hi).trans ((flat _ (i 0)).trans ((ref_dg (a0 m c) (a3 m c) (a2 m c) (i 0)).symm.trans ?_))
  exact congrArg _ hi.symm

/-- What the host code after the kernel computes, from any buffers. -/
theorem tail_value (v : Valuation τ sig (Elt Ideal)) :
    StableHlo.after (List.flatten [hostOps1]) v (Proc.devRef .tc main_v5) = shapeCast S1024 (v (Proc.devRef .tc main_v4_1)) shapeCasts_S1x1024_S1024 := by
  simp only [hostOps1, List.flatten_cons, List.flatten_nil, List.append_nil]
  after_results_simp
  rfl

/-- What it leaves in the scale's gradient. -/
theorem tail_result : Pipeline.afterTail₀ cfgs (dats m) 0 (V0 m) [hostOps1] c main_v5
    = shapeCast S1024 ((dats m 0 c).arrAt 6 cfg0.N) shapeCasts_S1x1024_S1024 := by
  unfold Pipeline.afterTail₀
  exact (tail_value _).trans (congrArg (fun y => shapeCast S1024 y shapeCasts_S1x1024_S1024)
    (Pipeline.withArrays_arr cfg0.spec (by decide) c (V0 m c) (fun w => (dats m 0 c).arrAt w cfg0.N) 6))

/-- The idealized kernel's run: it ends with the reference's gradients of the stream and of the scale, its arguments unchanged. -/
theorem results (ρ : Dev nD → PrngReg) :
    θ_run defs (onTc (τ := τ) (main (F := Ideal))) (s₀ m ρ) (fun r => ∀ c : Dev nD,
      r.2.mem ((c.tc : Thread nD τ).loc main_v4_0) = Cert.Reference12Ideal.Read.val_main_v38 (F := Ideal) (a0 m c) (a1 m c) (a2 m c) (a3 m c) (a4 m c)
      ∧ r.2.mem ((c.tc : Thread nD τ).loc main_v5) = Cert.Reference12Ideal.Read.val_main_v23 (F := Ideal) (a0 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 : θ_run defs (onTc (τ := τ) (main (F := Ideal))) (s₀ m ρ) (fun r => ∀ c : Dev nD,
      r.2.mem ((c.tc : Thread nD τ).loc main_v4_0) = Cert.Reference12Ideal.Read.val_main_v38 (F := Ideal) (a0 m c) (a1 m c) (a2 m c) (a3 m c) (a4 m c)
      ∧ r.2.mem ((c.tc : Thread nD τ).loc main_v5) = Cert.Reference12Ideal.Read.val_main_v23 (F := Ideal) (a0 m c) (a2 m c) (a3 m c)) :=
    (θ_run defs _ _).mono (fun r h c =>
      ⟨((h c).1 5).trans ((arr_5 m c).trans (dx_eq m c)),
       ((h c).2 main_v5 (Pipeline.mem_restRefs_of main_v5 (by decide) (by decide))).trans
        ((tail_result m c).trans ((congrArg (fun y => shapeCast S1024 y shapeCasts_S1x1024_S1024) (arr_6 m c)).trans (dg_eq m c)))⟩) (run_main m ρ)
  exact (θ_run defs _ _).mono (fun r hk c => ⟨(hk.1 c).1, (hk.1 c).2, hk.2 c⟩) (θ_run_and h1 (unchanged m ρ))

end Cert.Kernel12Ideal.Hand

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Hand.KernelRun
public import proofs.«01_k».proof.Proof.Hand.IdealRun
public import proofs.«01_k».proof.Proof.Hand.Finite
public import proofs.«01_k».proof.Proof.Hand.Arrays
public import proofs.«01_k».proof.Proof.Hand.GradIn
public import proofs.«01_k».proof.Proof.Hand.NormMix
public import proofs.«01_k».proof.Proof.Hand.ProjIn
public import proofs.«01_k».proof.Proof.Hand.GradOut
public import proofs.«01_k».proof.Proof.Hand.GradGate
public import proofs.«01_k».proof.Proof.Hand.GradBranch
public import proofs.«01_k».proof.Proof.Hand.GradBranchB
public import proofs.«01_k».proof.Proof.Hand.GradPle
public import proofs.«01_k».proof.Proof.Hand.GradUq
public import proofs.«01_k».proof.Proof.Hand.GradUkv
public import proofs.«01_k».proof.Proof.Hand.NormPle
public import Idealize.ShloMosaic.Adequacy
public import Idealize.ShloMosaic.Init

@[expose] public section

set_option maxRecDepth 16384

noncomputable section

namespace Cert.Proof

open Idealize.ShloMosaic Idealize.SL.Sem Cert.Kernel

/-- The reference's frame: it runs to the end, its arguments are unchanged and no semaphore counter is left raised. -/
theorem reference_frame : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.ReferenceIdeal.Value.run m ρ)

/-- On finite arguments the idealized kernel and the idealized reference end with the same three gradients: of the scaled queries,
    of the keys and of the values. -/
theorem value [Cert.Pre_finite.Facts] : Cert.algebraic_KernelIdeal_ReferenceIdeal_pre_finite := fun m g m' g' hpre hagree =>
  have hR : ∀ c, Cert.ReferenceIdeal.Hand.Args (Cert.KernelIdeal.Hand.a0 m c) (Cert.KernelIdeal.Hand.a1 m c) (Cert.KernelIdeal.Hand.a2 m c)
      (Cert.KernelIdeal.Hand.a3 m c) := fun c =>
    have h := Cert.Pre_finite.Hand.real_of_pre _ _ _ _ (hpre c)
    ⟨h.1.1, h.1.2, h.2.1, h.2.2⟩
  ⟨_, _, _, Cert.KernelIdeal.Hand.results g hR, (θ_run Cert.ReferenceIdeal.defs _ _).mono (fun _ h c =>
    ⟨(h c).1.trans ((Cert.ReferenceIdeal.Read.val_main_v64_eq m' c).trans (by rw [(hagree c).1, (hagree c).2.1, (hagree c).2.2.1, (hagree c).2.2.2])),
      (h c).2.1.trans ((Cert.ReferenceIdeal.Read.val_main_v68_eq m' c).trans (by rw [(hagree c).1, (hagree c).2.1, (hagree c).2.2.1, (hagree c).2.2.2])),
      (h c).2.2.1.trans ((Cert.ReferenceIdeal.Read.val_main_v72_eq m' c).trans (by rw [(hagree c).1, (hagree c).2.1, (hagree c).2.2.2])),
      (h c).2.2.2⟩) (Cert.ReferenceIdeal.Value.run m' g')⟩

/-- The reference of the gradient of the combined projection's weights runs to the end, its arguments unchanged and no semaphore counter left raised. -/
theorem reference2_frame : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The idealized kernel and the idealized reference end with the same arrays: the gradient of the combined projection's weights. -/
theorem value2 : Cert.algebraic_Kernel2Ideal_Reference2Ideal := fun m g m' g' _ hagree =>
  ⟨_, Cert.Kernel2Ideal.Hand.results m g, (θ_run Cert.Reference2Ideal.defs _ _).mono (fun _ h c =>
    ⟨(h c).1.trans ((Cert.Reference2Ideal.Read.val_main_v3_eq _ _).trans (by rw [(hagree c).1, (hagree c).2])),
      (h c).2⟩) (Cert.Reference2Ideal.Value.run m' g')⟩

/-- The reference of the gradients of the stream and of the norm's scale runs to the end, its arguments unchanged and no semaphore counter left raised. -/
theorem reference3_frame : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run m ρ)

/-- The idealized kernel and the idealized reference end with the same arrays: the gradients of the stream and of the norm's scale. -/
theorem value3 : Cert.algebraic_Kernel3Ideal_Reference3Ideal := fun m g m' g' _ hagree =>
  ⟨_, _, Cert.Kernel3Ideal.Hand.results m g, (θ_run Cert.Reference3Ideal.defs _ _).mono (fun _ h c =>
    ⟨(h c).1.trans ((Cert.Reference3Ideal.Read.val_main_v38_eq _ _).trans (by rw [(hagree c).1, (hagree c).2.1, (hagree c).2.2.1, (hagree c).2.2.2.1, (hagree c).2.2.2.2])),
      (h c).2.1.trans ((Cert.Reference3Ideal.Read.val_main_v23_eq _ _ _).trans (by rw [(hagree c).1, (hagree c).2.2.1, (hagree c).2.2.2.1])),
      (h c).2.2⟩) (Cert.Reference3Ideal.Value.run m' g')⟩

/-- The reference of the combined projection, its gate and its two normalised low-rank columns runs to the end, its arguments unchanged and no semaphore counter left raised. -/
theorem reference4_frame : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run m ρ)

/-- The idealized kernel and the idealized reference end with the same arrays: the combined projection, its gate and its two normalised low-rank columns. -/
theorem value4 : Cert.algebraic_Kernel4Ideal_Reference4Ideal := fun m g m' g' _ hagree =>
  ⟨_, _, _, _, Cert.Kernel4Ideal.Hand.results m g, (θ_run Cert.Reference4Ideal.defs _ _).mono (fun _ h c =>
    ⟨(h c).1.trans ((Cert.Reference4Ideal.Read.val_main_v11_eq _ _).trans (by rw [(hagree c).1, (hagree c).2.1])),
      (h c).2.1.trans ((Cert.Reference4Ideal.Read.val_main_v4_eq _ _).trans (by rw [(hagree c).1, (hagree c).2.1])),
      (h c).2.2.1.trans ((Cert.Reference4Ideal.Read.val_main_v25_eq _ _ _).trans (by rw [(hagree c).1, (hagree c).2.1, (hagree c).2.2.1])),
      (h c).2.2.2.1.trans ((Cert.Reference4Ideal.Read.val_main_v39_eq _ _ _).trans (by rw [(hagree c).1, (hagree c).2.1, (hagree c).2.2.2])),
      (h c).2.2.2.2⟩) (Cert.Reference4Ideal.Value.run m' g')⟩

/-- The reference of the gradient of the output projection's weights runs to the end, its arguments unchanged and no semaphore counter left raised. -/
theorem reference5_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

/-- The idealized kernel and the idealized reference end with the same arrays: the gradient of the output projection's weights. -/
theorem value5 : Cert.algebraic_Kernel5Ideal_Reference5Ideal := fun m g m' g' _ hagree =>
  ⟨_, Cert.Kernel5Ideal.Hand.results m g, (θ_run Cert.Reference5Ideal.defs _ _).mono (fun _ h c =>
    ⟨(h c).1.trans ((Cert.Reference5Ideal.Read.val_main_v3_eq _ _).trans (by rw [(hagree c).1, (hagree c).2])),
      (h c).2⟩) (Cert.Reference5Ideal.Value.run m' g')⟩

/-- The reference of the gradient of the per-layer gate's weights runs to the end, its arguments unchanged and no semaphore counter left raised. -/
theorem reference6_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

/-- The idealized kernel and the idealized reference end with the same arrays: the gradient of the per-layer gate's weights. -/
theorem value6 : Cert.algebraic_Kernel6Ideal_Reference6Ideal := fun m g m' g' _ hagree =>
  ⟨_, Cert.Kernel6Ideal.Hand.results m g, (θ_run Cert.Reference6Ideal.defs _ _).mono (fun _ h c =>
    ⟨(h c).1.trans ((Cert.Reference6Ideal.Read.val_main_v3_eq _ _).trans (by rw [(hagree c).1, (hagree c).2])),
      (h c).2⟩) (Cert.Reference6Ideal.Value.run m' g')⟩

/-- The reference of the gradient of a branch projection's weights runs to the end, its arguments unchanged and no semaphore counter left raised. -/
theorem reference7_frame : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

/-- The idealized kernel and the idealized reference end with the same arrays: the gradient of a branch projection's weights. -/
theorem value7 : Cert.algebraic_Kernel7Ideal_Reference7Ideal := fun m g m' g' _ hagree =>
  ⟨_, Cert.Kernel7Ideal.Hand.results m g, (θ_run Cert.Reference7Ideal.defs _ _).mono (fun _ h c =>
    ⟨(h c).1.trans ((Cert.Reference7Ideal.Read.val_main_v3_eq _ _).trans (by rw [(hagree c).1, (hagree c).2])),
      (h c).2⟩) (Cert.Reference7Ideal.Value.run m' g')⟩

/-- The reference of the gradient of the other branch projection's weights runs to the end, its arguments unchanged and no semaphore counter left raised. -/
theorem reference8_frame : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

/-- The idealized kernel and the idealized reference end with the same arrays: the gradient of the other branch projection's weights. -/
theorem value8 : Cert.algebraic_Kernel8Ideal_Reference8Ideal := fun m g m' g' _ hagree =>
  ⟨_, Cert.Kernel8Ideal.Hand.results m g, (θ_run Cert.Reference8Ideal.defs _ _).mono (fun _ h c =>
    ⟨(h c).1.trans ((Cert.Reference8Ideal.Read.val_main_v3_eq _ _).trans (by rw [(hagree c).1, (hagree c).2])),
      (h c).2⟩) (Cert.Reference8Ideal.Value.run m' g')⟩

/-- The reference of the gradient of the per-layer embedding's weights runs to the end, its arguments unchanged and no semaphore counter left raised. -/
theorem reference9_frame : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

/-- The idealized kernel and the idealized reference end with the same arrays: the gradient of the per-layer embedding's weights. -/
theorem value9 : Cert.algebraic_Kernel9Ideal_Reference9Ideal := fun m g m' g' _ hagree =>
  ⟨_, Cert.Kernel9Ideal.Hand.results m g, (θ_run Cert.Reference9Ideal.defs _ _).mono (fun _ h c =>
    ⟨(h c).1.trans ((Cert.Reference9Ideal.Read.val_main_v3_eq _ _).trans (by rw [(hagree c).1, (hagree c).2])),
      (h c).2⟩) (Cert.Reference9Ideal.Value.run m' g')⟩

/-- The reference of the gradient of the query up-projection's weights runs to the end, its arguments unchanged and no semaphore counter left raised. -/
theorem reference10_frame : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

/-- The idealized kernel and the idealized reference end with the same arrays: the gradient of the query up-projection's weights. -/
theorem value10 : Cert.algebraic_Kernel10Ideal_Reference10Ideal := fun m g m' g' _ hagree =>
  ⟨_, Cert.Kernel10Ideal.Hand.results m g, (θ_run Cert.Reference10Ideal.defs _ _).mono (fun _ h c =>
    ⟨(h c).1.trans ((Cert.Reference10Ideal.Read.val_main_v3_eq _ _).trans (by rw [(hagree c).1, (hagree c).2])),
      (h c).2⟩) (Cert.Reference10Ideal.Value.run m' g')⟩

/-- The reference of the gradient of the key-value up-projection's weights runs to the end, its arguments unchanged and no semaphore counter left raised. -/
theorem reference11_frame : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

/-- The idealized kernel and the idealized reference end with the same arrays: the gradient of the key-value up-projection's weights. -/
theorem value11 : Cert.algebraic_Kernel11Ideal_Reference11Ideal := fun m g m' g' _ hagree =>
  ⟨_, Cert.Kernel11Ideal.Hand.results m g, (θ_run Cert.Reference11Ideal.defs _ _).mono (fun _ h c =>
    ⟨(h c).1.trans ((Cert.Reference11Ideal.Read.val_main_v3_eq _ _).trans (by rw [(hagree c).1, (hagree c).2])),
      (h c).2⟩) (Cert.Reference11Ideal.Value.run m' g')⟩

/-- The reference of the gradients of the stream and of the scale of the norm before the gate runs to the end, its arguments unchanged and no semaphore counter left raised. -/
theorem reference12_frame : Cert.quiescent_Reference12Ideal := fun m ρ _ =>
  (θ_run Cert.Reference12Ideal.defs _ _).mono
    (fun r h => ⟨fun c => (h c).2.2, Idealize.ShloMosaic.sem_eq_zero_of_no_sems (by decide) r.2⟩)
    (Cert.Reference12Ideal.Value.run m ρ)

/-- The idealized kernel and the idealized reference end with the same arrays: the gradients of the stream and of the scale of the norm before the gate. -/
theorem value12 : Cert.algebraic_Kernel12Ideal_Reference12Ideal := fun m g m' g' _ hagree =>
  ⟨_, _, Cert.Kernel12Ideal.Hand.results m g, (θ_run Cert.Reference12Ideal.defs _ _).mono (fun _ h c =>
    ⟨(h c).1.trans ((Cert.Reference12Ideal.Read.val_main_v38_eq _ _).trans (by rw [(hagree c).1, (hagree c).2.1, (hagree c).2.2.1, (hagree c).2.2.2.1, (hagree c).2.2.2.2])),
      (h c).2.1.trans ((Cert.Reference12Ideal.Read.val_main_v23_eq _ _ _).trans (by rw [(hagree c).1, (hagree c).2.2.1, (hagree c).2.2.2.1])),
      (h c).2.2⟩) (Cert.Reference12Ideal.Value.run m' g')⟩

/-- The claims of the statement, each from its theorem. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  ⟨IdealRules.named_const.statement _ _ _ _ _ rfl, IdealRules.named_const.statement _ _ _ _ _ rfl⟩,
  value,
  trivial,
  value2,
  trivial,
  value3,
  trivial,
  value4,
  trivial,
  value5,
  trivial,
  value6,
  trivial,
  value7,
  trivial,
  value8,
  trivial,
  value9,
  trivial,
  value10,
  trivial,
  value11,
  trivial,
  value12⟩

end Cert.Proof

end
